-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9))
      ∧ r.2.sem = fun _ => 0)

def preserves_Kernel_KernelIdeal : Prop :=
  IdealRules.named_const.Statement Cert.KernelIdeal.κ "log2e" .f32 0x3FB8AA3B#32 (((Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v17_0)) (v1 : (c : Dev Cert.KernelIdeal.nD) → Buf (Elt Ideal) ((c.tc : Thread Cert.KernelIdeal.nD Cert.KernelIdeal.τ).loc Cert.KernelIdeal.main_v17_1)) (v2 : (c : Dev Cert.KernelIdeal.nD) → Buf (Elt Ideal) ((c.tc : Thread Cert.KernelIdeal.nD Cert.KernelIdeal.τ).loc Cert.KernelIdeal.main_v17_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17_0) = v0 c
          ∧ r.2.mem ((c.tc : Thread Cert.KernelIdeal.nD Cert.KernelIdeal.τ).loc Cert.KernelIdeal.main_v17_1) = v1 c
          ∧ r.2.mem ((c.tc : Thread Cert.KernelIdeal.nD Cert.KernelIdeal.τ).loc Cert.KernelIdeal.main_v17_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_v63) = v1 c
          ∧ r.2.mem ((c.tc : Thread Cert.ReferenceIdeal.nD Cert.ReferenceIdeal.τ).loc Cert.ReferenceIdeal.main_v65) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)) →
    ∃ (v0 : (c : Dev Cert.Kernel2Ideal.nD) → Buf (Elt Ideal) ((c.tc : Thread Cert.Kernel2Ideal.nD Cert.Kernel2Ideal.τ).loc Cert.Kernel2Ideal.main_v20)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v20) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v50) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9))

def preserves_Kernel3_Kernel3Ideal : Prop :=
  IdealRules.named_const.Statement Cert.Kernel3Ideal.κ "q_scale" .f32 0x3E38AA3B#32 (((8 * (Real.log 2))⁻¹ : ℝ) : EReal)

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v15_0)) (v1 : (c : Dev Cert.Kernel3Ideal.nD) → Buf (Elt Ideal) ((c.tc : Thread Cert.Kernel3Ideal.nD Cert.Kernel3Ideal.τ).loc Cert.Kernel3Ideal.main_v15_1)) (v2 : (c : Dev Cert.Kernel3Ideal.nD) → Buf (Elt Ideal) ((c.tc : Thread Cert.Kernel3Ideal.nD Cert.Kernel3Ideal.τ).loc Cert.Kernel3Ideal.main_v15_2)) (v3 : (c : Dev Cert.Kernel3Ideal.nD) → Buf (Elt Ideal) ((c.tc : Thread Cert.Kernel3Ideal.nD Cert.Kernel3Ideal.τ).loc Cert.Kernel3Ideal.main_v15_3)) (v4 : (c : Dev Cert.Kernel3Ideal.nD) → Buf (Elt Ideal) ((c.tc : Thread Cert.Kernel3Ideal.nD Cert.Kernel3Ideal.τ).loc Cert.Kernel3Ideal.main_v15_4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v15_0) = v0 c
          ∧ r.2.mem ((c.tc : Thread Cert.Kernel3Ideal.nD Cert.Kernel3Ideal.τ).loc Cert.Kernel3Ideal.main_v15_1) = v1 c
          ∧ r.2.mem ((c.tc : Thread Cert.Kernel3Ideal.nD Cert.Kernel3Ideal.τ).loc Cert.Kernel3Ideal.main_v15_2) = v2 c
          ∧ r.2.mem ((c.tc : Thread Cert.Kernel3Ideal.nD Cert.Kernel3Ideal.τ).loc Cert.Kernel3Ideal.main_v15_3) = v3 c
          ∧ r.2.mem ((c.tc : Thread Cert.Kernel3Ideal.nD Cert.Kernel3Ideal.τ).loc Cert.Kernel3Ideal.main_v15_4) = v4 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v39) = v0 c
          ∧ r.2.mem ((c.tc : Thread Cert.Reference3Ideal.nD Cert.Reference3Ideal.τ).loc Cert.Reference3Ideal.main_v40) = v1 c
          ∧ r.2.mem ((c.tc : Thread Cert.Reference3Ideal.nD Cert.Reference3Ideal.τ).loc Cert.Reference3Ideal.main_v41) = v2 c
          ∧ r.2.mem ((c.tc : Thread Cert.Reference3Ideal.nD Cert.Reference3Ideal.τ).loc Cert.Reference3Ideal.main_v42) = v3 c
          ∧ r.2.mem ((c.tc : Thread Cert.Reference3Ideal.nD Cert.Reference3Ideal.τ).loc Cert.Reference3Ideal.main_v43) = v4 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)) →
    ∃ (v0 : (c : Dev Cert.Kernel4Ideal.nD) → Buf (Elt Ideal) ((c.tc : Thread Cert.Kernel4Ideal.nD Cert.Kernel4Ideal.τ).loc Cert.Kernel4Ideal.main_v10_1)) (v1 : (c : Dev Cert.Kernel4Ideal.nD) → Buf (Elt Ideal) ((c.tc : Thread Cert.Kernel4Ideal.nD Cert.Kernel4Ideal.τ).loc Cert.Kernel4Ideal.main_v10_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v10_1) = v0 c
          ∧ r.2.mem ((c.tc : Thread Cert.Kernel4Ideal.nD Cert.Kernel4Ideal.τ).loc Cert.Kernel4Ideal.main_v10_2) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v37) = v0 c
          ∧ r.2.mem ((c.tc : Thread Cert.Reference4Ideal.nD Cert.Reference4Ideal.τ).loc Cert.Reference4Ideal.main_v38) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)) →
    ∃ (v0 : (c : Dev Cert.Kernel5Ideal.nD) → Buf (Elt Ideal) ((c.tc : Thread Cert.Kernel5Ideal.nD Cert.Kernel5Ideal.τ).loc Cert.Kernel5Ideal.main_v20)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v20) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v49) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_finite.lean ====
abbrev S16 : Shape := ⟨1, ![16]⟩
abbrev S512x1024 : Shape := ⟨2, ![512, 1024]⟩
abbrev S512x512 : Shape := ⟨2, ![512, 512]⟩
abbrev S1x128x128x4x64 : Shape := ⟨5, ![1, 128, 128, 4, 64]⟩
abbrev S1024x1024 : Shape := ⟨2, ![1024, 1024]⟩
abbrev S_ : Shape := ⟨0, ![]⟩

class Facts : Prop where
  bcast_S_S16 : S_.BroadcastsInDim S16 (![] : Fin 0 → Fin S16.rank)
  bitsLt_bf16_f32 : FTy.bits .bf16 < FTy.bits .f32
  bcast_S_S512x1024 : S_.BroadcastsInDim S512x1024 (![] : Fin 0 → Fin S512x1024.rank)
  bcast_S_S512x512 : S_.BroadcastsInDim S512x512 (![] : Fin 0 → Fin S512x512.rank)
  bcast_S_S1x128x128x4x64 : S_.BroadcastsInDim S1x128x128x4x64 (![] : Fin 0 → Fin S1x128x128x4x64.rank)

variable [Facts]

def fn_part1 {F : FTy → Type} [FloatOps F] (main_arg4 : FVec F S1x128x128x4x64 .f32) (main_v4 : IVec S16 1) (main_v10 : IVec S512x1024 1) (main_v15 : IVec S512x512 1) (main_v16 : FVec F S1x128x128x4x64 .f32) : IVec S16 1 × IVec S512x1024 1 × IVec S512x512 1 × IVec S1x128x128x4x64 1 :=
  let main_v17 : IVec S1x128x128x4x64 1 := cmpf .ogt main_arg4 main_v16
  let main_cst_6 : FVec F S_ .f32 := constant S_ .f32 0x7F800000#32
  let main_v18 : FVec F S1x128x128x4x64 .f32 := broadcastInDim S1x128x128x4x64 ![] bcast_S_S1x128x128x4x64 main_cst_6
  let main_v19 : IVec S1x128x128x4x64 1 := cmpf .olt main_arg4 main_v18
  let main_v20 : IVec S1x128x128x4x64 1 := andi main_v17 main_v19
  (main_v4, main_v10, main_v15, main_v20)

def fn {F : FTy → Type} [FloatOps F] (main_arg0 : FVec F S16 .f32) (main_arg1 : FVec F S512x1024 .bf16) (main_arg2 : FVec F S512x512 .f32) (main_arg3 : FVec F S512x1024 .bf16) (main_arg4 : FVec F S1x128x128x4x64 .f32) (main_arg5 : FVec F S1x128x128x4x64 .f32) (main_arg6 : FVec F S1024x1024 .f32) : IVec S16 1 × IVec S512x1024 1 × IVec S512x512 1 × IVec S1x128x128x4x64 1 :=
  let main_cst : FVec F S_ .f32 := constant S_ .f32 0xFF800000#32
  let main_v0 : FVec F S16 .f32 := broadcastInDim S16 ![] bcast_S_S16 main_cst
  let main_v1 : IVec S16 1 := cmpf .ogt main_arg0 main_v0
  let main_cst_0 : FVec F S_ .f32 := constant S_ .f32 0x7F800000#32
  let main_v2 : FVec F S16 .f32 := broadcastInDim S16 ![] bcast_S_S16 main_cst_0
  let main_v3 : IVec S16 1 := cmpf .olt main_arg0 main_v2
  let main_v4 : IVec S16 1 := andi main_v1 main_v3
  let main_v5 : FVec F S512x1024 .f32 := (extf .f32 · bitsLt_bf16_f32) main_arg1
  let main_cst_1 : FVec F S_ .f32 := constant S_ .f32 0xFF800000#32
  let main_v6 : FVec F S512x1024 .f32 := broadcastInDim S512x1024 ![] bcast_S_S512x1024 main_cst_1
  let main_v7 : IVec S512x1024 1 := cmpf .ogt main_v5 main_v6
  let main_cst_2 : FVec F S_ .f32 := constant S_ .f32 0x7F800000#32
  let main_v8 : FVec F S512x1024 .f32 := broadcastInDim S512x1024 ![] bcast_S_S512x1024 main_cst_2
  let main_v9 : IVec S512x1024 1 := cmpf .olt main_v5 main_v8
  let main_v10 : IVec S512x1024 1 := andi main_v7 main_v9
  let main_cst_3 : FVec F S_ .f32 := constant S_ .f32 0xFF800000#32
  let main_v11 : FVec F S512x512 .f32 := broadcastInDim S512x512 ![] bcast_S_S512x512 main_cst_3
  let main_v12 : IVec S512x512 1 := cmpf .ogt main_arg2 main_v11
  let main_cst_4 : FVec F S_ .f32 := constant S_ .f32 0x7F800000#32
  let main_v13 : FVec F S512x512 .f32 := broadcastInDim S512x512 ![] bcast_S_S512x512 main_cst_4
  let main_v14 : IVec S512x512 1 := cmpf .olt main_arg2 main_v13
  let main_v15 : IVec S512x512 1 := andi main_v12 main_v14
  let main_cst_5 : FVec F S_ .f32 := constant S_ .f32 0xFF800000#32
  let main_v16 : FVec F S1x128x128x4x64 .f32 := broadcastInDim S1x128x128x4x64 ![] bcast_S_S1x128x128x4x64 main_cst_5
  fn_part1 (F := F) main_arg4 main_v4 main_v10 main_v15 main_v16
-- ==== Kernel.lean ====
abbrev S16 : Shape := ⟨1, ![16]⟩
abbrev S512x1024 : Shape := ⟨2, ![512, 1024]⟩
abbrev S512x512 : Shape := ⟨2, ![512, 512]⟩
abbrev S1x128x128x4x64 : Shape := ⟨5, ![1, 128, 128, 4, 64]⟩
abbrev S1024x1024 : Shape := ⟨2, ![1024, 1024]⟩
abbrev S128x4x1024 : Shape := ⟨3, ![128, 4, 1024]⟩
abbrev S_ : Shape := ⟨0, ![]⟩
abbrev S128x8x1024 : Shape := ⟨3, ![128, 8, 1024]⟩
abbrev S128x4x512 : Shape := ⟨3, ![128, 4, 512]⟩
abbrev S128x8x512 : Shape := ⟨3, ![128, 8, 512]⟩
abbrev S128x128x4x64 : Shape := ⟨4, ![128, 128, 4, 64]⟩
abbrev S128x4x64x128 : Shape := ⟨4, ![128, 4, 64, 128]⟩
abbrev S128x256x128 : Shape := ⟨3, ![128, 256, 128]⟩
abbrev S128x128x256 : Shape := ⟨3, ![128, 128, 256]⟩
abbrev S32x8x1024 : Shape := ⟨3, ![32, 8, 1024]⟩
abbrev S32x8x512 : Shape := ⟨3, ![32, 8, 512]⟩
abbrev S32x256x128 : Shape := ⟨3, ![32, 256, 128]⟩
abbrev S256x1024 : Shape := ⟨2, ![256, 1024]⟩
abbrev S32x128x256 : Shape := ⟨3, ![32, 128, 256]⟩
abbrev S32x8x128 : Shape := ⟨3, ![32, 8, 128]⟩
abbrev S32x136 : Shape := ⟨2, ![32, 136]⟩
abbrev S32x1 : Shape := ⟨2, ![32, 1]⟩
abbrev S1x128x128 : Shape := ⟨3, ![1, 128, 128]⟩
abbrev S128x128 : Shape := ⟨2, ![128, 128]⟩
abbrev S32x128x128 : Shape := ⟨3, ![32, 128, 128]⟩
abbrev S32x136x128 : Shape := ⟨3, ![32, 136, 128]⟩
abbrev S32x32x128 : Shape := ⟨3, ![32, 32, 128]⟩
abbrev S32x32x136 : Shape := ⟨3, ![32, 32, 136]⟩
abbrev S1 : Shape := ⟨1, ![1]⟩
abbrev S1x32x136 : Shape := ⟨3, ![1, 32, 136]⟩
abbrev S1x32x1 : Shape := ⟨3, ![1, 32, 1]⟩
abbrev S32x32 : Shape := ⟨2, ![32, 32]⟩
abbrev S32x32x1 : Shape := ⟨3, ![32, 32, 1]⟩

abbrev nBuf : Space → Nat
  | .hbm => 33
  | .vmem => 18
  | .smem => 1
  | _ => 0

abbrev bufTy : (tb : Table) → Fin (tcTables nBuf tb) → BufTy
  | .hbm, ⟨0, _⟩ => ⟨S16, .f32⟩
  | .hbm, ⟨1, _⟩ => ⟨S512x1024, .bf16⟩
  | .hbm, ⟨2, _⟩ => ⟨S512x512, .f32⟩
  | .hbm, ⟨3, _⟩ => ⟨S512x1024, .bf16⟩
  | .hbm, ⟨4, _⟩ => ⟨S1x128x128x4x64, .f32⟩
  | .hbm, ⟨5, _⟩ => ⟨S1x128x128x4x64, .f32⟩
  | .hbm, ⟨6, _⟩ => ⟨S1024x1024, .f32⟩
  | .hbm, ⟨7, _⟩ => ⟨S128x4x1024, .bf16⟩
  | .hbm, ⟨8, _⟩ => ⟨S128x4x1024, .f32⟩
  | .hbm, ⟨9, _⟩ => ⟨S_, .i32⟩
  | .hbm, ⟨10, _⟩ => ⟨S_, .f32⟩
  | .hbm, ⟨11, _⟩ => ⟨S128x8x1024, .f32⟩
  | .hbm, ⟨12, _⟩ => ⟨S128x8x1024, .bf16⟩
  | .hbm, ⟨13, _⟩ => ⟨S1024x1024, .bf16⟩
  | .hbm, ⟨14, _⟩ => ⟨S128x4x1024, .bf16⟩
  | .hbm, ⟨15, _⟩ => ⟨S128x4x1024, .f32⟩
  | .hbm, ⟨16, _⟩ => ⟨S_, .i32⟩
  | .hbm, ⟨17, _⟩ => ⟨S_, .f32⟩
  | .hbm, ⟨18, _⟩ => ⟨S128x8x1024, .f32⟩
  | .hbm, ⟨19, _⟩ => ⟨S128x4x512, .f32⟩
  | .hbm, ⟨20, _⟩ => ⟨S_, .i32⟩
  | .hbm, ⟨21, _⟩ => ⟨S_, .f32⟩
  | .hbm, ⟨22, _⟩ => ⟨S128x8x512, .f32⟩
  | .hbm, ⟨23, _⟩ => ⟨S128x128x4x64, .f32⟩
  | .hbm, ⟨24, _⟩ => ⟨S128x4x64x128, .f32⟩
  | .hbm, ⟨25, _⟩ => ⟨S128x256x128, .f32⟩
  | .hbm, ⟨26, _⟩ => ⟨S128x128x4x64, .f32⟩
  | .hbm, ⟨27, _⟩ => ⟨S128x4x64x128, .f32⟩
  | .hbm, ⟨28, _⟩ => ⟨S128x256x128, .f32⟩
  | .hbm, ⟨29, _⟩ => ⟨S1024x1024, .bf16⟩
  | .hbm, ⟨30, _⟩ => ⟨S1024x1024, .f32⟩
  | .hbm, ⟨31, _⟩ => ⟨S128x128x256, .f32⟩
  | .hbm, ⟨32, _⟩ => ⟨S128x128x256, .f32⟩
  | .local _ .vmem, ⟨0, _⟩ => ⟨S32x8x1024, .f32⟩
  | .local _ .vmem, ⟨1, _⟩ => ⟨S32x8x1024, .f32⟩
  | .local _ .vmem, ⟨2, _⟩ => ⟨S32x8x512, .f32⟩
  | .local _ .vmem, ⟨3, _⟩ => ⟨S32x8x512, .f32⟩
  | .local _ .vmem, ⟨4, _⟩ => ⟨S32x256x128, .f32⟩
  | .local _ .vmem, ⟨5, _⟩ => ⟨S32x256x128, .f32⟩
  | .local _ .vmem, ⟨6, _⟩ => ⟨S32x256x128, .f32⟩
  | .local _ .vmem, ⟨7, _⟩ => ⟨S32x256x128, .f32⟩
  | .local _ .vmem, ⟨8, _⟩ => ⟨S256x1024, .bf16⟩
  | .local _ .vmem, ⟨9, _⟩ => ⟨S256x1024, .bf16⟩
  | .local _ .vmem, ⟨10, _⟩ => ⟨S1024x1024, .bf16⟩
  | .local _ .vmem, ⟨11, _⟩ => ⟨S256x1024, .f32⟩
  | .local _ .vmem, ⟨12, _⟩ => ⟨S256x1024, .f32⟩
  | .local _ .vmem, ⟨13, _⟩ => ⟨S32x128x256, .f32⟩
  | .local _ .vmem, ⟨14, _⟩ => ⟨S32x128x256, .f32⟩
  | .local _ .vmem, ⟨15, _⟩ => ⟨S32x128x256, .f32⟩
  | .local _ .vmem, ⟨16, _⟩ => ⟨S32x128x256, .f32⟩
  | .local _ .vmem, ⟨17, _⟩ => ⟨S32x8x1024, .f32⟩
  | .local _ .smem, ⟨0, _⟩ => ⟨S16, .f32⟩
  | _, _ => ⟨S16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨0, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_call0_v0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c_0 : Ref sig .tc := ⟨.hbm, 16, rfl⟩
abbrev main_call1_v0 : Ref sig .tc := ⟨.hbm, 17, rfl⟩
abbrev main_v7 : Ref sig .tc := ⟨.hbm, 18, rfl⟩
abbrev main_v8 : Ref sig .tc := ⟨.hbm, 19, rfl⟩
abbrev main_c_1 : Ref sig .tc := ⟨.hbm, 20, rfl⟩
abbrev main_call2_v0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17_0 : Ref sig .tc := ⟨.hbm, 30, rfl⟩
abbrev main_v17_1 : Ref sig .tc := ⟨.hbm, 31, rfl⟩
abbrev main_v17_2 : Ref sig .tc := ⟨.hbm, 32, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_scratch0 : Ref sig .tc := ⟨.vmem, 17, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S32x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S32x128x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S32x128x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== KernelIdeal.lean ====
variable {F : FTy → Type} [FloatOps F] [Named F]
def κ : String → Option EReal := fun
  | "log2e" => some (((Real.log 2)⁻¹ : ℝ) : EReal)
  | _ => none
-- ==== ReferenceIdeal.lean ====
abbrev S16 : Shape := ⟨1, ![16]⟩
abbrev S512x1024 : Shape := ⟨2, ![512, 1024]⟩
abbrev S512x512 : Shape := ⟨2, ![512, 512]⟩
abbrev S1x128x128x4x64 : Shape := ⟨5, ![1, 128, 128, 4, 64]⟩
abbrev S1024x1024 : Shape := ⟨2, ![1024, 1024]⟩
abbrev S_ : Shape := ⟨0, ![]⟩
abbrev S512x256 : Shape := ⟨2, ![512, 256]⟩
abbrev S128x4x4x64 : Shape := ⟨4, ![128, 4, 4, 64]⟩
abbrev S128x128x4x64 : Shape := ⟨4, ![128, 128, 4, 64]⟩
abbrev S128x132x4x64 : Shape := ⟨4, ![128, 132, 4, 64]⟩
abbrev S4 : Shape := ⟨1, ![4]⟩
abbrev S132 : Shape := ⟨1, ![132]⟩
abbrev S4x1 : Shape := ⟨2, ![4, 1]⟩
abbrev S1x132 : Shape := ⟨2, ![1, 132]⟩
abbrev S4x132 : Shape := ⟨2, ![4, 132]⟩
abbrev S128x4x4x4x64 : Shape := ⟨5, ![128, 4, 4, 4, 64]⟩
abbrev S128x4x132x4x4 : Shape := ⟨5, ![128, 4, 132, 4, 4]⟩
abbrev S128x4x4x4x132 : Shape := ⟨5, ![128, 4, 4, 4, 132]⟩
abbrev S4x4x1x1 : Shape := ⟨4, ![4, 4, 1, 1]⟩
abbrev S128x4x4x4 : Shape := ⟨4, ![128, 4, 4, 4]⟩
abbrev S128x4x4x4x1 : Shape := ⟨5, ![128, 4, 4, 4, 1]⟩
abbrev S1x4x4x1x1 : Shape := ⟨5, ![1, 4, 4, 1, 1]⟩
abbrev S128x4x64x4x4 : Shape := ⟨5, ![128, 4, 64, 4, 4]⟩
abbrev S128x4x1024 : Shape := ⟨3, ![128, 4, 1024]⟩
abbrev S128x8x1024 : Shape := ⟨3, ![128, 8, 1024]⟩
abbrev S128x128x256 : Shape := ⟨3, ![128, 128, 256]⟩

abbrev nBuf : Space → Nat
  | .hbm => 88
  | .vmem => 0
  | .smem => 0
  | _ => 0

abbrev bufTy : (tb : Table) → Fin (tcTables nBuf tb) → BufTy
  | .hbm, ⟨0, _⟩ => ⟨S16, .f32⟩
  | .hbm, ⟨1, _⟩ => ⟨S512x1024, .bf16⟩
  | .hbm, ⟨2, _⟩ => ⟨S512x512, .f32⟩
  | .hbm, ⟨3, _⟩ => ⟨S512x1024, .bf16⟩
  | .hbm, ⟨4, _⟩ => ⟨S1x128x128x4x64, .f32⟩
  | .hbm, ⟨5, _⟩ => ⟨S1x128x128x4x64, .f32⟩
  | .hbm, ⟨6, _⟩ => ⟨S1024x1024, .f32⟩
  | .hbm, ⟨7, _⟩ => ⟨S512x1024, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S512x1024, .f32⟩
  | .hbm, ⟨13, _⟩ => ⟨S512x1024, .f32⟩
  | .hbm, ⟨14, _⟩ => ⟨S512x256, .f32⟩
  | .hbm, ⟨15, _⟩ => ⟨S128x4x4x64, .f32⟩
  | .hbm, ⟨16, _⟩ => ⟨S512x256, .f32⟩
  | .hbm, ⟨17, _⟩ => ⟨S128x4x4x64, .f32⟩
  | .hbm, ⟨18, _⟩ => ⟨S128x128x4x64, .f32⟩
  | .hbm, ⟨19, _⟩ => ⟨S128x132x4x64, .f32⟩
  | .hbm, ⟨20, _⟩ => ⟨S128x128x4x64, .f32⟩
  | .hbm, ⟨21, _⟩ => ⟨S128x132x4x64, .f32⟩
  | .hbm, ⟨22, _⟩ => ⟨S4, .i32⟩
  | .hbm, ⟨23, _⟩ => ⟨S_, .i32⟩
  | .hbm, ⟨24, _⟩ => ⟨S4, .i32⟩
  | .hbm, ⟨25, _⟩ => ⟨S4, .i32⟩
  | .hbm, ⟨26, _⟩ => ⟨S132, .i32⟩
  | .hbm, ⟨27, _⟩ => ⟨S_, .i32⟩
  | .hbm, ⟨28, _⟩ => ⟨S132, .i32⟩
  | .hbm, ⟨29, _⟩ => ⟨S132, .i32⟩
  | .hbm, ⟨30, _⟩ => ⟨S4x1, .i32⟩
  | .hbm, ⟨31, _⟩ => ⟨S1x132, .i32⟩
  | .hbm, ⟨32, _⟩ => ⟨S4x132, .i32⟩
  | .hbm, ⟨33, _⟩ => ⟨S4x132, .i32⟩
  | .hbm, ⟨34, _⟩ => ⟨S4x132, .i32⟩
  | .hbm, ⟨35, _⟩ => ⟨S_, .i32⟩
  | .hbm, ⟨36, _⟩ => ⟨S4x132, .i32⟩
  | .hbm, ⟨37, _⟩ => ⟨S4x132, .i1⟩
  | .hbm, ⟨38, _⟩ => ⟨S_, .i32⟩
  | .hbm, ⟨39, _⟩ => ⟨S4x132, .i32⟩
  | .hbm, ⟨40, _⟩ => ⟨S4x132, .i1⟩
  | .hbm, ⟨41, _⟩ => ⟨S4x132, .i1⟩
  | .hbm, ⟨42, _⟩ => ⟨S128x4x4x4x64, .f32⟩
  | .hbm, ⟨43, _⟩ => ⟨S128x4x132x4x4, .f32⟩
  | .hbm, ⟨44, _⟩ => ⟨S128x4x4x4x132, .f32⟩
  | .hbm, ⟨45, _⟩ => ⟨S_, .f32⟩
  | .hbm, ⟨46, _⟩ => ⟨S128x4x4x4x132, .f32⟩
  | .hbm, ⟨47, _⟩ => ⟨S128x4x4x4x132, .f32⟩
  | .hbm, ⟨48, _⟩ => ⟨S_, .f32⟩
  | .hbm, ⟨49, _⟩ => ⟨S_, .f32⟩
  | .hbm, ⟨50, _⟩ => ⟨S128x4x4x4x132, .i1⟩
  | .hbm, ⟨51, _⟩ => ⟨S128x4x4x4x132, .f32⟩
  | .hbm, ⟨52, _⟩ => ⟨S128x4x4x4x132, .f32⟩
  | .hbm, ⟨53, _⟩ => ⟨S4x4x1x1, .f32⟩
  | .hbm, ⟨54, _⟩ => ⟨S_, .f32⟩
  | .hbm, ⟨55, _⟩ => ⟨S128x4x4x4, .f32⟩
  | .hbm, ⟨56, _⟩ => ⟨S128x4x4x4x1, .f32⟩
  | .hbm, ⟨57, _⟩ => ⟨S1x4x4x1x1, .f32⟩
  | .hbm, ⟨58, _⟩ => ⟨S128x4x4x4x1, .f32⟩
  | .hbm, ⟨59, _⟩ => ⟨S128x4x4x4x1, .f32⟩
  | .hbm, ⟨60, _⟩ => ⟨S128x4x4x4x132, .f32⟩
  | .hbm, ⟨61, _⟩ => ⟨S128x4x4x4x132, .f32⟩
  | .hbm, ⟨62, _⟩ => ⟨S128x4x4x4x132, .f32⟩
  | .hbm, ⟨63, _⟩ => ⟨S_, .f32⟩
  | .hbm, ⟨64, _⟩ => ⟨S128x4x4x4, .f32⟩
  | .hbm, ⟨65, _⟩ => ⟨S128x4x4x4x1, .f32⟩
  | .hbm, ⟨66, _⟩ => ⟨S1x4x4x1x1, .f32⟩
  | .hbm, ⟨67, _⟩ => ⟨S128x4x4x4x1, .f32⟩
  | .hbm, ⟨68, _⟩ => ⟨S128x4x4x4x1, .f32⟩
  | .hbm, ⟨69, _⟩ => ⟨S128x4x4x4x1, .f32⟩
  | .hbm, ⟨70, _⟩ => ⟨S128x4x4x4x1, .f32⟩
  | .hbm, ⟨71, _⟩ => ⟨S128x4x4x4x132, .f32⟩
  | .hbm, ⟨72, _⟩ => ⟨S128x4x4x4x132, .f32⟩
  | .hbm, ⟨73, _⟩ => ⟨S128x4x64x4x4, .f32⟩
  | .hbm, ⟨74, _⟩ => ⟨S128x4x4x4x64, .f32⟩
  | .hbm, ⟨75, _⟩ => ⟨S128x4x1024, .f32⟩
  | .hbm, ⟨76, _⟩ => ⟨S128x4x1024, .f32⟩
  | .hbm, ⟨77, _⟩ => ⟨S512x1024, .f32⟩
  | .hbm, ⟨78, _⟩ => ⟨S128x4x1024, .f32⟩
  | .hbm, ⟨79, _⟩ => ⟨S128x4x1024, .f32⟩
  | .hbm, ⟨80, _⟩ => ⟨S_, .i32⟩
  | .hbm, ⟨81, _⟩ => ⟨S_, .f32⟩
  | .hbm, ⟨82, _⟩ => ⟨S128x8x1024, .f32⟩
  | .hbm, ⟨83, _⟩ => ⟨S1024x1024, .f32⟩
  | .hbm, ⟨84, _⟩ => ⟨S128x128x4x64, .f32⟩
  | .hbm, ⟨85, _⟩ => ⟨S128x128x256, .f32⟩
  | .hbm, ⟨86, _⟩ => ⟨S128x128x4x64, .f32⟩
  | .hbm, ⟨87, _⟩ => ⟨S128x128x256, .f32⟩
  | _, _ => ⟨S16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_c_1 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_c_2 : Ref sig .tc := ⟨.hbm, 35, rfl⟩
abbrev main_v24 : Ref sig .tc := ⟨.hbm, 36, rfl⟩
abbrev main_v25 : Ref sig .tc := ⟨.hbm, 37, rfl⟩
abbrev main_c_3 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_4 : Ref sig .tc := ⟨.hbm, 45, rfl⟩
abbrev main_v32 : Ref sig .tc := ⟨.hbm, 46, rfl⟩
abbrev main_v33 : Ref sig .tc := ⟨.hbm, 47, rfl⟩
abbrev main_cst_5 : Ref sig .tc := ⟨.hbm, 48, rfl⟩
abbrev main_call0_v0 : Ref sig .tc := ⟨.hbm, 49, rfl⟩
abbrev main_call0_v1 : Ref sig .tc := ⟨.hbm, 50, rfl⟩
abbrev main_call0_v2 : Ref sig .tc := ⟨.hbm, 51, rfl⟩
abbrev main_v34 : Ref sig .tc := ⟨.hbm, 52, rfl⟩
abbrev main_v35 : Ref sig .tc := ⟨.hbm, 53, rfl⟩
abbrev main_cst_6 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_7 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_c_8 : Ref sig .tc := ⟨.hbm, 80, rfl⟩
abbrev main_call1_v0 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩

abbrev nD : Nat := 1
abbrev τ : Topo := Topo.v7x

variable {F : FTy → Type} [FloatOps F]
-- ==== Kernel2.lean ====
abbrev S128x16384 : Shape := ⟨2, ![128, 16384]⟩
abbrev S512x1024 : Shape := ⟨2, ![512, 1024]⟩
abbrev S1024x2048 : Shape := ⟨2, ![1024, 2048]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S1x1024 : Shape := ⟨2, ![1, 1024]⟩
abbrev S256 : Shape := ⟨1, ![256]⟩
abbrev S_ : Shape := ⟨0, ![]⟩
abbrev S256x1 : Shape := ⟨2, ![256, 1]⟩
abbrev S1x256 : Shape := ⟨2, ![1, 256]⟩
abbrev S256x256 : Shape := ⟨2, ![256, 256]⟩
abbrev S64x16384 : Shape := ⟨2, ![64, 16384]⟩
abbrev S256x1024 : Shape := ⟨2, ![256, 1024]⟩
abbrev S64x128 : Shape := ⟨2, ![64, 128]⟩
abbrev S64x1024 : Shape := ⟨2, ![64, 1024]⟩
abbrev S256x2048 : Shape := ⟨2, ![256, 2048]⟩

abbrev nBuf : Space → Nat
  | .hbm => 70
  | .vmem => 17
  | .smem => 0
  | _ => 0

abbrev bufTy : (tb : Table) → Fin (tcTables nBuf tb) → BufTy
  | .hbm, ⟨0, _⟩ => ⟨S128x16384, .bf16⟩
  | .hbm, ⟨1, _⟩ => ⟨S512x1024, .f32⟩
  | .hbm, ⟨2, _⟩ => ⟨S512x1024, .bf16⟩
  | .hbm, ⟨3, _⟩ => ⟨S512x1024, .f32⟩
  | .hbm, ⟨4, _⟩ => ⟨S1024x2048, .f32⟩
  | .hbm, ⟨5, _⟩ => ⟨S1024x1024, .f32⟩
  | .hbm, ⟨6, _⟩ => ⟨S1024, .f32⟩
  | .hbm, ⟨7, _⟩ => ⟨S1024x4096, .f32⟩
  | .hbm, ⟨8, _⟩ => ⟨S4096x1024, .f32⟩
  | .hbm, ⟨9, _⟩ => ⟨S1024, .f32⟩
  | .hbm, ⟨10, _⟩ => ⟨S1024x2048, .bf16⟩
  | .hbm, ⟨11, _⟩ => ⟨S1024x1024, .bf16⟩
  | .hbm, ⟨12, _⟩ => ⟨S1x1024, .f32⟩
  | .hbm, ⟨13, _⟩ => ⟨S1024x4096, .bf16⟩
  | .hbm, ⟨14, _⟩ => ⟨S4096x1024, .bf16⟩
  | .hbm, ⟨15, _⟩ => ⟨S1x1024, .f32⟩
  | .hbm, ⟨16, _⟩ => ⟨S256, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i1⟩
  | .hbm, ⟨21, _⟩ => ⟨S_, .i32⟩
  | .hbm, ⟨22, _⟩ => ⟨S_, .i32⟩
  | .hbm, ⟨23, _⟩ => ⟨S256, .i32⟩
  | .hbm, ⟨24, _⟩ => ⟨S256, .i32⟩
  | .hbm, ⟨25, _⟩ => ⟨S_, .i32⟩
  | .hbm, ⟨26, _⟩ => ⟨S256, .i32⟩
  | .hbm, ⟨27, _⟩ => ⟨S256, .i1⟩
  | .hbm, ⟨28, _⟩ => ⟨S_, .i32⟩
  | .hbm, ⟨29, _⟩ => ⟨S256, .i32⟩
  | .hbm, ⟨30, _⟩ => ⟨S256, .i1⟩
  | .hbm, ⟨31, _⟩ => ⟨S_, .i32⟩
  | .hbm, ⟨32, _⟩ => ⟨S_, .i1⟩
  | .hbm, ⟨33, _⟩ => ⟨S256, .i1⟩
  | .hbm, ⟨34, _⟩ => ⟨S256, .i1⟩
  | .hbm, ⟨35, _⟩ => ⟨S256, .i1⟩
  | .hbm, ⟨36, _⟩ => ⟨S256, .i32⟩
  | .hbm, ⟨37, _⟩ => ⟨S256, .i32⟩
  | .hbm, ⟨38, _⟩ => ⟨S256, .i32⟩
  | .hbm, ⟨39, _⟩ => ⟨S_, .i32⟩
  | .hbm, ⟨40, _⟩ => ⟨S256, .i32⟩
  | .hbm, ⟨41, _⟩ => ⟨S256, .i32⟩
  | .hbm, ⟨42, _⟩ => ⟨S_, .i32⟩
  | .hbm, ⟨43, _⟩ => ⟨S_, .i32⟩
  | .hbm, ⟨44, _⟩ => ⟨S256, .i32⟩
  | .hbm, ⟨45, _⟩ => ⟨S256, .i32⟩
  | .hbm, ⟨46, _⟩ => ⟨S256, .i32⟩
  | .hbm, ⟨47, _⟩ => ⟨S_, .i32⟩
  | .hbm, ⟨48, _⟩ => ⟨S256, .i32⟩
  | .hbm, ⟨49, _⟩ => ⟨S256, .i1⟩
  | .hbm, ⟨50, _⟩ => ⟨S256, .i32⟩
  | .hbm, ⟨51, _⟩ => ⟨S256, .i32⟩
  | .hbm, ⟨52, _⟩ => ⟨S_, .i32⟩
  | .hbm, ⟨53, _⟩ => ⟨S256, .i32⟩
  | .hbm, ⟨54, _⟩ => ⟨S256, .i1⟩
  | .hbm, ⟨55, _⟩ => ⟨S256, .i1⟩
  | .hbm, ⟨56, _⟩ => ⟨S_, .i32⟩
  | .hbm, ⟨57, _⟩ => ⟨S256, .i32⟩
  | .hbm, ⟨58, _⟩ => ⟨S256, .i32⟩
  | .hbm, ⟨59, _⟩ => ⟨S256, .i32⟩
  | .hbm, ⟨60, _⟩ => ⟨S256, .i32⟩
  | .hbm, ⟨61, _⟩ => ⟨S256x1, .i32⟩
  | .hbm, ⟨62, _⟩ => ⟨S256, .i32⟩
  | .hbm, ⟨63, _⟩ => ⟨S1x256, .i32⟩
  | .hbm, ⟨64, _⟩ => ⟨S256x256, .i32⟩
  | .hbm, ⟨65, _⟩ => ⟨S256x256, .i32⟩
  | .hbm, ⟨66, _⟩ => ⟨S256x256, .i1⟩
  | .hbm, ⟨67, _⟩ => ⟨S256x256, .bf16⟩
  | .hbm, ⟨68, _⟩ => ⟨S256x256, .bf16⟩
  | .hbm, ⟨69, _⟩ => ⟨S512x1024, .f32⟩
  | .local _ .vmem, ⟨0, _⟩ => ⟨S64x16384, .bf16⟩
  | .local _ .vmem, ⟨1, _⟩ => ⟨S64x16384, .bf16⟩
  | .local _ .vmem, ⟨2, _⟩ => ⟨S256x1024, .f32⟩
  | .local _ .vmem, ⟨3, _⟩ => ⟨S256x1024, .f32⟩
  | .local _ .vmem, ⟨4, _⟩ => ⟨S256x1024, .bf16⟩
  | .local _ .vmem, ⟨5, _⟩ => ⟨S256x1024, .bf16⟩
  | .local _ .vmem, ⟨6, _⟩ => ⟨S256x1024, .f32⟩
  | .local _ .vmem, ⟨7, _⟩ => ⟨S256x1024, .f32⟩
  | .local _ .vmem, ⟨8, _⟩ => ⟨S256x256, .bf16⟩
  | .local _ .vmem, ⟨9, _⟩ => ⟨S1024x2048, .bf16⟩
  | .local _ .vmem, ⟨10, _⟩ => ⟨S1024x1024, .bf16⟩
  | .local _ .vmem, ⟨11, _⟩ => ⟨S1x1024, .f32⟩
  | .local _ .vmem, ⟨12, _⟩ => ⟨S1024x4096, .bf16⟩
  | .local _ .vmem, ⟨13, _⟩ => ⟨S4096x1024, .bf16⟩
  | .local _ .vmem, ⟨14, _⟩ => ⟨S1x1024, .f32⟩
  | .local _ .vmem, ⟨15, _⟩ => ⟨S256x1024, .f32⟩
  | .local _ .vmem, ⟨16, _⟩ => ⟨S256x1024, .f32⟩
  | _, _ => ⟨S128x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c : Ref sig .tc := ⟨.hbm, 17, rfl⟩
abbrev main_call0_v0 : Ref sig .tc := ⟨.hbm, 18, rfl⟩
abbrev main_call0_c : Ref sig .tc := ⟨.hbm, 19, rfl⟩
abbrev main_call0_v1 : Ref sig .tc := ⟨.hbm, 20, rfl⟩
abbrev main_call0_c_0 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_c_1 : Ref sig .tc := ⟨.hbm, 25, rfl⟩
abbrev main_call0_v5 : Ref sig .tc := ⟨.hbm, 26, rfl⟩
abbrev main_call0_v6 : Ref sig .tc := ⟨.hbm, 27, rfl⟩
abbrev main_call0_c_2 : Ref sig .tc := ⟨.hbm, 28, rfl⟩
abbrev main_call0_v7 : Ref sig .tc := ⟨.hbm, 29, rfl⟩
abbrev main_call0_v8 : Ref sig .tc := ⟨.hbm, 30, rfl⟩
abbrev main_call0_c_3 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_v12 : Ref sig .tc := ⟨.hbm, 35, rfl⟩
abbrev main_call0_v13 : Ref sig .tc := ⟨.hbm, 36, rfl⟩
abbrev main_call0_v14 : Ref sig .tc := ⟨.hbm, 37, rfl⟩
abbrev main_v7 : Ref sig .tc := ⟨.hbm, 38, rfl⟩
abbrev main_c_0 : Ref sig .tc := ⟨.hbm, 39, rfl⟩
abbrev main_v8 : Ref sig .tc := ⟨.hbm, 40, rfl⟩
abbrev main_v9 : Ref sig .tc := ⟨.hbm, 41, rfl⟩
abbrev main_c_1 : Ref sig .tc := ⟨.hbm, 42, rfl⟩
abbrev main_call1_v0 : Ref sig .tc := ⟨.hbm, 43, rfl⟩
abbrev main_call1_v1 : Ref sig .tc := ⟨.hbm, 44, rfl⟩
abbrev main_call1_v2 : Ref sig .tc := ⟨.hbm, 45, rfl⟩
abbrev main_call1_v3 : Ref sig .tc := ⟨.hbm, 46, rfl⟩
abbrev main_call1_v4 : Ref sig .tc := ⟨.hbm, 47, rfl⟩
abbrev main_call1_v5 : Ref sig .tc := ⟨.hbm, 48, rfl⟩
abbrev main_call1_v6 : Ref sig .tc := ⟨.hbm, 49, rfl⟩
abbrev main_call1_v7 : Ref sig .tc := ⟨.hbm, 50, rfl⟩
abbrev main_call1_v8 : Ref sig .tc := ⟨.hbm, 51, rfl⟩
abbrev main_call1_c : Ref sig .tc := ⟨.hbm, 52, rfl⟩
abbrev main_call1_v9 : Ref sig .tc := ⟨.hbm, 53, rfl⟩
abbrev main_call1_v10 : Ref sig .tc := ⟨.hbm, 54, rfl⟩
abbrev main_call1_v11 : Ref sig .tc := ⟨.hbm, 55, rfl⟩
abbrev main_call1_c_0 : Ref sig .tc := ⟨.hbm, 56, rfl⟩
abbrev main_call1_v12 : Ref sig .tc := ⟨.hbm, 57, rfl⟩
abbrev main_call1_v13 : Ref sig .tc := ⟨.hbm, 58, rfl⟩
abbrev main_v10 : Ref sig .tc := ⟨.hbm, 59, rfl⟩
abbrev main_v11 : Ref sig .tc := ⟨.hbm, 60, rfl⟩
abbrev main_v12 : Ref sig .tc := ⟨.hbm, 61, rfl⟩
abbrev main_v13 : Ref sig .tc := ⟨.hbm, 62, rfl⟩
abbrev main_v14 : Ref sig .tc := ⟨.hbm, 63, rfl⟩
abbrev main_v15 : Ref sig .tc := ⟨.hbm, 64, rfl⟩
abbrev main_v16 : Ref sig .tc := ⟨.hbm, 65, rfl⟩
abbrev main_v17 : Ref sig .tc := ⟨.hbm, 66, rfl⟩
abbrev main_v18 : Ref sig .tc := ⟨.hbm, 67, rfl⟩
abbrev main_v19 : Ref sig .tc := ⟨.hbm, 68, rfl⟩
abbrev main_v20 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x16384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x4096 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4096x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference2Ideal.lean ====
abbrev S128x16384 : Shape := ⟨2, ![128, 16384]⟩
abbrev S512x1024 : Shape := ⟨2, ![512, 1024]⟩
abbrev S1024x2048 : Shape := ⟨2, ![1024, 2048]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S128x64x16x16 : Shape := ⟨4, ![128, 64, 16, 16]⟩
abbrev S128x64x4x16 : Shape := ⟨4, ![128, 64, 4, 16]⟩
abbrev S128x4x64x16 : Shape := ⟨4, ![128, 4, 64, 16]⟩
abbrev S512x2048 : Shape := ⟨2, ![512, 2048]⟩
abbrev S_ : Shape := ⟨0, ![]⟩
abbrev S512 : Shape := ⟨1, ![512]⟩
abbrev S512x1 : Shape := ⟨2, ![512, 1]⟩
abbrev S1x1024 : Shape := ⟨2, ![1, 1024]⟩
abbrev S512x4096 : Shape := ⟨2, ![512, 4096]⟩

abbrev nBuf : Space → Nat
  | .hbm => 71
  | .vmem => 0
  | .smem => 0
  | _ => 0

abbrev bufTy : (tb : Table) → Fin (tcTables nBuf tb) → BufTy
  | .hbm, ⟨0, _⟩ => ⟨S128x16384, .bf16⟩
  | .hbm, ⟨1, _⟩ => ⟨S512x1024, .f32⟩
  | .hbm, ⟨2, _⟩ => ⟨S512x1024, .bf16⟩
  | .hbm, ⟨3, _⟩ => ⟨S512x1024, .f32⟩
  | .hbm, ⟨4, _⟩ => ⟨S1024x2048, .f32⟩
  | .hbm, ⟨5, _⟩ => ⟨S1024x1024, .f32⟩
  | .hbm, ⟨6, _⟩ => ⟨S1024, .f32⟩
  | .hbm, ⟨7, _⟩ => ⟨S1024x4096, .f32⟩
  | .hbm, ⟨8, _⟩ => ⟨S4096x1024, .f32⟩
  | .hbm, ⟨9, _⟩ => ⟨S1024, .f32⟩
  | .hbm, ⟨10, _⟩ => ⟨S128x16384, .f32⟩
  | .hbm, ⟨11, _⟩ => ⟨S128x64x16x16, .f32⟩
  | .hbm, ⟨12, _⟩ => ⟨S128x64x4x16, .f32⟩
  | .hbm, ⟨13, _⟩ => ⟨S128x4x64x16, .f32⟩
  | .hbm, ⟨14, _⟩ => ⟨S512x1024, .f32⟩
  | .hbm, ⟨15, _⟩ => ⟨S512x2048, .f32⟩
  | .hbm, ⟨16, _⟩ => ⟨S512x1024, .f32⟩
  | .hbm, ⟨17, _⟩ => ⟨S512x1024, .f32⟩
  | .hbm, ⟨18, _⟩ => ⟨S512x1024, .f32⟩
  | .hbm, ⟨19, _⟩ => ⟨S512x1024, .f32⟩
  | .hbm, ⟨20, _⟩ => ⟨S_, .f32⟩
  | .hbm, ⟨21, _⟩ => ⟨S512x1024, .f32⟩
  | .hbm, ⟨22, _⟩ => ⟨S512x1024, .f32⟩
  | .hbm, ⟨23, _⟩ => ⟨S_, .f32⟩
  | .hbm, ⟨24, _⟩ => ⟨S512x1024, .f32⟩
  | .hbm, ⟨25, _⟩ => ⟨S512x1024, .f32⟩
  | .hbm, ⟨26, _⟩ => ⟨S512x1024, .f32⟩
  | .hbm, ⟨27, _⟩ => ⟨S512x1024, .f32⟩
  | .hbm, ⟨28, _⟩ => ⟨S512x1024, .f32⟩
  | .hbm, ⟨29, _⟩ => ⟨S512x1024, .f32⟩
  | .hbm, ⟨30, _⟩ => ⟨S512x1024, .f32⟩
  | .hbm, ⟨31, _⟩ => ⟨S512x1024, .f32⟩
  | .hbm, ⟨32, _⟩ => ⟨S512x1024, .f32⟩
  | .hbm, ⟨33, _⟩ => ⟨S_, .f32⟩
  | .hbm, ⟨34, _⟩ => ⟨S512, .f32⟩
  | .hbm, ⟨35, _⟩ => ⟨S512x1, .f32⟩
  | .hbm, ⟨36, _⟩ => ⟨S_, .f32⟩
  | .hbm, ⟨37, _⟩ => ⟨S512x1, .f32⟩
  | .hbm, ⟨38, _⟩ => ⟨S512x1, .f32⟩
  | .hbm, ⟨39, _⟩ => ⟨S_, .f32⟩
  | .hbm, ⟨40, _⟩ => ⟨S512x1, .f32⟩
  | .hbm, ⟨41, _⟩ => ⟨S512x1, .f32⟩
  | .hbm, ⟨42, _⟩ => ⟨S512x1, .f32⟩
  | .hbm, ⟨43, _⟩ => ⟨S512x1024, .f32⟩
  | .hbm, ⟨44, _⟩ => ⟨S512x1024, .f32⟩
  | .hbm, ⟨45, _⟩ => ⟨S1x1024, .f32⟩
  | .hbm, ⟨46, _⟩ => ⟨S512x1024, .f32⟩
  | .hbm, ⟨47, _⟩ => ⟨S512x1024, .f32⟩
  | .hbm, ⟨48, _⟩ => ⟨S512x4096, .f32⟩
  | .hbm, ⟨49, _⟩ => ⟨S_, .f32⟩
  | .hbm, ⟨50, _⟩ => ⟨S512x4096, .f32⟩
  | .hbm, ⟨51, _⟩ => ⟨S512x4096, .f32⟩
  | .hbm, ⟨52, _⟩ => ⟨S512x4096, .f32⟩
  | .hbm, ⟨53, _⟩ => ⟨S512x1024, .f32⟩
  | .hbm, ⟨54, _⟩ => ⟨S512x1024, .f32⟩
  | .hbm, ⟨55, _⟩ => ⟨S512x1024, .f32⟩
  | .hbm, ⟨56, _⟩ => ⟨S_, .f32⟩
  | .hbm, ⟨57, _⟩ => ⟨S512, .f32⟩
  | .hbm, ⟨58, _⟩ => ⟨S512x1, .f32⟩
  | .hbm, ⟨59, _⟩ => ⟨S_, .f32⟩
  | .hbm, ⟨60, _⟩ => ⟨S512x1, .f32⟩
  | .hbm, ⟨61, _⟩ => ⟨S512x1, .f32⟩
  | .hbm, ⟨62, _⟩ => ⟨S_, .f32⟩
  | .hbm, ⟨63, _⟩ => ⟨S512x1, .f32⟩
  | .hbm, ⟨64, _⟩ => ⟨S512x1, .f32⟩
  | .hbm, ⟨65, _⟩ => ⟨S512x1, .f32⟩
  | .hbm, ⟨66, _⟩ => ⟨S512x1024, .f32⟩
  | .hbm, ⟨67, _⟩ => ⟨S512x1024, .f32⟩
  | .hbm, ⟨68, _⟩ => ⟨S1x1024, .f32⟩
  | .hbm, ⟨69, _⟩ => ⟨S512x1024, .f32⟩
  | .hbm, ⟨70, _⟩ => ⟨S512x1024, .f32⟩
  | _, _ => ⟨S128x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_cst_0 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_1 : Ref sig .tc := ⟨.hbm, 33, rfl⟩
abbrev main_v21 : Ref sig .tc := ⟨.hbm, 34, rfl⟩
abbrev main_v22 : Ref sig .tc := ⟨.hbm, 35, rfl⟩
abbrev main_cst_2 : Ref sig .tc := ⟨.hbm, 36, rfl⟩
abbrev main_v23 : Ref sig .tc := ⟨.hbm, 37, rfl⟩
abbrev main_v24 : Ref sig .tc := ⟨.hbm, 38, rfl⟩
abbrev main_cst_3 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_call0_cst : Ref sig .tc := ⟨.hbm, 49, rfl⟩
abbrev main_call0_v0 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_4 : Ref sig .tc := ⟨.hbm, 56, rfl⟩
abbrev main_v39 : Ref sig .tc := ⟨.hbm, 57, rfl⟩
abbrev main_v40 : Ref sig .tc := ⟨.hbm, 58, rfl⟩
abbrev main_cst_5 : Ref sig .tc := ⟨.hbm, 59, rfl⟩
abbrev main_v41 : Ref sig .tc := ⟨.hbm, 60, rfl⟩
abbrev main_v42 : Ref sig .tc := ⟨.hbm, 61, rfl⟩
abbrev main_cst_6 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩

abbrev nD : Nat := 1
abbrev τ : Topo := Topo.v7x

variable {F : FTy → Type} [FloatOps F]
-- ==== Kernel3.lean ====
abbrev S512x1024 : Shape := ⟨2, ![512, 1024]⟩
abbrev S1024 : Shape := ⟨1, ![1024]⟩
abbrev S1024x4608 : Shape := ⟨2, ![1024, 4608]⟩
abbrev S1x1024 : Shape := ⟨2, ![1, 1024]⟩
abbrev S256 : Shape := ⟨1, ![256]⟩
abbrev S_ : Shape := ⟨0, ![]⟩
abbrev S256x1 : Shape := ⟨2, ![256, 1]⟩
abbrev S1x256 : Shape := ⟨2, ![1, 256]⟩
abbrev S256x256 : Shape := ⟨2, ![256, 256]⟩
abbrev S512x512 : Shape := ⟨2, ![512, 512]⟩
abbrev S128x16384 : Shape := ⟨2, ![128, 16384]⟩
abbrev S512 : Shape := ⟨1, ![512]⟩
abbrev S512x1 : Shape := ⟨2, ![512, 1]⟩
abbrev S1024x1024 : Shape := ⟨2, ![1024, 1024]⟩
abbrev S1024x512 : Shape := ⟨2, ![1024, 512]⟩
abbrev S64x128 : Shape := ⟨2, ![64, 128]⟩
abbrev S256x1024 : Shape := ⟨2, ![256, 1024]⟩

abbrev nBuf : Space → Nat
  | .hbm => 62
  | .vmem => 9
  | .smem => 0
  | _ => 0

abbrev bufTy : (tb : Table) → Fin (tcTables nBuf tb) → BufTy
  | .hbm, ⟨0, _⟩ => ⟨S512x1024, .f32⟩
  | .hbm, ⟨1, _⟩ => ⟨S1024, .f32⟩
  | .hbm, ⟨2, _⟩ => ⟨S1024x4608, .f32⟩
  | .hbm, ⟨3, _⟩ => ⟨S1x1024, .f32⟩
  | .hbm, ⟨4, _⟩ => ⟨S1024x4608, .bf16⟩
  | .hbm, ⟨5, _⟩ => ⟨S256, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i1⟩
  | .hbm, ⟨10, _⟩ => ⟨S_, .i32⟩
  | .hbm, ⟨11, _⟩ => ⟨S_, .i32⟩
  | .hbm, ⟨12, _⟩ => ⟨S256, .i32⟩
  | .hbm, ⟨13, _⟩ => ⟨S256, .i32⟩
  | .hbm, ⟨14, _⟩ => ⟨S_, .i32⟩
  | .hbm, ⟨15, _⟩ => ⟨S256, .i32⟩
  | .hbm, ⟨16, _⟩ => ⟨S256, .i1⟩
  | .hbm, ⟨17, _⟩ => ⟨S_, .i32⟩
  | .hbm, ⟨18, _⟩ => ⟨S256, .i32⟩
  | .hbm, ⟨19, _⟩ => ⟨S256, .i1⟩
  | .hbm, ⟨20, _⟩ => ⟨S_, .i32⟩
  | .hbm, ⟨21, _⟩ => ⟨S_, .i1⟩
  | .hbm, ⟨22, _⟩ => ⟨S256, .i1⟩
  | .hbm, ⟨23, _⟩ => ⟨S256, .i1⟩
  | .hbm, ⟨24, _⟩ => ⟨S256, .i1⟩
  | .hbm, ⟨25, _⟩ => ⟨S256, .i32⟩
  | .hbm, ⟨26, _⟩ => ⟨S256, .i32⟩
  | .hbm, ⟨27, _⟩ => ⟨S256, .i32⟩
  | .hbm, ⟨28, _⟩ => ⟨S_, .i32⟩
  | .hbm, ⟨29, _⟩ => ⟨S256, .i32⟩
  | .hbm, ⟨30, _⟩ => ⟨S256, .i32⟩
  | .hbm, ⟨31, _⟩ => ⟨S_, .i32⟩
  | .hbm, ⟨32, _⟩ => ⟨S_, .i32⟩
  | .hbm, ⟨33, _⟩ => ⟨S256, .i32⟩
  | .hbm, ⟨34, _⟩ => ⟨S256, .i32⟩
  | .hbm, ⟨35, _⟩ => ⟨S256, .i32⟩
  | .hbm, ⟨36, _⟩ => ⟨S_, .i32⟩
  | .hbm, ⟨37, _⟩ => ⟨S256, .i32⟩
  | .hbm, ⟨38, _⟩ => ⟨S256, .i1⟩
  | .hbm, ⟨39, _⟩ => ⟨S256, .i32⟩
  | .hbm, ⟨40, _⟩ => ⟨S256, .i32⟩
  | .hbm, ⟨41, _⟩ => ⟨S_, .i32⟩
  | .hbm, ⟨42, _⟩ => ⟨S256, .i32⟩
  | .hbm, ⟨43, _⟩ => ⟨S256, .i1⟩
  | .hbm, ⟨44, _⟩ => ⟨S256, .i1⟩
  | .hbm, ⟨45, _⟩ => ⟨S_, .i32⟩
  | .hbm, ⟨46, _⟩ => ⟨S256, .i32⟩
  | .hbm, ⟨47, _⟩ => ⟨S256, .i32⟩
  | .hbm, ⟨48, _⟩ => ⟨S256, .i32⟩
  | .hbm, ⟨49, _⟩ => ⟨S256, .i32⟩
  | .hbm, ⟨50, _⟩ => ⟨S256x1, .i32⟩
  | .hbm, ⟨51, _⟩ => ⟨S256, .i32⟩
  | .hbm, ⟨52, _⟩ => ⟨S1x256, .i32⟩
  | .hbm, ⟨53, _⟩ => ⟨S256x256, .i32⟩
  | .hbm, ⟨54, _⟩ => ⟨S256x256, .i32⟩
  | .hbm, ⟨55, _⟩ => ⟨S256x256, .i1⟩
  | .hbm, ⟨56, _⟩ => ⟨S256x256, .bf16⟩
  | .hbm, ⟨57, _⟩ => ⟨S512x1024, .bf16⟩
  | .hbm, ⟨58, _⟩ => ⟨S512x512, .f32⟩
  | .hbm, ⟨59, _⟩ => ⟨S128x16384, .bf16⟩
  | .hbm, ⟨60, _⟩ => ⟨S512x1024, .bf16⟩
  | .hbm, ⟨61, _⟩ => ⟨S512x1024, .bf16⟩
  | .local _ .vmem, ⟨0, _⟩ => ⟨S512x1024, .f32⟩
  | .local _ .vmem, ⟨1, _⟩ => ⟨S1x1024, .f32⟩
  | .local _ .vmem, ⟨2, _⟩ => ⟨S1024x4608, .bf16⟩
  | .local _ .vmem, ⟨3, _⟩ => ⟨S256x256, .bf16⟩
  | .local _ .vmem, ⟨4, _⟩ => ⟨S512x1024, .bf16⟩
  | .local _ .vmem, ⟨5, _⟩ => ⟨S512x512, .f32⟩
  | .local _ .vmem, ⟨6, _⟩ => ⟨S128x16384, .bf16⟩
  | .local _ .vmem, ⟨7, _⟩ => ⟨S512x1024, .bf16⟩
  | .local _ .vmem, ⟨8, _⟩ => ⟨S512x1024, .bf16⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_call0_v0 : Ref sig .tc := ⟨.hbm, 7, rfl⟩
abbrev main_call0_c : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_c_1 : Ref sig .tc := ⟨.hbm, 14, rfl⟩
abbrev main_call0_v5 : Ref sig .tc := ⟨.hbm, 15, rfl⟩
abbrev main_call0_v6 : Ref sig .tc := ⟨.hbm, 16, rfl⟩
abbrev main_call0_c_2 : Ref sig .tc := ⟨.hbm, 17, rfl⟩
abbrev main_call0_v7 : Ref sig .tc := ⟨.hbm, 18, rfl⟩
abbrev main_call0_v8 : Ref sig .tc := ⟨.hbm, 19, rfl⟩
abbrev main_call0_c_3 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_v3 : Ref sig .tc := ⟨.hbm, 27, rfl⟩
abbrev main_c_0 : Ref sig .tc := ⟨.hbm, 28, rfl⟩
abbrev main_v4 : Ref sig .tc := ⟨.hbm, 29, rfl⟩
abbrev main_v5 : Ref sig .tc := ⟨.hbm, 30, rfl⟩
abbrev main_c_1 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_v5 : Ref sig .tc := ⟨.hbm, 37, rfl⟩
abbrev main_call1_v6 : Ref sig .tc := ⟨.hbm, 38, rfl⟩
abbrev main_call1_v7 : Ref sig .tc := ⟨.hbm, 39, rfl⟩
abbrev main_call1_v8 : Ref sig .tc := ⟨.hbm, 40, rfl⟩
abbrev main_call1_c : Ref sig .tc := ⟨.hbm, 41, rfl⟩
abbrev main_call1_v9 : Ref sig .tc := ⟨.hbm, 42, rfl⟩
abbrev main_call1_v10 : Ref sig .tc := ⟨.hbm, 43, rfl⟩
abbrev main_call1_v11 : Ref sig .tc := ⟨.hbm, 44, rfl⟩
abbrev main_call1_c_0 : Ref sig .tc := ⟨.hbm, 45, rfl⟩
abbrev main_call1_v12 : Ref sig .tc := ⟨.hbm, 46, rfl⟩
abbrev main_call1_v13 : Ref sig .tc := ⟨.hbm, 47, rfl⟩
abbrev main_v6 : Ref sig .tc := ⟨.hbm, 48, rfl⟩
abbrev main_v7 : Ref sig .tc := ⟨.hbm, 49, rfl⟩
abbrev main_v8 : Ref sig .tc := ⟨.hbm, 50, rfl⟩
abbrev main_v9 : Ref sig .tc := ⟨.hbm, 51, rfl⟩
abbrev main_v10 : Ref sig .tc := ⟨.hbm, 52, rfl⟩
abbrev main_v11 : Ref sig .tc := ⟨.hbm, 53, rfl⟩
abbrev main_v12 : Ref sig .tc := ⟨.hbm, 54, rfl⟩
abbrev main_v13 : Ref sig .tc := ⟨.hbm, 55, rfl⟩
abbrev main_v14 : Ref sig .tc := ⟨.hbm, 56, rfl⟩
abbrev main_v15_0 : Ref sig .tc := ⟨.hbm, 57, rfl⟩
abbrev main_v15_1 : Ref sig .tc := ⟨.hbm, 58, rfl⟩
abbrev main_v15_2 : Ref sig .tc := ⟨.hbm, 59, rfl⟩
abbrev main_v15_3 : Ref sig .tc := ⟨.hbm, 60, rfl⟩
abbrev main_v15_4 : Ref sig .tc := ⟨.hbm, 61, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4608 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x16384 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== Kernel3Ideal.lean ====
variable {F : FTy → Type} [FloatOps F] [Named F]
def κ : String → Option EReal := fun
  | "q_scale" => some (((8 * (Real.log 2))⁻¹ : ℝ) : EReal)
  | _ => none
-- ==== Reference3Ideal.lean ====
abbrev S512x1024 : Shape := ⟨2, ![512, 1024]⟩
abbrev S1024 : Shape := ⟨1, ![1024]⟩
abbrev S1024x4608 : Shape := ⟨2, ![1024, 4608]⟩
abbrev S_ : Shape := ⟨0, ![]⟩
abbrev S512 : Shape := ⟨1, ![512]⟩
abbrev S512x1 : Shape := ⟨2, ![512, 1]⟩
abbrev S1x1024 : Shape := ⟨2, ![1, 1024]⟩
abbrev S512x4608 : Shape := ⟨2, ![512, 4608]⟩
abbrev S128x4x64x16 : Shape := ⟨4, ![128, 4, 64, 16]⟩
abbrev S128x64x4x16 : Shape := ⟨4, ![128, 64, 4, 16]⟩
abbrev S128x64x16x16 : Shape := ⟨4, ![128, 64, 16, 16]⟩
abbrev S128x16384 : Shape := ⟨2, ![128, 16384]⟩
abbrev S512x512 : Shape := ⟨2, ![512, 512]⟩

abbrev nBuf : Space → Nat
  | .hbm => 58
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S1024, .f32⟩
  | .hbm, ⟨2, _⟩ => ⟨S1024x4608, .f32⟩
  | .hbm, ⟨3, _⟩ => ⟨S512x1024, .f32⟩
  | .hbm, ⟨4, _⟩ => ⟨S_, .f32⟩
  | .hbm, ⟨5, _⟩ => ⟨S512, .f32⟩
  | .hbm, ⟨6, _⟩ => ⟨S512x1, .f32⟩
  | .hbm, ⟨7, _⟩ => ⟨S_, .f32⟩
  | .hbm, ⟨8, _⟩ => ⟨S512x1, .f32⟩
  | .hbm, ⟨9, _⟩ => ⟨S512x1, .f32⟩
  | .hbm, ⟨10, _⟩ => ⟨S_, .f32⟩
  | .hbm, ⟨11, _⟩ => ⟨S512x1, .f32⟩
  | .hbm, ⟨12, _⟩ => ⟨S512x1, .f32⟩
  | .hbm, ⟨13, _⟩ => ⟨S512x1, .f32⟩
  | .hbm, ⟨14, _⟩ => ⟨S512x1024, .f32⟩
  | .hbm, ⟨15, _⟩ => ⟨S512x1024, .f32⟩
  | .hbm, ⟨16, _⟩ => ⟨S1x1024, .f32⟩
  | .hbm, ⟨17, _⟩ => ⟨S512x1024, .f32⟩
  | .hbm, ⟨18, _⟩ => ⟨S512x1024, .f32⟩
  | .hbm, ⟨19, _⟩ => ⟨S512x4608, .f32⟩
  | .hbm, ⟨20, _⟩ => ⟨S512x1024, .f32⟩
  | .hbm, ⟨21, _⟩ => ⟨S_, .f32⟩
  | .hbm, ⟨22, _⟩ => ⟨S512x1024, .f32⟩
  | .hbm, ⟨23, _⟩ => ⟨S512x1024, .f32⟩
  | .hbm, ⟨24, _⟩ => ⟨S_, .f32⟩
  | .hbm, ⟨25, _⟩ => ⟨S_, .f32⟩
  | .hbm, ⟨26, _⟩ => ⟨S512x1024, .f32⟩
  | .hbm, ⟨27, _⟩ => ⟨S512x1024, .f32⟩
  | .hbm, ⟨28, _⟩ => ⟨S512x1024, .f32⟩
  | .hbm, ⟨29, _⟩ => ⟨S128x4x64x16, .f32⟩
  | .hbm, ⟨30, _⟩ => ⟨S128x64x4x16, .f32⟩
  | .hbm, ⟨31, _⟩ => ⟨S_, .i32⟩
  | .hbm, ⟨32, _⟩ => ⟨S_, .f32⟩
  | .hbm, ⟨33, _⟩ => ⟨S128x64x16x16, .f32⟩
  | .hbm, ⟨34, _⟩ => ⟨S128x16384, .f32⟩
  | .hbm, ⟨35, _⟩ => ⟨S512x1024, .f32⟩
  | .hbm, ⟨36, _⟩ => ⟨S512x1024, .f32⟩
  | .hbm, ⟨37, _⟩ => ⟨S512x1024, .f32⟩
  | .hbm, ⟨38, _⟩ => ⟨S_, .f32⟩
  | .hbm, ⟨39, _⟩ => ⟨S512x1024, .f32⟩
  | .hbm, ⟨40, _⟩ => ⟨S512x1024, .f32⟩
  | .hbm, ⟨41, _⟩ => ⟨S_, .f32⟩
  | .hbm, ⟨42, _⟩ => ⟨S512x1024, .f32⟩
  | .hbm, ⟨43, _⟩ => ⟨S512x1024, .f32⟩
  | .hbm, ⟨44, _⟩ => ⟨S512x1024, .f32⟩
  | .hbm, ⟨45, _⟩ => ⟨S512x1024, .f32⟩
  | .hbm, ⟨46, _⟩ => ⟨S512x1024, .f32⟩
  | .hbm, ⟨47, _⟩ => ⟨S_, .f32⟩
  | .hbm, ⟨48, _⟩ => ⟨S512x1024, .f32⟩
  | .hbm, ⟨49, _⟩ => ⟨S512x1024, .f32⟩
  | .hbm, ⟨50, _⟩ => ⟨S_, .f32⟩
  | .hbm, ⟨51, _⟩ => ⟨S512x1024, .f32⟩
  | .hbm, ⟨52, _⟩ => ⟨S512x1024, .f32⟩
  | .hbm, ⟨53, _⟩ => ⟨S512x1024, .bf16⟩
  | .hbm, ⟨54, _⟩ => ⟨S512x512, .f32⟩
  | .hbm, ⟨55, _⟩ => ⟨S128x16384, .bf16⟩
  | .hbm, ⟨56, _⟩ => ⟨S512x1024, .bf16⟩
  | .hbm, ⟨57, _⟩ => ⟨S512x1024, .bf16⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_c : Ref sig .tc := ⟨.hbm, 31, rfl⟩
abbrev main_call0_v0 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_6 : Ref sig .tc := ⟨.hbm, 47, rfl⟩
abbrev main_v35 : Ref sig .tc := ⟨.hbm, 48, rfl⟩
abbrev main_v36 : Ref sig .tc := ⟨.hbm, 49, rfl⟩
abbrev main_cst_7 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩

abbrev nD : Nat := 1
abbrev τ : Topo := Topo.v7x

variable {F : FTy → Type} [FloatOps F]
-- ==== Kernel4.lean ====
abbrev S128x16384 : Shape := ⟨2, ![128, 16384]⟩
abbrev S64x256x256 : Shape := ⟨3, ![64, 256, 256]⟩
abbrev S2x8x4096 : Shape := ⟨3, ![2, 8, 4096]⟩
abbrev S1024 : Shape := ⟨1, ![1024]⟩
abbrev S1x128x64x64 : Shape := ⟨4, ![1, 128, 64, 64]⟩
abbrev S64x1x16 : Shape := ⟨3, ![64, 1, 16]⟩
abbrev S1x64x1x1x1x16 : Shape := ⟨6, ![1, 64, 1, 1, 1, 16]⟩
abbrev S1x64x1x1x16x16 : Shape := ⟨6, ![1, 64, 1, 1, 16, 16]⟩
abbrev S64x1x256 : Shape := ⟨3, ![64, 1, 256]⟩
abbrev S128x64x64 : Shape := ⟨3, ![128, 64, 64]⟩
abbrev S64x64x128 : Shape := ⟨3, ![64, 64, 128]⟩
abbrev S4096x128 : Shape := ⟨2, ![4096, 128]⟩
abbrev S128x1024 : Shape := ⟨2, ![128, 1024]⟩
abbrev S128x128 : Shape := ⟨2, ![128, 128]⟩
abbrev S128x256 : Shape := ⟨2, ![128, 256]⟩
abbrev S1x256x256 : Shape := ⟨3, ![1, 256, 256]⟩
abbrev S256x256 : Shape := ⟨2, ![256, 256]⟩
abbrev S1x1x128 : Shape := ⟨3, ![1, 1, 128]⟩
abbrev S1x128 : Shape := ⟨2, ![1, 128]⟩
abbrev S1x1x256 : Shape := ⟨3, ![1, 1, 256]⟩
abbrev S1x256 : Shape := ⟨2, ![1, 256]⟩

abbrev nBuf : Space → Nat
  | .hbm => 21
  | .vmem => 12
  | .smem => 0
  | _ => 0

abbrev bufTy : (tb : Table) → Fin (tcTables nBuf tb) → BufTy
  | .hbm, ⟨0, _⟩ => ⟨S128x16384, .bf16⟩
  | .hbm, ⟨1, _⟩ => ⟨S64x256x256, .bf16⟩
  | .hbm, ⟨2, _⟩ => ⟨S64x256x256, .bf16⟩
  | .hbm, ⟨3, _⟩ => ⟨S64x256x256, .bf16⟩
  | .hbm, ⟨4, _⟩ => ⟨S2x8x4096, .f32⟩
  | .hbm, ⟨5, _⟩ => ⟨S1024, .f32⟩
  | .hbm, ⟨6, _⟩ => ⟨S1x128x64x64, .f32⟩
  | .hbm, ⟨7, _⟩ => ⟨S1x128x64x64, .f32⟩
  | .hbm, ⟨8, _⟩ => ⟨S64x1x16, .f32⟩
  | .hbm, ⟨9, _⟩ => ⟨S1x64x1x1x1x16, .f32⟩
  | .hbm, ⟨10, _⟩ => ⟨S1x64x1x1x16x16, .f32⟩
  | .hbm, ⟨11, _⟩ => ⟨S64x1x256, .f32⟩
  | .hbm, ⟨12, _⟩ => ⟨S128x64x64, .f32⟩
  | .hbm, ⟨13, _⟩ => ⟨S64x64x128, .f32⟩
  | .hbm, ⟨14, _⟩ => ⟨S4096x128, .f32⟩
  | .hbm, ⟨15, _⟩ => ⟨S128x64x64, .f32⟩
  | .hbm, ⟨16, _⟩ => ⟨S64x64x128, .f32⟩
  | .hbm, ⟨17, _⟩ => ⟨S4096x128, .f32⟩
  | .hbm, ⟨18, _⟩ => ⟨S128x16384, .bf16⟩
  | .hbm, ⟨19, _⟩ => ⟨S4096x128, .f32⟩
  | .hbm, ⟨20, _⟩ => ⟨S4096x128, .f32⟩
  | .local _ .vmem, ⟨0, _⟩ => ⟨S128x16384, .bf16⟩
  | .local _ .vmem, ⟨1, _⟩ => ⟨S64x256x256, .bf16⟩
  | .local _ .vmem, ⟨2, _⟩ => ⟨S64x256x256, .bf16⟩
  | .local _ .vmem, ⟨3, _⟩ => ⟨S64x256x256, .bf16⟩
  | .local _ .vmem, ⟨4, _⟩ => ⟨S2x8x4096, .f32⟩
  | .local _ .vmem, ⟨5, _⟩ => ⟨S64x1x256, .f32⟩
  | .local _ .vmem, ⟨6, _⟩ => ⟨S4096x128, .f32⟩
  | .local _ .vmem, ⟨7, _⟩ => ⟨S4096x128, .f32⟩
  | .local _ .vmem, ⟨8, _⟩ => ⟨S128x16384, .bf16⟩
  | .local _ .vmem, ⟨9, _⟩ => ⟨S4096x128, .f32⟩
  | .local _ .vmem, ⟨10, _⟩ => ⟨S4096x128, .f32⟩
  | .local _ .vmem, ⟨11, _⟩ => ⟨S128x1024, .f32⟩
  | _, _ => ⟨S128x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10_0 : Ref sig .tc := ⟨.hbm, 18, rfl⟩
abbrev main_v10_1 : Ref sig .tc := ⟨.hbm, 19, rfl⟩
abbrev main_v10_2 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_scratch0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S128x16384 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S64x256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x8x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4096x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S4096x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S128x16384 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S4096x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S4096x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]
-- ==== Reference4Ideal.lean ====
abbrev S128x16384 : Shape := ⟨2, ![128, 16384]⟩
abbrev S64x256x256 : Shape := ⟨3, ![64, 256, 256]⟩
abbrev S2x8x4096 : Shape := ⟨3, ![2, 8, 4096]⟩
abbrev S1024 : Shape := ⟨1, ![1024]⟩
abbrev S1x128x64x64 : Shape := ⟨4, ![1, 128, 64, 64]⟩
abbrev S128x64x256 : Shape := ⟨3, ![128, 64, 256]⟩
abbrev S64x256x128 : Shape := ⟨3, ![64, 256, 128]⟩
abbrev S128x32x2x256 : Shape := ⟨4, ![128, 32, 2, 256]⟩
abbrev S128x32x1x256 : Shape := ⟨4, ![128, 32, 1, 256]⟩
abbrev S128x32x256 : Shape := ⟨3, ![128, 32, 256]⟩
abbrev S128x32x128 : Shape := ⟨3, ![128, 32, 128]⟩
abbrev S128x4096 : Shape := ⟨2, ![128, 4096]⟩
abbrev S1x1x4096 : Shape := ⟨3, ![1, 1, 4096]⟩
abbrev S4096 : Shape := ⟨1, ![4096]⟩
abbrev S1x4096 : Shape := ⟨2, ![1, 4096]⟩
abbrev S4096x128 : Shape := ⟨2, ![4096, 128]⟩

abbrev nBuf : Space → Nat
  | .hbm => 47
  | .vmem => 0
  | .smem => 0
  | _ => 0

abbrev bufTy : (tb : Table) → Fin (tcTables nBuf tb) → BufTy
  | .hbm, ⟨0, _⟩ => ⟨S128x16384, .bf16⟩
  | .hbm, ⟨1, _⟩ => ⟨S64x256x256, .bf16⟩
  | .hbm, ⟨2, _⟩ => ⟨S64x256x256, .bf16⟩
  | .hbm, ⟨3, _⟩ => ⟨S64x256x256, .bf16⟩
  | .hbm, ⟨4, _⟩ => ⟨S2x8x4096, .f32⟩
  | .hbm, ⟨5, _⟩ => ⟨S1024, .f32⟩
  | .hbm, ⟨6, _⟩ => ⟨S1x128x64x64, .f32⟩
  | .hbm, ⟨7, _⟩ => ⟨S1x128x64x64, .f32⟩
  | .hbm, ⟨8, _⟩ => ⟨S128x16384, .f32⟩
  | .hbm, ⟨9, _⟩ => ⟨S128x64x256, .f32⟩
  | .hbm, ⟨10, _⟩ => ⟨S64x256x256, .f32⟩
  | .hbm, ⟨11, _⟩ => ⟨S64x256x128, .f32⟩
  | .hbm, ⟨12, _⟩ => ⟨S128x64x256, .f32⟩
  | .hbm, ⟨13, _⟩ => ⟨S128x32x2x256, .f32⟩
  | .hbm, ⟨14, _⟩ => ⟨S128x32x1x256, .f32⟩
  | .hbm, ⟨15, _⟩ => ⟨S128x32x256, .f32⟩
  | .hbm, ⟨16, _⟩ => ⟨S128x32x1x256, .f32⟩
  | .hbm, ⟨17, _⟩ => ⟨S128x32x256, .f32⟩
  | .hbm, ⟨18, _⟩ => ⟨S128x32x256, .f32⟩
  | .hbm, ⟨19, _⟩ => ⟨S128x32x128, .f32⟩
  | .hbm, ⟨20, _⟩ => ⟨S128x4096, .f32⟩
  | .hbm, ⟨21, _⟩ => ⟨S128x32x128, .f32⟩
  | .hbm, ⟨22, _⟩ => ⟨S128x4096, .f32⟩
  | .hbm, ⟨23, _⟩ => ⟨S128x4096, .f32⟩
  | .hbm, ⟨24, _⟩ => ⟨S128x4096, .f32⟩
  | .hbm, ⟨25, _⟩ => ⟨S1x1x4096, .f32⟩
  | .hbm, ⟨26, _⟩ => ⟨S4096, .f32⟩
  | .hbm, ⟨27, _⟩ => ⟨S1x1x4096, .f32⟩
  | .hbm, ⟨28, _⟩ => ⟨S4096, .f32⟩
  | .hbm, ⟨29, _⟩ => ⟨S1x4096, .f32⟩
  | .hbm, ⟨30, _⟩ => ⟨S128x4096, .f32⟩
  | .hbm, ⟨31, _⟩ => ⟨S128x4096, .f32⟩
  | .hbm, ⟨32, _⟩ => ⟨S1x4096, .f32⟩
  | .hbm, ⟨33, _⟩ => ⟨S128x4096, .f32⟩
  | .hbm, ⟨34, _⟩ => ⟨S128x4096, .f32⟩
  | .hbm, ⟨35, _⟩ => ⟨S128x4096, .f32⟩
  | .hbm, ⟨36, _⟩ => ⟨S128x4096, .f32⟩
  | .hbm, ⟨37, _⟩ => ⟨S1x4096, .f32⟩
  | .hbm, ⟨38, _⟩ => ⟨S128x4096, .f32⟩
  | .hbm, ⟨39, _⟩ => ⟨S128x4096, .f32⟩
  | .hbm, ⟨40, _⟩ => ⟨S1x4096, .f32⟩
  | .hbm, ⟨41, _⟩ => ⟨S128x4096, .f32⟩
  | .hbm, ⟨42, _⟩ => ⟨S128x4096, .f32⟩
  | .hbm, ⟨43, _⟩ => ⟨S128x4096, .f32⟩
  | .hbm, ⟨44, _⟩ => ⟨S128x4096, .f32⟩
  | .hbm, ⟨45, _⟩ => ⟨S4096x128, .f32⟩
  | .hbm, ⟨46, _⟩ => ⟨S4096x128, .f32⟩
  | _, _ => ⟨S128x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩

abbrev nD : Nat := 1
abbrev τ : Topo := Topo.v7x

variable {F : FTy → Type} [FloatOps F]
-- ==== Kernel5.lean ====
abbrev S1024x16384 : Shape := ⟨2, ![1024, 16384]⟩
abbrev S16384x1024 : Shape := ⟨2, ![16384, 1024]⟩
abbrev S1024x2048 : Shape := ⟨2, ![1024, 2048]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S1x1024 : Shape := ⟨2, ![1, 1024]⟩
abbrev S256 : Shape := ⟨1, ![256]⟩
abbrev S_ : Shape := ⟨0, ![]⟩
abbrev S256x1 : Shape := ⟨2, ![256, 1]⟩
abbrev S1x256 : Shape := ⟨2, ![1, 256]⟩
abbrev S256x256 : Shape := ⟨2, ![256, 256]⟩
abbrev S32x16384 : Shape := ⟨2, ![32, 16384]⟩
abbrev S512x1024 : Shape := ⟨2, ![512, 1024]⟩
abbrev S16x128 : Shape := ⟨2, ![16, 128]⟩
abbrev S16x1024 : Shape := ⟨2, ![16, 1024]⟩
abbrev S256x1024 : Shape := ⟨2, ![256, 1024]⟩
abbrev S512x2048 : Shape := ⟨2, ![512, 2048]⟩
abbrev S512 : Shape := ⟨1, ![512]⟩
abbrev S512x1 : Shape := ⟨2, ![512, 1]⟩

abbrev nBuf : Space → Nat
  | .hbm => 70
  | .vmem => 17
  | .smem => 0
  | _ => 0

abbrev bufTy : (tb : Table) → Fin (tcTables nBuf tb) → BufTy
  | .hbm, ⟨0, _⟩ => ⟨S1024x16384, .bf16⟩
  | .hbm, ⟨1, _⟩ => ⟨S16384x1024, .f32⟩
  | .hbm, ⟨2, _⟩ => ⟨S16384x1024, .bf16⟩
  | .hbm, ⟨3, _⟩ => ⟨S16384x1024, .f32⟩
  | .hbm, ⟨4, _⟩ => ⟨S1024x2048, .f32⟩
  | .hbm, ⟨5, _⟩ => ⟨S1024x1024, .f32⟩
  | .hbm, ⟨6, _⟩ => ⟨S1024, .f32⟩
  | .hbm, ⟨7, _⟩ => ⟨S1024x4096, .f32⟩
  | .hbm, ⟨8, _⟩ => ⟨S4096x1024, .f32⟩
  | .hbm, ⟨9, _⟩ => ⟨S1024, .f32⟩
  | .hbm, ⟨10, _⟩ => ⟨S1024x2048, .bf16⟩
  | .hbm, ⟨11, _⟩ => ⟨S1024x1024, .bf16⟩
  | .hbm, ⟨12, _⟩ => ⟨S1x1024, .f32⟩
  | .hbm, ⟨13, _⟩ => ⟨S1024x4096, .bf16⟩
  | .hbm, ⟨14, _⟩ => ⟨S4096x1024, .bf16⟩
  | .hbm, ⟨15, _⟩ => ⟨S1x1024, .f32⟩
  | .hbm, ⟨16, _⟩ => ⟨S256, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i1⟩
  | .hbm, ⟨21, _⟩ => ⟨S_, .i32⟩
  | .hbm, ⟨22, _⟩ => ⟨S_, .i32⟩
  | .hbm, ⟨23, _⟩ => ⟨S256, .i32⟩
  | .hbm, ⟨24, _⟩ => ⟨S256, .i32⟩
  | .hbm, ⟨25, _⟩ => ⟨S_, .i32⟩
  | .hbm, ⟨26, _⟩ => ⟨S256, .i32⟩
  | .hbm, ⟨27, _⟩ => ⟨S256, .i1⟩
  | .hbm, ⟨28, _⟩ => ⟨S_, .i32⟩
  | .hbm, ⟨29, _⟩ => ⟨S256, .i32⟩
  | .hbm, ⟨30, _⟩ => ⟨S256, .i1⟩
  | .hbm, ⟨31, _⟩ => ⟨S_, .i32⟩
  | .hbm, ⟨32, _⟩ => ⟨S_, .i1⟩
  | .hbm, ⟨33, _⟩ => ⟨S256, .i1⟩
  | .hbm, ⟨34, _⟩ => ⟨S256, .i1⟩
  | .hbm, ⟨35, _⟩ => ⟨S256, .i1⟩
  | .hbm, ⟨36, _⟩ => ⟨S256, .i32⟩
  | .hbm, ⟨37, _⟩ => ⟨S256, .i32⟩
  | .hbm, ⟨38, _⟩ => ⟨S256, .i32⟩
  | .hbm, ⟨39, _⟩ => ⟨S_, .i32⟩
  | .hbm, ⟨40, _⟩ => ⟨S256, .i32⟩
  | .hbm, ⟨41, _⟩ => ⟨S256, .i32⟩
  | .hbm, ⟨42, _⟩ => ⟨S_, .i32⟩
  | .hbm, ⟨43, _⟩ => ⟨S_, .i32⟩
  | .hbm, ⟨44, _⟩ => ⟨S256, .i32⟩
  | .hbm, ⟨45, _⟩ => ⟨S256, .i32⟩
  | .hbm, ⟨46, _⟩ => ⟨S256, .i32⟩
  | .hbm, ⟨47, _⟩ => ⟨S_, .i32⟩
  | .hbm, ⟨48, _⟩ => ⟨S256, .i32⟩
  | .hbm, ⟨49, _⟩ => ⟨S256, .i1⟩
  | .hbm, ⟨50, _⟩ => ⟨S256, .i32⟩
  | .hbm, ⟨51, _⟩ => ⟨S256, .i32⟩
  | .hbm, ⟨52, _⟩ => ⟨S_, .i32⟩
  | .hbm, ⟨53, _⟩ => ⟨S256, .i32⟩
  | .hbm, ⟨54, _⟩ => ⟨S256, .i1⟩
  | .hbm, ⟨55, _⟩ => ⟨S256, .i1⟩
  | .hbm, ⟨56, _⟩ => ⟨S_, .i32⟩
  | .hbm, ⟨57, _⟩ => ⟨S256, .i32⟩
  | .hbm, ⟨58, _⟩ => ⟨S256, .i32⟩
  | .hbm, ⟨59, _⟩ => ⟨S256, .i32⟩
  | .hbm, ⟨60, _⟩ => ⟨S256, .i32⟩
  | .hbm, ⟨61, _⟩ => ⟨S256x1, .i32⟩
  | .hbm, ⟨62, _⟩ => ⟨S256, .i32⟩
  | .hbm, ⟨63, _⟩ => ⟨S1x256, .i32⟩
  | .hbm, ⟨64, _⟩ => ⟨S256x256, .i32⟩
  | .hbm, ⟨65, _⟩ => ⟨S256x256, .i32⟩
  | .hbm, ⟨66, _⟩ => ⟨S256x256, .i1⟩
  | .hbm, ⟨67, _⟩ => ⟨S256x256, .bf16⟩
  | .hbm, ⟨68, _⟩ => ⟨S256x256, .bf16⟩
  | .hbm, ⟨69, _⟩ => ⟨S16384x1024, .f32⟩
  | .local _ .vmem, ⟨0, _⟩ => ⟨S32x16384, .bf16⟩
  | .local _ .vmem, ⟨1, _⟩ => ⟨S32x16384, .bf16⟩
  | .local _ .vmem, ⟨2, _⟩ => ⟨S512x1024, .f32⟩
  | .local _ .vmem, ⟨3, _⟩ => ⟨S512x1024, .f32⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | .local _ .vmem, ⟨7, _⟩ => ⟨S512x1024, .f32⟩
  | .local _ .vmem, ⟨8, _⟩ => ⟨S256x256, .bf16⟩
  | .local _ .vmem, ⟨9, _⟩ => ⟨S1024x2048, .bf16⟩
  | .local _ .vmem, ⟨10, _⟩ => ⟨S1024x1024, .bf16⟩
  | .local _ .vmem, ⟨11, _⟩ => ⟨S1x1024, .f32⟩
  | .local _ .vmem, ⟨12, _⟩ => ⟨S1024x4096, .bf16⟩
  | .local _ .vmem, ⟨13, _⟩ => ⟨S4096x1024, .bf16⟩
  | .local _ .vmem, ⟨14, _⟩ => ⟨S1x1024, .f32⟩
  | .local _ .vmem, ⟨15, _⟩ => ⟨S512x1024, .f32⟩
  | .local _ .vmem, ⟨16, _⟩ => ⟨S512x1024, .f32⟩
  | _, _ => ⟨S1024x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c : Ref sig .tc := ⟨.hbm, 17, rfl⟩
abbrev main_call0_v0 : Ref sig .tc := ⟨.hbm, 18, rfl⟩
abbrev main_call0_c : Ref sig .tc := ⟨.hbm, 19, rfl⟩
abbrev main_call0_v1 : Ref sig .tc := ⟨.hbm, 20, rfl⟩
abbrev main_call0_c_0 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_c_1 : Ref sig .tc := ⟨.hbm, 25, rfl⟩
abbrev main_call0_v5 : Ref sig .tc := ⟨.hbm, 26, rfl⟩
abbrev main_call0_v6 : Ref sig .tc := ⟨.hbm, 27, rfl⟩
abbrev main_call0_c_2 : Ref sig .tc := ⟨.hbm, 28, rfl⟩
abbrev main_call0_v7 : Ref sig .tc := ⟨.hbm, 29, rfl⟩
abbrev main_call0_v8 : Ref sig .tc := ⟨.hbm, 30, rfl⟩
abbrev main_call0_c_3 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_v12 : Ref sig .tc := ⟨.hbm, 35, rfl⟩
abbrev main_call0_v13 : Ref sig .tc := ⟨.hbm, 36, rfl⟩
abbrev main_call0_v14 : Ref sig .tc := ⟨.hbm, 37, rfl⟩
abbrev main_v7 : Ref sig .tc := ⟨.hbm, 38, rfl⟩
abbrev main_c_0 : Ref sig .tc := ⟨.hbm, 39, rfl⟩
abbrev main_v8 : Ref sig .tc := ⟨.hbm, 40, rfl⟩
abbrev main_v9 : Ref sig .tc := ⟨.hbm, 41, rfl⟩
abbrev main_c_1 : Ref sig .tc := ⟨.hbm, 42, rfl⟩
abbrev main_call1_v0 : Ref sig .tc := ⟨.hbm, 43, rfl⟩
abbrev main_call1_v1 : Ref sig .tc := ⟨.hbm, 44, rfl⟩
abbrev main_call1_v2 : Ref sig .tc := ⟨.hbm, 45, rfl⟩
abbrev main_call1_v3 : Ref sig .tc := ⟨.hbm, 46, rfl⟩
abbrev main_call1_v4 : Ref sig .tc := ⟨.hbm, 47, rfl⟩
abbrev main_call1_v5 : Ref sig .tc := ⟨.hbm, 48, rfl⟩
abbrev main_call1_v6 : Ref sig .tc := ⟨.hbm, 49, rfl⟩
abbrev main_call1_v7 : Ref sig .tc := ⟨.hbm, 50, rfl⟩
abbrev main_call1_v8 : Ref sig .tc := ⟨.hbm, 51, rfl⟩
abbrev main_call1_c : Ref sig .tc := ⟨.hbm, 52, rfl⟩
abbrev main_call1_v9 : Ref sig .tc := ⟨.hbm, 53, rfl⟩
abbrev main_call1_v10 : Ref sig .tc := ⟨.hbm, 54, rfl⟩
abbrev main_call1_v11 : Ref sig .tc := ⟨.hbm, 55, rfl⟩
abbrev main_call1_c_0 : Ref sig .tc := ⟨.hbm, 56, rfl⟩
abbrev main_call1_v12 : Ref sig .tc := ⟨.hbm, 57, rfl⟩
abbrev main_call1_v13 : Ref sig .tc := ⟨.hbm, 58, rfl⟩
abbrev main_v10 : Ref sig .tc := ⟨.hbm, 59, rfl⟩
abbrev main_v11 : Ref sig .tc := ⟨.hbm, 60, rfl⟩
abbrev main_v12 : Ref sig .tc := ⟨.hbm, 61, rfl⟩
abbrev main_v13 : Ref sig .tc := ⟨.hbm, 62, rfl⟩
abbrev main_v14 : Ref sig .tc := ⟨.hbm, 63, rfl⟩
abbrev main_v15 : Ref sig .tc := ⟨.hbm, 64, rfl⟩
abbrev main_v16 : Ref sig .tc := ⟨.hbm, 65, rfl⟩
abbrev main_v17 : Ref sig .tc := ⟨.hbm, 66, rfl⟩
abbrev main_v18 : Ref sig .tc := ⟨.hbm, 67, rfl⟩
abbrev main_v19 : Ref sig .tc := ⟨.hbm, 68, rfl⟩
abbrev main_v20 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x16384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x4096 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4096x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference5Ideal.lean ====
abbrev S1024x16384 : Shape := ⟨2, ![1024, 16384]⟩
abbrev S16384x1024 : Shape := ⟨2, ![16384, 1024]⟩
abbrev S1024x2048 : Shape := ⟨2, ![1024, 2048]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S1024x64x16x16 : Shape := ⟨4, ![1024, 64, 16, 16]⟩
abbrev S1024x16x64x16 : Shape := ⟨4, ![1024, 16, 64, 16]⟩
abbrev S16384x2048 : Shape := ⟨2, ![16384, 2048]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x4096 : Shape := ⟨2, ![16384, 4096]⟩

abbrev nBuf : Space → Nat
  | .hbm => 70
  | .vmem => 0
  | .smem => 0
  | _ => 0

abbrev bufTy : (tb : Table) → Fin (tcTables nBuf tb) → BufTy
  | .hbm, ⟨0, _⟩ => ⟨S1024x16384, .bf16⟩
  | .hbm, ⟨1, _⟩ => ⟨S16384x1024, .f32⟩
  | .hbm, ⟨2, _⟩ => ⟨S16384x1024, .bf16⟩
  | .hbm, ⟨3, _⟩ => ⟨S16384x1024, .f32⟩
  | .hbm, ⟨4, _⟩ => ⟨S1024x2048, .f32⟩
  | .hbm, ⟨5, _⟩ => ⟨S1024x1024, .f32⟩
  | .hbm, ⟨6, _⟩ => ⟨S1024, .f32⟩
  | .hbm, ⟨7, _⟩ => ⟨S1024x4096, .f32⟩
  | .hbm, ⟨8, _⟩ => ⟨S4096x1024, .f32⟩
  | .hbm, ⟨9, _⟩ => ⟨S1024, .f32⟩
  | .hbm, ⟨10, _⟩ => ⟨S1024x16384, .f32⟩
  | .hbm, ⟨11, _⟩ => ⟨S1024x64x16x16, .f32⟩
  | .hbm, ⟨12, _⟩ => ⟨S1024x16x64x16, .f32⟩
  | .hbm, ⟨13, _⟩ => ⟨S16384x1024, .f32⟩
  | .hbm, ⟨14, _⟩ => ⟨S16384x2048, .f32⟩
  | .hbm, ⟨15, _⟩ => ⟨S16384x1024, .f32⟩
  | .hbm, ⟨16, _⟩ => ⟨S16384x1024, .f32⟩
  | .hbm, ⟨17, _⟩ => ⟨S16384x1024, .f32⟩
  | .hbm, ⟨18, _⟩ => ⟨S16384x1024, .f32⟩
  | .hbm, ⟨19, _⟩ => ⟨S_, .f32⟩
  | .hbm, ⟨20, _⟩ => ⟨S16384x1024, .f32⟩
  | .hbm, ⟨21, _⟩ => ⟨S16384x1024, .f32⟩
  | .hbm, ⟨22, _⟩ => ⟨S_, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S16384x1024, .f32⟩
  | .hbm, ⟨31, _⟩ => ⟨S16384x1024, .f32⟩
  | .hbm, ⟨32, _⟩ => ⟨S_, .f32⟩
  | .hbm, ⟨33, _⟩ => ⟨S16384, .f32⟩
  | .hbm, ⟨34, _⟩ => ⟨S16384x1, .f32⟩
  | .hbm, ⟨35, _⟩ => ⟨S_, .f32⟩
  | .hbm, ⟨36, _⟩ => ⟨S16384x1, .f32⟩
  | .hbm, ⟨37, _⟩ => ⟨S16384x1, .f32⟩
  | .hbm, ⟨38, _⟩ => ⟨S_, .f32⟩
  | .hbm, ⟨39, _⟩ => ⟨S16384x1, .f32⟩
  | .hbm, ⟨40, _⟩ => ⟨S16384x1, .f32⟩
  | .hbm, ⟨41, _⟩ => ⟨S16384x1, .f32⟩
  | .hbm, ⟨42, _⟩ => ⟨S16384x1024, .f32⟩
  | .hbm, ⟨43, _⟩ => ⟨S16384x1024, .f32⟩
  | .hbm, ⟨44, _⟩ => ⟨S1x1024, .f32⟩
  | .hbm, ⟨45, _⟩ => ⟨S16384x1024, .f32⟩
  | .hbm, ⟨46, _⟩ => ⟨S16384x1024, .f32⟩
  | .hbm, ⟨47, _⟩ => ⟨S16384x4096, .f32⟩
  | .hbm, ⟨48, _⟩ => ⟨S_, .f32⟩
  | .hbm, ⟨49, _⟩ => ⟨S16384x4096, .f32⟩
  | .hbm, ⟨50, _⟩ => ⟨S16384x4096, .f32⟩
  | .hbm, ⟨51, _⟩ => ⟨S16384x4096, .f32⟩
  | .hbm, ⟨52, _⟩ => ⟨S16384x1024, .f32⟩
  | .hbm, ⟨53, _⟩ => ⟨S16384x1024, .f32⟩
  | .hbm, ⟨54, _⟩ => ⟨S16384x1024, .f32⟩
  | .hbm, ⟨55, _⟩ => ⟨S_, .f32⟩
  | .hbm, ⟨56, _⟩ => ⟨S16384, .f32⟩
  | .hbm, ⟨57, _⟩ => ⟨S16384x1, .f32⟩
  | .hbm, ⟨58, _⟩ => ⟨S_, .f32⟩
  | .hbm, ⟨59, _⟩ => ⟨S16384x1, .f32⟩
  | .hbm, ⟨60, _⟩ => ⟨S16384x1, .f32⟩
  | .hbm, ⟨61, _⟩ => ⟨S_, .f32⟩
  | .hbm, ⟨62, _⟩ => ⟨S16384x1, .f32⟩
  | .hbm, ⟨63, _⟩ => ⟨S16384x1, .f32⟩
  | .hbm, ⟨64, _⟩ => ⟨S16384x1, .f32⟩
  | .hbm, ⟨65, _⟩ => ⟨S16384x1024, .f32⟩
  | .hbm, ⟨66, _⟩ => ⟨S16384x1024, .f32⟩
  | .hbm, ⟨67, _⟩ => ⟨S1x1024, .f32⟩
  | .hbm, ⟨68, _⟩ => ⟨S16384x1024, .f32⟩
  | .hbm, ⟨69, _⟩ => ⟨S16384x1024, .f32⟩
  | _, _ => ⟨S1024x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst : Ref sig .tc := ⟨.hbm, 19, rfl⟩
abbrev main_v9 : Ref sig .tc := ⟨.hbm, 20, rfl⟩
abbrev main_v10 : Ref sig .tc := ⟨.hbm, 21, rfl⟩
abbrev main_cst_0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_1 : Ref sig .tc := ⟨.hbm, 32, rfl⟩
abbrev main_v20 : Ref sig .tc := ⟨.hbm, 33, rfl⟩
abbrev main_v21 : Ref sig .tc := ⟨.hbm, 34, rfl⟩
abbrev main_cst_2 : Ref sig .tc := ⟨.hbm, 35, rfl⟩
abbrev main_v22 : Ref sig .tc := ⟨.hbm, 36, rfl⟩
abbrev main_v23 : Ref sig .tc := ⟨.hbm, 37, rfl⟩
abbrev main_cst_3 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_call0_cst : Ref sig .tc := ⟨.hbm, 48, rfl⟩
abbrev main_call0_v0 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_4 : Ref sig .tc := ⟨.hbm, 55, rfl⟩
abbrev main_v38 : Ref sig .tc := ⟨.hbm, 56, rfl⟩
abbrev main_v39 : Ref sig .tc := ⟨.hbm, 57, rfl⟩
abbrev main_cst_5 : Ref sig .tc := ⟨.hbm, 58, rfl⟩
abbrev main_v40 : Ref sig .tc := ⟨.hbm, 59, rfl⟩
abbrev main_v41 : Ref sig .tc := ⟨.hbm, 60, rfl⟩
abbrev main_cst_6 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩

abbrev nD : Nat := 1
abbrev τ : Topo := Topo.v7x

variable {F : FTy → Type} [FloatOps F]
-- ==== Proof.Softmax.lean ====
/- A softmax with one extra score (the sink) in its denominator, over the extended reals: computed with powers of two from scores in
   units of log 2, and computed with the exponential. Both are the same weighted sum of the values. -/
module

public import Idealize.ShloMosaic.Lib.Pointwise

@[expose] public section

noncomputable section

namespace Cert.Softmax

open Idealize.ShloMosaic

variable {n : ℕ}

/-- A score where the key is visible, minus infinity elsewhere. -/
def masked (vis : Fin n → Bool) (s : Fin n → EReal) (k : Fin n) : EReal := if vis k then s k else ⊥

/-- The largest of the visible scores and the sink. -/
def top (vis : Fin n → Bool) (s : Fin n → EReal) (z : EReal) : EReal := max (Finset.univ.fold max ⊥ (masked vis s)) z

/-- The values averaged with powers of two; the sum is divided at the end. -/
def byExp2 (vis : Fin n → Bool) (s : Fin n → EReal) (z : EReal) (v : Fin n → EReal) : EReal :=
  (∑ k, Ideal.exp2 (masked vis s k - top vis s z) * v k)
    * Ideal.div 1 ((∑ k, Ideal.exp2 (masked vis s k - top vis s z)) + Ideal.exp2 (z - top vis s z))

/-- The values averaged with the exponential; every weight is divided. -/
def byExp (vis : Fin n → Bool) (s : Fin n → EReal) (z : EReal) (v : Fin n → EReal) : EReal :=
  ∑ k, v k * Ideal.div (Ideal.exp (masked vis s k - top vis s z))
    ((∑ k, Ideal.exp (masked vis s k - top vis s z)) + Ideal.exp (z - top vis s z))

/-- A key's weight before the division. -/
def weight (vis : Fin n → Bool) (t : Fin n → ℝ) (k : Fin n) : ℝ := if vis k then Real.exp (t k) else 0

/-- The denominator: all weights and the sink's. -/
def denom (vis : Fin n → Bool) (t : Fin n → ℝ) (z : ℝ) : ℝ := (∑ k, weight vis t k) + Real.exp z

/-- The weighted mean both computations arrive at. -/
def mean (vis : Fin n → Bool) (t : Fin n → ℝ) (z : ℝ) (v : Fin n → EReal) : EReal :=
  ∑ k, v k * ((weight vis t k / denom vis t z : ℝ) : EReal)

theorem weight_nonneg (vis : Fin n → Bool) (t : Fin n → ℝ) (k : Fin n) : 0 ≤ weight vis t k := by
  unfold weight; split
  · exact (Real.exp_pos _).le
  · exact le_rfl

theorem denom_pos (vis : Fin n → Bool) (t : Fin n → ℝ) (z : ℝ) : 0 < denom vis t z :=
  add_pos_of_nonneg_of_pos (Finset.sum_nonneg fun k _ => weight_nonneg vis t k) (Real.exp_pos _)

/-- With a real sink and real visible scores the largest score is real. -/
theorem top_real (vis : Fin n → Bool) (s : Fin n → EReal) (t : Fin n → ℝ) (z : ℝ) (hs : ∀ k, vis k = true → s k = (t k : EReal)) :
    ∃ μ : ℝ, top vis s z = (μ : EReal) := by
  have hlt : top vis s z < ⊤ := by
    refine max_lt ((Finset.fold_max_lt _).2 ⟨bot_lt_top, fun k _ => ?_⟩) (EReal.coe_lt_top z)
    unfold masked; split
    · rename_i h; rw [hs k h]; exact EReal.coe_lt_top _
    · exact bot_lt_top
  have hgt : ⊥ < top vis s z := lt_of_lt_of_le (EReal.bot_lt_coe z) (le_max_right _ _)
  exact ⟨(top vis s z).toReal, (EReal.coe_toReal hlt.ne hgt.ne').symm⟩

theorem coe_sum (f : Fin n → ℝ) : ((∑ k, f k : ℝ) : EReal) = ∑ k, (f k : EReal) :=
  map_sum (⟨⟨Real.toEReal, rfl⟩, EReal.coe_add⟩ : ℝ →+ EReal) f Finset.univ

/-- A nonnegative real factor moves into a finite sum of extended reals. -/
theorem sum_mul_real (f : Fin n → EReal) (r : ℝ) (hr : 0 ≤ r) : (∑ k, f k) * (r : EReal) = ∑ k, f k * (r : EReal) := by
  have hadd : ∀ x y : EReal, (x + y) * (r : EReal) = x * r + y * r := fun x y => by
    rw [mul_comm, EReal.left_distrib_of_nonneg_of_ne_top (EReal.coe_nonneg.2 hr) (EReal.coe_ne_top r), mul_comm, mul_comm (r : EReal) y]
  exact map_sum (⟨⟨fun x => x * (r : EReal), zero_mul _⟩, hadd⟩ : EReal →+ EReal) f Finset.univ

theorem exp2_masked (vis : Fin n → Bool) (s : Fin n → EReal) (t : Fin n → ℝ) (μ : ℝ)
    (hs : ∀ k, vis k = true → s k = (t k : EReal)) (k : Fin n) :
    Ideal.exp2 (masked vis s k - (μ : EReal)) = ((weight vis (fun k => t k * Real.log 2) k * Real.exp (-(μ * Real.log 2)) : ℝ) : EReal) := by
  unfold masked weight
  by_cases h : vis k = true
  · rw [if_pos h, if_pos h, hs k h, ← EReal.coe_sub, Ideal.exp2_coe, ← Real.exp_add]
    congr 1
    show (2 : ℝ) ^ (t k - μ) = _
    rw [Real.rpow_def_of_pos (by norm_num)]
    congr 1; ring
  · rw [if_neg h, if_neg h, EReal.bot_sub, Ideal.exp2_bot]; simp

theorem exp_masked (vis : Fin n → Bool) (s : Fin n → EReal) (t : Fin n → ℝ) (μ : ℝ)
    (hs : ∀ k, vis k = true → s k = (t k : EReal)) (k : Fin n) :
    Ideal.exp (masked vis s k - (μ : EReal)) = ((weight vis t k * Real.exp (-μ) : ℝ) : EReal) := by
  unfold masked weight
  by_cases h : vis k = true
  · rw [if_pos h, if_pos h, hs k h, ← EReal.coe_sub, Ideal.exp_coe, ← Real.exp_add, sub_eq_add_neg]
  · rw [if_neg h, if_neg h, EReal.bot_sub]
    show (0 : EReal) = _
    simp

/-- The powers of two: scores in units of log 2, the sink scaled by log2(e). -/
theorem byExp2_eq (vis : Fin n → Bool) (s : Fin n → EReal) (t : Fin n → ℝ) (z : ℝ) (v : Fin n → EReal)
    (hs : ∀ k, vis k = true → s k = (t k : EReal)) :
    byExp2 vis s ((z : EReal) * (((Real.log 2)⁻¹ : ℝ) : EReal)) v = mean vis (fun k => t k * Real.log 2) z v := by
  have hl : Real.log 2 ≠ 0 := (Real.log_pos (by norm_num)).ne'
  obtain ⟨μ, hμ⟩ := top_real vis s t (z * (Real.log 2)⁻¹) hs
  have hz : Ideal.exp2 ((z : EReal) * (((Real.log 2)⁻¹ : ℝ) : EReal) - (μ : EReal)) = ((Real.exp z * Real.exp (-(μ * Real.log 2)) : ℝ) : EReal) := by
    rw [← EReal.coe_mul, ← EReal.coe_sub, Ideal.exp2_coe, ← Real.exp_add]
    congr 1
    show (2 : ℝ) ^ (z * (Real.log 2)⁻¹ - μ) = _
    rw [Real.rpow_def_of_pos (by norm_num)]
    congr 1; field_simp; ring
  unfold byExp2 mean
  rw [← EReal.coe_mul] at hz ⊢
  rw [hμ, hz]
  simp only [exp2_masked vis s t μ hs]
  rw [← coe_sum, ← EReal.coe_add, ← Finset.sum_mul, ← add_mul]
  have hD := denom_pos vis (fun k => t k * Real.log 2) z
  have hc := Real.exp_pos (-(μ * Real.log 2))
  change _ * Ideal.div 1 ((denom vis (fun k => t k * Real.log 2) z * _ : ℝ) : EReal) = _
  rw [Ideal.div_coe (mul_pos hD hc).ne', one_mul, sum_mul_real _ _ (one_div_nonneg.2 (mul_pos hD hc).le)]
  refine Finset.sum_congr rfl fun k _ => ?_
  rw [mul_comm _ (v k), mul_assoc, ← EReal.coe_mul, mul_one_div, mul_div_mul_right _ _ hc.ne']

/-- The exponential. -/
theorem byExp_eq (vis : Fin n → Bool) (s : Fin n → EReal) (t : Fin n → ℝ) (z : ℝ) (v : Fin n → EReal)
    (hs : ∀ k, vis k = true → s k = (t k : EReal)) :
    byExp vis s z v = mean vis t z v := by
  obtain ⟨μ, hμ⟩ := top_real vis s t z hs
  have hz : Ideal.exp ((z : EReal) - (μ : EReal)) = ((Real.exp z * Real.exp (-μ) : ℝ) : EReal) := by
    rw [← EReal.coe_sub, Ideal.exp_coe, ← Real.exp_add, sub_eq_add_neg]
  unfold byExp mean
  rw [hμ, hz]
  simp only [exp_masked vis s t μ hs]
  rw [← coe_sum, ← EReal.coe_add, ← Finset.sum_mul, ← add_mul]
  have hD := denom_pos vis t z
  have hc := Real.exp_pos (-μ)
  refine Finset.sum_congr rfl fun k _ => ?_
  change v k * Ideal.div _ ((denom vis t z * _ : ℝ) : EReal) = _
  rw [Ideal.div_coe (mul_pos hD hc).ne', ← EReal.coe_mul]
  congr 2
  field_simp

/-- Keys past the first `n`, none of them visible, do not count. -/
theorem mean_extend {n p : ℕ} (vis : Fin (n + p) → Bool) (t : Fin (n + p) → ℝ) (z : ℝ) (v : Fin (n + p) → EReal)
    (hv : ∀ k : Fin p, vis (Fin.natAdd n k) = false) :
    mean vis t z v = mean (fun k : Fin n => vis (Fin.castAdd p k)) (fun k => t (Fin.castAdd p k)) z (fun k => v (Fin.castAdd p k)) := by
  have hw : ∀ k : Fin p, weight vis t (Fin.natAdd n k) = 0 := fun k => by unfold weight; rw [hv k]; rfl
  have hd : denom vis t z = denom (fun k : Fin n => vis (Fin.castAdd p k)) (fun k => t (Fin.castAdd p k)) z := by
    unfold denom
    rw [Fin.sum_univ_add]
    simp only [hw, Finset.sum_const_zero, add_zero]
    rfl
  unfold mean
  rw [Fin.sum_univ_add, hd]
  simp only [hw, zero_div, EReal.coe_zero, mul_zero, Finset.sum_const_zero, add_zero]
  rfl

end Cert.Softmax

end
-- ==== Proof.Heads.lean ====
module
public import proofs.«01_k».proof.Proof.Gen.KernelIdeal.Skeleton
public import proofs.«01_k».proof.Proof.Softmax
public import Idealize.ShloMosaic.Lib.Pipeline.ValueKit
public import Idealize.ShloMosaic.Lib.Pointwise

/-! # One KV head of one block

Sixteen query heads share four KV heads.  A block packs the four query heads of
one KV head as thirty-two rows — row `8 g + r` is head `g` of token `r` — and
takes their scores against the 136 stacked keys in one product, the lanes of the
other head blanked. -/

@[expose] public section

set_option maxRecDepth 16384

noncomputable section

namespace Cert.KernelIdeal.Value

open Cert.KernelIdeal Cert.KernelIdeal.Gen Idealize.ShloMosaic Idealize.ShloMosaic.TcCoe Idealize.SL.Sem

/-- The row of head `g` of token `r`. -/
def hr (g : Fin 4) (r : Fin 8) : Fin 32 := ⟨8 * g.val + r.val, by omega⟩

/-- Lane `d` of one half of the 128 lanes. -/
def lane (h : Fin 2) (d : Fin 64) : Fin 128 := ⟨64 * h.val + d.val, by omega⟩

/-- The head each row belongs to, as the block computes it. -/
def headOf : IVec S32x1 32 :=
  k0_pay7 (iota Kind.tc S32x1 32 [0] iota_S32x1_d0_w32) (8#32) k0_pay4 k0_pay5 k0_pay6

theorem headOf_at : ∀ row : Fin 32, headOf (ix2 row 0) = BitVec.ofNat 32 (row.val / 8) := by
  decide +kernel

/-- Key `k` of the 136 is seen by token `r`. -/
def seen (r : Fin 8) (k : Fin 136) : Bool :=
  decide (r.val < k.val) && decide (k.val ≤ r.val + 128) && decide (k.val < 132)

theorem vis_at : ∀ (g : Fin 4) (r : Fin 8) (k : Fin 136),
    k0_pay3 (ix2 (hr g r) k) = bif seen r k then 1#1 else 0#1 := by
  decide +kernel

theorem low_at : ∀ l : Fin 128,
    IntOp.cmpi CmpIPredicate.slt (BitVec.ofNat 32 l.val) 64#32
      = if l.val < 64 then 1#1 else 0#1 := by
  decide

theorem low_lane : ∀ (h : Fin 2) (d : Fin 64),
    IntOp.cmpi CmpIPredicate.slt (BitVec.ofNat 32 (lane h d).val) 64#32
      = if h = 0 then 1#1 else 0#1 := by
  decide

theorem pay2_at (b : Fin 32) (r : Fin 8) (l : Fin 128) :
    k0_pay2 (ix3 b r l) = if l.val < 64 then 1#1 else 0#1 := by
  pointwise [k0_pay2]
  exact low_at l

theorem pay2_lane (b : Fin 32) (r : Fin 8) (h : Fin 2) (d : Fin 64) :
    k0_pay2 (ix3 b r (lane h d)) = if h = 0 then 1#1 else 0#1 := by
  pointwise [k0_pay2]
  exact low_lane h d

/-- A sum over the 128 lanes, half by half. -/
theorem sum_lanes (f : Fin 128 → EReal) :
    ∑ x, f x = (∑ d, f (lane 0 d)) + ∑ d, f (lane 1 d) := by
  rw [show (∑ x, f x) = _ from Fin.sum_univ_add (a := 64) (b := 64) f]
  congr 1 <;> refine Finset.sum_congr rfl fun d _ => congrArg f (Fin.ext ?_) <;> simp [lane]

theorem rot_lane (h : Fin 2) (d : Fin 64) (p : ((lane h d).val + 128 - 64) % 128 < 128) :
    (⟨((lane h d).val + 128 - 64) % 128, p⟩ : Fin 128) = lane (1 - h) d := by
  revert p; revert h d; decide

/-- The score of head `g` of token `r` against key `k`: lanes of one half of a query
tile against those of one half of the stacked keys. -/
def score (h : Fin 2) (K : FVec Ideal S32x136x128 .f32) (qa qb : FVec Ideal S32x8x128 .f32)
    (b : Fin 32) (g : Fin 4) (r : Fin 8) (k : Fin 136) : EReal :=
  ∑ d : Fin 64, (if g.val < 2 then qa else qb) (ix3 b r (lane ⟨g.val % 2, by omega⟩ d))
    * K (ix3 b k (lane h d))

theorem select_if (p : Prop) [Decidable p] (x y : EReal) :
    Scalar.select (if p then 1#1 else 0#1) x y = if p then x else y := by
  by_cases h : p
  · rw [if_pos h, if_pos h]; rfl
  · rw [if_neg h, if_neg h]; rfl

theorem score_even (K : FVec Ideal S32x136x128 .f32) (qa qb : FVec Ideal S32x8x128 .f32)
    (b : Fin 32) (g : Fin 4) (r : Fin 8) (k : Fin 136) :
    k0_pay77 k0_pay2 K qa qb (ix3 b (hr g r) k) = score 0 K qa qb b g r k := by
  pointwise [k0_pay77, k0_pay70, k0_pay71]
  rw [sum_lanes]
  simp only [pay2_lane, low_lane, rot_lane, score, select_if]
  have h1 : ¬ 8 + r.val < 8 := by omega
  have h2 : ¬ 16 + r.val - 8 < 8 := by omega
  have h2' : ¬ 16 + r.val < 8 := by omega
  have h3 : ¬ 24 + r.val - 8 - 8 < 8 := by omega
  have h3' : ¬ 24 + r.val - 8 < 8 := by omega
  have h3'' : ¬ 24 + r.val < 8 := by omega
  have e2 : 16 + r.val - 8 - 8 = r.val := by omega
  have e3 : 24 + r.val - 8 - 8 - 8 = r.val := by omega
  fin_cases g <;> simp [hr, h1, h2, h2', h3, h3', h3'', e2, e3]

theorem score_odd (K : FVec Ideal S32x136x128 .f32) (qa qb : FVec Ideal S32x8x128 .f32)
    (b : Fin 32) (g : Fin 4) (r : Fin 8) (k : Fin 136) :
    k0_pay83 k0_pay2 (k0_pay72 K) qa qb (ix3 b (hr g r) k) = score 1 K qa qb b g r k := by
  pointwise [k0_pay83, k0_pay72, k0_pay70, k0_pay71]
  rw [sum_lanes]
  simp only [pay2_lane, low_lane, rot_lane, score, select_if]
  have h1 : ¬ 8 + r.val < 8 := by omega
  have h2 : ¬ 16 + r.val - 8 < 8 := by omega
  have h2' : ¬ 16 + r.val < 8 := by omega
  have h3 : ¬ 24 + r.val - 8 - 8 < 8 := by omega
  have h3' : ¬ 24 + r.val - 8 < 8 := by omega
  have h3'' : ¬ 24 + r.val < 8 := by omega
  have e2 : 16 + r.val - 8 - 8 = r.val := by omega
  have e3 : 24 + r.val - 8 - 8 - 8 = r.val := by omega
  fin_cases g <;> simp [hr, h1, h2, h2', h3, h3', h3'', e2, e3]

theorem scores2 (K : FVec Ideal S32x136x128 .f32) (qa qb : FVec Ideal S32x8x128 .f32) :
    k0_pay162 k0_pay2 K (iota .tc S32x136x128 32 [2] iota_S32x136x128_d2_w32) k0_pay154 qa qb
      = k0_pay77 k0_pay2 K qa qb := rfl

theorem scores3 (K : FVec Ideal S32x136x128 .f32) (qa qb : FVec Ideal S32x8x128 .f32) :
    k0_pay168 k0_pay2 (k0_pay157 K (iota .tc S32x136x128 32 [2] iota_S32x136x128_d2_w32) k0_pay154)
        qa qb
      = k0_pay83 k0_pay2 (k0_pay72 K) qa qb := rfl

theorem ofBits_bot : Ideal.ofBits FTy.f32 4286578688#32 = (⊥ : EReal) := by
  simp [Ideal.ofBits, Ideal.ieee]

/-- The weighted values of thirty-two rows, divided, from their scores. -/
def heads (V : FVec Ideal S32x136x128 .bf16) (S : FVec Ideal S32x32x136 .f32)
    (s0 s1 s2 s3 : Elt Ideal .f32) : FVec Ideal S32x32x128 .f32 :=
  k0_pay79 k0_pay3 headOf V S (k0_pay78 headOf s0) s1 s2 s3

theorem heads1 (V : FVec Ideal S32x136x128 .bf16) (S : FVec Ideal S32x32x136 .f32)
    (s0 s1 s2 s3 : Elt Ideal .f32) :
    k0_pay86 k0_pay3 headOf V S (k0_pay84 headOf s0 s1) (k0_pay85 headOf) s2 s3 = heads V S s0 s1 s2 s3 := rfl

theorem heads2 (V : FVec Ideal S32x136x128 .bf16) (S : FVec Ideal S32x32x136 .f32)
    (s0 s1 s2 s3 : Elt Ideal .f32) :
    k0_pay164 k0_pay3 headOf V S (k0_pay163 headOf s0 s1) 2#32 s2 s3 = heads V S s0 s1 s2 s3 := rfl

theorem heads3 (V : FVec Ideal S32x136x128 .bf16) (S : FVec Ideal S32x32x136 .f32)
    (s0 s1 s2 s3 : Elt Ideal .f32) :
    k0_pay171 k0_pay3 V S (k0_pay169 headOf s0 s1 s2) (k0_pay170 headOf) s3 = heads V S s0 s1 s2 s3 := rfl

/-- The sink logit of the row of head `g`. -/
def pick (s0 s1 s2 s3 : Elt Ideal .f32) (g : Fin 4) : EReal := ![s0, s1, s2, s3] g

theorem heads_at (V : FVec Ideal S32x136x128 .bf16) (S : FVec Ideal S32x32x136 .f32)
    (s0 s1 s2 s3 : Elt Ideal .f32) (b : Fin 32) (g : Fin 4) (r : Fin 8) (l : Fin 128) :
    heads V S s0 s1 s2 s3 (ix3 b (hr g r) l)
      = Softmax.byExp2 (seen r) (fun k => S (ix3 b (hr g r) k))
          (pick s0 s1 s2 s3 g * (((Real.log 2)⁻¹ : ℝ) : EReal)) (fun k => V (ix3 b k l)) := by
  unfold heads
  pointwise [k0_pay79, k0_pay78]
  simp only [vis_at, headOf_at]
  have hm : ∀ k, Scalar.select (bif seen r k then 1#1 else 0#1) (S (ix3 b (hr g r) k))
      (⊥ : EReal) = Softmax.masked (seen r) (fun k => S (ix3 b (hr g r) k)) k := fun k => by
    unfold Softmax.masked
    cases seen r k
    · rfl
    · rfl
  have hz : Scalar.select (IntOp.cmpi CmpIPredicate.eq (BitVec.ofNat 32 (↑(hr g r) / 8)) 3#32) s3
      (Scalar.select (IntOp.cmpi CmpIPredicate.eq (BitVec.ofNat 32 (↑(hr g r) / 8)) 2#32) s2
        (Scalar.select (IntOp.cmpi CmpIPredicate.eq (BitVec.ofNat 32 (↑(hr g r) / 8)) 1#32) s1
          (Scalar.select (IntOp.cmpi CmpIPredicate.eq (BitVec.ofNat 32 (↑(hr g r) / 8)) 0#32) s0 0)))
      = pick s0 s1 s2 s3 g := by
    rw [show (hr g r).val / 8 = g.val by simp only [hr]; omega]
    fin_cases g <;> rfl
  have hl : (Named.named κ "log2e" 1069066811#32 : Ideal .f32) = (((Real.log 2)⁻¹ : ℝ) : EReal) := rfl
  simp only [hm, hz, hl, ofBits_bot]
  rfl

end Cert.KernelIdeal.Value
end
-- ==== Proof.Stack.lean ====
module
public import proofs.«01_k».proof.Proof.Gen.KernelIdeal.Skeleton
public import Idealize.ShloMosaic.Lib.Pipeline.ValueKit
public import Idealize.ShloMosaic.Lib.Pointwise

/-! # The stacked keys and values of one block

A block reads thirty-two cache windows one sequence at a time, turns each from
lanes by slots to slots by lanes, stacks them, and lays the eight new rows of each
sequence below its 128 old ones. -/

@[expose] public section

set_option maxRecDepth 16384

noncomputable section

namespace Cert.KernelIdeal.Value

open Cert.KernelIdeal Cert.KernelIdeal.Gen Idealize.ShloMosaic Idealize.ShloMosaic.TcCoe Idealize.SL.Sem

/-- Thirty-two turned windows and the new rows below them. -/
def stack (P : Fin 32 → Vec Ideal S1x128x128 .f32) (n : Vec Ideal S32x8x128 .f32) : FVec Ideal S32x136x128 .f32 :=
  k0_pay37 (k0_pay36
    (k0_pay8 (P 0)) (k0_pay9 (P 1)) (k0_pay10 (P 2)) (k0_pay11 (P 3)) (k0_pay12 (P 4)) (k0_pay13 (P 5))
    (k0_pay14 (P 6)) (k0_pay15 (P 7)) (k0_pay16 (P 8)) (k0_pay17 (P 9)) (k0_pay18 (P 10)) (k0_pay19 (P 11))
    (k0_pay20 (P 12)) (k0_pay21 (P 13)) (k0_pay22 (P 14)) (k0_pay23 (P 15)) (k0_pay24 (P 16)) (k0_pay25 (P
    17)) (k0_pay26 (P 18)) (k0_pay27 (P 19)) (k0_pay28 (P 20)) (k0_pay29 (P 21)) (k0_pay30 (P 22)) (k0_pay31
    (P 23)) (k0_pay32 (P 24)) (k0_pay33 (P 25)) (k0_pay34 (P 26)) (k0_pay35 (P 27)) (P 28) (P 29) (P 30) (P
    31)) n

set_option maxHeartbeats 2000000 in
/-- Slot `k` of sequence `b`: an old row, or one of the eight new ones. -/
theorem stack_at (P : Fin 32 → Vec Ideal S1x128x128 .f32) (n : Vec Ideal S32x8x128 .f32)
    (b : Fin 32) (k : Fin 136) (l : Fin 128) :
    stack P n (ix3 b k l)
      = if h : k.val < 128 then P b (ix3 0 l ⟨k.val, h⟩) else n (ix3 b ⟨k.val - 128, by omega⟩ l) := by
  unfold stack
  have hpieces : ∀ (k : Fin 128), k0_pay36
      (k0_pay8 (P 0)) (k0_pay9 (P 1)) (k0_pay10 (P 2)) (k0_pay11 (P 3)) (k0_pay12 (P 4)) (k0_pay13 (P 5))
      (k0_pay14 (P 6)) (k0_pay15 (P 7)) (k0_pay16 (P 8)) (k0_pay17 (P 9)) (k0_pay18 (P 10)) (k0_pay19 (P 11))
      (k0_pay20 (P 12)) (k0_pay21 (P 13)) (k0_pay22 (P 14)) (k0_pay23 (P 15)) (k0_pay24 (P 16)) (k0_pay25 (P
      17)) (k0_pay26 (P 18)) (k0_pay27 (P 19)) (k0_pay28 (P 20)) (k0_pay29 (P 21)) (k0_pay30 (P 22)) (k0_pay31
      (P 23)) (k0_pay32 (P 24)) (k0_pay33 (P 25)) (k0_pay34 (P 26)) (k0_pay35 (P 27)) (P 28) (P 29) (P 30) (P
      31) (ix3 b k l) = P b (ix3 0 l k) := fun k => by
    pointwise [k0_pay8, k0_pay9, k0_pay10, k0_pay11, k0_pay12, k0_pay13, k0_pay14, k0_pay15, k0_pay16, k0_pay17,
      k0_pay18, k0_pay19, k0_pay20, k0_pay21, k0_pay22, k0_pay23, k0_pay24, k0_pay25, k0_pay26, k0_pay27, k0_pay28,
      k0_pay29, k0_pay30, k0_pay31, k0_pay32, k0_pay33, k0_pay34, k0_pay35, k0_pay36]
    fin_cases b <;> rfl
  pointwise [k0_pay37]
  split
  · rename_i h
    exact hpieces ⟨k.val, h⟩
  · rfl

theorem stack_v0 (P : Fin 32 → Vec Ideal S1x128x128 .f32) (n : Vec Ideal S32x8x128 .f32) :
    k0_pay67
    (k0_pay38 (P 0)) (k0_pay39 (P 1)) (k0_pay40 (P 2)) (k0_pay41 (P 3)) (k0_pay42 (P 4)) (k0_pay43 (P 5))
    (k0_pay44 (P 6)) (k0_pay45 (P 7)) (k0_pay46 (P 8)) (k0_pay47 (P 9)) (k0_pay48 (P 10)) (k0_pay49 (P 11))
    (k0_pay50 (P 12)) (k0_pay51 (P 13)) (k0_pay52 (P 14)) (k0_pay53 (P 15)) (k0_pay54 (P 16)) (k0_pay55 (P
    17)) (k0_pay56 (P 18)) (k0_pay57 (P 19)) (k0_pay58 (P 20)) (k0_pay59 (P 21)) (k0_pay60 (P 22)) (k0_pay61
    (P 23)) (k0_pay62 (P 24)) (k0_pay63 (P 25)) (k0_pay64 (P 26)) (k0_pay65 (P 27)) (k0_pay66 (P 28)) (P 29)
    (P 30) (P 31) n = stack P n := rfl

theorem stack_k1 (P : Fin 32 → Vec Ideal S1x128x128 .f32) (n : Vec Ideal S32x8x128 .f32) :
    k0_pay119
    (k0_pay90 (P 0)) (k0_pay91 (P 1)) (k0_pay92 (P 2)) (k0_pay93 (P 3)) (k0_pay94 (P 4)) (k0_pay95 (P 5))
    (k0_pay96 (P 6)) (k0_pay97 (P 7)) (k0_pay98 (P 8)) (k0_pay99 (P 9)) (k0_pay100 (P 10)) (k0_pay101 (P 11))
    (k0_pay102 (P 12)) (k0_pay103 (P 13)) (k0_pay104 (P 14)) (k0_pay105 (P 15)) (k0_pay106 (P 16)) (k0_pay107
    (P 17)) (k0_pay108 (P 18)) (k0_pay109 (P 19)) (k0_pay110 (P 20)) (k0_pay111 (P 21)) (k0_pay112 (P 22))
    (k0_pay113 (P 23)) (k0_pay114 (P 24)) (k0_pay115 (P 25)) (k0_pay116 (P 26)) (k0_pay117 (P 27)) (k0_pay118
    (P 28)) (P 29) (P 30) (P 31) n = stack P n := rfl

theorem stack_v1 (P : Fin 32 → Vec Ideal S1x128x128 .f32) (n : Vec Ideal S32x8x128 .f32) :
    k0_pay151
    (k0_pay120 (P 0)) (k0_pay121 (P 1)) (k0_pay122 (P 2)) (k0_pay123 (P 3)) (k0_pay124 (P 4)) (k0_pay125 (P
    5)) (k0_pay126 (P 6)) (k0_pay127 (P 7)) (k0_pay128 (P 8)) (k0_pay129 (P 9)) (k0_pay130 (P 10)) (k0_pay131
    (P 11)) (k0_pay132 (P 12)) (k0_pay133 (P 13)) (k0_pay134 (P 14)) (k0_pay135 (P 15)) (k0_pay136 (P 16))
    (k0_pay137 (P 17)) (k0_pay138 (P 18)) (k0_pay139 (P 19)) (k0_pay140 (P 20)) (k0_pay141 (P 21)) (k0_pay142
    (P 22)) (k0_pay143 (P 23)) (k0_pay144 (P 24)) (k0_pay145 (P 25)) (k0_pay146 (P 26)) (k0_pay147 (P 27))
    (k0_pay148 (P 28)) (k0_pay149 (P 29)) (k0_pay150 (P 30)) (P 31) n = stack P n := rfl

theorem slice_k0 (P : Fin 32 → Vec Ideal S1x128x128 .f32) (n : Vec Ideal S32x8x128 .f32) :
    k0_pay152 (stack P n) = k0_pay68 (stack P n) := rfl

theorem slice_v0 (P : Fin 32 → Vec Ideal S1x128x128 .f32) (n : Vec Ideal S32x8x128 .f32) :
    k0_pay69
    (k0_pay38 (P 0)) (k0_pay39 (P 1)) (k0_pay40 (P 2)) (k0_pay41 (P 3)) (k0_pay42 (P 4)) (k0_pay43 (P 5))
    (k0_pay44 (P 6)) (k0_pay45 (P 7)) (k0_pay46 (P 8)) (k0_pay47 (P 9)) (k0_pay48 (P 10)) (k0_pay49 (P 11))
    (k0_pay50 (P 12)) (k0_pay51 (P 13)) (k0_pay52 (P 14)) (k0_pay53 (P 15)) (k0_pay54 (P 16)) (k0_pay55 (P
    17)) (k0_pay56 (P 18)) (k0_pay57 (P 19)) (k0_pay58 (P 20)) (k0_pay59 (P 21)) (k0_pay60 (P 22)) (k0_pay61
    (P 23)) (k0_pay62 (P 24)) (k0_pay63 (P 25)) (k0_pay64 (P 26)) (k0_pay65 (P 27)) (k0_pay66 (P 28)) (P 29)
    (P 30) (P 31) n = k0_pay68 (stack P n) := rfl

theorem slice_v1 (P : Fin 32 → Vec Ideal S1x128x128 .f32) (n : Vec Ideal S32x8x128 .f32) :
    k0_pay153
    (k0_pay120 (P 0)) (k0_pay121 (P 1)) (k0_pay122 (P 2)) (k0_pay123 (P 3)) (k0_pay124 (P 4)) (k0_pay125 (P
    5)) (k0_pay126 (P 6)) (k0_pay127 (P 7)) (k0_pay128 (P 8)) (k0_pay129 (P 9)) (k0_pay130 (P 10)) (k0_pay131
    (P 11)) (k0_pay132 (P 12)) (k0_pay133 (P 13)) (k0_pay134 (P 14)) (k0_pay135 (P 15)) (k0_pay136 (P 16))
    (k0_pay137 (P 17)) (k0_pay138 (P 18)) (k0_pay139 (P 19)) (k0_pay140 (P 20)) (k0_pay141 (P 21)) (k0_pay142
    (P 22)) (k0_pay143 (P 23)) (k0_pay144 (P 24)) (k0_pay145 (P 25)) (k0_pay146 (P 26)) (k0_pay147 (P 27))
    (k0_pay148 (P 28)) (k0_pay149 (P 29)) (k0_pay150 (P 30)) (P 31) n = k0_pay68 (stack P n) := rfl

/-- The window kept: the 132 slots that hold rows, the first four left behind. -/
theorem slice_at (K : FVec Ideal S32x136x128 .f32) (b : Fin 32) (s l : Fin 128) :
    k0_pay68 K (ix3 b s l) = K (ix3 b ⟨4 + s.val, by omega⟩ l) := by
  pointwise [k0_pay68]

end Cert.KernelIdeal.Value
end
-- ==== Proof.Block.lean ====
module
public import proofs.«01_k».proof.Proof.Gen.KernelIdeal.Frame
public import proofs.«01_k».proof.Proof.Heads
public import proofs.«01_k».proof.Proof.Stack
public import Idealize.ShloMosaic.Lib.Pipeline.ValueKit
public import Idealize.ShloMosaic.Lib.Pipeline.ReadBack
public import Idealize.ShloMosaic.Lib.Pointwise

/-! # What one block computes

The two windows a block leaves, and the attention of its thirty-two sequences. -/

@[expose] public section

set_option maxRecDepth 16384

noncomputable section

namespace Cert.KernelIdeal.Value

open Cert.KernelIdeal Cert.KernelIdeal.Gen Idealize.ShloMosaic Idealize.ShloMosaic.TcCoe Idealize.SL.Sem

/-- Column `d` of KV head `j`, of 256. -/
def col (j : Fin 4) (d : Fin 64) : Fin 256 := ⟨64 * j.val + d.val, by omega⟩

/-- Column `d` of head `g` of KV head `j`, of 1024. -/
def qcol (j g : Fin 4) (d : Fin 64) : Fin 1024 := ⟨256 * j.val + 64 * g.val + d.val, by omega⟩

/-- The query head's number. -/
def qhead (j g : Fin 4) : Fin 16 := ⟨4 * j.val + g.val, by omega⟩

/-- Column `c` of slot `k` of sequence `b`: 128 old slots, then the new rows, whose
columns begin at `p`. -/
def rowAt (p : Fin 2) (X : Vec Ideal S32x256x128 .f32) (x2 : Vec Ideal S32x8x512 .f32) (b : Fin 32) (k : Fin 136) (c : Fin 256) : EReal :=
  if h : k.val < 128 then X (ix3 b c ⟨k.val, h⟩) else x2 (ix3 b ⟨k.val - 128, by omega⟩ ⟨256 * p.val + c.val, by omega⟩)

/-- One window's half of 128 lanes, as the block loads it. -/
def win (X : Vec Ideal S32x256x128 .f32) (h : Fin 2) (i : Fin 32) : Vec Ideal S1x128x128 .f32 :=
  View.ld (Val := Elt Ideal) (S := S32x256x128) (e' := .f32) X
    (Rect.unit ![i.val, 128 * h.val, 0] ![1, 128, 128] (fun a => by fin_cases a <;> simp [S32x256x128] <;> omega))

/-- 128 lanes of the new rows, as the block loads them. -/
def fresh (x2 : Vec Ideal S32x8x512 .f32) (p h : Fin 2) : Vec Ideal S32x8x128 .f32 :=
  View.ld (Val := Elt Ideal) (S := S32x8x512) (e' := .f32) x2
    (Rect.unit ![0, 0, 256 * p.val + 128 * h.val] ![32, 8, 128] (fun a => by fin_cases a <;> simp [S32x8x512] <;> omega))

/-- 128 lanes of the queries, as the block loads them. -/
def qtile (x1 : Vec Ideal S32x8x1024 .f32) (j : Fin 4) (h : Fin 2) : Vec Ideal S32x8x128 .f32 :=
  View.ld (Val := Elt Ideal) (S := S32x8x1024) (e' := .f32) x1
    (Rect.unit ![0, 0, 256 * j.val + 128 * h.val] ![32, 8, 128] (fun a => by fin_cases a <;> simp [S32x8x1024] <;> omega))

/-- The stacked rows of one half. -/
def rows (p : Fin 2) (X : Vec Ideal S32x256x128 .f32) (x2 : Vec Ideal S32x8x512 .f32) (h : Fin 2) : FVec Ideal S32x136x128 .f32 :=
  stack (win X h) (fresh x2 p h)

theorem rows_at (p : Fin 2) (X : Vec Ideal S32x256x128 .f32) (x2 : Vec Ideal S32x8x512 .f32) (h : Fin 2)
    (b : Fin 32) (k : Fin 136) (l : Fin 128) :
    rows p X x2 h (ix3 b k l) = rowAt p X x2 b k ⟨128 * h.val + l.val, by omega⟩ := by
  unfold rows
  refine (stack_at _ _ b k l).trans ?_
  unfold rowAt
  split
  · unfold win
    exact View.ld_unit_apply_of (S := S32x256x128) _ _ _ _ _ _ fun a => by fin_cases a <;> simp [ix3]
  · unfold fresh
    exact View.ld_unit_apply_of (S := S32x8x512) _ _ _ _ _ _ fun a => by fin_cases a <;> simp [ix3] <;> omega

theorem qtile_at (x1 : Vec Ideal S32x8x1024 .f32) (j : Fin 4) (h : Fin 2) (b : Fin 32) (r : Fin 8) (l : Fin 128) :
    qtile x1 j h (ix3 b r l) = x1 (ix3 b r ⟨256 * j.val + 128 * h.val + l.val, by omega⟩) := by
  unfold qtile
  exact View.ld_unit_apply_of (S := S32x8x1024) _ _ _ _ _ _ fun a => by fin_cases a <;> simp [ix3]

/-- The score of head `g` of KV head `j`, token `r`, against slot `k`. -/
def scoreAt (x1 : Vec Ideal S32x8x1024 .f32) (x2 : Vec Ideal S32x8x512 .f32) (x3 : Vec Ideal S32x256x128 .f32)
    (b : Fin 32) (r : Fin 8) (j g : Fin 4) (k : Fin 136) : EReal :=
  ∑ d : Fin 64, x1 (ix3 b r (qcol j g d)) * rowAt 0 x3 x2 b k (col j d)

theorem score_at (x1 : Vec Ideal S32x8x1024 .f32) (x2 : Vec Ideal S32x8x512 .f32) (x3 : Vec Ideal S32x256x128 .f32)
    (b : Fin 32) (r : Fin 8) (j g : Fin 4) (h o : Fin 2) (hj : j.val = 2 * h.val + o.val) (k : Fin 136) :
    score o (rows 0 x3 x2 h) (qtile x1 j 0) (qtile x1 j 1) b g r k = scoreAt x1 x2 x3 b r j g k := by
  unfold score scoreAt
  refine Finset.sum_congr rfl fun d _ => ?_
  refine congrArg₂ (· * ·) ?_ ?_
  · split
    · refine (qtile_at _ _ _ _ _ _).trans (congrArg (fun z => x1 (ix3 b r z)) (Fin.ext ?_))
      simp only [lane, qcol, Fin.val_zero]; omega
    · refine (qtile_at _ _ _ _ _ _).trans (congrArg (fun z => x1 (ix3 b r z)) (Fin.ext ?_))
      simp only [lane, qcol, Fin.val_one]; omega
  · refine (rows_at _ _ _ _ _ _ _).trans (congrArg (fun z => rowAt 0 x3 x2 b k z) (Fin.ext ?_))
    simp only [lane, col]; omega

/-- The attention of one head of one token, at one of its 64 columns. -/
def attAt (x0 : Vec Ideal S16 .f32) (x1 : Vec Ideal S32x8x1024 .f32) (x2 : Vec Ideal S32x8x512 .f32)
    (x3 x4 : Vec Ideal S32x256x128 .f32) (b : Fin 32) (r : Fin 8) (j g : Fin 4) (d : Fin 64) : EReal :=
  Softmax.byExp2 (seen r) (scoreAt x1 x2 x3 b r j g) (x0 (ix1 (qhead j g)) * (((Real.log 2)⁻¹ : ℝ) : EReal))
    (fun k => rowAt 1 x4 x2 b k (col j d))

/-- The values of one half of the lanes, laid on both. -/
theorem values_even (V : FVec Ideal S32x136x128 .f32) (b : Fin 32) (k : Fin 136) (l : Fin 128) :
    k0_pay75 V (ix3 b k l) = V (ix3 b k (lane 0 ⟨l.val % 64, by omega⟩)) := by
  pointwise [k0_pay75, k0_pay73, k0_pay74]
  rw [low_at, select_if]
  split
  · exact congrArg (fun z => V (ix3 b k z)) (Fin.ext (by simp only [lane, Fin.val_zero]; omega))
  · exact congrArg (fun z => V (ix3 b k z)) (Fin.ext (by simp only [lane, Fin.val_zero]; omega))

theorem values_odd (V : FVec Ideal S32x136x128 .f32) (b : Fin 32) (k : Fin 136) (l : Fin 128) :
    k0_pay76 V (ix3 b k l) = V (ix3 b k (lane 1 ⟨l.val % 64, by omega⟩)) := by
  pointwise [k0_pay76, k0_pay73, k0_pay74]
  rw [low_at, select_if]
  split
  · exact congrArg (fun z => V (ix3 b k z)) (Fin.ext (by simp only [lane, Fin.val_one]; omega))
  · exact congrArg (fun z => V (ix3 b k z)) (Fin.ext (by simp only [lane, Fin.val_one]; omega))

/-- The first two heads' columns, picked from their rows. -/
def firstPair (V : FVec Ideal S32x136x128 .bf16) (S : FVec Ideal S32x32x136 .f32) (s0 s1 s2 s3 : Elt Ideal .f32) : FVec Ideal S32x8x128 .f32 :=
  k0_pay81 (k0_pay80 k0_pay2 k0_pay3 headOf V S (k0_pay78 headOf s0) s1 s2 s3)

/-- The last two heads' columns, picked from their rows. -/
def lastPair (V : FVec Ideal S32x136x128 .bf16) (S : FVec Ideal S32x32x136 .f32) (s0 s1 s2 s3 : Elt Ideal .f32) : FVec Ideal S32x8x128 .f32 :=
  k0_pay82 k0_pay2 (heads V S s0 s1 s2 s3)

theorem firstPair_at (V : FVec Ideal S32x136x128 .bf16) (S : FVec Ideal S32x32x136 .f32) (s0 s1 s2 s3 : Elt Ideal .f32)
    (b : Fin 32) (r : Fin 8) (l : Fin 128) :
    firstPair V S s0 s1 s2 s3 (ix3 b r l) = heads V S s0 s1 s2 s3 (ix3 b (hr (if l.val < 64 then 0 else 1) r) l) := by
  have e : firstPair V S s0 s1 s2 s3 = k0_pay81 (select k0_pay2
      (extractStridedSlice S32x8x128 ![0, 0, 0] (heads V S s0 s1 s2 s3) slices_S32x32x128_o0_0_0_S32x8x128)
      (extractStridedSlice S32x8x128 ![0, 8, 0] (heads V S s0 s1 s2 s3) slices_S32x32x128_o0_8_0_S32x8x128)) := rfl
  rw [e]
  generalize heads V S s0 s1 s2 s3 = O
  pointwise [k0_pay81]
  rw [pay2_at, select_if]
  split
  · exact congrArg (fun z => O (ix3 b z l)) (Fin.ext (by simp [hr]))
  · exact congrArg (fun z => O (ix3 b z l)) (Fin.ext (by simp [hr]))

theorem lastPair_at (V : FVec Ideal S32x136x128 .bf16) (S : FVec Ideal S32x32x136 .f32) (s0 s1 s2 s3 : Elt Ideal .f32)
    (b : Fin 32) (r : Fin 8) (l : Fin 128) :
    lastPair V S s0 s1 s2 s3 (ix3 b r l) = heads V S s0 s1 s2 s3 (ix3 b (hr (if l.val < 64 then 2 else 3) r) l) := by
  unfold lastPair
  generalize heads V S s0 s1 s2 s3 = O
  pointwise [k0_pay82]
  rw [pay2_at, select_if]
  split
  · exact congrArg (fun z => O (ix3 b z l)) (Fin.ext (by simp [hr]))
  · exact congrArg (fun z => O (ix3 b z l)) (Fin.ext (by simp [hr]))

/-- The attention as the scratch array holds it. -/
def att (x0 : Vec Ideal S16 .f32) (x1 : Vec Ideal S32x8x1024 .f32) (x2 : Vec Ideal S32x8x512 .f32)
    (x3 x4 : Vec Ideal S32x256x128 .f32) : Vec Ideal S32x8x1024 .f32 := fun y =>
  attAt x0 x1 x2 x3 x4 (y 0) (y 1) ⟨(y 2).val / 256, by have := (y 2).isLt; simp [S32x8x1024] at this; omega⟩
    ⟨(y 2).val / 64 % 4, by omega⟩ ⟨(y 2).val % 64, by omega⟩

/-- The sink logit a block loads for one head. -/
theorem sink_at (x0 : Vec Ideal S16 .f32) (n : Fin 16) (off : Fin 1 → ℕ) (h : off 0 = n.val)
    (inb : ∀ a, off a + (![1] : Fin 1 → ℕ) a ≤ S16.size a) (q : (Rect.unit (s := S16) off ![1] inb).shape.Idx) :
    View.ld (Val := Elt Ideal) (S := S16) (e' := .f32) x0 (Rect.unit off ![1] inb) q = x0 (ix1 n) :=
  View.ld_unit_apply_of (S := S16) _ _ _ _ _ _ fun a => by
    have hq : (q 0).val < 1 := (q 0).isLt
    fin_cases a
    show n.val = off 0 + (q 0).val
    omega

theorem sinks_at (x0 : Vec Ideal S16 .f32) (j : Fin 4) (s0 s1 s2 s3 : Elt Ideal .f32) (g : Fin 4)
    (h0 : s0 = x0 (ix1 (qhead j 0))) (h1 : s1 = x0 (ix1 (qhead j 1))) (h2 : s2 = x0 (ix1 (qhead j 2))) (h3 : s3 = x0 (ix1 (qhead j 3))) :
    pick s0 s1 s2 s3 g = x0 (ix1 (qhead j g)) := by
  subst h0; subst h1; subst h2; subst h3
  fin_cases g <;> rfl

theorem heads_att (x0 : Vec Ideal S16 .f32) (x1 : Vec Ideal S32x8x1024 .f32) (x2 : Vec Ideal S32x8x512 .f32)
    (x3 x4 : Vec Ideal S32x256x128 .f32) (j : Fin 4) (V : FVec Ideal S32x136x128 .bf16) (S : FVec Ideal S32x32x136 .f32)
    (hV : ∀ b k (l : Fin 128), V (ix3 b k l) = rowAt 1 x4 x2 b k (col j ⟨l.val % 64, by omega⟩))
    (hS : ∀ b g r k, S (ix3 b (hr g r) k) = scoreAt x1 x2 x3 b r j g k)
    (s0 s1 s2 s3 : Elt Ideal .f32) (hs : ∀ g, pick s0 s1 s2 s3 g = x0 (ix1 (qhead j g)))
    (b : Fin 32) (g : Fin 4) (r : Fin 8) (l : Fin 128) :
    heads V S s0 s1 s2 s3 (ix3 b (hr g r) l)
      = attAt x0 x1 x2 x3 x4 b r j g ⟨l.val % 64, by omega⟩ := by
  refine (heads_at _ _ _ _ _ _ b g r l).trans ?_
  unfold attAt
  rw [hs g, funext (hS b g r), funext fun k => hV b k l]

theorem firstPair_att (x0 : Vec Ideal S16 .f32) (x1 : Vec Ideal S32x8x1024 .f32) (x2 : Vec Ideal S32x8x512 .f32)
    (x3 x4 : Vec Ideal S32x256x128 .f32) (j : Fin 4) (V : FVec Ideal S32x136x128 .bf16) (S : FVec Ideal S32x32x136 .f32)
    (hV : ∀ b k (l : Fin 128), V (ix3 b k l) = rowAt 1 x4 x2 b k (col j ⟨l.val % 64, by omega⟩))
    (hS : ∀ b g r k, S (ix3 b (hr g r) k) = scoreAt x1 x2 x3 b r j g k)
    (s0 s1 s2 s3 : Elt Ideal .f32) (hs : ∀ g, pick s0 s1 s2 s3 g = x0 (ix1 (qhead j g)))
    (x : S32x8x128.Idx) (y : S32x8x1024.Idx) (h0 : (y 0).val = (x 0).val) (h1 : (y 1).val = (x 1).val)
    (h2 : (y 2).val = 256 * j.val + (x 2).val) :
    firstPair V S s0 s1 s2 s3 x
      = att x0 x1 x2 x3 x4 y := by
  obtain ⟨b, r, l, rfl⟩ : ∃ (b : Fin 32) (r : Fin 8) (l : Fin 128), x = ix3 b r l := ⟨x 0, x 1, x 2, eq_ix3 x⟩
  refine (firstPair_at _ _ _ _ _ _ b r l).trans ((heads_att x0 x1 x2 x3 x4 j V S hV hS s0 s1 s2 s3 hs b _ r l).trans ?_)
  unfold att
  have e0 : (y 0).val = b.val := h0
  have e1 : (y 1).val = r.val := h1
  have e2 : (y 2).val = 256 * j.val + l.val := h2
  congr 1
  · exact Fin.ext e0.symm
  · exact Fin.ext e1.symm
  · exact Fin.ext (by simp only [e2]; omega)
  · split <;> exact Fin.ext (by simp only [e2, Fin.val_zero, Fin.val_one]; omega)
  · exact Fin.ext (by simp only [e2]; omega)

theorem lastPair_att (x0 : Vec Ideal S16 .f32) (x1 : Vec Ideal S32x8x1024 .f32) (x2 : Vec Ideal S32x8x512 .f32)
    (x3 x4 : Vec Ideal S32x256x128 .f32) (j : Fin 4) (V : FVec Ideal S32x136x128 .bf16) (S : FVec Ideal S32x32x136 .f32)
    (hV : ∀ b k (l : Fin 128), V (ix3 b k l) = rowAt 1 x4 x2 b k (col j ⟨l.val % 64, by omega⟩))
    (hS : ∀ b g r k, S (ix3 b (hr g r) k) = scoreAt x1 x2 x3 b r j g k)
    (s0 s1 s2 s3 : Elt Ideal .f32) (hs : ∀ g, pick s0 s1 s2 s3 g = x0 (ix1 (qhead j g)))
    (x : S32x8x128.Idx) (y : S32x8x1024.Idx) (h0 : (y 0).val = (x 0).val) (h1 : (y 1).val = (x 1).val)
    (h2 : (y 2).val = 256 * j.val + 128 + (x 2).val) :
    lastPair V S s0 s1 s2 s3 x
      = att x0 x1 x2 x3 x4 y := by
  obtain ⟨b, r, l, rfl⟩ : ∃ (b : Fin 32) (r : Fin 8) (l : Fin 128), x = ix3 b r l := ⟨x 0, x 1, x 2, eq_ix3 x⟩
  refine (lastPair_at _ _ _ _ _ _ b r l).trans ((heads_att x0 x1 x2 x3 x4 j V S hV hS s0 s1 s2 s3 hs b _ r l).trans ?_)
  unfold att
  have e0 : (y 0).val = b.val := h0
  have e1 : (y 1).val = r.val := h1
  have e2 : (y 2).val = 256 * j.val + 128 + l.val := h2
  congr 1
  · exact Fin.ext e0.symm
  · exact Fin.ext e1.symm
  · exact Fin.ext (by simp only [e2]; omega)
  · split <;> exact Fin.ext (by simp only [e2, Fin.val_two, show (3 : Fin 4).val = 3 from rfl]; omega)
  · exact Fin.ext (by simp only [e2]; omega)

/-- The values of KV head `2 h`, on both halves of the lanes. -/
theorem evenV (X : Vec Ideal S32x256x128 .f32) (x2 : Vec Ideal S32x8x512 .f32) (h : Fin 2) (j : Fin 4) (hj : j.val = 2 * h.val)
    (b : Fin 32) (k : Fin 136) (l : Fin 128) :
    k0_pay75 (rows 1 X x2 h) (ix3 b k l) = rowAt 1 X x2 b k (col j ⟨l.val % 64, by omega⟩) :=
  (values_even _ b k l).trans ((rows_at 1 X x2 h b k _).trans
    (congrArg (rowAt 1 X x2 b k) (Fin.ext (by simp only [lane, col, Fin.val_zero]; omega))))

theorem oddV (X : Vec Ideal S32x256x128 .f32) (x2 : Vec Ideal S32x8x512 .f32) (h : Fin 2) (j : Fin 4) (hj : j.val = 2 * h.val + 1)
    (b : Fin 32) (k : Fin 136) (l : Fin 128) :
    k0_pay76 (rows 1 X x2 h) (ix3 b k l) = rowAt 1 X x2 b k (col j ⟨l.val % 64, by omega⟩) :=
  (values_odd _ b k l).trans ((rows_at 1 X x2 h b k _).trans
    (congrArg (rowAt 1 X x2 b k) (Fin.ext (by simp only [lane, col, Fin.val_one]; omega))))

theorem evenS (x1 : Vec Ideal S32x8x1024 .f32) (x2 : Vec Ideal S32x8x512 .f32) (x3 : Vec Ideal S32x256x128 .f32)
    (h : Fin 2) (j : Fin 4) (hj : j.val = 2 * h.val) (b : Fin 32) (g : Fin 4) (r : Fin 8) (k : Fin 136) :
    k0_pay77 k0_pay2 (rows 0 x3 x2 h) (qtile x1 j 0) (qtile x1 j 1) (ix3 b (hr g r) k) = scoreAt x1 x2 x3 b r j g k :=
  (score_even _ _ _ b g r k).trans (score_at x1 x2 x3 b r j g h 0 hj k)

theorem oddS (x1 : Vec Ideal S32x8x1024 .f32) (x2 : Vec Ideal S32x8x512 .f32) (x3 : Vec Ideal S32x256x128 .f32)
    (h : Fin 2) (j : Fin 4) (hj : j.val = 2 * h.val + 1) (b : Fin 32) (g : Fin 4) (r : Fin 8) (k : Fin 136) :
    k0_pay83 k0_pay2 (k0_pay72 (rows 0 x3 x2 h)) (qtile x1 j 0) (qtile x1 j 1) (ix3 b (hr g r) k) = scoreAt x1 x2 x3 b r j g k :=
  (score_odd _ _ _ b g r k).trans (score_at x1 x2 x3 b r j g h 1 hj k)

/-! Each of the eight stores is a pair of heads of one of the four KV heads. -/

section Stores

variable (K V : FVec Ideal S32x136x128 .f32) (qa qb : FVec Ideal S32x8x128 .f32) (s0 s1 s2 s3 : Elt Ideal .f32)

theorem first_store0 :
    k0_pay81 (k0_pay80 k0_pay2 k0_pay3 headOf (k0_pay75 V) (k0_pay77 k0_pay2 K qa qb) (k0_pay78 headOf s0) s1 s2 s3)
      = firstPair (k0_pay75 V) (k0_pay77 k0_pay2 K qa qb) s0 s1 s2 s3 := rfl

theorem last_store0 :
    k0_pay82 k0_pay2 (k0_pay79 k0_pay3 headOf (k0_pay75 V) (k0_pay77 k0_pay2 K qa qb) (k0_pay78 headOf s0) s1 s2 s3)
      = lastPair (k0_pay75 V) (k0_pay77 k0_pay2 K qa qb) s0 s1 s2 s3 := rfl

theorem first_store1 :
    k0_pay87 k0_pay2 k0_pay3 headOf (k0_pay76 V) (k0_pay83 k0_pay2 (k0_pay72 K) qa qb) (k0_pay84 headOf s0 s1) (k0_pay85 headOf) s2 s3
      = firstPair (k0_pay76 V) (k0_pay83 k0_pay2 (k0_pay72 K) qa qb) s0 s1 s2 s3 := rfl

theorem last_store1 :
    k0_pay89 (k0_pay88 k0_pay2 k0_pay3 headOf (k0_pay76 V) (k0_pay83 k0_pay2 (k0_pay72 K) qa qb) (k0_pay84 headOf s0 s1) (k0_pay85 headOf) s2 s3)
      = lastPair (k0_pay76 V) (k0_pay83 k0_pay2 (k0_pay72 K) qa qb) s0 s1 s2 s3 := rfl

theorem first_store2 :
    k0_pay165 k0_pay2 k0_pay3 headOf (k0_pay160 V) (k0_pay162 k0_pay2 K (iota .tc S32x136x128 32 [2] iota_S32x136x128_d2_w32) k0_pay154 qa qb) (k0_pay163 headOf s0 s1) 2#32 s2 s3
      = firstPair (k0_pay75 V) (k0_pay77 k0_pay2 K qa qb) s0 s1 s2 s3 := rfl

theorem last_store2 :
    k0_pay167 (k0_pay166 k0_pay2 k0_pay3 headOf (k0_pay160 V) (k0_pay162 k0_pay2 K (iota .tc S32x136x128 32 [2] iota_S32x136x128_d2_w32) k0_pay154 qa qb) (k0_pay163 headOf s0 s1) 2#32 s2 s3)
      = lastPair (k0_pay75 V) (k0_pay77 k0_pay2 K qa qb) s0 s1 s2 s3 := rfl

theorem first_store3 :
    k0_pay172 k0_pay2 k0_pay3 (k0_pay161 V) (k0_pay168 k0_pay2 (k0_pay157 K (iota .tc S32x136x128 32 [2] iota_S32x136x128_d2_w32) k0_pay154) qa qb) (k0_pay169 headOf s0 s1 s2) (k0_pay170 headOf) s3
      = firstPair (k0_pay76 V) (k0_pay83 k0_pay2 (k0_pay72 K) qa qb) s0 s1 s2 s3 := rfl

theorem last_store3 :
    k0_pay173 k0_pay2 k0_pay3 (k0_pay161 V) (k0_pay168 k0_pay2 (k0_pay157 K (iota .tc S32x136x128 32 [2] iota_S32x136x128_d2_w32) k0_pay154) qa qb) (k0_pay169 headOf s0 s1 s2) (k0_pay170 headOf) s3
      = lastPair (k0_pay76 V) (k0_pay83 k0_pay2 (k0_pay72 K) qa qb) s0 s1 s2 s3 := rfl

end Stores

theorem kept_at (p : Fin 2) (X : Vec Ideal S32x256x128 .f32) (x2 : Vec Ideal S32x8x512 .f32) (h : Fin 2)
    (x : S32x128x128.Idx) (b : Fin 32) (s : Fin 128) (l : Fin 256) (h0 : b.val = (x 0).val) (h1 : s.val = (x 1).val)
    (h2 : l.val = 128 * h.val + (x 2).val) :
    k0_pay68 (rows p X x2 h) x = rowAt p X x2 b ⟨4 + s.val, by omega⟩ l := by
  obtain ⟨b', s', l', rfl⟩ : ∃ (b' : Fin 32) (s' l' : Fin 128), x = ix3 b' s' l' := ⟨x 0, x 1, x 2, eq_ix3 x⟩
  obtain rfl : b = b' := Fin.ext h0
  obtain rfl : s = s' := Fin.ext h1
  refine (slice_at _ b s l').trans ((rows_at p X x2 h b _ l').trans (congrArg (rowAt p X x2 b _) (Fin.ext h2.symm)))

theorem project_at (T : Vec Ideal S32x8x1024 .f32) (x5 : Vec Ideal S256x1024 .bf16) (x6 : Vec Ideal S1024x1024 .bf16)
    (A : Vec Ideal S32x8x1024 .f32) (hT : ∀ z, T z = A z) (b : Fin 32) (r : Fin 8) (n : Fin 1024) :
    k0_pay1 (k0_pay174 T) x6 x5 (ix2 ⟨8 * b.val + r.val, by omega⟩ n)
      = x5 (ix2 ⟨8 * b.val + r.val, by omega⟩ n) * ∑ q : Fin 1024, A (ix3 b r q) * x6 (ix2 q n) := by
  obtain rfl : T = A := funext hT
  pointwise [k0_pay1, k0_pay174]

variable (c : Dev nD) (i : grid0.Coords) (arg1 : Memref sig .tc .smem S16 .f32) (harg1 : arg1.IsWhole) (arg2 : Memref sig .tc .vmem S32x8x1024 .f32) (harg2 : arg2.IsWhole) (arg3 : Memref sig .tc .vmem S32x8x512 .f32) (harg3 : arg3.IsWhole) (arg4 : Memref sig .tc .vmem S32x256x128 .f32) (harg4 : arg4.IsWhole) (arg5 : Memref sig .tc .vmem S32x256x128 .f32) (harg5 : arg5.IsWhole) (arg6 : Memref sig .tc .vmem S256x1024 .bf16) (harg6 : arg6.IsWhole) (arg7 : Memref sig .tc .vmem S1024x1024 .bf16) (harg7 : arg7.IsWhole) (arg8 : Memref sig .tc .vmem S256x1024 .f32) (harg8 : arg8.IsWhole) (arg9 : Memref sig .tc .vmem S32x128x256 .f32) (harg9 : arg9.IsWhole) (arg10 : Memref sig .tc .vmem S32x128x256 .f32) (harg10 : arg10.IsWhole) (arg11 : Memref sig .tc .vmem S32x8x1024 .f32) (harg11 : arg11.IsWhole)
  (x0 : Vec Ideal S16 .f32) (x1 : Vec Ideal S32x8x1024 .f32) (x2 : Vec Ideal S32x8x512 .f32) (x3 : Vec Ideal S32x256x128 .f32) (x4 : Vec Ideal S32x256x128 .f32) (x5 : Vec Ideal S256x1024 .bf16) (x6 : Vec Ideal S1024x1024 .bf16)

/-- The key window a block leaves: the last 128 of the 132 rows. -/
theorem out8_at (b : Fin 32) (s : Fin 128) (l : Fin 256) :
    out0_A_8 c i arg1 harg1 arg2 harg2 arg3 harg3 arg4 harg4 arg5 harg5 arg6 harg6 arg7 harg7 arg8 harg8 arg9 harg9 arg10 harg10 arg11 harg11 x0 x1 x2 x3 x4 x5 x6 (ix3 b s l)
      = rowAt 0 x3 x2 b ⟨4 + s.val, by omega⟩ l := by
  frame_out
  canon_tiles x h
  · refine (show _ = k0_pay68 (rows 0 x3 x2 1) x from rfl).trans (kept_at 0 x3 x2 1 x b s l h0 h1 h2)
  · refine (show _ = k0_pay68 (rows 0 x3 x2 0) x from rfl).trans (kept_at 0 x3 x2 0 x b s l h0 h1 (h2.trans (Nat.zero_add _).symm))

/-- The value window a block leaves. -/
theorem out9_at (b : Fin 32) (s : Fin 128) (l : Fin 256) :
    out0_A_9 c i arg1 harg1 arg2 harg2 arg3 harg3 arg4 harg4 arg5 harg5 arg6 harg6 arg7 harg7 arg8 harg8 arg9 harg9 arg10 harg10 arg11 harg11 x0 x1 x2 x3 x4 x5 x6 (ix3 b s l)
      = rowAt 1 x4 x2 b ⟨4 + s.val, by omega⟩ l := by
  frame_out
  canon_tiles x h
  · refine (show _ = k0_pay68 (rows 1 x4 x2 1) x from rfl).trans (kept_at 1 x4 x2 1 x b s l h0 h1 h2)
  · refine (show _ = k0_pay68 (rows 1 x4 x2 0) x from rfl).trans (kept_at 1 x4 x2 0 x b s l h0 h1 (h2.trans (Nat.zero_add _).symm))

/-- The attention output a block leaves: the heads through the output matrix, gated. -/
theorem out7_at (b : Fin 32) (r : Fin 8) (n : Fin 1024) :
    out0_A_7 c i arg1 harg1 arg2 harg2 arg3 harg3 arg4 harg4 arg5 harg5 arg6 harg6 arg7 harg7 arg8 harg8 arg9 harg9 arg10 harg10 arg11 harg11 x0 x1 x2 x3 x4 x5 x6 (ix2 ⟨8 * b.val + r.val, by omega⟩ n)
      = x5 (ix2 ⟨8 * b.val + r.val, by omega⟩ n) * ∑ q : Fin 1024, att x0 x1 x2 x3 x4 (ix3 b r q) * x6 (ix2 q n) := by
  frame_out
  rw [View.readCov_eq_canon']
  have e : ∀ (z : S32x8x1024.Idx) (a : Fin 3), (z a).val
      = ((Rect.unit (s := S32x8x1024) ![0, 0, 0] ![32, 8, 1024] inb_S32x8x1024_S32x8x1024_0_0_0).idx z a).val := fun z a => by
    rw [Rect.idx_unit_val]; fin_cases a <;> exact (Nat.zero_add _).symm
  refine project_at _ x5 x6 (att x0 x1 x2 x3 x4) (fun z => ?_) b r n
  canon_tiles x h
  · refine (congrFun (last_store3 _ _ _ _ _ _ _ _) x).trans ?_
    refine lastPair_att x0 x1 x2 x3 x4 3 _ _ (oddV x4 x2 1 3 rfl) (oddS x1 x2 x3 1 3 rfl) _ _ _ _ (fun g => ?_) x z
      ((e z 0).trans h0) ((e z 1).trans h1) ((e z 2).trans h2)
    exact sinks_at x0 3 _ _ _ _ g (sink_at x0 _ ![12] rfl _ _) (sink_at x0 _ ![13] rfl _ _) (sink_at x0 _ ![14] rfl _ _) (sink_at x0 _ ![15] rfl _ _)
  · refine (congrFun (first_store3 _ _ _ _ _ _ _ _) x).trans ?_
    refine firstPair_att x0 x1 x2 x3 x4 3 _ _ (oddV x4 x2 1 3 rfl) (oddS x1 x2 x3 1 3 rfl) _ _ _ _ (fun g => ?_) x z
      ((e z 0).trans h0) ((e z 1).trans h1) ((e z 2).trans h2)
    exact sinks_at x0 3 _ _ _ _ g (sink_at x0 _ ![12] rfl _ _) (sink_at x0 _ ![13] rfl _ _) (sink_at x0 _ ![14] rfl _ _) (sink_at x0 _ ![15] rfl _ _)
  · refine (congrFun (last_store2 _ _ _ _ _ _ _ _) x).trans ?_
    refine lastPair_att x0 x1 x2 x3 x4 2 _ _ (evenV x4 x2 1 2 rfl) (evenS x1 x2 x3 1 2 rfl) _ _ _ _ (fun g => ?_) x z
      ((e z 0).trans h0) ((e z 1).trans h1) ((e z 2).trans h2)
    exact sinks_at x0 2 _ _ _ _ g (sink_at x0 _ ![8] rfl _ _) (sink_at x0 _ ![9] rfl _ _) (sink_at x0 _ ![10] rfl _ _) (sink_at x0 _ ![11] rfl _ _)
  · refine (congrFun (first_store2 _ _ _ _ _ _ _ _) x).trans ?_
    refine firstPair_att x0 x1 x2 x3 x4 2 _ _ (evenV x4 x2 1 2 rfl) (evenS x1 x2 x3 1 2 rfl) _ _ _ _ (fun g => ?_) x z
      ((e z 0).trans h0) ((e z 1).trans h1) ((e z 2).trans h2)
    exact sinks_at x0 2 _ _ _ _ g (sink_at x0 _ ![8] rfl _ _) (sink_at x0 _ ![9] rfl _ _) (sink_at x0 _ ![10] rfl _ _) (sink_at x0 _ ![11] rfl _ _)
  · refine (congrFun (last_store1 _ _ _ _ _ _ _ _) x).trans ?_
    refine lastPair_att x0 x1 x2 x3 x4 1 _ _ (oddV x4 x2 0 1 rfl) (oddS x1 x2 x3 0 1 rfl) _ _ _ _ (fun g => ?_) x z
      ((e z 0).trans h0) ((e z 1).trans h1) ((e z 2).trans h2)
    exact sinks_at x0 1 _ _ _ _ g (sink_at x0 _ ![4] rfl _ _) (sink_at x0 _ ![5] rfl _ _) (sink_at x0 _ ![6] rfl _ _) (sink_at x0 _ ![7] rfl _ _)
  · refine (congrFun (first_store1 _ _ _ _ _ _ _ _) x).trans ?_
    refine firstPair_att x0 x1 x2 x3 x4 1 _ _ (oddV x4 x2 0 1 rfl) (oddS x1 x2 x3 0 1 rfl) _ _ _ _ (fun g => ?_) x z
      ((e z 0).trans h0) ((e z 1).trans h1) ((e z 2).trans h2)
    exact sinks_at x0 1 _ _ _ _ g (sink_at x0 _ ![4] rfl _ _) (sink_at x0 _ ![5] rfl _ _) (sink_at x0 _ ![6] rfl _ _) (sink_at x0 _ ![7] rfl _ _)
  · refine (congrFun (last_store0 _ _ _ _ _ _ _ _) x).trans ?_
    refine lastPair_att x0 x1 x2 x3 x4 0 _ _ (evenV x4 x2 0 0 rfl) (evenS x1 x2 x3 0 0 rfl) _ _ _ _ (fun g => ?_) x z
      ((e z 0).trans h0) ((e z 1).trans h1) ((e z 2).trans h2)
    exact sinks_at x0 0 _ _ _ _ g (sink_at x0 _ ![0] rfl _ _) (sink_at x0 _ ![1] rfl _ _) (sink_at x0 _ ![2] rfl _ _) (sink_at x0 _ ![3] rfl _ _)
  · refine (congrFun (first_store0 _ _ _ _ _ _ _ _) x).trans ?_
    refine firstPair_att x0 x1 x2 x3 x4 0 _ _ (evenV x4 x2 0 0 rfl) (evenS x1 x2 x3 0 0 rfl) _ _ _ _ (fun g => ?_) x z
      ((e z 0).trans h0) ((e z 1).trans h1) ((e z 2).trans (h2.trans (Nat.zero_add _).symm))
    exact sinks_at x0 0 _ _ _ _ g (sink_at x0 _ ![0] rfl _ _) (sink_at x0 _ ![1] rfl _ _) (sink_at x0 _ ![2] rfl _ _) (sink_at x0 _ ![3] rfl _ _)

end Cert.KernelIdeal.Value
end
-- ==== Proof.Bridge.lean ====
module
public import proofs.«01_k».proof.Proof.Gen.KernelIdeal.Value
public import proofs.«01_k».proof.Proof.Block
public import Idealize.ShloMosaic.Lib.Pipeline.ValueKit
public import Idealize.ShloMosaic.Lib.Pipeline.ReadBack
public import Idealize.ShloMosaic.Lib.Pointwise

/-! # What the three result arrays hold -/

@[expose] public section

set_option maxRecDepth 16384

noncomputable section

namespace Cert.KernelIdeal.Value

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![0] ∧ win0_1.index t = ![t.val, 0, 0] ∧ win0_2.index t = ![t.val, 0, 0]
    ∧ win0_3.index t = ![t.val, 0, 0] ∧ win0_4.index t = ![t.val, 0, 0] ∧ win0_5.index t = ![t.val, 0] ∧ win0_6.index t = ![0, 0]
    ∧ win0_7.index t = ![t.val, 0] ∧ win0_8.index t = ![t.val, 0, 0] ∧ win0_9.index t = ![t.val, 0, 0] ∧ t.val < 4 :=
  (by decide +kernel : ∀ t : Fin grid0.N, _)

/-- Sequence `b` of block `t`. -/
def seq (t : Fin cfg0.N) (b : Fin 32) : Fin 128 := ⟨32 * t.val + b.val, by have := (idx t).2.2.2.2.2.2.2.2.2.2; omega⟩

/-- The row of token `r` of a sequence, of 512. -/
def tok (B : Fin 128) (r : Fin 8) (h : r.val < 4) : Fin 512 := ⟨B.val * 4 + r.val, by omega⟩

theorem x0_at (c : Dev nD) (t : Fin cfg0.N) (n : Fin 16) :
    iblk m c 0 t (ix1 n) = m ((c : Thread nD τ).loc main_arg0) (ix1 n) := by
  blk_ext [iblk, V, idx t]

/-- What the region's operands hold, made by the host lines before it. -/
theorem entry (c : Dev nD) :
    V m c main_v7 = pad S128x8x1024 ![0, 0, 0] ![0, 4, 0] ![0, 0, 0] (extf (F := Ideal) .f32 (shapeCast S128x4x1024 (m ((c : Thread nD τ).loc main_arg1)) shapeCasts_S512x1024_S128x4x1024) bitsLt_bf16_f32) (sitofp (F := Ideal) .f32 (constantI S_ 32 0#32)) pads_S128x4x1024_S128x8x1024_000_040_000 h_S_
    ∧ V m c main_v9 = pad S128x8x512 ![0, 0, 0] ![0, 4, 0] ![0, 0, 0] (shapeCast S128x4x512 (m ((c : Thread nD τ).loc main_arg2)) shapeCasts_S512x512_S128x4x512) (sitofp (F := Ideal) .f32 (constantI S_ 32 0#32)) pads_S128x4x512_S128x8x512_000_040_000 h_S_
    ∧ V m c main_v12 = shapeCast S128x256x128 (transpose S128x4x64x128 [0, 2, 3, 1] (shapeCast S128x128x4x64 (m ((c : Thread nD τ).loc main_arg4)) shapeCasts_S1x128x128x4x64_S128x128x4x64) transposes_S128x128x4x64_S128x4x64x128_0_2_3_1) shapeCasts_S128x4x64x128_S128x256x128
    ∧ V m c main_v15 = shapeCast S128x256x128 (transpose S128x4x64x128 [0, 2, 3, 1] (shapeCast S128x128x4x64 (m ((c : Thread nD τ).loc main_arg5)) shapeCasts_S1x128x128x4x64_S128x128x4x64) transposes_S128x128x4x64_S128x4x64x128_0_2_3_1) shapeCasts_S128x4x64x128_S128x256x128
    ∧ V m c main_v4 = shapeCast S1024x1024 (truncf (F := Ideal) .bf16 (pad S128x8x1024 ![0, 0, 0] ![0, 4, 0] ![0, 0, 0] (extf (F := Ideal) .f32 (shapeCast S128x4x1024 (m ((c : Thread nD τ).loc main_arg3)) shapeCasts_S512x1024_S128x4x1024) bitsLt_bf16_f32) (sitofp (F := Ideal) .f32 (constantI S_ 32 0#32)) pads_S128x4x1024_S128x8x1024_000_040_000 h_S_) bitsLt_bf16_f32) shapeCasts_S128x8x1024_S1024x1024
    ∧ V m c main_v16 = truncf (F := Ideal) .bf16 (m ((c : Thread nD τ).loc main_arg6)) bitsLt_bf16_f32 := by
  refine ⟨?_, ?_, ?_, ?_, ?_, ?_⟩
  all_goals
    unfold V
    simp only [hostOps0, hostOps0_1, hostOps0_2, hostOps0_3, hostOps0_4, hostOps0_5, hostOps0_6, List.flatten_cons,
      List.flatten_nil, List.append_nil, List.cons_append, List.nil_append]
    simp only [StableHlo.after_cons, StableHlo.after_nil]
    after_results_simp
    try rfl

theorem zero_at : (FloatOps.sitofp FTy.f32 0#32 : Ideal .f32) = (0 : EReal) := by
  change (((0#32 : BitVec 32).toInt : ℝ) : EReal) = 0
  simp

/-- Three-axis padding from four tokens to eight, read at a coordinate. -/
theorem pad_at3 (x : Vec Ideal S512x1024 .bf16) (B : Fin 128) (r : Fin 8) (n : Fin 1024) :
    pad S128x8x1024 ![0, 0, 0] ![0, 4, 0] ![0, 0, 0] (extf (F := Ideal) .f32 (shapeCast S128x4x1024 x shapeCasts_S512x1024_S128x4x1024) bitsLt_bf16_f32) (sitofp (F := Ideal) .f32 (constantI S_ 32 0#32)) pads_S128x4x1024_S128x8x1024_000_040_000 h_S_ (ix3 B r n)
      = if h : r.val < 4 then x (ix2 (tok B r h) n) else (0 : EReal) := by
  pointwise
  rw [zero_at]; rfl

theorem pad_at2 (x : Vec Ideal S512x512 .f32) (B : Fin 128) (r : Fin 8) (n : Fin 512) :
    pad S128x8x512 ![0, 0, 0] ![0, 4, 0] ![0, 0, 0] (shapeCast S128x4x512 x shapeCasts_S512x512_S128x4x512) (sitofp (F := Ideal) .f32 (constantI S_ 32 0#32)) pads_S128x4x512_S128x8x512_000_040_000 h_S_ (ix3 B r n)
      = if h : r.val < 4 then x (ix2 (tok B r h) n) else (0 : EReal) := by
  pointwise
  rw [zero_at]; rfl

theorem turn_at (x : Vec Ideal S1x128x128x4x64 .f32) (B : Fin 128) (l : Fin 256) (s : Fin 128) :
    shapeCast S128x256x128 (transpose S128x4x64x128 [0, 2, 3, 1] (shapeCast S128x128x4x64 x shapeCasts_S1x128x128x4x64_S128x128x4x64) transposes_S128x128x4x64_S128x4x64x128_0_2_3_1) shapeCasts_S128x4x64x128_S128x256x128 (ix3 B l s)
      = x (ix5 0 B s ⟨l.val / 64, by omega⟩ ⟨l.val % 64, by omega⟩) := by
  pointwise

theorem emb_at (t : Fin cfg0.N) :
    (∀ (b : Fin 32) (r : Fin 8) (n : Fin 1024), ((View.whole main_v7).slice ((win0 1).rect t)).emb (ix3 b r n) = ix3 (seq t b) r n)
    ∧ (∀ (b : Fin 32) (r : Fin 8) (n : Fin 512), ((View.whole main_v9).slice ((win0 2).rect t)).emb (ix3 b r n) = ix3 (seq t b) r n)
    ∧ (∀ (b : Fin 32) (r : Fin 256) (n : Fin 128), ((View.whole main_v12).slice ((win0 3).rect t)).emb (ix3 b r n) = ix3 (seq t b) r n)
    ∧ (∀ (b : Fin 32) (r : Fin 256) (n : Fin 128), ((View.whole main_v15).slice ((win0 4).rect t)).emb (ix3 b r n) = ix3 (seq t b) r n)
    ∧ (∀ (q n : Fin 1024), ((View.whole main_v16).slice ((win0 6).rect t)).emb (ix2 q n) = ix2 q n) := by
  refine ⟨?_, ?_, ?_, ?_, ?_⟩
  all_goals
    intros
    try blk_ext [idx t, seq]

theorem x1_at (c : Dev nD) (t : Fin cfg0.N) (b : Fin 32) (r : Fin 8) (n : Fin 1024) :
    iblk m c 1 t (ix3 b r n) = if h : r.val < 4 then m ((c : Thread nD τ).loc main_arg1) (ix2 (tok (seq t b) r h) n) else (0 : EReal) :=
  (congrArg _ ((emb_at t).1 b r n)).trans ((congrFun (entry m c).1 _).trans (pad_at3 _ _ _ _))

theorem x2_at (c : Dev nD) (t : Fin cfg0.N) (b : Fin 32) (r : Fin 8) (n : Fin 512) :
    iblk m c 2 t (ix3 b r n) = if h : r.val < 4 then m ((c : Thread nD τ).loc main_arg2) (ix2 (tok (seq t b) r h) n) else (0 : EReal) :=
  (congrArg _ ((emb_at t).2.1 b r n)).trans ((congrFun (entry m c).2.1 _).trans (pad_at2 _ _ _ _))

theorem x3_at (c : Dev nD) (t : Fin cfg0.N) (b : Fin 32) (l : Fin 256) (s : Fin 128) :
    iblk m c 3 t (ix3 b l s) = m ((c : Thread nD τ).loc main_arg4) (ix5 0 (seq t b) s ⟨l.val / 64, by omega⟩ ⟨l.val % 64, by omega⟩) :=
  (congrArg _ ((emb_at t).2.2.1 b l s)).trans ((congrFun (entry m c).2.2.1 _).trans (turn_at _ _ _ _))

theorem x4_at (c : Dev nD) (t : Fin cfg0.N) (b : Fin 32) (l : Fin 256) (s : Fin 128) :
    iblk m c 4 t (ix3 b l s) = m ((c : Thread nD τ).loc main_arg5) (ix5 0 (seq t b) s ⟨l.val / 64, by omega⟩ ⟨l.val % 64, by omega⟩) :=
  (congrArg _ ((emb_at t).2.2.2.1 b l s)).trans ((congrFun (entry m c).2.2.2.1 _).trans (turn_at _ _ _ _))

theorem x6_at (c : Dev nD) (t : Fin cfg0.N) (q n : Fin 1024) :
    iblk m c 6 t (ix2 q n) = m ((c : Thread nD τ).loc main_arg6) (ix2 q n) :=
  (congrArg _ ((emb_at t).2.2.2.2 q n)).trans (congrFun (entry m c).2.2.2.2.2 _)

/-- The gate rows laid out eight to a sequence. -/
theorem gate_at (y : Vec Ideal S128x8x1024 .f32) (B : Fin 128) (r : Fin 8) (n : Fin 1024) :
    shapeCast S1024x1024 (truncf (F := Ideal) .bf16 y bitsLt_bf16_f32) shapeCasts_S128x8x1024_S1024x1024
      (ix2 ⟨8 * B.val + r.val, by omega⟩ n) = y (ix3 B r n) := by
  pointwise

theorem x5_at (c : Dev nD) (t : Fin cfg0.N) (b : Fin 32) (r : Fin 8) (n : Fin 1024) :
    iblk m c 5 t (ix2 ⟨8 * b.val + r.val, by omega⟩ n) = if h : r.val < 4 then m ((c : Thread nD τ).loc main_arg3) (ix2 (tok (seq t b) r h) n) else (0 : EReal) := by
  have e : ((View.whole main_v4).slice ((win0 5).rect t)).emb (ix2 ⟨8 * b.val + r.val, by omega⟩ n)
      = ix2 ⟨8 * (seq t b).val + r.val, by omega⟩ n := by
    blk_ext [idx t, seq]
  exact (congrArg _ e).trans ((congrFun (entry m c).2.2.2.2.1 _).trans ((gate_at _ _ _ _).trans (pad_at3 _ _ _ _)))

/-- Key row `k` of sequence `B`: the 128 kept rows, then the 4 new ones. -/
def rowArr (p : Fin 2) (cache : Vec Ideal S1x128x128x4x64 .f32) (kv : Vec Ideal S512x512 .f32) (B : Fin 128) (k : Fin 132) (l : Fin 256) : EReal :=
  if h : k.val < 128 then cache (ix5 0 B ⟨k.val, h⟩ ⟨l.val / 64, by omega⟩ ⟨l.val % 64, by omega⟩)
  else kv (ix2 ⟨B.val * 4 + (k.val - 128), by omega⟩ ⟨256 * p.val + l.val, by omega⟩)

theorem row_k (c : Dev nD) (t : Fin cfg0.N) (b : Fin 32) (k : Fin 136) (l : Fin 256) :
    rowAt 0 (iblk m c 3 t) (iblk m c 2 t) b k l
      = if h : k.val < 132 then rowArr 0 (m ((c : Thread nD τ).loc main_arg4)) (m ((c : Thread nD τ).loc main_arg2)) (seq t b) ⟨k.val, h⟩ l else 0 := by
  unfold rowAt rowArr
  by_cases h : k.val < 128
  · rw [dif_pos h, dif_pos (by omega), dif_pos h, x3_at]
  · rw [dif_neg h, x2_at]
    by_cases h' : k.val < 132
    · rw [dif_pos (show (⟨k.val - 128, by omega⟩ : Fin 8).val < 4 by simp; omega), dif_pos h', dif_neg h]; rfl
    · rw [dif_neg (show ¬(⟨k.val - 128, by omega⟩ : Fin 8).val < 4 by simp; omega), dif_neg h']

theorem row_v (c : Dev nD) (t : Fin cfg0.N) (b : Fin 32) (k : Fin 136) (l : Fin 256) :
    rowAt 1 (iblk m c 4 t) (iblk m c 2 t) b k l
      = if h : k.val < 132 then rowArr 1 (m ((c : Thread nD τ).loc main_arg5)) (m ((c : Thread nD τ).loc main_arg2)) (seq t b) ⟨k.val, h⟩ l else 0 := by
  unfold rowAt rowArr
  by_cases h : k.val < 128
  · rw [dif_pos h, dif_pos (by omega), dif_pos h, x4_at]
  · rw [dif_neg h, x2_at]
    by_cases h' : k.val < 132
    · rw [dif_pos (show (⟨k.val - 128, by omega⟩ : Fin 8).val < 4 by simp; omega), dif_pos h', dif_neg h]; rfl
    · rw [dif_neg (show ¬(⟨k.val - 128, by omega⟩ : Fin 8).val < 4 by simp; omega), dif_neg h']

/-- The last 128 of a sequence's 132 rows. -/
def window (p : Fin 2) (cache : Vec Ideal S1x128x128x4x64 .f32) (kv : Vec Ideal S512x512 .f32) : Vec Ideal S128x128x256 .f32 :=
  fun y => rowArr p cache kv (y 0) ⟨4 + (y 1).val, by have := (y 1).isLt; simp at this; omega⟩ (y 2)

theorem index3 {n0 n1 n2 : Nat} (y : Shape.Idx (Shape.mk 3 ![n0, n1, n2])) : y = ix3 (y 0) (y 1) (y 2) := by
  funext a; fin_cases a <;> rfl

theorem final8 (c : Dev nD) :
    (dats m 0 c).arrAt 8 cfg0.N = window 0 (m ((c : Thread nD τ).loc main_arg4)) (m ((c : Thread nD τ).loc main_arg2)) := by
  refine (dats m 0 c).arrAt_eq_of_covers 8 _ (by decide +kernel) fun t _ y => ?_
  blk_simp
  rw [after0_8]
  simp only [outsAt0]
  obtain ⟨b, s, l, rfl⟩ : ∃ (b : Fin 32) (s : Fin 128) (l : Fin 256), y = ix3 b s l := ⟨y 0, y 1, y 2, by blk_ext⟩
  have e : (win0_8.blk t).view.emb (ix3 b s l) = ix3 (seq t b) s l := by blk_ext [idx t, seq]
  rw [out8_at, row_k m c t b _ l, dif_pos (show (⟨4 + s.val, by omega⟩ : Fin 136).val < 132 by simp; omega), e]
  rfl

theorem final9 (c : Dev nD) :
    (dats m 0 c).arrAt 9 cfg0.N = window 1 (m ((c : Thread nD τ).loc main_arg5)) (m ((c : Thread nD τ).loc main_arg2)) := by
  refine (dats m 0 c).arrAt_eq_of_covers 9 _ (by decide +kernel) fun t _ y => ?_
  blk_simp
  rw [after0_9]
  simp only [outsAt0]
  obtain ⟨b, s, l, rfl⟩ : ∃ (b : Fin 32) (s : Fin 128) (l : Fin 256), y = ix3 b s l := ⟨y 0, y 1, y 2, by blk_ext⟩
  have e : (win0_9.blk t).view.emb (ix3 b s l) = ix3 (seq t b) s l := by blk_ext [idx t, seq]
  rw [out9_at, row_v m c t b _ l, dif_pos (show (⟨4 + s.val, by omega⟩ : Fin 136).val < 132 by simp; omega), e]
  rfl

/-- A query's score against key `k`, the four last keys being padding. -/
def scoreArr (q : Vec Ideal S512x1024 .bf16) (cache : Vec Ideal S1x128x128x4x64 .f32) (kv : Vec Ideal S512x512 .f32)
    (B : Fin 128) (r : Fin 8) (h : r.val < 4) (j g : Fin 4) (k : Fin 136) : EReal :=
  ∑ d : Fin 64, q (ix2 (tok B r h) (qcol j g d)) * (if h : k.val < 132 then rowArr 0 cache kv B ⟨k.val, h⟩ (col j d) else 0 : EReal)

/-- One entry of a head's average. -/
def headArr (sinks : Vec Ideal S16 .f32) (q : Vec Ideal S512x1024 .bf16) (ck cv : Vec Ideal S1x128x128x4x64 .f32) (kv : Vec Ideal S512x512 .f32)
    (B : Fin 128) (r : Fin 8) (h : r.val < 4) (j g : Fin 4) (d : Fin 64) : EReal :=
  Softmax.byExp2 (seen r) (scoreArr q ck kv B r h j g) (sinks (ix1 (qhead j g)) * (((Real.log 2)⁻¹ : ℝ) : EReal))
    (fun k => if h : k.val < 132 then rowArr 1 cv kv B ⟨k.val, h⟩ (col j d) else 0)

/-- The gated attention output, eight rows to a sequence. -/
def outArr (sinks : Vec Ideal S16 .f32) (q ga : Vec Ideal S512x1024 .bf16) (ck cv : Vec Ideal S1x128x128x4x64 .f32) (kv : Vec Ideal S512x512 .f32)
    (wo : Vec Ideal S1024x1024 .f32) (B : Fin 128) (r : Fin 8) (n : Fin 1024) : EReal :=
  if h : r.val < 4 then ga (ix2 (tok B r h) n) * ∑ x : Fin 1024,
    headArr sinks q ck cv kv B r h ⟨x.val / 256, by omega⟩ ⟨x.val / 64 % 4, by omega⟩ ⟨x.val % 64, by omega⟩ * wo (ix2 x n)
  else 0

/-- The same as one array of 1024 rows. -/
def outRows (sinks : Vec Ideal S16 .f32) (q ga : Vec Ideal S512x1024 .bf16) (ck cv : Vec Ideal S1x128x128x4x64 .f32) (kv : Vec Ideal S512x512 .f32)
    (wo : Vec Ideal S1024x1024 .f32) : Vec Ideal S1024x1024 .f32 := fun y =>
  outArr sinks q ga ck cv kv wo ⟨(y 0).val / 8, by have := (y 0).isLt; simp at this; omega⟩ ⟨(y 0).val % 8, by omega⟩ (y 1)

theorem outRows_at (sinks : Vec Ideal S16 .f32) (q ga : Vec Ideal S512x1024 .bf16) (ck cv : Vec Ideal S1x128x128x4x64 .f32) (kv : Vec Ideal S512x512 .f32)
    (wo : Vec Ideal S1024x1024 .f32) (B : Fin 128) (r : Fin 8) (n : Fin 1024) :
    outRows sinks q ga ck cv kv wo (ix2 ⟨8 * B.val + r.val, by omega⟩ n) = outArr sinks q ga ck cv kv wo B r n := by
  have e1 : (⟨(8 * B.val + r.val) / 8, by omega⟩ : Fin 128) = B := Fin.ext (by show (8 * B.val + r.val) / 8 = B.val; omega)
  have e2 : (⟨(8 * B.val + r.val) % 8, by omega⟩ : Fin 8) = r := Fin.ext (by show (8 * B.val + r.val) % 8 = r.val; omega)
  show outArr _ _ _ _ _ _ _ ⟨(8 * B.val + r.val) / 8, by omega⟩ ⟨(8 * B.val + r.val) % 8, by omega⟩ n = _
  rw [e1, e2]

/-- A block's attention entry from what its operands hold. -/
theorem att_of (x0 : Vec Ideal S16 .f32) (x1 : Vec Ideal S32x8x1024 .f32) (x2 : Vec Ideal S32x8x512 .f32) (x3 x4 : Vec Ideal S32x256x128 .f32)
    (sinks : Vec Ideal S16 .f32) (q : Vec Ideal S512x1024 .bf16) (ck cv : Vec Ideal S1x128x128x4x64 .f32) (kv : Vec Ideal S512x512 .f32)
    (B : Fin 128) (b : Fin 32) (r : Fin 8) (h : r.val < 4) (x : Fin 1024)
    (h0 : ∀ n, x0 (ix1 n) = sinks (ix1 n))
    (h1 : ∀ n, x1 (ix3 b r n) = if h : r.val < 4 then q (ix2 (tok B r h) n) else (0 : EReal))
    (hk : ∀ k l, rowAt 0 x3 x2 b k l = if h : k.val < 132 then rowArr 0 ck kv B ⟨k.val, h⟩ l else 0)
    (hv : ∀ k l, rowAt 1 x4 x2 b k l = if h : k.val < 132 then rowArr 1 cv kv B ⟨k.val, h⟩ l else 0) :
    att x0 x1 x2 x3 x4 (ix3 b r x) = headArr sinks q ck cv kv B r h ⟨x.val / 256, by omega⟩ ⟨x.val / 64 % 4, by omega⟩ ⟨x.val % 64, by omega⟩ := by
  have hs : ∀ j g, scoreAt x1 x2 x3 b r j g = scoreArr q ck kv B r h j g := by
    intro j g
    funext k
    unfold scoreAt scoreArr
    refine Finset.sum_congr rfl fun d _ => ?_
    rw [hk, h1]
    exact congrArg (· * _) (dif_pos h)
  show attAt x0 x1 x2 x3 x4 b r ⟨x.val / 256, by omega⟩ ⟨x.val / 64 % 4, by omega⟩ ⟨x.val % 64, by omega⟩ = _
  unfold attAt headArr
  rw [hs, h0]
  exact congrArg (Softmax.byExp2 (seen r) _ _) (funext fun k => hv k _)

/-- A block's output entry from what its operands hold. -/
theorem block_of (x0 : Vec Ideal S16 .f32) (x1 : Vec Ideal S32x8x1024 .f32) (x2 : Vec Ideal S32x8x512 .f32) (x3 x4 : Vec Ideal S32x256x128 .f32)
    (x6 : Vec Ideal S1024x1024 .bf16)
    (sinks : Vec Ideal S16 .f32) (q ga : Vec Ideal S512x1024 .bf16) (ck cv : Vec Ideal S1x128x128x4x64 .f32) (kv : Vec Ideal S512x512 .f32)
    (wo : Vec Ideal S1024x1024 .f32) (B : Fin 128) (b : Fin 32) (r : Fin 8) (n : Fin 1024)
    (h0 : ∀ n, x0 (ix1 n) = sinks (ix1 n))
    (h1 : ∀ n, x1 (ix3 b r n) = if h : r.val < 4 then q (ix2 (tok B r h) n) else (0 : EReal))
    (hk : ∀ k l, rowAt 0 x3 x2 b k l = if h : k.val < 132 then rowArr 0 ck kv B ⟨k.val, h⟩ l else 0)
    (hv : ∀ k l, rowAt 1 x4 x2 b k l = if h : k.val < 132 then rowArr 1 cv kv B ⟨k.val, h⟩ l else 0)
    (h6 : ∀ x, x6 (ix2 x n) = wo (ix2 x n)) :
    ((if h : r.val < 4 then ga (ix2 (tok B r h) n) else (0 : EReal)) * ∑ x : Fin 1024, att x0 x1 x2 x3 x4 (ix3 b r x) * x6 (ix2 x n) : EReal)
      = outArr sinks q ga ck cv kv wo B r n := by
  unfold outArr
  by_cases h : r.val < 4
  · rw [dif_pos h, dif_pos h]
    refine congrArg _ (Finset.sum_congr rfl fun x _ => ?_)
    rw [h6, att_of x0 x1 x2 x3 x4 sinks q ck cv kv B b r h x h0 h1 hk hv]
  · rw [dif_neg h, dif_neg h, zero_mul]

theorem final7 (c : Dev nD) :
    (dats m 0 c).arrAt 7 cfg0.N = outRows (m ((c : Thread nD τ).loc main_arg0)) (m ((c : Thread nD τ).loc main_arg1))
      (m ((c : Thread nD τ).loc main_arg3)) (m ((c : Thread nD τ).loc main_arg4)) (m ((c : Thread nD τ).loc main_arg5)) (m ((c : Thread nD τ).loc main_arg2))
      (m ((c : Thread nD τ).loc main_arg6)) := by
  refine (dats m 0 c).arrAt_eq_of_covers 7 _ (by decide +kernel) fun t _ y => ?_
  blk_simp
  rw [after0_7]
  simp only [outsAt0]
  obtain ⟨a, n, rfl⟩ : ∃ (a : Fin 256) (n : Fin 1024), y = ix2 a n := ⟨y 0, y 1, by blk_ext⟩
  obtain ⟨b, r, rfl⟩ : ∃ (b : Fin 32) (r : Fin 8), a = ⟨8 * b.val + r.val, by omega⟩ :=
    ⟨⟨a.val / 8, by omega⟩, ⟨a.val % 8, by omega⟩, by ext; simp; omega⟩
  have e : (win0_7.blk t).view.emb (ix2 ⟨8 * b.val + r.val, by omega⟩ n) = ix2 ⟨8 * (seq t b).val + r.val, by omega⟩ n := by blk_ext [idx t, seq]
  rw [out7_at, e, x5_at, outRows_at]
  exact block_of _ _ _ _ _ _ _ _ _ _ _ _ _ (seq t b) b r n (x0_at m c t) (x1_at m c t b r) (row_k m c t b) (row_v m c t b) (fun x => x6_at m c t x n)

end Cert.KernelIdeal.Value
end
-- ==== Proof.Reference.lean ====
module
public import proofs.«01_k».proof.Proof.Gen.ReferenceIdeal.Run
public import proofs.«01_k».proof.Proof.Softmax
public import Idealize.ShloMosaic.Lib.Pointwise

/-! # The reference's results read at an index -/

@[expose] public section

set_option maxRecDepth 16384

noncomputable section

namespace Cert.ReferenceIdeal.Value

open Cert.ReferenceIdeal Cert.ReferenceIdeal.Gen Idealize.ShloMosaic Idealize.ShloMosaic.TcCoe Idealize.SL.Sem

/-- The kept rows and the new ones, one after another. -/
def joined (cache : Vec Ideal S1x128x128x4x64 .f32) (half : Vec Ideal S512x256 .f32) : Vec Ideal S128x132x4x64 .f32 :=
  concatenate S128x132x4x64 1 [⟨S128x128x4x64, (shapeCast _ cache shapeCasts_S1x128x128x4x64_S128x128x4x64)⟩, ⟨S128x4x4x64, (shapeCast _ half shapeCasts_S512x256_S128x4x4x64)⟩] concatenates_S128x128x4x64_S128x4x4x64_S128x132x4x64_d1

theorem joined_at (cache : Vec Ideal S1x128x128x4x64 .f32) (half : Vec Ideal S512x256 .f32) (B : Fin 128) (k : Fin 132) (j : Fin 4) (d : Fin 64) :
    joined cache half (ix4 B k j d) = if h : k.val < 128 then cache (ix5 0 B ⟨k.val, h⟩ j d)
      else half (ix2 ⟨B.val * 4 + (k.val - 128), by omega⟩ ⟨j.val * 64 + d.val, by omega⟩) := by
  unfold joined
  pointwise

theorem ofBits_bot : Ideal.ofBits FTy.f32 4286578688#32 = ⊥ := by simp [Ideal.ofBits, Ideal.ieee]

/-- Which keys a token sees. -/
def visible : Vec Ideal S4x132 .i1 :=
  andi (cmpi .sge (subi (broadcastInDim S4x132 ![0, 1] bcast_S4x1_S4x132_0_1 (broadcastInDim S4x1 ![0] bcast_S4_S4x1_0 (addi (broadcastInDim S4 ![] bcast_S_S4 (constantI S_ 32 16384#32)) (iotaInDim S4 32 0)))) (broadcastInDim S4x132 ![0, 1] bcast_S1x132_S4x132_0_1 (broadcastInDim S1x132 ![1] bcast_S132_S1x132_1 (addi (broadcastInDim S132 ![] bcast_S_S132 (constantI S_ 32 16256#32)) (iotaInDim S132 32 0))))) (broadcastInDim S4x132 ![] bcast_S_S4x132 (constantI S_ 32 0#32))) (cmpi .slt (subi (broadcastInDim S4x132 ![0, 1] bcast_S4x1_S4x132_0_1 (broadcastInDim S4x1 ![0] bcast_S4_S4x1_0 (addi (broadcastInDim S4 ![] bcast_S_S4 (constantI S_ 32 16384#32)) (iotaInDim S4 32 0)))) (broadcastInDim S4x132 ![0, 1] bcast_S1x132_S4x132_0_1 (broadcastInDim S1x132 ![1] bcast_S132_S1x132_1 (addi (broadcastInDim S132 ![] bcast_S_S132 (constantI S_ 32 16256#32)) (iotaInDim S132 32 0))))) (broadcastInDim S4x132 ![] bcast_S_S4x132 (constantI S_ 32 128#32)))

def sees (r : Fin 4) (k : Fin 132) : Bool := decide (r.val < k.val) && decide (k.val ≤ r.val + 128)

theorem visible_at (r : Fin 4) (k : Fin 132) : visible (ix2 r k) = bif sees r k then 1#1 else 0#1 := by
  unfold visible
  pointwise
  revert r k
  decide +kernel

/-- The masked scores. -/
def scores (q : FVec Ideal S512x1024 .bf16) (kk : FVec Ideal S128x132x4x64 .f32) : FVec Ideal S128x4x4x4x132 .f32 :=
  select (broadcastInDim S128x4x4x4x132 ![3, 4] bcast_S4x132_S128x4x4x4x132_3_4 visible) (mulf (transpose S128x4x4x4x132 [0, 1, 4, 3, 2] (Host.dotGeneral dot_S128x132x4x64_S128x4x4x4x64_S128x4x132x4x4_3_4_1_13_02_02 none kk (shapeCast S128x4x4x4x64 (mulf (extf .f32 q bitsLt_bf16_f32) (broadcastInDim S512x1024 ![] bcast_S_S512x1024 (mulf (constant (F := Ideal) S_ .f32 0x41000000#32) (Host.log (constant (F := Ideal) S_ .f32 0x40000000#32))))) shapeCasts_S512x1024_S128x4x4x4x64)) transposes_S128x4x132x4x4_S128x4x4x4x132_0_1_4_3_2) (broadcastInDim S128x4x4x4x132 ![] bcast_S_S128x4x4x4x132 (constant (F := Ideal) S_ .f32 0x3E000000#32))) (broadcastInDim S128x4x4x4x132 ![] bcast_S_S128x4x4x4x132 (constant (F := Ideal) S_ .f32 0xFF800000#32))

theorem scores_at (q : Vec Ideal S512x1024 .bf16) (kk : Vec Ideal S128x132x4x64 .f32) (B : Fin 128) (j g r : Fin 4) (k : Fin 132) :
    scores q kk (ix5 B j g r k) = if sees r k then (∑ d : Fin 64, kk (ix4 B k j d) *
      (q (ix2 ⟨B.val * 4 + r.val, by omega⟩ ⟨j.val * 256 + g.val * 64 + d.val, by omega⟩) *
        (Ideal.ofBits .f32 0x41000000#32 * Ideal.log (Ideal.ofBits .f32 0x40000000#32)))) * Ideal.ofBits .f32 0x3E000000#32 else ⊥ := by
  unfold scores
  pointwise
  rw [visible_at, ofBits_bot]
  cases sees r k <;> rfl

/-- The weights. -/
def probs (s : FVec Ideal S128x4x4x4x132 .f32) (sinks : FVec Ideal S16 .f32) : FVec Ideal S128x4x4x4x132 .f32 :=
  Host.divf (Host.exp (subf s (broadcastInDim S128x4x4x4x132 ![0, 1, 2, 3, 4] bcast_S128x4x4x4x1_S128x4x4x4x132_0_1_2_3_4 (maximumf (broadcastInDim S128x4x4x4x1 ![0, 1, 2, 3] bcast_S128x4x4x4_S128x4x4x4x1_0_1_2_3 (Host.reduce FloatOps.maximumf s (constant (F := Ideal) S_ .f32 0xFF800000#32) reducesTo_S128x4x4x4x132_S128x4x4x4_d4 h_S_)) (broadcastInDim S128x4x4x4x1 ![0, 1, 2, 3, 4] bcast_S1x4x4x1x1_S128x4x4x4x1_0_1_2_3_4 (broadcastInDim S1x4x4x1x1 ![1, 2, 3, 4] bcast_S4x4x1x1_S1x4x4x1x1_1_2_3_4 (shapeCast S4x4x1x1 sinks shapeCasts_S16_S4x4x1x1)))))))
    (broadcastInDim S128x4x4x4x132 ![0, 1, 2, 3, 4] bcast_S128x4x4x4x1_S128x4x4x4x132_0_1_2_3_4 (addf (broadcastInDim S128x4x4x4x1 ![0, 1, 2, 3] bcast_S128x4x4x4_S128x4x4x4x1_0_1_2_3 (Host.reduceAdd (Host.exp (subf s (broadcastInDim S128x4x4x4x132 ![0, 1, 2, 3, 4] bcast_S128x4x4x4x1_S128x4x4x4x132_0_1_2_3_4 (maximumf (broadcastInDim S128x4x4x4x1 ![0, 1, 2, 3] bcast_S128x4x4x4_S128x4x4x4x1_0_1_2_3 (Host.reduce FloatOps.maximumf s (constant (F := Ideal) S_ .f32 0xFF800000#32) reducesTo_S128x4x4x4x132_S128x4x4x4_d4 h_S_)) (broadcastInDim S128x4x4x4x1 ![0, 1, 2, 3, 4] bcast_S1x4x4x1x1_S128x4x4x4x1_0_1_2_3_4 (broadcastInDim S1x4x4x1x1 ![1, 2, 3, 4] bcast_S4x4x1x1_S1x4x4x1x1_1_2_3_4 (shapeCast S4x4x1x1 sinks shapeCasts_S16_S4x4x1x1))))))) (constant (F := Ideal) S_ .f32 0x00000000#32) reducesTo_S128x4x4x4x132_S128x4x4x4_d4 h_S_)) (Host.exp (subf (broadcastInDim S128x4x4x4x1 ![0, 1, 2, 3, 4] bcast_S1x4x4x1x1_S128x4x4x4x1_0_1_2_3_4 (broadcastInDim S1x4x4x1x1 ![1, 2, 3, 4] bcast_S4x4x1x1_S1x4x4x1x1_1_2_3_4 (shapeCast S4x4x1x1 sinks shapeCasts_S16_S4x4x1x1))) (maximumf (broadcastInDim S128x4x4x4x1 ![0, 1, 2, 3] bcast_S128x4x4x4_S128x4x4x4x1_0_1_2_3 (Host.reduce FloatOps.maximumf s (constant (F := Ideal) S_ .f32 0xFF800000#32) reducesTo_S128x4x4x4x132_S128x4x4x4_d4 h_S_)) (broadcastInDim S128x4x4x4x1 ![0, 1, 2, 3, 4] bcast_S1x4x4x1x1_S128x4x4x4x1_0_1_2_3_4 (broadcastInDim S1x4x4x1x1 ![1, 2, 3, 4] bcast_S4x4x1x1_S1x4x4x1x1_1_2_3_4 (shapeCast S4x4x1x1 sinks shapeCasts_S16_S4x4x1x1))))))))

theorem probs_at (s : Vec Ideal S128x4x4x4x132 .f32) (sinks : Vec Ideal S16 .f32) (B : Fin 128) (j g r : Fin 4) (k : Fin 132) :
    probs s sinks (ix5 B j g r k)
      = Ideal.div (Ideal.exp (s (ix5 B j g r k) - max (Finset.univ.fold max ⊥ fun x => s (ix5 B j g r x)) (sinks (ix1 ⟨j.val * 4 + g.val, by omega⟩))))
          ((∑ x, Ideal.exp (s (ix5 B j g r x) - max (Finset.univ.fold max ⊥ fun x => s (ix5 B j g r x)) (sinks (ix1 ⟨j.val * 4 + g.val, by omega⟩))))
            + Ideal.exp (sinks (ix1 ⟨j.val * 4 + g.val, by omega⟩) - max (Finset.univ.fold max ⊥ fun x => s (ix5 B j g r x)) (sinks (ix1 ⟨j.val * 4 + g.val, by omega⟩)))) := by
  unfold probs
  pointwise
  rw [ofBits_bot]

/-- The averages, the heads of a token side by side. -/
def averaged (vv : FVec Ideal S128x132x4x64 .f32) (p : FVec Ideal S128x4x4x4x132 .f32) : FVec Ideal S128x4x1024 .f32 :=
  shapeCast S128x4x1024 (transpose S128x4x4x4x64 [0, 4, 1, 3, 2] (Host.dotGeneral dot_S128x132x4x64_S128x4x4x4x132_S128x4x64x4x4_1_4_3_23_02_01 none vv p) transposes_S128x4x64x4x4_S128x4x4x4x64_0_4_1_3_2) shapeCasts_S128x4x4x4x64_S128x4x1024

theorem averaged_at (vv : Vec Ideal S128x132x4x64 .f32) (p : Vec Ideal S128x4x4x4x132 .f32) (B : Fin 128) (r : Fin 4) (x : Fin 1024) :
    averaged vv p (ix3 B r x) = ∑ k : Fin 132, vv (ix4 B k ⟨x.val / 256, by omega⟩ ⟨x.val % 64, by omega⟩)
      * p (ix5 B ⟨x.val / 256, by omega⟩ ⟨x.val / 64 % 4, by omega⟩ r k) := by
  unfold averaged
  pointwise

/-- The gated projection. -/
def gated (ga : FVec Ideal S512x1024 .bf16) (o : FVec Ideal S128x4x1024 .f32) (wo : FVec Ideal S1024x1024 .f32) : FVec Ideal S1024x1024 .f32 :=
  shapeCast S1024x1024 (pad S128x8x1024 ![0, 0, 0] ![0, 4, 0] ![0, 0, 0] (mulf (shapeCast S128x4x1024 (extf .f32 ga bitsLt_bf16_f32) shapeCasts_S512x1024_S128x4x1024) (Host.dotGeneral dot_S128x4x1024_S1024x1024_S128x4x1024_2_0_01_1_n_n none o wo)) (sitofp (F := Ideal) .f32 (constantI S_ 32 0#32)) pads_S128x4x1024_S128x8x1024_000_040_000 h_S_) shapeCasts_S128x8x1024_S1024x1024

theorem gated_at (ga : Vec Ideal S512x1024 .bf16) (o : Vec Ideal S128x4x1024 .f32) (wo : Vec Ideal S1024x1024 .f32) (B : Fin 128) (r : Fin 8) (n : Fin 1024) :
    gated ga o wo (ix2 ⟨8 * B.val + r.val, by omega⟩ n)
      = if h : r.val < 4 then ga (ix2 ⟨B.val * 4 + r.val, by omega⟩ n) * ∑ x : Fin 1024, o (ix3 B ⟨r.val, h⟩ x) * wo (ix2 x n) else (0 : EReal) := by
  have h0 : (FloatOps.sitofp FTy.f32 0#32 : Ideal .f32) = (0 : EReal) := by
    change (((0#32 : BitVec 32).toInt : ℝ) : EReal) = 0
    simp
  unfold gated
  pointwise
  rw [h0]

theorem windows_at (kk : Vec Ideal S128x132x4x64 .f32) (B s : Fin 128) (l : Fin 256) :
    shapeCast S128x128x256 (extractStridedSlice S128x128x4x64 ![0, 4, 0, 0] kk slices_S128x132x4x64_S128x128x4x64_0_4_0_0) shapeCasts_S128x128x4x64_S128x128x256 (ix3 B s l)
      = kk (ix4 B ⟨4 + s.val, by omega⟩ ⟨l.val / 64, by omega⟩ ⟨l.val % 64, by omega⟩) := by
  pointwise

variable (m : (ℓ : Loc nD τ sig) → Buf (Elt Ideal) ℓ)

theorem res0_eq (c : Dev nD) : res_out0 m c
    = gated (m ((c.tc : Thread nD τ).loc main_arg3)) (averaged (joined (m ((c.tc : Thread nD τ).loc main_arg5)) (extractStridedSlice S512x256 ![0, 256] (m ((c.tc : Thread nD τ).loc main_arg2)) slices_S512x512_S512x256_0_256))
      (probs (scores (m ((c.tc : Thread nD τ).loc main_arg1)) (joined (m ((c.tc : Thread nD τ).loc main_arg4)) (extractStridedSlice S512x256 ![0, 0] (m ((c.tc : Thread nD τ).loc main_arg2)) slices_S512x512_S512x256_0_0))) (m ((c.tc : Thread nD τ).loc main_arg0)))) (m ((c.tc : Thread nD τ).loc main_arg6)) := rfl

end Cert.ReferenceIdeal.Value
end
-- ==== Proof.Match.lean ====
module
public import proofs.«01_k».proof.Proof.Bridge
public import proofs.«01_k».proof.Proof.Reference
public import proofs.«01_k».proof.Proof.Gen.Pre_finite

/-! # The kernel's arrays and the reference's are the same -/

@[expose] public section

set_option maxRecDepth 16384

noncomputable section

namespace Cert.Match

open Idealize.ShloMosaic Cert.KernelIdeal.Value
open Cert.KernelIdeal (S16 S512x1024 S512x512 S1x128x128x4x64 S1024x1024 S128x128x256)
open Cert.ReferenceIdeal (S128x132x4x64 S128x4x4x4x132 S128x4x1024 S512x256)
open Cert.ReferenceIdeal.Value (joined scores probs averaged gated sees)

theorem eight : Ideal.ofBits .f32 0x41000000#32 = ((8 : ℝ) : EReal) := by
  simp [Ideal.ofBits, Ideal.ieee]; rw [← EReal.coe_mul]; norm_num
theorem two : Ideal.ofBits .f32 0x40000000#32 = ((2 : ℝ) : EReal) := by
  simp [Ideal.ofBits, Ideal.ieee]; rw [← EReal.coe_mul]; norm_num
theorem eighth : Ideal.ofBits .f32 0x3E000000#32 = ((1 / 8 : ℝ) : EReal) := by
  simp [Ideal.ofBits, Ideal.ieee]; rw [← EReal.coe_mul]; norm_num
theorem log_two : Ideal.log ((2 : ℝ) : EReal) = ((Real.log 2 : ℝ) : EReal) := by
  show (if (2 : ℝ) ≤ 0 then (⊥ : EReal) else ((Real.log 2 : ℝ) : EReal)) = _
  rw [if_neg (by norm_num)]

/-- A number that passes both comparisons of the precondition is real. -/
theorem real_of (x : EReal) (h : ⊥ < x ∧ x < ⊤) : ∃ t : ℝ, x = (t : EReal) :=
  ⟨x.toReal, (EReal.coe_toReal h.2.ne h.1.ne').symm⟩

theorem halves (kv : Vec Ideal S512x512 .f32) (a : Fin 512) (b : Fin 256) :
    extractStridedSlice S512x256 ![0, 0] kv Cert.ReferenceIdeal.Gen.slices_S512x512_S512x256_0_0 (ix2 a b) = kv (ix2 a ⟨b.val, by omega⟩)
    ∧ extractStridedSlice S512x256 ![0, 256] kv Cert.ReferenceIdeal.Gen.slices_S512x512_S512x256_0_256 (ix2 a b) = kv (ix2 a ⟨256 + b.val, by omega⟩) := by
  constructor <;> pointwise

theorem keys_at (cache : Vec Ideal S1x128x128x4x64 .f32) (kv : Vec Ideal S512x512 .f32) (B : Fin 128) (k : Fin 132) (j : Fin 4) (d : Fin 64) :
    joined cache (extractStridedSlice S512x256 ![0, 0] kv Cert.ReferenceIdeal.Gen.slices_S512x512_S512x256_0_0) (ix4 B k j d) = rowArr 0 cache kv B k (col j d) := by
  have e1 : (⟨(col j d).val / 64, by omega⟩ : Fin 4) = j := Fin.ext (by show (64 * j.val + d.val) / 64 = j.val; omega)
  have e2 : (⟨(col j d).val % 64, by omega⟩ : Fin 64) = d := Fin.ext (by show (64 * j.val + d.val) % 64 = d.val; omega)
  rw [Cert.ReferenceIdeal.Value.joined_at]
  unfold rowArr
  by_cases h : k.val < 128
  · rw [dif_pos h, dif_pos h, e1, e2]
  · rw [dif_neg h, dif_neg h, (halves kv _ _).1]
    refine congrArg kv (congrArg (ix2 _) (Fin.ext ?_))
    show j.val * 64 + d.val = 256 * 0 + (64 * j.val + d.val); omega

theorem vals_at (cache : Vec Ideal S1x128x128x4x64 .f32) (kv : Vec Ideal S512x512 .f32) (B : Fin 128) (k : Fin 132) (j : Fin 4) (d : Fin 64) :
    joined cache (extractStridedSlice S512x256 ![0, 256] kv Cert.ReferenceIdeal.Gen.slices_S512x512_S512x256_0_256) (ix4 B k j d) = rowArr 1 cache kv B k (col j d) := by
  have e1 : (⟨(col j d).val / 64, by omega⟩ : Fin 4) = j := Fin.ext (by show (64 * j.val + d.val) / 64 = j.val; omega)
  have e2 : (⟨(col j d).val % 64, by omega⟩ : Fin 64) = d := Fin.ext (by show (64 * j.val + d.val) % 64 = d.val; omega)
  rw [Cert.ReferenceIdeal.Value.joined_at]
  unfold rowArr
  by_cases h : k.val < 128
  · rw [dif_pos h, dif_pos h, e1, e2]
  · rw [dif_neg h, dif_neg h, (halves kv _ _).2]
    refine congrArg kv (congrArg (ix2 _) (Fin.ext ?_))
    show 256 + (j.val * 64 + d.val) = 256 * 1 + (64 * j.val + d.val); omega

theorem col_split (l : Fin 256) : col ⟨l.val / 64, by omega⟩ ⟨l.val % 64, by omega⟩ = l :=
  Fin.ext (by show 64 * (l.val / 64) + l.val % 64 = l.val; omega)

theorem window_k (cache : Vec Ideal S1x128x128x4x64 .f32) (kv : Vec Ideal S512x512 .f32) (B s : Fin 128) (l : Fin 256) :
    joined cache (extractStridedSlice S512x256 ![0, 0] kv Cert.ReferenceIdeal.Gen.slices_S512x512_S512x256_0_0)
      (ix4 B ⟨4 + s.val, by omega⟩ ⟨l.val / 64, by omega⟩ ⟨l.val % 64, by omega⟩) = window 0 cache kv (ix3 B s l) := by
  rw [keys_at, col_split]; rfl

theorem window_v (cache : Vec Ideal S1x128x128x4x64 .f32) (kv : Vec Ideal S512x512 .f32) (B s : Fin 128) (l : Fin 256) :
    joined cache (extractStridedSlice S512x256 ![0, 256] kv Cert.ReferenceIdeal.Gen.slices_S512x512_S512x256_0_256)
      (ix4 B ⟨4 + s.val, by omega⟩ ⟨l.val / 64, by omega⟩ ⟨l.val % 64, by omega⟩) = window 1 cache kv (ix3 B s l) := by
  rw [vals_at, col_split]; rfl

/-- One head entry, as the kernel computes it and as the reference does. -/
theorem head_eq (sinks : Vec Ideal S16 .f32) (q : Vec Ideal S512x1024 .bf16) (ck cv : Vec Ideal S1x128x128x4x64 .f32) (kv : Vec Ideal S512x512 .f32)
    (h0 : ∀ i, ∃ t : ℝ, sinks i = (t : EReal)) (h1 : ∀ i, ∃ t : ℝ, q i = (t : EReal)) (h2 : ∀ i, ∃ t : ℝ, kv i = (t : EReal))
    (h4 : ∀ i, ∃ t : ℝ, ck i = (t : EReal))
    (B : Fin 128) (r : Fin 8) (h : r.val < 4) (j g : Fin 4) (d : Fin 64) :
    headArr sinks q ck cv kv B r h j g d
      = Softmax.byExp (sees ⟨r.val, h⟩) (fun k => (∑ d : Fin 64, rowArr 0 ck kv B k (col j d) *
          (q (ix2 (tok B r h) (qcol j g d)) * (((8 : ℝ) : EReal) * ((Real.log 2 : ℝ) : EReal)))) * ((1 / 8 : ℝ) : EReal))
          (sinks (ix1 (qhead j g))) (fun k => rowArr 1 cv kv B k (col j d)) := by
  have hK : ∀ k l, ∃ t : ℝ, rowArr 0 ck kv B k l = (t : EReal) := by
    intro k l; unfold rowArr; split
    · exact h4 _
    · exact h2 _
  choose K hK using hK
  choose Q hQ using h1
  obtain ⟨z, hz⟩ := h0 (ix1 (qhead j g))
  let T : Fin 136 → ℝ := fun k => ∑ d : Fin 64, Q (ix2 (tok B r h) (qcol j g d)) * (if h : k.val < 132 then K ⟨k.val, h⟩ (col j d) else 0)
  have hT : ∀ k, scoreArr q ck kv B r h j g k = (T k : EReal) := by
    intro k
    unfold scoreArr
    rw [Softmax.coe_sum]
    refine Finset.sum_congr rfl fun d _ => ?_
    rw [EReal.coe_mul, hQ]
    by_cases hk : k.val < 132
    · rw [dif_pos hk, dif_pos hk, hK]
    · rw [dif_neg hk, dif_neg hk]; rfl
  have hR : ∀ k : Fin 132, (∑ d : Fin 64, rowArr 0 ck kv B k (col j d) *
          (q (ix2 (tok B r h) (qcol j g d)) * (((8 : ℝ) : EReal) * ((Real.log 2 : ℝ) : EReal)))) * ((1 / 8 : ℝ) : EReal)
      = ((T (Fin.castAdd 4 k) * Real.log 2 : ℝ) : EReal) := by
    intro k
    simp only [hQ, hK, ← EReal.coe_mul, ← Softmax.coe_sum]
    congr 1
    rw [Finset.sum_mul, Finset.sum_mul]
    refine Finset.sum_congr rfl fun d _ => ?_
    rw [dif_pos (show (Fin.castAdd 4 k).val < 132 from k.isLt)]
    show K k (col j d) * _ * _ = _ * K k (col j d) * _
    ring
  have hv : ∀ k : Fin 4, seen r (Fin.natAdd 132 k) = false := by
    intro k; unfold seen; simp
  have hs : (fun k : Fin 132 => seen r (Fin.castAdd 4 k)) = sees ⟨r.val, h⟩ := by
    funext k
    unfold seen sees
    simp
  unfold headArr
  rw [hz, Softmax.byExp2_eq (seen r) _ T z _ fun k _ => hT k,
    Softmax.mean_extend (n := 132) (p := 4) (seen r) _ z _ hv, hs,
    Softmax.byExp_eq _ _ (fun k => T (Fin.castAdd 4 k) * Real.log 2) z _ fun k _ => hR k]
  unfold Softmax.mean
  refine Finset.sum_congr rfl fun k _ => ?_
  beta_reduce
  rw [dif_pos (show (Fin.castAdd 4 k).val < 132 from k.isLt)]
  rfl

/-- The reference's head entry. -/
theorem average_of (sinks : Vec Ideal S16 .f32) (q : Vec Ideal S512x1024 .bf16) (kk vv : Vec Ideal S128x132x4x64 .f32)
    (B : Fin 128) (r : Fin 8) (h : r.val < 4) (j g : Fin 4) (d : Fin 64) :
    ∑ k : Fin 132, vv (ix4 B k j d) * probs (scores q kk) sinks (ix5 B j g ⟨r.val, h⟩ k)
      = Softmax.byExp (sees ⟨r.val, h⟩) (fun k => (∑ d : Fin 64, kk (ix4 B k j d) *
          (q (ix2 (tok B r h) (qcol j g d)) * (((8 : ℝ) : EReal) * ((Real.log 2 : ℝ) : EReal)))) * ((1 / 8 : ℝ) : EReal))
          (sinks (ix1 (qhead j g))) (fun k => vv (ix4 B k j d)) := by
  have hq : ∀ d : Fin 64, (⟨j.val * 256 + g.val * 64 + d.val, by omega⟩ : Fin 1024) = qcol j g d := fun d =>
    Fin.ext (by show j.val * 256 + g.val * 64 + d.val = 256 * j.val + 64 * g.val + d.val; omega)
  have hh : (⟨j.val * 4 + g.val, by omega⟩ : Fin 16) = qhead j g :=
    Fin.ext (by show j.val * 4 + g.val = 4 * j.val + g.val; omega)
  simp only [Cert.ReferenceIdeal.Value.probs_at, Cert.ReferenceIdeal.Value.scores_at, eight, two, eighth, log_two, hq, hh]
  rfl

theorem average_eq (sinks : Vec Ideal S16 .f32) (q : Vec Ideal S512x1024 .bf16) (ck cv : Vec Ideal S1x128x128x4x64 .f32) (kv : Vec Ideal S512x512 .f32)
    (h0 : ∀ i, ∃ t : ℝ, sinks i = (t : EReal)) (h1 : ∀ i, ∃ t : ℝ, q i = (t : EReal)) (h2 : ∀ i, ∃ t : ℝ, kv i = (t : EReal))
    (h4 : ∀ i, ∃ t : ℝ, ck i = (t : EReal))
    (B : Fin 128) (r : Fin 8) (h : r.val < 4) (x : Fin 1024) :
    averaged (joined cv (extractStridedSlice S512x256 ![0, 256] kv Cert.ReferenceIdeal.Gen.slices_S512x512_S512x256_0_256))
        (probs (scores q (joined ck (extractStridedSlice S512x256 ![0, 0] kv Cert.ReferenceIdeal.Gen.slices_S512x512_S512x256_0_0))) sinks) (ix3 B ⟨r.val, h⟩ x)
      = headArr sinks q ck cv kv B r h ⟨x.val / 256, by omega⟩ ⟨x.val / 64 % 4, by omega⟩ ⟨x.val % 64, by omega⟩ := by
  rw [Cert.ReferenceIdeal.Value.averaged_at, head_eq sinks q ck cv kv h0 h1 h2 h4]
  refine (average_of sinks q _ _ B r h _ _ _).trans ?_
  congr 1
  · funext k
    refine congrArg (· * _) (Finset.sum_congr rfl fun d _ => congrArg (· * _) ?_)
    exact keys_at ck kv B k _ d
  · funext k
    exact vals_at cv kv B k _ _

/-- The attention output, row by row. -/
theorem out_eq (sinks : Vec Ideal S16 .f32) (q ga : Vec Ideal S512x1024 .bf16) (ck cv : Vec Ideal S1x128x128x4x64 .f32) (kv : Vec Ideal S512x512 .f32)
    (wo : Vec Ideal S1024x1024 .f32)
    (h0 : ∀ i, ∃ t : ℝ, sinks i = (t : EReal)) (h1 : ∀ i, ∃ t : ℝ, q i = (t : EReal)) (h2 : ∀ i, ∃ t : ℝ, kv i = (t : EReal))
    (h4 : ∀ i, ∃ t : ℝ, ck i = (t : EReal)) :
    gated ga (averaged (joined cv (extractStridedSlice S512x256 ![0, 256] kv Cert.ReferenceIdeal.Gen.slices_S512x512_S512x256_0_256))
        (probs (scores q (joined ck (extractStridedSlice S512x256 ![0, 0] kv Cert.ReferenceIdeal.Gen.slices_S512x512_S512x256_0_0))) sinks)) wo
      = outRows sinks q ga ck cv kv wo := by
  funext y
  obtain ⟨a, n, rfl⟩ : ∃ (a n : Fin 1024), y = ix2 a n := ⟨y 0, y 1, by blk_ext⟩
  obtain ⟨B, r, rfl⟩ : ∃ (B : Fin 128) (r : Fin 8), a = ⟨8 * B.val + r.val, by omega⟩ :=
    ⟨⟨a.val / 8, by omega⟩, ⟨a.val % 8, by omega⟩, Fin.ext (by show a.val = 8 * (a.val / 8) + a.val % 8; omega)⟩
  rw [outRows_at, Cert.ReferenceIdeal.Value.gated_at]
  unfold outArr
  by_cases h : r.val < 4
  · rw [dif_pos h, dif_pos h]
    refine congrArg _ (Finset.sum_congr rfl fun x _ => ?_)
    rw [average_eq sinks q ck cv kv h0 h1 h2 h4]
  · rw [dif_neg h, dif_neg h]

theorem windows_eq (cache : Vec Ideal S1x128x128x4x64 .f32) (kv : Vec Ideal S512x512 .f32) :
    shapeCast S128x128x256 (extractStridedSlice Cert.ReferenceIdeal.S128x128x4x64 ![0, 4, 0, 0] (joined cache (extractStridedSlice S512x256 ![0, 0] kv Cert.ReferenceIdeal.Gen.slices_S512x512_S512x256_0_0)) Cert.ReferenceIdeal.Gen.slices_S128x132x4x64_S128x128x4x64_0_4_0_0) Cert.ReferenceIdeal.Gen.shapeCasts_S128x128x4x64_S128x128x256 = window 0 cache kv
    ∧ shapeCast S128x128x256 (extractStridedSlice Cert.ReferenceIdeal.S128x128x4x64 ![0, 4, 0, 0] (joined cache (extractStridedSlice S512x256 ![0, 256] kv Cert.ReferenceIdeal.Gen.slices_S512x512_S512x256_0_256)) Cert.ReferenceIdeal.Gen.slices_S128x132x4x64_S128x128x4x64_0_4_0_0) Cert.ReferenceIdeal.Gen.shapeCasts_S128x128x4x64_S128x128x256 = window 1 cache kv := by
  constructor
  · funext y
    obtain ⟨B, s, l, rfl⟩ : ∃ (B s : Fin 128) (l : Fin 256), y = ix3 B s l := ⟨y 0, y 1, y 2, by blk_ext⟩
    exact (Cert.ReferenceIdeal.Value.windows_at _ B s l).trans (window_k cache kv B s l)
  · funext y
    obtain ⟨B, s, l, rfl⟩ : ∃ (B s : Fin 128) (l : Fin 256), y = ix3 B s l := ⟨y 0, y 1, y 2, by blk_ext⟩
    exact (Cert.ReferenceIdeal.Value.windows_at _ B s l).trans (window_v cache kv B s l)

/-- The precondition read: sinks, queries, new rows and kept keys are real. -/
theorem finite_real (a0 : Vec Ideal S16 .f32) (a1 : Vec Ideal S512x1024 .bf16) (a2 : Vec Ideal S512x512 .f32) (a3 : Vec Ideal S512x1024 .bf16)
    (a4 a5 : Vec Ideal S1x128x128x4x64 .f32) (a6 : Vec Ideal S1024x1024 .f32) :
    ((Cert.Pre_finite.fn (F := Ideal) a0 a1 a2 a3 a4 a5 a6).1 = (fun _ => 1#1) → ∀ i, ∃ t : ℝ, a0 i = (t : EReal))
    ∧ ((Cert.Pre_finite.fn (F := Ideal) a0 a1 a2 a3 a4 a5 a6).2.1 = (fun _ => 1#1) → ∀ i, ∃ t : ℝ, a1 i = (t : EReal))
    ∧ ((Cert.Pre_finite.fn (F := Ideal) a0 a1 a2 a3 a4 a5 a6).2.2.1 = (fun _ => 1#1) → ∀ i, ∃ t : ℝ, a2 i = (t : EReal))
    ∧ ((Cert.Pre_finite.fn (F := Ideal) a0 a1 a2 a3 a4 a5 a6).2.2.2 = (fun _ => 1#1) → ∀ i, ∃ t : ℝ, a4 i = (t : EReal)) := by
  have hb : Ideal.ofBits FTy.f32 4286578688#32 = ⊥ := by simp [Ideal.ofBits, Ideal.ieee]
  have ht : Ideal.ofBits FTy.f32 2139095040#32 = ⊤ := by simp [Ideal.ofBits, Ideal.ieee]
  have key : ∀ x : EReal, IntOp.andi (BitVec.ofBool (decide (Ideal.ofBits FTy.f32 4286578688#32 < x)))
      (BitVec.ofBool (decide (x < Ideal.ofBits FTy.f32 2139095040#32))) = 1#1 → ∃ t : ℝ, x = (t : EReal) := by
    intro x hx
    rw [hb, ht] at hx
    refine real_of x ?_
    by_cases h1 : ⊥ < x
    · by_cases h2 : x < ⊤
      · exact ⟨h1, h2⟩
      · rw [decide_eq_true h1, decide_eq_false h2] at hx; exact absurd hx (by decide)
    · rw [decide_eq_false h1] at hx
      exact absurd hx (by cases decide (x < ⊤) <;> decide)
  refine ⟨?_, ?_, ?_, ?_⟩
  all_goals
    intro h i
    have h := congrFun h i
    unfold Cert.Pre_finite.fn Cert.Pre_finite.fn_part1 at h
    dsimp only at h
    pointwise at h
    exact key _ h

end Cert.Match
end
-- ==== Proof.Turn.lean ====
module
public import proofs.«01_k».proof.Proof.Gen.Kernel2Ideal.Frame
public import Idealize.ShloMosaic.Lib.Pipeline.ValueKit
public import Idealize.ShloMosaic.Lib.Pipeline.ReadBack
public import Idealize.ShloMosaic.Lib.Pointwise

/-! # The three exchanges that turn eight groups of a lane tile into eight tokens -/

@[expose] public section

set_option maxRecDepth 16384

noncomputable section

namespace Cert.Kernel2Ideal.Value

open Cert.Kernel2Ideal Cert.Kernel2Ideal.Gen Idealize.ShloMosaic Idealize.ShloMosaic.TcCoe Idealize.SL.Sem

/-- A lane tile of 64 rows. -/
abbrev Tile := FVec Ideal S64x128 .f32

/-- Lane `c` of piece `p`: a tile's 128 lanes are eight pieces of 16. -/
def lane (p : Fin 8) (c : Fin 16) : Fin 128 := ⟨16 * p.val + c.val, by omega⟩

theorem mask4_at (r : Fin 64) (p : Fin 8) (c : Fin 16) :
    (k0_pay2 : IVec S64x128 1) (ix2 r (lane p c)) = if p.val / 4 % 2 = 1 then 1#1 else 0#1 := by
  pointwise [k0_pay2, k0_pay1]
  revert p c
  decide +kernel

theorem mask2_at (r : Fin 64) (p : Fin 8) (c : Fin 16) :
    (k0_pay3 : IVec S64x128 1) (ix2 r (lane p c)) = if p.val / 2 % 2 = 1 then 1#1 else 0#1 := by
  pointwise [k0_pay3, k0_pay1]
  revert p c
  decide +kernel

theorem mask1_at (r : Fin 64) (p : Fin 8) (c : Fin 16) :
    (k0_pay4 : IVec S64x128 1) (ix2 r (lane p c)) = if p.val % 2 = 1 then 1#1 else 0#1 := by
  pointwise [k0_pay4, k0_pay1]
  revert p c
  decide +kernel

/-- A rotation by whole pieces moves the pieces. -/
theorem rot_at (n : BitVec 32) (d : Fin 8) (hn : n.toNat = 16 * d.val) (x : Tile) (r : Fin 64) (p : Fin 8) (c : Fin 16) :
    dynamicRotate 1 n none x rotates_S64x128_d1 (ix2 r (lane p c)) = x (ix2 r (lane (p - d) c)) := by
  pointwise
  refine congrArg (fun l => x (ix2 r l)) (Fin.ext ?_)
  have hd := d.isLt; have hp := p.isLt; have hc := c.isLt
  simp only [lane, hn, Fin.sub_def]
  omega

/-- The lower of two exchanged tiles: the pieces under the mask come from the upper one. -/
def low (mask : IVec S64x128 1) (n : BitVec 32) (a b : Tile) : Tile := select mask (dynamicRotate 1 n none b rotates_S64x128_d1) a
/-- The upper of two exchanged tiles: the pieces outside the mask come from the lower one. -/
def high (mask : IVec S64x128 1) (n : BitVec 32) (a b : Tile) : Tile := select mask b (dynamicRotate 1 n none a rotates_S64x128_d1)

/-- Tiles four apart exchange halves. -/
def stage4 (f : Fin 8 → Tile) : Fin 8 → Tile :=
  ![low k0_pay2 64#32 (f 0) (f 4), low k0_pay2 64#32 (f 1) (f 5), low k0_pay2 64#32 (f 2) (f 6), low k0_pay2 64#32 (f 3) (f 7),
    high k0_pay2 64#32 (f 0) (f 4), high k0_pay2 64#32 (f 1) (f 5), high k0_pay2 64#32 (f 2) (f 6), high k0_pay2 64#32 (f 3) (f 7)]
/-- Tiles two apart exchange quarters. -/
def stage2 (f : Fin 8 → Tile) : Fin 8 → Tile :=
  ![low k0_pay3 32#32 (f 0) (f 2), low k0_pay3 32#32 (f 1) (f 3), high k0_pay3 96#32 (f 0) (f 2), high k0_pay3 96#32 (f 1) (f 3),
    low k0_pay3 32#32 (f 4) (f 6), low k0_pay3 32#32 (f 5) (f 7), high k0_pay3 96#32 (f 4) (f 6), high k0_pay3 96#32 (f 5) (f 7)]
/-- Neighbouring tiles exchange pieces. -/
def stage1 (f : Fin 8 → Tile) : Fin 8 → Tile :=
  ![low k0_pay4 16#32 (f 0) (f 1), high k0_pay4 112#32 (f 0) (f 1), low k0_pay4 16#32 (f 2) (f 3), high k0_pay4 112#32 (f 2) (f 3),
    low k0_pay4 16#32 (f 4) (f 5), high k0_pay4 112#32 (f 4) (f 5), low k0_pay4 16#32 (f 6) (f 7), high k0_pay4 112#32 (f 6) (f 7)]

theorem low_at (mask : IVec S64x128 1) (n : BitVec 32) (d : Fin 8) (hn : n.toNat = 16 * d.val) (a b : Tile) (r : Fin 64) (p : Fin 8) (c : Fin 16)
    (P : Prop) [Decidable P] (hm : mask (ix2 r (lane p c)) = if P then 1#1 else 0#1) :
    low mask n a b (ix2 r (lane p c)) = if P then b (ix2 r (lane (p - d) c)) else a (ix2 r (lane p c)) := by
  unfold low select
  rw [hm, rot_at n d hn]
  by_cases h : P <;> simp [h, Scalar.select]

theorem high_at (mask : IVec S64x128 1) (n : BitVec 32) (d : Fin 8) (hn : n.toNat = 16 * d.val) (a b : Tile) (r : Fin 64) (p : Fin 8) (c : Fin 16)
    (P : Prop) [Decidable P] (hm : mask (ix2 r (lane p c)) = if P then 1#1 else 0#1) :
    high mask n a b (ix2 r (lane p c)) = if P then b (ix2 r (lane p c)) else a (ix2 r (lane (p - d) c)) := by
  unfold high select
  rw [hm, rot_at n d hn]
  by_cases h : P <;> simp [h, Scalar.select]

/-- `v` with its bit of weight 4 taken from `p`. -/
def sw4 (v p : Fin 8) : Fin 8 := ⟨p.val / 4 * 4 + v.val % 4, by omega⟩
/-- `v` with its bit of weight 2 taken from `p`. -/
def sw2 (v p : Fin 8) : Fin 8 := ⟨v.val / 4 * 4 + p.val / 2 % 2 * 2 + v.val % 2, by omega⟩
/-- `v` with its lowest bit taken from `p`. -/
def sw1 (v p : Fin 8) : Fin 8 := ⟨v.val / 2 * 2 + p.val % 2, by omega⟩

theorem stage4_at (f : Fin 8 → Tile) (v p : Fin 8) (r : Fin 64) (c : Fin 16) :
    stage4 f v (ix2 r (lane p c)) = f (sw4 v p) (ix2 r (lane (sw4 p v) c)) := by
  have L := fun a b => low_at k0_pay2 64#32 4 rfl a b r p c _ (mask4_at r p c)
  have H := fun a b => high_at k0_pay2 64#32 4 rfl a b r p c _ (mask4_at r p c)
  fin_cases v <;> first | refine (L _ _).trans ?_ | refine (H _ _).trans ?_
  all_goals fin_cases p <;> rfl

theorem stage2_at (f : Fin 8 → Tile) (v p : Fin 8) (r : Fin 64) (c : Fin 16) :
    stage2 f v (ix2 r (lane p c)) = f (sw2 v p) (ix2 r (lane (sw2 p v) c)) := by
  have L := fun a b => low_at k0_pay3 32#32 2 rfl a b r p c _ (mask2_at r p c)
  have H := fun a b => high_at k0_pay3 96#32 6 rfl a b r p c _ (mask2_at r p c)
  fin_cases v <;> first | refine (L _ _).trans ?_ | refine (H _ _).trans ?_
  all_goals fin_cases p <;> rfl

theorem stage1_at (f : Fin 8 → Tile) (v p : Fin 8) (r : Fin 64) (c : Fin 16) :
    stage1 f v (ix2 r (lane p c)) = f (sw1 v p) (ix2 r (lane (sw1 p v) c)) := by
  have L := fun a b => low_at k0_pay4 16#32 1 rfl a b r p c _ (mask1_at r p c)
  have H := fun a b => high_at k0_pay4 112#32 7 rfl a b r p c _ (mask1_at r p c)
  fin_cases v <;> first | refine (L _ _).trans ?_ | refine (H _ _).trans ?_
  all_goals fin_cases p <;> rfl

theorem sw_all : ∀ v p : Fin 8, sw4 (sw2 (sw1 v p) (sw1 p v)) (sw2 (sw1 p v) (sw1 v p)) = p := by decide

/-- After the three exchanges tile `v` holds, in piece `p`, piece `v` of tile `p`. -/
theorem turn_at (f : Fin 8 → Tile) (v p : Fin 8) (r : Fin 64) (c : Fin 16) :
    stage1 (stage2 (stage4 f)) v (ix2 r (lane p c)) = f p (ix2 r (lane v c)) := by
  rw [stage1_at, stage2_at, stage4_at, sw_all, sw_all]

/-- Group `g` of the first eight tokens' channels, as the call loads it. -/
def piece (x0 : Vec Ideal S64x16384 .bf16) (g : Fin 64) : Vec Ideal S64x128 .bf16 :=
  View.ld (Val := Elt Ideal) (S := S64x16384) (e' := .bf16) x0 (Rect.unit ![0, 256 * g.val] S64x128.size (by intro a; fin_cases a <;> simp <;> omega))

theorem piece_at (x0 : Vec Ideal S64x16384 .bf16) (g : Fin 64) (r : Fin 64) (l : Fin 128) :
    piece x0 g (ix2 r l) = x0 (ix2 r ⟨256 * g.val + l.val, by omega⟩) :=
  View.ld_unit_apply_of (S := S64x16384) _ _ _ _ _ _ fun a => by fin_cases a <;> simp [ix2]

/-- Token `k` of lane tile `j`. -/
def turned (x0 : Vec Ideal S64x16384 .bf16) (k : Fin 8) (j : Fin 8) : FVec Ideal S64x128 .bf16 :=
  truncf .bf16 (stage1 (stage2 (stage4 fun gl => extf (F := Ideal) .f32 (piece x0 ⟨8 * j.val + gl.val, by omega⟩) bitsLt_bf16_f32)) k) bitsLt_bf16_f32

theorem turned_at (x0 : Vec Ideal S64x16384 .bf16) (k j : Fin 8) (r : Fin 64) (p : Fin 8) (c : Fin 16) :
    turned x0 k j (ix2 r (lane p c)) = x0 (ix2 r ⟨256 * (8 * j.val + p.val) + (16 * k.val + c.val), by omega⟩) := by
  show stage1 _ _ _ = _
  rw [turn_at]
  exact piece_at _ _ _ _

/-- Token `k` of all 64 sequences: its eight lane tiles side by side. -/
def tokenRows (x0 : Vec Ideal S64x16384 .bf16) (k : Fin 8) : FVec Ideal S64x1024 .bf16 :=
  concatenate S64x1024 1 [⟨S64x128, turned x0 k 0⟩, ⟨S64x128, turned x0 k 1⟩, ⟨S64x128, turned x0 k 2⟩, ⟨S64x128, turned x0 k 3⟩, ⟨S64x128, turned x0 k 4⟩, ⟨S64x128, turned x0 k 5⟩, ⟨S64x128, turned x0 k 6⟩, ⟨S64x128, turned x0 k 7⟩] concatenates_S64x128_S64x128_S64x128_S64x128_S64x128_S64x128_S64x128_S64x128_S64x1024_d1

/-- The four tokens of the 64 sequences, one token's rows after another's. -/
def byToken (x0 : Vec Ideal S64x16384 .bf16) : FVec Ideal S256x1024 .bf16 :=
  concatenate S256x1024 0 [⟨S64x1024, tokenRows x0 0⟩, ⟨S64x1024, tokenRows x0 1⟩, ⟨S64x1024, tokenRows x0 2⟩, ⟨S64x1024, tokenRows x0 3⟩] concatenates_S64x1024_S64x1024_S64x1024_S64x1024_S256x1024_d0

/-- The branches merged, from the tokens' rows. -/
def mergeRows (tok : FVec Ideal S256x1024 .bf16) (x4 : FVec Ideal S256x256 .bf16) (x5 : FVec Ideal S1024x2048 .bf16) (x1 : FVec Ideal S256x1024 .f32)
    (x2 : FVec Ideal S256x1024 .bf16) : FVec Ideal S256x1024 .f32 :=
  have px : FVec Ideal S256x256 .bf16 := shapeCast S256x256 x4 shapeCasts_S256x256_S256x256
  have xp : FVec Ideal S256x1024 .bf16 := truncf .bf16 (matmul dot_S256x256_S256x1024_S256x1024_1_0_0_1_n_n none px tok (constant S256x1024 .f32 0x00000000#32)) bitsLt_bf16_f32
  have w : FVec Ideal S1024x2048 .bf16 := shapeCast S1024x2048 x5 shapeCasts_S1024x2048_S1024x2048
  have glu : FVec Ideal S256x2048 .f32 := matmul dot_S256x1024_S1024x2048_S256x2048_1_0_0_1_n_n none xp w (constant S256x2048 .f32 0x00000000#32)
  addf x1 (mulf (extf .f32 x2 bitsLt_bf16_f32) (mulf (extractStridedSlice S256x1024 ![0, 0] glu slices_S256x2048_o0_0_S256x1024)
    (logistic (extractStridedSlice S256x1024 ![0, 1024] glu slices_S256x2048_o0_1024_S256x1024))))

theorem pay154_eq (x0 : Vec Ideal S64x16384 .bf16) (x1 : Vec Ideal S256x1024 .f32) (x2 : Vec Ideal S256x1024 .bf16) (x3 : Vec Ideal S256x1024 .f32)
    (x4 : Vec Ideal S256x256 .bf16) (x5 : Vec Ideal S1024x2048 .bf16) (x6 : Vec Ideal S1024x1024 .bf16) (x7 : Vec Ideal S1x1024 .f32)
    (x8 : Vec Ideal S1024x4096 .bf16) (x9 : Vec Ideal S4096x1024 .bf16) (x10 : Vec Ideal S1x1024 .f32) :
    k0_pay154 x0 x1 x2 x3 x4 x5 x6 x7 x8 x9 x10
      = mergeRows (byToken x0) (View.ld x4 r0_64) (View.ld x5 r0_65) (View.ld x1 r0_66) (View.ld x2 r0_66) := rfl

end Cert.Kernel2Ideal.Value
end
-- ==== Proof.Rows.lean ====
/- One row of the layer's second half over the extended reals: the gated branches merged and projected, the residual, the normalised
   feed-forward with its residual, and the last normalisation. -/
module

public import Idealize.ShloMosaic.Lib.Pointwise

@[expose] public section

noncomputable section

namespace Cert.Rows

open Idealize.ShloMosaic

/-- A row through a matrix. -/
def through {a b : ℕ} (p : Fin a → EReal) (w : Fin a → Fin b → EReal) (n : Fin b) : EReal := ∑ k, p k * w k n

/-- A row divided by its root mean square, times the gains. -/
def norm (x g : Fin 1024 → EReal) (n : Fin 1024) : EReal :=
  x n * Ideal.rsqrt (Ideal.div (∑ k, x k * x k) (Ideal.ofBits .f32 0x44800000#32) + Ideal.ofBits .f32 0x3727C5AC#32) * g n

/-- The positive part, squared. -/
def square (x : EReal) : EReal := max x 0 * max x 0

/-- One over one plus the exponential of the negation. -/
def gate (x : EReal) : EReal := Ideal.div 1 (1 + Ideal.exp (-x))

/-- The attention branch plus the gated recurrent branch. -/
def merged (g ma gs : Fin 1024 → EReal) (wg : Fin 1024 → Fin 2048 → EReal) (n : Fin 1024) : EReal :=
  ma n + gs n * (through g wg ⟨n.val, by omega⟩ * gate (through g wg ⟨1024 + n.val, by omega⟩))

/-- The residual after the merged branches. -/
def mixed (g ma gs xs : Fin 1024 → EReal) (wg : Fin 1024 → Fin 2048 → EReal) (wo : Fin 1024 → Fin 1024 → EReal) (n : Fin 1024) : EReal :=
  xs n + through (merged g ma gs wg) wo n

/-- The feed-forward of a row, with its residual. -/
def fed (x gf : Fin 1024 → EReal) (wu : Fin 1024 → Fin 4096 → EReal) (wd : Fin 4096 → Fin 1024 → EReal) (n : Fin 1024) : EReal :=
  x n + through (fun j => square (through (norm x gf) wu j)) wd n

/-- The whole row. -/
def row (g ma gs xs : Fin 1024 → EReal) (wg : Fin 1024 → Fin 2048 → EReal) (wo : Fin 1024 → Fin 1024 → EReal) (gf : Fin 1024 → EReal)
    (wu : Fin 1024 → Fin 4096 → EReal) (wd : Fin 4096 → Fin 1024 → EReal) (gl : Fin 1024 → EReal) : Fin 1024 → EReal :=
  norm (fed (mixed g ma gs xs wg wo) gf wu wd) gl

/-- Quarter `q` of 4096. -/
def quarter (q : Fin 4) (j : Fin 1024) : Fin 4096 := ⟨1024 * q.val + j.val, by omega⟩

/-- A sum over 4096 is the sum of its quarters. -/
theorem sum_quarters (f : Fin 4096 → EReal) :
    ∑ j, f j = (∑ j, f (quarter 0 j)) + (∑ j, f (quarter 1 j)) + (∑ j, f (quarter 2 j)) + ∑ j, f (quarter 3 j) := by
  rw [← Fin.sum_univ_four (fun q => ∑ j, f (quarter q j)), ← Finset.sum_product']
  refine (Finset.sum_bij' (fun p _ => quarter p.1 p.2)
    (fun j _ => ((⟨j.val / 1024, by omega⟩ : Fin 4), (⟨j.val % 1024, by omega⟩ : Fin 1024))) ?_ ?_ ?_ ?_ ?_).symm
  · intros; exact Finset.mem_univ _
  · intros; exact Finset.mem_product.2 ⟨Finset.mem_univ _, Finset.mem_univ _⟩
  · rintro ⟨q, j⟩ _
    refine Prod.ext (Fin.ext ?_) (Fin.ext ?_) <;> simp only [quarter] <;> omega
  · intro j _
    refine Fin.ext ?_
    simp only [quarter]
    omega
  · intros; rfl

/-- The feed-forward in four quarters, each added to the residual in turn. -/
theorem fed_quarters (x gf : Fin 1024 → EReal) (wu : Fin 1024 → Fin 4096 → EReal) (wd : Fin 4096 → Fin 1024 → EReal) (n : Fin 1024) :
    fed x gf wu wd n
      = x n + through (fun j => square (through (norm x gf) (fun k j => wu k (quarter 0 j)) j)) (fun j => wd (quarter 0 j)) n
        + through (fun j => square (through (norm x gf) (fun k j => wu k (quarter 1 j)) j)) (fun j => wd (quarter 1 j)) n
        + through (fun j => square (through (norm x gf) (fun k j => wu k (quarter 2 j)) j)) (fun j => wd (quarter 2 j)) n
        + through (fun j => square (through (norm x gf) (fun k j => wu k (quarter 3 j)) j)) (fun j => wd (quarter 3 j)) n := by
  refine (congrArg (x n + ·) (sum_quarters _)).trans ?_
  simp only [← add_assoc]
  rfl

end Cert.Rows
end
-- ==== Proof.PostBlock.lean ====
module
public import proofs.«01_k».proof.Proof.Turn
public import proofs.«01_k».proof.Proof.Rows

/-! # What a block of the second call leaves, row by row -/

@[expose] public section

set_option maxRecDepth 16384

noncomputable section

namespace Cert.Kernel2Ideal.Value

open Cert.Kernel2Ideal Cert.Kernel2Ideal.Gen Idealize.ShloMosaic Idealize.ShloMosaic.TcCoe Idealize.SL.Sem Cert.Rows

/-- A product of a block's rows with a square matrix. -/
def mm (a : FVec Ideal S256x1024 .bf16) (w : FVec Ideal S1024x1024 .bf16) : FVec Ideal S256x1024 .f32 :=
  have w' : FVec Ideal S1024x1024 .bf16 := shapeCast S1024x1024 w shapeCasts_S1024x1024_S1024x1024
  matmul dot_S256x1024_S1024x1024_S256x1024_1_0_0_1_n_n none a w' (constant S256x1024 .f32 0x00000000#32)

theorem mm_at (a : FVec Ideal S256x1024 .bf16) (w : FVec Ideal S1024x1024 .bf16) (s : Fin 256) (n : Fin 1024) :
    mm a w (ix2 s n) = through (fun k => a (ix2 s k)) (fun k j => w (ix2 k j)) n := by
  unfold mm through
  pointwise

/-- Rows normalised. -/
def normRows (x : FVec Ideal S256x1024 .f32) (g : FVec Ideal S1x1024 .f32) : FVec Ideal S256x1024 .f32 :=
  have g' : FVec Ideal S1x1024 .f32 := shapeCast S1x1024 g shapeCasts_S1x1024_S1x1024
  mulf (mulf x (broadcastTo S256x1024 (rsqrt (addf (divf (shapeCast S256x1 (multiReduction .add [1] S256 (mulf x x) 0x00000000#32 reduces_S256x1024_S256 (.inl rfl) rfl) shapeCasts_S256_S256x1)
    (broadcast S256x1 (Scalar.ofBits (F := Ideal) .f32 0x44800000#32))) (broadcast S256x1 (Scalar.ofBits (F := Ideal) .f32 0x3727C5AC#32)))) broadcasts_S256x1_S256x1024))
    (broadcastTo S256x1024 g' broadcasts_S1x1024_S256x1024)

theorem normRows_at (x : FVec Ideal S256x1024 .f32) (g : FVec Ideal S1x1024 .f32) (s : Fin 256) (n : Fin 1024) :
    normRows x g (ix2 s n) = Rows.norm (fun k => x (ix2 s k)) (fun k => g (ix2 0 k)) n := by
  unfold normRows Rows.norm
  pointwise

/-- The positive part squared, of a product. -/
def act (h : FVec Ideal S256x1024 .bf16) (w : FVec Ideal S1024x1024 .bf16) : FVec Ideal S256x1024 .bf16 :=
  have u : FVec Ideal S256x1024 .f32 := maximumf (mm h w) (broadcast S256x1024 (Scalar.ofBits (F := Ideal) .f32 0x00000000#32))
  truncf .bf16 (mulf u u) bitsLt_bf16_f32

theorem act_at (h : FVec Ideal S256x1024 .bf16) (w : FVec Ideal S1024x1024 .bf16) (s : Fin 256) (n : Fin 1024) :
    act h w (ix2 s n) = Rows.square (through (fun k => h (ix2 s k)) (fun k j => w (ix2 k j)) n) := by
  unfold act Rows.square
  rw [← mm_at]
  pointwise

/-- The block's last steps, from the merged rows. -/
def lastRows (p x3 : FVec Ideal S256x1024 .f32) (w : FVec Ideal S1024x1024 .bf16) (g : FVec Ideal S1x1024 .f32)
    (u d : Fin 4 → FVec Ideal S1024x1024 .bf16) (gl : FVec Ideal S1x1024 .f32) : FVec Ideal S256x1024 .f32 :=
  have x : FVec Ideal S256x1024 .f32 := addf x3 (mm (truncf .bf16 p bitsLt_bf16_f32) w)
  have h : FVec Ideal S256x1024 .bf16 := truncf .bf16 (normRows x g) bitsLt_bf16_f32
  normRows (addf (addf (addf (addf x (mm (act h (u 0)) (d 0))) (mm (act h (u 1)) (d 1))) (mm (act h (u 2)) (d 2))) (mm (act h (u 3)) (d 3))) gl

theorem lastRows_at (p x3 : FVec Ideal S256x1024 .f32) (w : FVec Ideal S1024x1024 .bf16) (g : FVec Ideal S1x1024 .f32)
    (u d : Fin 4 → FVec Ideal S1024x1024 .bf16) (gl : FVec Ideal S1x1024 .f32) (wu : Fin 1024 → Fin 4096 → EReal) (wd : Fin 4096 → Fin 1024 → EReal)
    (hu : ∀ q k j, u q (ix2 k j) = wu k (quarter q j)) (hd : ∀ q j k, d q (ix2 j k) = wd (quarter q j) k) (s : Fin 256) (n : Fin 1024) :
    lastRows p x3 w g u d gl (ix2 s n)
      = Rows.norm (fed (fun k => x3 (ix2 s k) + through (fun k => p (ix2 s k)) (fun k j => w (ix2 k j)) k) (fun k => g (ix2 0 k)) wu wd)
          (fun k => gl (ix2 0 k)) n := by
  refine (normRows_at _ _ s n).trans (congrArg (fun f => Rows.norm f _ n) (funext fun i => ?_))
  rw [fed_quarters]
  have hx : ∀ k, addf x3 (mm (truncf .bf16 p bitsLt_bf16_f32) w) (ix2 s k)
      = x3 (ix2 s k) + through (fun k => p (ix2 s k)) (fun k j => w (ix2 k j)) k := fun k => congrArg (x3 (ix2 s k) + ·) (mm_at _ _ s k)
  have hh : ∀ k, normRows (addf x3 (mm (truncf .bf16 p bitsLt_bf16_f32) w)) g (ix2 s k)
      = Rows.norm (fun k => x3 (ix2 s k) + through (fun k => p (ix2 s k)) (fun k j => w (ix2 k j)) k) (fun k => g (ix2 0 k)) k := fun k =>
    (normRows_at _ _ s k).trans (congrArg (fun f => Rows.norm f _ k) (funext hx))
  have hq : ∀ q, mm (act (truncf .bf16 (normRows (addf x3 (mm (truncf .bf16 p bitsLt_bf16_f32) w)) g) bitsLt_bf16_f32) (u q)) (d q) (ix2 s i)
      = through (fun j => Rows.square (through (Rows.norm (fun k => x3 (ix2 s k) + through (fun k => p (ix2 s k)) (fun k j => w (ix2 k j)) k) (fun k => g (ix2 0 k)))
          (fun k j => wu k (quarter q j)) j)) (fun j => wd (quarter q j)) i := fun q => by
    rw [mm_at]
    refine congrArg₂ (fun a b => through a b i) (funext fun j => ?_) (funext fun j => funext fun k => hd q j k)
    rw [act_at]
    refine congrArg Rows.square (congrArg₂ (fun a b => through a b j) (funext hh) (funext fun k => funext fun j => hu q k j))
  rw [← hq 0, ← hq 1, ← hq 2, ← hq 3, ← hx i]
  rfl

/-- Lane `16 G + c` of token `k`. -/
theorem tokenRows_at (x0 : Vec Ideal S64x16384 .bf16) (k : Fin 8) (r : Fin 64) (n : Fin 1024) :
    tokenRows x0 k (ix2 r n) = x0 (ix2 r ⟨256 * (n.val / 16) + (16 * k.val + n.val % 16), by omega⟩) := by
  have key : ∀ (j p : Fin 8) (c : Fin 16) (h : n.val = 128 * j.val + (16 * p.val + c.val)),
      turned x0 k j (ix2 r (lane p c)) = x0 (ix2 r ⟨256 * (n.val / 16) + (16 * k.val + n.val % 16), by omega⟩) := fun j p c h => by
    rw [turned_at]
    refine congrArg (fun l => x0 (ix2 r l)) (Fin.ext ?_)
    show 256 * (8 * j.val + p.val) + (16 * k.val + c.val) = 256 * (n.val / 16) + (16 * k.val + n.val % 16)
    omega
  have tiles : tokenRows x0 k (ix2 r n) = turned x0 k ⟨n.val / 128, by omega⟩ (ix2 r ⟨n.val % 128, by omega⟩) := by
    unfold tokenRows
    generalize turned x0 k = f
    obtain ⟨j, l, hn⟩ : ∃ (j : Fin 8) (l : Fin 128), n.val = 128 * j.val + l.val :=
      ⟨⟨n.val / 128, by omega⟩, ⟨n.val % 128, by omega⟩, by simp; omega⟩
    have e1 : (⟨n.val / 128, by omega⟩ : Fin 8) = j := Fin.ext (by simp; omega)
    have e2 : (⟨n.val % 128, by omega⟩ : Fin 128) = l := Fin.ext (by simp; omega)
    have e0 : n = ⟨128 * j.val + l.val, by omega⟩ := Fin.ext hn
    rw [e1, e2, e0]
    fin_cases j <;> pointwise
    all_goals
      repeat rw [dif_neg (by omega)]
      try rw [dif_pos (by omega)]
      exact congrArg (fun z => f _ (ix2 r z)) (Fin.ext (by simp; try omega))
  rw [tiles]
  refine Eq.trans ?_ (key ⟨n.val / 128, by omega⟩ ⟨n.val / 16 % 8, by omega⟩ ⟨n.val % 16, by omega⟩ (by simp; omega))
  exact congrArg (fun l => turned x0 k _ (ix2 r l)) (Fin.ext (by simp [lane]; omega))

theorem byToken_at (x0 : Vec Ideal S64x16384 .bf16) (k : Fin 4) (r : Fin 64) (n : Fin 1024) :
    byToken x0 (ix2 ⟨64 * k.val + r.val, by omega⟩ n) = x0 (ix2 r ⟨256 * (n.val / 16) + (16 * k.val + n.val % 16), by omega⟩) := by
  have tiles : byToken x0 (ix2 ⟨64 * k.val + r.val, by omega⟩ n) = tokenRows x0 ⟨k.val, by omega⟩ (ix2 r n) := by
    unfold byToken
    generalize tokenRows x0 = f
    fin_cases k <;> pointwise
    all_goals
      repeat rw [dif_neg (by omega)]
      try rw [dif_pos (by omega)]
      exact congrArg (fun z => f _ (ix2 z n)) (Fin.ext (by simp; try omega))
  rw [tiles, tokenRows_at]

/-- The recurrent row of token `s` of a block: token `s % 4` of sequence `s / 4`. -/
def recur (x0 : Vec Ideal S64x16384 .bf16) (s : Fin 256) (n : Fin 1024) : EReal :=
  x0 (ix2 ⟨s.val / 4, by omega⟩ ⟨256 * (n.val / 16) + (16 * (s.val % 4) + n.val % 16), by omega⟩)

/-- A product with the permutation picks each row's own source row. -/
theorem permuted_at (x0 : Vec Ideal S64x16384 .bf16) (x4 : FVec Ideal S256x256 .bf16)
    (h4 : ∀ s r : Fin 256, x4 (ix2 s r) = if r.val % 64 * 4 + r.val / 64 = s.val then (1 : EReal) else (0 : EReal)) (s : Fin 256) (n : Fin 1024) :
    ∑ r : Fin 256, x4 (ix2 s r) * byToken x0 (ix2 r n) = recur x0 s n := by
  rw [Finset.sum_eq_single (⟨64 * (s.val % 4) + s.val / 4, by omega⟩ : Fin 256)]
  · rw [h4, if_pos (by show (64 * (s.val % 4) + s.val / 4) % 64 * 4 + (64 * (s.val % 4) + s.val / 4) / 64 = s.val; omega), one_mul]
    exact byToken_at x0 ⟨s.val % 4, by omega⟩ ⟨s.val / 4, by omega⟩ n
  · intro r _ hr
    rw [h4, if_neg, zero_mul]
    intro e
    refine hr (Fin.ext ?_)
    show r.val = 64 * (s.val % 4) + s.val / 4
    omega
  · intro h; exact absurd (Finset.mem_univ _) h

theorem mergeRows_at (tok : FVec Ideal S256x1024 .bf16) (x4 : FVec Ideal S256x256 .bf16) (x5 : FVec Ideal S1024x2048 .bf16) (x1 : FVec Ideal S256x1024 .f32)
    (x2 : FVec Ideal S256x1024 .bf16) (s : Fin 256) (n : Fin 1024) :
    mergeRows tok x4 x5 x1 x2 (ix2 s n)
      = Rows.merged (fun k => ∑ r : Fin 256, x4 (ix2 s r) * tok (ix2 r k)) (fun k => x1 (ix2 s k)) (fun k => x2 (ix2 s k)) (fun k j => x5 (ix2 k j)) n := by
  unfold mergeRows Rows.merged through
  pointwise
  rfl

variable (x0 : Vec Ideal S64x16384 .bf16) (x1 : Vec Ideal S256x1024 .f32) (x2 : Vec Ideal S256x1024 .bf16) (x3 : Vec Ideal S256x1024 .f32)
  (x4 : Vec Ideal S256x256 .bf16) (x5 : Vec Ideal S1024x2048 .bf16) (x6 : Vec Ideal S1024x1024 .bf16) (x7 : Vec Ideal S1x1024 .f32)
  (x8 : Vec Ideal S1024x4096 .bf16) (x9 : Vec Ideal S4096x1024 .bf16) (x10 : Vec Ideal S1x1024 .f32)

theorem ups_at (q : Fin 4) (k j : Fin 1024) :
    (![View.ld x8 r0_69, View.ld x8 r0_71, View.ld x8 r0_73, View.ld x8 r0_75] : Fin 4 → Vec Ideal S1024x1024 .bf16) q (ix2 k j)
      = x8 (ix2 k (quarter q j)) := by
  fin_cases q <;> exact View.ld_unit_apply_of (S := S1024x4096) _ _ _ _ _ _ fun a => by fin_cases a <;> simp [ix2, quarter]

theorem downs_at (q : Fin 4) (j k : Fin 1024) :
    (![View.ld x9 r0_70, View.ld x9 r0_72, View.ld x9 r0_74, View.ld x9 r0_76] : Fin 4 → Vec Ideal S1024x1024 .bf16) q (ix2 j k)
      = x9 (ix2 (quarter q j) k) := by
  fin_cases q <;> exact View.ld_unit_apply_of (S := S4096x1024) _ _ _ _ _ _ fun a => by fin_cases a <;> simp [ix2, quarter]

theorem whole_at :
    View.ld x4 r0_64 = x4 ∧ View.ld x5 r0_65 = x5 ∧ View.ld x1 r0_66 = x1 ∧ View.ld x2 r0_66 = x2 ∧ View.ld x3 r0_66 = x3
      ∧ View.ld x6 r0_67 = x6 ∧ View.ld x7 r0_68 = x7 ∧ View.ld x10 r0_68 = x10 := by
  refine ⟨?_, ?_, ?_, ?_, ?_, ?_, ?_, ?_⟩ <;>
    exact View.ld_unit_lit _ _ fun a => by fin_cases a <;> rfl

theorem out11_last : out0_11 x0 x1 x2 x3 x4 x5 x6 x7 x8 x9 x10
    = lastRows (mergeRows (byToken x0) x4 x5 x1 x2) x3 x6 x7
        ![View.ld x8 r0_69, View.ld x8 r0_71, View.ld x8 r0_73, View.ld x8 r0_75]
        ![View.ld x9 r0_70, View.ld x9 r0_72, View.ld x9 r0_74, View.ld x9 r0_76] x10 := by
  obtain ⟨e4, e5, e1, e2, e3, e6, e7, e10⟩ := whole_at x1 x2 x3 x4 x5 x6 x7 x10
  unfold out0_11
  rw [pay154_eq, e4, e5, e1, e2, e3, e6, e7, e10]
  generalize mergeRows (byToken x0) x4 x5 x1 x2 = p
  exact (View.canon_cons_unit_lit _ _ _ fun a => by fin_cases a <;> rfl).trans rfl

/-- Row `s` of what a block leaves. -/
theorem out11_at (h4 : ∀ s r : Fin 256, x4 (ix2 s r) = if r.val % 64 * 4 + r.val / 64 = s.val then (1 : EReal) else (0 : EReal))
    (s : Fin 256) (n : Fin 1024) :
    out0_11 x0 x1 x2 x3 x4 x5 x6 x7 x8 x9 x10 (ix2 s n)
      = Rows.row (recur x0 s) (fun k => x1 (ix2 s k)) (fun k => x2 (ix2 s k)) (fun k => x3 (ix2 s k)) (fun k j => x5 (ix2 k j)) (fun k j => x6 (ix2 k j))
          (fun k => x7 (ix2 0 k)) (fun k j => x8 (ix2 k j)) (fun k j => x9 (ix2 k j)) (fun k => x10 (ix2 0 k)) n := by
  rw [out11_last, lastRows_at _ _ _ _ _ _ _ (fun k j => x8 (ix2 k j)) (fun k j => x9 (ix2 k j)) (ups_at x8) (downs_at x9)]
  have hm : (fun k => mergeRows (byToken x0) x4 x5 x1 x2 (ix2 s k))
      = Rows.merged (recur x0 s) (fun k => x1 (ix2 s k)) (fun k => x2 (ix2 s k)) (fun k j => x5 (ix2 k j)) := funext fun k => by
    rw [mergeRows_at]
    exact congrArg (fun f => Rows.merged f _ _ _ k) (funext fun j => permuted_at x0 x4 h4 s j)
  rw [hm]
  rfl

end Cert.Kernel2Ideal.Value
end
-- ==== Proof.PostBridge.lean ====
module
public import proofs.«01_k».proof.Proof.Gen.Kernel2Ideal.Value
public import proofs.«01_k».proof.Proof.PostBlock
public import Idealize.ShloMosaic.Lib.Pipeline.ValueKit
public import Idealize.ShloMosaic.Lib.Pipeline.ReadBack
public import Idealize.ShloMosaic.Lib.Pointwise

/-! # What the second call's result array holds -/

@[expose] public section

set_option maxRecDepth 16384

noncomputable section

namespace Cert.Kernel2Ideal.Value

open Cert.Kernel2Ideal Cert.Kernel2Ideal.Gen Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![0, 0] ∧ win0_7.index t = ![0, 0]
    ∧ win0_8.index t = ![0, 0] ∧ win0_9.index t = ![0, 0] ∧ win0_10.index t = ![0, 0] ∧ win0_11.index t = ![t.val, 0] ∧ t.val < 2 :=
  (by decide +kernel : ∀ t : Fin grid0.N, _)

theorem point_lt (t : Fin cfg0.N) : t.val < 2 := (idx t).2.2.2.2.2.2.2.2.2.2.2.2

/-- Sequence `b` of block `t`. -/
def seq (t : Fin cfg0.N) (b : Fin 64) : Fin 128 := ⟨64 * t.val + b.val, by have := point_lt t; omega⟩
/-- Token `s` of block `t`. -/
def tok (t : Fin cfg0.N) (s : Fin 256) : Fin 512 := ⟨256 * t.val + s.val, by have := point_lt t; omega⟩

theorem x0_at (c : Dev nD) (t : Fin cfg0.N) (b : Fin 64) (n : Fin 16384) :
    iblk m c 0 t (ix2 b n) = m ((c : Thread nD τ).loc main_arg0) (ix2 (seq t b) n) := by
  blk_ext [iblk, V, idx t, seq]

theorem x1_at (c : Dev nD) (t : Fin cfg0.N) (s : Fin 256) (n : Fin 1024) :
    iblk m c 1 t (ix2 s n) = m ((c : Thread nD τ).loc main_arg1) (ix2 (tok t s) n) := by
  blk_ext [iblk, V, idx t, tok]

theorem x2_at (c : Dev nD) (t : Fin cfg0.N) (s : Fin 256) (n : Fin 1024) :
    iblk m c 2 t (ix2 s n) = m ((c : Thread nD τ).loc main_arg2) (ix2 (tok t s) n) := by
  blk_ext [iblk, V, idx t, tok]

theorem x3_at (c : Dev nD) (t : Fin cfg0.N) (s : Fin 256) (n : Fin 1024) :
    iblk m c 3 t (ix2 s n) = m ((c : Thread nD τ).loc main_arg3) (ix2 (tok t s) n) := by
  blk_ext [iblk, V, idx t, tok]

/-- Row number mod 64, as the host computes it. -/
def byMod : IVec S256 32 :=
  have d : IVec S_ 32 := select (cmpi .eq (constantI S_ 32 64#32) (constantI S_ 32 0#32)) (constantI S_ 32 1#32) (constantI S_ 32 64#32)
  have r : IVec S256 32 := Host.remsi (iotaInDim S256 32 0) (broadcastInDim S256 ![] bcast_S_S256 d)
  select (andi (cmpi .ne (cmpi .slt r (broadcastInDim S256 ![] bcast_S_S256 (constantI S_ 32 0#32)))
      (broadcastInDim S256 ![] bcast_S_S256 (cmpi .slt d (constantI S_ 32 0#32))))
    (cmpi .ne r (broadcastInDim S256 ![] bcast_S_S256 (constantI S_ 32 0#32))))
    (addi r (broadcastInDim S256 ![] bcast_S_S256 d)) r

/-- Row number over 64, as the host computes it. -/
def byDiv : IVec S256 32 :=
  have d : IVec S256 32 := broadcastInDim S256 ![] bcast_S_S256 (constantI S_ 32 64#32)
  have q : IVec S256 32 := Host.divsi (iotaInDim S256 32 0) d
  select (andi (cmpi .ne (signi (iotaInDim S256 32 0)) (broadcastInDim S256 ![] bcast_S_S256 (signi (constantI S_ 32 64#32))))
    (cmpi .ne (Host.remsi (iotaInDim S256 32 0) d) (broadcastInDim S256 ![] bcast_S_S256 (constantI S_ 32 0#32))))
    (subi q (broadcastInDim S256 ![] bcast_S_S256 (constantI S_ 32 1#32))) q

/-- The token a row by position belongs to. -/
def tokenOf : IVec S256 32 := addi (muli byMod (broadcastInDim S256 ![] bcast_S_S256 (constantI S_ 32 4#32))) byDiv

theorem tokenOf_at : ∀ r : Fin 256, tokenOf (ix1 r) = BitVec.ofNat 32 (r.val % 64 * 4 + r.val / 64) := by decide +kernel

/-- The permutation the host builds. -/
def permT : FVec Ideal S256x256 .bf16 :=
  transpose S256x256 [1, 0] (uitofp (F := Ideal) .bf16 (cmpi .eq
    (broadcastInDim S256x256 ![0, 1] bcast_S256x1_S256x256_0_1 (broadcastInDim S256x1 ![0] bcast_S256_S256x1_0 tokenOf))
    (broadcastInDim S256x256 ![0, 1] bcast_S1x256_S256x256_0_1 (broadcastInDim S1x256 ![1] bcast_S256_S1x256_1 (iotaInDim S256 32 0)))))
    transposes_S256x256_S256x256_1_0

theorem permT_at (s r : Fin 256) : permT (ix2 s r) = if r.val % 64 * 4 + r.val / 64 = s.val then (1 : EReal) else (0 : EReal) := by
  unfold permT
  pointwise
  rw [tokenOf_at]
  have one_at : (FloatOps.uitofp FTy.bf16 1#1 : Ideal .bf16) = (1 : EReal) := by
    change (((1#1 : BitVec 1).toNat : ℝ) : EReal) = 1
    simp
  have zero_at : (FloatOps.uitofp FTy.bf16 0#1 : Ideal .bf16) = (0 : EReal) := by
    change (((0#1 : BitVec 1).toNat : ℝ) : EReal) = 0
    simp
  by_cases h : r.val % 64 * 4 + r.val / 64 = s.val
  · rw [if_pos h, h, show IntOp.cmpi .eq (BitVec.ofNat 32 s.val) (BitVec.ofNat 32 s.val) = 1#1 by simp [IntOp.cmpi], one_at]
  · have hb : BitVec.ofNat 32 (r.val % 64 * 4 + r.val / 64) ≠ BitVec.ofNat 32 s.val := fun e => h (by
      have := congrArg BitVec.toNat e
      simp only [BitVec.toNat_ofNat] at this
      omega)
    rw [if_neg h, show IntOp.cmpi .eq (BitVec.ofNat 32 (r.val % 64 * 4 + r.val / 64)) (BitVec.ofNat 32 s.val) = 0#1 by
      simp only [IntOp.cmpi, beq_eq_false_iff_ne.2 hb]
      rfl, zero_at]

/-- What the region's operands hold, made by the host lines before it. -/
theorem entry (c : Dev nD) :
    V m c main_v19 = permT
    ∧ V m c main_v0 = truncf (F := Ideal) .bf16 (m ((c : Thread nD τ).loc main_arg4)) bitsLt_bf16_f32
    ∧ V m c main_v1 = truncf (F := Ideal) .bf16 (m ((c : Thread nD τ).loc main_arg5)) bitsLt_bf16_f32
    ∧ V m c main_v2 = shapeCast S1x1024 (m ((c : Thread nD τ).loc main_arg6)) shapeCasts_S1024_S1x1024
    ∧ V m c main_v3 = truncf (F := Ideal) .bf16 (m ((c : Thread nD τ).loc main_arg7)) bitsLt_bf16_f32
    ∧ V m c main_v4 = truncf (F := Ideal) .bf16 (m ((c : Thread nD τ).loc main_arg8)) bitsLt_bf16_f32
    ∧ V m c main_v5 = shapeCast S1x1024 (m ((c : Thread nD τ).loc main_arg9)) shapeCasts_S1024_S1x1024 := by
  refine ⟨?_, ?_, ?_, ?_, ?_, ?_, ?_⟩
  all_goals
    unfold V
    simp only [hostOps0, hostOps0_1, hostOps0_2, hostOps0_3, hostOps0_4, List.flatten_cons,
      List.flatten_nil, List.append_nil, List.cons_append, List.nil_append]
    simp only [StableHlo.after_cons, StableHlo.after_nil]
    after_results_simp
    try rfl

theorem emb_at (t : Fin cfg0.N) :
    (∀ (a b : Fin 256), ((View.whole main_v19).slice ((win0 4).rect t)).emb (ix2 a b) = ix2 a b)
    ∧ (∀ (a : Fin 1024) (b : Fin 2048), ((View.whole main_v0).slice ((win0 5).rect t)).emb (ix2 a b) = ix2 a b)
    ∧ (∀ (a b : Fin 1024), ((View.whole main_v1).slice ((win0 6).rect t)).emb (ix2 a b) = ix2 a b)
    ∧ (∀ (a : Fin 1) (b : Fin 1024), ((View.whole main_v2).slice ((win0 7).rect t)).emb (ix2 a b) = ix2 a b)
    ∧ (∀ (a : Fin 1024) (b : Fin 4096), ((View.whole main_v3).slice ((win0 8).rect t)).emb (ix2 a b) = ix2 a b)
    ∧ (∀ (a : Fin 4096) (b : Fin 1024), ((View.whole main_v4).slice ((win0 9).rect t)).emb (ix2 a b) = ix2 a b)
    ∧ (∀ (a : Fin 1) (b : Fin 1024), ((View.whole main_v5).slice ((win0 10).rect t)).emb (ix2 a b) = ix2 a b) := by
  refine ⟨?_, ?_, ?_, ?_, ?_, ?_, ?_⟩
  all_goals
    intros
    try blk_ext [idx t]

theorem gain_at (g : Vec Ideal S1024 .f32) (k : Fin 1024) : shapeCast S1x1024 g shapeCasts_S1024_S1x1024 (ix2 0 k) = g (ix1 k) := by
  pointwise

theorem x4_at (c : Dev nD) (t : Fin cfg0.N) (s r : Fin 256) :
    iblk m c 4 t (ix2 s r) = if r.val % 64 * 4 + r.val / 64 = s.val then (1 : EReal) else (0 : EReal) :=
  (congrArg _ ((emb_at t).1 s r)).trans ((congrFun (entry m c).1 _).trans (permT_at s r))

theorem x5_at (c : Dev nD) (t : Fin cfg0.N) (k : Fin 1024) (j : Fin 2048) :
    iblk m c 5 t (ix2 k j) = m ((c : Thread nD τ).loc main_arg4) (ix2 k j) :=
  (congrArg _ ((emb_at t).2.1 k j)).trans (congrFun (entry m c).2.1 _)

theorem x6_at (c : Dev nD) (t : Fin cfg0.N) (k j : Fin 1024) :
    iblk m c 6 t (ix2 k j) = m ((c : Thread nD τ).loc main_arg5) (ix2 k j) :=
  (congrArg _ ((emb_at t).2.2.1 k j)).trans (congrFun (entry m c).2.2.1 _)

theorem x7_at (c : Dev nD) (t : Fin cfg0.N) (k : Fin 1024) :
    iblk m c 7 t (ix2 0 k) = m ((c : Thread nD τ).loc main_arg6) (ix1 k) :=
  (congrArg _ ((emb_at t).2.2.2.1 0 k)).trans ((congrFun (entry m c).2.2.2.1 _).trans (gain_at _ k))

theorem x8_at (c : Dev nD) (t : Fin cfg0.N) (k : Fin 1024) (j : Fin 4096) :
    iblk m c 8 t (ix2 k j) = m ((c : Thread nD τ).loc main_arg7) (ix2 k j) :=
  (congrArg _ ((emb_at t).2.2.2.2.1 k j)).trans (congrFun (entry m c).2.2.2.2.1 _)

theorem x9_at (c : Dev nD) (t : Fin cfg0.N) (j : Fin 4096) (k : Fin 1024) :
    iblk m c 9 t (ix2 j k) = m ((c : Thread nD τ).loc main_arg8) (ix2 j k) :=
  (congrArg _ ((emb_at t).2.2.2.2.2.1 j k)).trans (congrFun (entry m c).2.2.2.2.2.1 _)

theorem x10_at (c : Dev nD) (t : Fin cfg0.N) (k : Fin 1024) :
    iblk m c 10 t (ix2 0 k) = m ((c : Thread nD τ).loc main_arg9) (ix1 k) :=
  (congrArg _ ((emb_at t).2.2.2.2.2.2 0 k)).trans ((congrFun (entry m c).2.2.2.2.2.2 _).trans (gain_at _ k))

/-- The layer's result, row by row: token `T` is token `T % 4` of sequence `T / 4`. -/
def layerRows (g : Vec Ideal S128x16384 .bf16) (ma : Vec Ideal S512x1024 .f32) (gs : Vec Ideal S512x1024 .bf16) (xs : Vec Ideal S512x1024 .f32)
    (wg : Vec Ideal S1024x2048 .f32) (wo : Vec Ideal S1024x1024 .f32) (gf : Vec Ideal S1024 .f32) (wu : Vec Ideal S1024x4096 .f32)
    (wd : Vec Ideal S4096x1024 .f32) (gl : Vec Ideal S1024 .f32) (T : Fin 512) : Fin 1024 → EReal :=
  Rows.row (fun n => g (ix2 ⟨T.val / 4, by omega⟩ ⟨256 * (n.val / 16) + (16 * (T.val % 4) + n.val % 16), by omega⟩)) (fun k => ma (ix2 T k)) (fun k => gs (ix2 T k))
    (fun k => xs (ix2 T k)) (fun k j => wg (ix2 k j)) (fun k j => wo (ix2 k j)) (fun k => gf (ix1 k)) (fun k j => wu (ix2 k j)) (fun k j => wd (ix2 k j))
    (fun k => gl (ix1 k))

/-- The same as one array. -/
def layer (g : Vec Ideal S128x16384 .bf16) (ma : Vec Ideal S512x1024 .f32) (gs : Vec Ideal S512x1024 .bf16) (xs : Vec Ideal S512x1024 .f32)
    (wg : Vec Ideal S1024x2048 .f32) (wo : Vec Ideal S1024x1024 .f32) (gf : Vec Ideal S1024 .f32) (wu : Vec Ideal S1024x4096 .f32)
    (wd : Vec Ideal S4096x1024 .f32) (gl : Vec Ideal S1024 .f32) : Vec Ideal S512x1024 .f32 := fun y =>
  layerRows g ma gs xs wg wo gf wu wd gl (y 0) (y 1)

/-- A block's row from what its operands hold. -/
theorem row_of (x0 : Vec Ideal S64x16384 .bf16) (x1 : Vec Ideal S256x1024 .f32) (x2 : Vec Ideal S256x1024 .bf16) (x3 : Vec Ideal S256x1024 .f32)
    (x5 : Vec Ideal S1024x2048 .bf16) (x6 : Vec Ideal S1024x1024 .bf16) (x7 : Vec Ideal S1x1024 .f32)
    (x8 : Vec Ideal S1024x4096 .bf16) (x9 : Vec Ideal S4096x1024 .bf16) (x10 : Vec Ideal S1x1024 .f32)
    (g : Vec Ideal S128x16384 .bf16) (ma : Vec Ideal S512x1024 .f32) (gs : Vec Ideal S512x1024 .bf16) (xs : Vec Ideal S512x1024 .f32)
    (wg : Vec Ideal S1024x2048 .f32) (wo : Vec Ideal S1024x1024 .f32) (gf : Vec Ideal S1024 .f32) (wu : Vec Ideal S1024x4096 .f32)
    (wd : Vec Ideal S4096x1024 .f32) (gl : Vec Ideal S1024 .f32) (t : Fin cfg0.N) (s : Fin 256)
    (h0 : ∀ b n, x0 (ix2 b n) = g (ix2 (seq t b) n)) (h1 : ∀ k, x1 (ix2 s k) = ma (ix2 (tok t s) k)) (h2 : ∀ k, x2 (ix2 s k) = gs (ix2 (tok t s) k))
    (h3 : ∀ k, x3 (ix2 s k) = xs (ix2 (tok t s) k)) (h5 : ∀ k j, x5 (ix2 k j) = wg (ix2 k j)) (h6 : ∀ k j, x6 (ix2 k j) = wo (ix2 k j))
    (h7 : ∀ k, x7 (ix2 0 k) = gf (ix1 k)) (h8 : ∀ k j, x8 (ix2 k j) = wu (ix2 k j)) (h9 : ∀ k j, x9 (ix2 k j) = wd (ix2 k j))
    (h10 : ∀ k, x10 (ix2 0 k) = gl (ix1 k)) (n : Fin 1024) :
    Rows.row (recur x0 s) (fun k => x1 (ix2 s k)) (fun k => x2 (ix2 s k)) (fun k => x3 (ix2 s k)) (fun k j => x5 (ix2 k j)) (fun k j => x6 (ix2 k j))
        (fun k => x7 (ix2 0 k)) (fun k j => x8 (ix2 k j)) (fun k j => x9 (ix2 k j)) (fun k => x10 (ix2 0 k)) n
      = layerRows g ma gs xs wg wo gf wu wd gl (tok t s) n := by
  have hr : recur x0 s = fun n => g (ix2 ⟨(tok t s).val / 4, by omega⟩ ⟨256 * (n.val / 16) + (16 * ((tok t s).val % 4) + n.val % 16), by omega⟩) :=
    funext fun n => (h0 _ _).trans (congrArg₂ (fun a b => g (ix2 a b)) (Fin.ext (by simp only [seq, tok]; omega)) (Fin.ext (by simp only [tok]; omega)))
  unfold layerRows
  rw [hr]
  simp only [h1, h2, h3, h5, h6, h7, h8, h9, h10]

theorem final11 (c : Dev nD) :
    (dats m 0 c).arrAt 11 cfg0.N = layer (m ((c : Thread nD τ).loc main_arg0)) (m ((c : Thread nD τ).loc main_arg1))
      (m ((c : Thread nD τ).loc main_arg2)) (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8)) (m ((c : Thread nD τ).loc main_arg9)) := by
  refine (dats m 0 c).arrAt_eq_of_covers 11 _ (by decide +kernel) fun t _ y => ?_
  blk_simp
  rw [after0_11]
  obtain ⟨s, n, rfl⟩ : ∃ (s : Fin 256) (n : Fin 1024), y = ix2 s n := ⟨y 0, y 1, by blk_ext⟩
  have e : (win0_11.blk t).view.emb (ix2 s n) = ix2 (tok t s) n := by blk_ext [idx t, tok]
  rw [out11_at _ _ _ _ _ _ _ _ _ _ _ (x4_at m c t), e]
  exact row_of _ _ _ _ _ _ _ _ _ _ _ _ _ _ _ _ _ _ _ _ t s (x0_at m c t) (x1_at m c t s) (x2_at m c t s) (x3_at m c t s) (x5_at m c t) (x6_at m c t)
    (x7_at m c t) (x8_at m c t) (x9_at m c t) (x10_at m c t) n

end Cert.Kernel2Ideal.Value
end
-- ==== Proof.PostReference.lean ====
module
public import proofs.«01_k».proof.Proof.Gen.Reference2Ideal.Run
public import proofs.«01_k».proof.Proof.Rows
public import Idealize.ShloMosaic.Lib.Pipeline.ValueKit
public import Idealize.ShloMosaic.Lib.Pointwise

/-! # The second reference, row by row -/

@[expose] public section

set_option maxRecDepth 16384

noncomputable section

namespace Cert.Reference2Ideal.Value

open Cert.Reference2Ideal Cert.Reference2Ideal.Gen Idealize.ShloMosaic Idealize.ShloMosaic.TcCoe Idealize.SL.Sem Cert.Rows

/-- The recurrence's values, a row to a token. -/
def tokens (g : FVec Ideal S128x16384 .bf16) : FVec Ideal S512x1024 .f32 :=
  shapeCast S512x1024 (transpose S128x4x64x16 [0, 2, 1, 3] (extractStridedSlice S128x64x4x16 ![0, 0, 0, 0] (shapeCast S128x64x16x16 (extf (F := Ideal) .f32 g bitsLt_bf16_f32) shapeCasts_S128x16384_S128x64x16x16) slices_S128x64x16x16_S128x64x4x16_0_0_0_0) transposes_S128x64x4x16_S128x4x64x16_0_2_1_3) shapeCasts_S128x4x64x16_S512x1024

theorem tokens_at (g : FVec Ideal S128x16384 .bf16) (T : Fin 512) (n : Fin 1024) :
    tokens g (ix2 T n) = g (ix2 ⟨T.val / 4, by omega⟩ ⟨256 * (n.val / 16) + (16 * (T.val % 4) + n.val % 16), by omega⟩) := by
  obtain ⟨b, k, hT⟩ : ∃ (b : Fin 128) (k : Fin 4), T = ⟨b.val * 4 + k.val, by omega⟩ :=
    ⟨⟨T.val / 4, by omega⟩, ⟨T.val % 4, by omega⟩, Fin.ext (by simp; omega)⟩
  obtain ⟨p, c, hn⟩ : ∃ (p : Fin 64) (c : Fin 16), n = ⟨p.val * 16 + c.val, by omega⟩ :=
    ⟨⟨n.val / 16, by omega⟩, ⟨n.val % 16, by omega⟩, Fin.ext (by simp; omega)⟩
  subst hT hn
  unfold tokens
  pointwise
  refine congrArg₂ (fun a b => g (ix2 a b)) (Fin.ext ?_) (Fin.ext ?_) <;> simp <;> omega

/-- The gated product. -/
def glu (t : FVec Ideal S512x1024 .f32) (wg : FVec Ideal S1024x2048 .f32) : FVec Ideal S512x2048 .f32 :=
  Host.dotGeneral dot_S512x1024_S1024x2048_S512x2048_1_0_0_1_n_n none t wg

/-- The branches merged. -/
def merge (t : FVec Ideal S512x1024 .f32) (ma : FVec Ideal S512x1024 .f32) (gs : FVec Ideal S512x1024 .bf16) (wg : FVec Ideal S1024x2048 .f32) : FVec Ideal S512x1024 .f32 :=
  addf ma (mulf (extf .f32 gs bitsLt_bf16_f32) (mulf (extractStridedSlice S512x1024 ![0, 0] (glu t wg) slices_S512x2048_S512x1024_0_0)
    (Host.divf (broadcastInDim S512x1024 ![] bcast_S_S512x1024 (constant (F := Ideal) S_ .f32 0x3F800000#32))
      (addf (broadcastInDim S512x1024 ![] bcast_S_S512x1024 (constant (F := Ideal) S_ .f32 0x3F800000#32))
        (Host.exp (Host.negf (extractStridedSlice S512x1024 ![0, 1024] (glu t wg) slices_S512x2048_S512x1024_0_1024)))))))

theorem merge_at (t : FVec Ideal S512x1024 .f32) (ma : FVec Ideal S512x1024 .f32) (gs : FVec Ideal S512x1024 .bf16) (wg : FVec Ideal S1024x2048 .f32) (T : Fin 512) (n : Fin 1024) :
    merge t ma gs wg (ix2 T n) = Rows.merged (fun k => t (ix2 T k)) (fun k => ma (ix2 T k)) (fun k => gs (ix2 T k)) (fun k j => wg (ix2 k j)) n := by
  unfold merge glu Rows.merged Rows.gate through
  pointwise

/-- The residual after the merged branches. -/
def mix (p xs : FVec Ideal S512x1024 .f32) (wo : FVec Ideal S1024x1024 .f32) : FVec Ideal S512x1024 .f32 :=
  addf xs (Host.dotGeneral dot_S512x1024_S1024x1024_S512x1024_1_0_0_1_n_n none p wo)

theorem mix_at (p xs : FVec Ideal S512x1024 .f32) (wo : FVec Ideal S1024x1024 .f32) (T : Fin 512) (n : Fin 1024) :
    mix p xs wo (ix2 T n) = xs (ix2 T n) + through (fun k => p (ix2 T k)) (fun k j => wo (ix2 k j)) n := by
  unfold mix through
  pointwise

/-- Rows normalised. -/
def normed (x : FVec Ideal S512x1024 .f32) (g : FVec Ideal S1024 .f32) : FVec Ideal S512x1024 .f32 :=
  mulf (mulf x (broadcastInDim S512x1024 ![0, 1] bcast_S512x1_S512x1024_0_1 (Host.rsqrt (addf (Host.divf (broadcastInDim S512x1 ![0] bcast_S512_S512x1_0
    (Host.reduceAdd (mulf x x) (constant (F := Ideal) S_ .f32 0x00000000#32) reducesTo_S512x1024_S512_d1 h_S_)) (broadcastInDim S512x1 ![] bcast_S_S512x1 (constant (F := Ideal) S_ .f32 0x44800000#32)))
    (broadcastInDim S512x1 ![] bcast_S_S512x1 (constant (F := Ideal) S_ .f32 0x3727C5AC#32))))))
    (broadcastInDim S512x1024 ![0, 1] bcast_S1x1024_S512x1024_0_1 (broadcastInDim S1x1024 ![1] bcast_S1024_S1x1024_1 g))

theorem normed_at (x : FVec Ideal S512x1024 .f32) (g : FVec Ideal S1024 .f32) (T : Fin 512) (n : Fin 1024) :
    normed x g (ix2 T n) = Rows.norm (fun k => x (ix2 T k)) (fun k => g (ix1 k)) n := by
  unfold normed Rows.norm
  pointwise

/-- The feed-forward with its residual. -/
def feed (x : FVec Ideal S512x1024 .f32) (gf : FVec Ideal S1024 .f32) (wu : FVec Ideal S1024x4096 .f32) (wd : FVec Ideal S4096x1024 .f32) : FVec Ideal S512x1024 .f32 :=
  have u : FVec Ideal S512x4096 .f32 := maximumf (Host.dotGeneral dot_S512x1024_S1024x4096_S512x4096_1_0_0_1_n_n none (normed x gf) wu)
    (broadcastInDim S512x4096 ![] bcast_S_S512x4096 (constant (F := Ideal) S_ .f32 0x00000000#32))
  addf x (Host.dotGeneral dot_S512x4096_S4096x1024_S512x1024_1_0_0_1_n_n none (mulf u u) wd)

theorem feed_at (x : FVec Ideal S512x1024 .f32) (gf : FVec Ideal S1024 .f32) (wu : FVec Ideal S1024x4096 .f32) (wd : FVec Ideal S4096x1024 .f32) (T : Fin 512) (n : Fin 1024) :
    feed x gf wu wd (ix2 T n) = Rows.fed (fun k => x (ix2 T k)) (fun k => gf (ix1 k)) (fun k j => wu (ix2 k j)) (fun k j => wd (ix2 k j)) n := by
  have h : ∀ k, normed x gf (ix2 T k) = Rows.norm (fun k => x (ix2 T k)) (fun k => gf (ix1 k)) k := normed_at x gf T
  unfold feed Rows.fed
  generalize normed x gf = y at h ⊢
  rw [← funext h]
  unfold Rows.square through
  pointwise

/-- A row of the whole. -/
theorem whole_at (g : FVec Ideal S128x16384 .bf16) (ma : FVec Ideal S512x1024 .f32) (gs : FVec Ideal S512x1024 .bf16) (xs : FVec Ideal S512x1024 .f32)
    (wg : FVec Ideal S1024x2048 .f32) (wo : FVec Ideal S1024x1024 .f32) (gf : FVec Ideal S1024 .f32) (wu : FVec Ideal S1024x4096 .f32)
    (wd : FVec Ideal S4096x1024 .f32) (gl : FVec Ideal S1024 .f32) (T : Fin 512) (n : Fin 1024) :
    normed (feed (mix (merge (tokens g) ma gs wg) xs wo) gf wu wd) gl (ix2 T n)
      = Rows.row (fun n => g (ix2 ⟨T.val / 4, by omega⟩ ⟨256 * (n.val / 16) + (16 * (T.val % 4) + n.val % 16), by omega⟩)) (fun k => ma (ix2 T k)) (fun k => gs (ix2 T k))
          (fun k => xs (ix2 T k)) (fun k j => wg (ix2 k j)) (fun k j => wo (ix2 k j)) (fun k => gf (ix1 k)) (fun k j => wu (ix2 k j)) (fun k j => wd (ix2 k j))
          (fun k => gl (ix1 k)) n := by
  rw [normed_at, funext fun k => feed_at _ gf wu wd T k, funext fun k => mix_at _ xs wo T k, funext fun k => merge_at _ ma gs wg T k,
    funext fun k => tokens_at g T k]
  rfl

variable (m : (ℓ : Loc nD τ sig) → Buf (Elt Ideal) ℓ)

theorem res0_eq (c : Dev nD) : res_out0 m c
    = normed (feed (mix (merge (tokens (m ((c.tc : Thread nD τ).loc main_arg0))) (m ((c.tc : Thread nD τ).loc main_arg1)) (m ((c.tc : Thread nD τ).loc main_arg2)) (m ((c.tc : Thread nD τ).loc main_arg4)))
        (m ((c.tc : Thread nD τ).loc main_arg3)) (m ((c.tc : Thread nD τ).loc main_arg5))) (m ((c.tc : Thread nD τ).loc main_arg6)) (m ((c.tc : Thread nD τ).loc main_arg7)) (m ((c.tc : Thread nD τ).loc main_arg8)))
        (m ((c.tc : Thread nD τ).loc main_arg9)) := rfl

end Cert.Reference2Ideal.Value
end
-- ==== Proof.PostMatch.lean ====
module
public import proofs.«01_k».proof.Proof.PostBridge
public import proofs.«01_k».proof.Proof.PostReference

/-! # The second kernel's array and the second reference's are the same -/

@[expose] public section

set_option maxRecDepth 16384

noncomputable section

namespace Cert.PostMatch

open Idealize.ShloMosaic Cert.Kernel2Ideal.Value
open Cert.Kernel2Ideal (S128x16384 S512x1024 S1024x2048 S1024x1024 S1024 S1024x4096 S4096x1024)
open Cert.Reference2Ideal.Value (normed feed mix merge tokens whole_at)

theorem layer_eq (g : FVec Ideal S128x16384 .bf16) (ma : FVec Ideal S512x1024 .f32) (gs : FVec Ideal S512x1024 .bf16) (xs : FVec Ideal S512x1024 .f32)
    (wg : FVec Ideal S1024x2048 .f32) (wo : FVec Ideal S1024x1024 .f32) (gf : FVec Ideal S1024 .f32) (wu : FVec Ideal S1024x4096 .f32)
    (wd : FVec Ideal S4096x1024 .f32) (gl : FVec Ideal S1024 .f32) :
    normed (feed (mix (merge (tokens g) ma gs wg) xs wo) gf wu wd) gl = layer g ma gs xs wg wo gf wu wd gl := by
  funext y
  obtain ⟨T, n, rfl⟩ : ∃ (T : Fin 512) (n : Fin 1024), y = ix2 T n := ⟨y 0, y 1, by funext a; fin_cases a <;> rfl⟩
  exact whole_at g ma gs xs wg wo gf wu wd gl T n

end Cert.PostMatch
end
-- ==== Proof.Laid.lean ====
module
public import Idealize.ShloMosaic.Lib.Pipeline.FrameBody

/-! # The 256 rectangles of 64 by 128 that the third call writes one after another -/

@[expose] public section

set_option maxRecDepth 16384

noncomputable section

namespace Cert.Laid

open Idealize.ShloMosaic

/-- The array written. -/
abbrev S : Shape := ⟨2, ![128, 16384]⟩

/-- The `n`-th rectangle: half `n / 128` of the rows, and in lane tile `n / 16 % 8` the first or the last 128 columns of group `n % 8`. -/
abbrev spot (n : ℕ) : Rect S :=
  Rect.unit (s := S) ![64 * (n / 128 % 2), 256 * (8 * (n / 16 % 8) + n % 8) + 128 * (n / 8 % 2)] ![64, 128]
    (fun a => by fin_cases a <;> simp <;> omega)

/-- The first `n` rectangles, the last of them first. -/
def spots : ℕ → List (Rect S)
  | 0 => []
  | n + 1 => spot n :: spots n

theorem mem_spots : ∀ (N n : ℕ), n < N → spot n ∈ spots N
  | 0, _, h => absurd h (Nat.not_lt_zero _)
  | N + 1, n, h => by
    rcases Nat.lt_succ_iff_lt_or_eq.1 h with h' | rfl
    · exact List.mem_cons_of_mem _ (mem_spots N n h')
    · exact List.mem_cons_self

/-- The rectangle of four coordinates: half, lane tile, side and group. -/
theorem spot_parts (a b c d : ℕ) (ha : a < 2) (hb : b < 8) (hc : c < 2) (hd : d < 8) :
    (128 * a + 16 * b + 8 * c + d) / 128 % 2 = a ∧ (128 * a + 16 * b + 8 * c + d) / 16 % 8 = b
      ∧ (128 * a + 16 * b + 8 * c + d) / 8 % 2 = c ∧ (128 * a + 16 * b + 8 * c + d) % 8 = d := by
  refine ⟨?_, ?_, ?_, ?_⟩ <;> omega

/-- Every index lies in one of the rectangles. -/
theorem mem_spot (y : S.Idx) : ∃ n < 256, y ∈ (spot n).set := by
  have h0 : (y 0).val < 128 := (y 0).isLt
  have h1 : (y 1).val < 16384 := (y 1).isLt
  obtain ⟨ea, eb, ec, ed⟩ := spot_parts ((y 0).val / 64) ((y 1).val / 2048) ((y 1).val / 128 % 2) ((y 1).val / 256 % 8)
    (by omega) (by omega) (by omega) (by omega)
  refine ⟨128 * ((y 0).val / 64) + 16 * ((y 1).val / 2048) + 8 * ((y 1).val / 128 % 2) + (y 1).val / 256 % 8, by omega, ?_⟩
  refine Rect.mem_set_unit.mpr fun a => ?_
  rw [ea, eb, ec, ed]
  fin_cases a
  · show 64 * ((y 0).val / 64) ≤ (y 0).val ∧ (y 0).val < 64 * ((y 0).val / 64) + 64
    omega
  · show 256 * (8 * ((y 1).val / 2048) + (y 1).val / 256 % 8) + 128 * ((y 1).val / 128 % 2) ≤ (y 1).val
      ∧ (y 1).val < 256 * (8 * ((y 1).val / 2048) + (y 1).val / 256 % 8) + 128 * ((y 1).val / 128 % 2) + 128
    omega

/-- Stores through these rectangles, whatever they write, leave no index out. -/
theorem covered {Val : EltTy → Type} {e : EltTy} (L : List (View.Piece Val S e)) (h : L.map (fun p => p.1) = spots 256) (y : S.Idx) :
    ∃ p ∈ L, y ∈ p.1.set := by
  obtain ⟨n, hn, hy⟩ := mem_spot y
  have hm := mem_spots 256 n hn
  rw [← h, List.mem_map] at hm
  obtain ⟨p, hp, e⟩ := hm
  exact ⟨p, hp, e ▸ hy⟩

end Cert.Laid
end
-- ==== Proof.ProjIdealFrame.lean ====
module

public import proofs.«01_k».proof.Proof.Gen.Kernel3Ideal.Launch
public import proofs.«01_k».proof.Proof.Gen.Kernel3Ideal.Skeleton
public import proofs.«01_k».proof.Proof.Gen.Kernel3Ideal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp
public import proofs.«01_k».proof.Proof.Laid

/-! The frame of the call `proj` over the reals: what its body leaves in every output block, and the run of the whole call. It
    follows the generated frame; that the 256 stores of the recurrence's input cover their block is
    `Cert.Laid.covered`. -/

@[expose] public section

-- the lists of stores below are long
set_option maxRecDepth 16384

noncomputable section

namespace Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0`, `hostOps0_1`, `hostOps0_2`, `hostOps0_3`, `hostOps0_4`. -/
abbrev V (c : Dev nD) (b : Ref sig .tc) : Buf (Elt F) ((c : Thread nD τ).loc b) :=
  StableHlo.after (List.flatten [hostOps0, hostOps0_1, hostOps0_2, hostOps0_3, hostOps0_4]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor

set_option maxHeartbeats 800000 in
/-- @main up to the region, at the certificate's variants `𝒱₀`: the lines of host operations then the region
    (`Pipeline.hmain_prefixes`, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4] (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_Kernel3Ideal`, Defs.lean, at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩) h

/-! ## The body's accesses -/

abbrev r0_0 : Rect S512x1024 := Rect.unit (s := S512x1024) ![0, 0] S512x1024.size inb_S512x1024_S512x1024_0_0
abbrev r0_1 : Rect S1x1024 := Rect.unit (s := S1x1024) ![0, 0] S1x1024.size inb_S1x1024_S1x1024_0_0
abbrev r0_2 : Rect S1024x4608 := Rect.unit (s := S1024x4608) ![0, 0] S1024x1024.size inb_S1024x4608_S1024x1024_0_0
abbrev r0_3 : Rect S1024x4608 := Rect.unit (s := S1024x4608) ![0, 1024] S1024x512.size inb_S1024x4608_S1024x512_0_1024
abbrev r0_4 : Rect S512x512 := Rect.unit (s := S512x512) ![0, 0] S512x512.size inb_S512x512_S512x512_0_0
abbrev r0_5 : Rect S1024x4608 := Rect.unit (s := S1024x4608) ![0, 1536] S1024x1024.size inb_S1024x4608_S1024x1024_0_1536
abbrev r0_6 : Rect S256x256 := Rect.unit (s := S256x256) ![0, 0] S256x256.size inb_S256x256_S256x256_0_0
abbrev r0_7 : Rect S128x16384 := Rect.unit (s := S128x16384) ![0, 0] S64x128.size inb_S128x16384_S64x128_0_0
abbrev r0_8 : Rect S128x16384 := Rect.unit (s := S128x16384) ![0, 256] S64x128.size inb_S128x16384_S64x128_0_256
abbrev r0_9 : Rect S128x16384 := Rect.unit (s := S128x16384) ![0, 512] S64x128.size inb_S128x16384_S64x128_0_512
abbrev r0_10 : Rect S128x16384 := Rect.unit (s := S128x16384) ![0, 768] S64x128.size inb_S128x16384_S64x128_0_768
abbrev r0_11 : Rect S128x16384 := Rect.unit (s := S128x16384) ![0, 1024] S64x128.size inb_S128x16384_S64x128_0_1024
abbrev r0_12 : Rect S128x16384 := Rect.unit (s := S128x16384) ![0, 1280] S64x128.size inb_S128x16384_S64x128_0_1280
abbrev r0_13 : Rect S128x16384 := Rect.unit (s := S128x16384) ![0, 1536] S64x128.size inb_S128x16384_S64x128_0_1536
abbrev r0_14 : Rect S128x16384 := Rect.unit (s := S128x16384) ![0, 1792] S64x128.size inb_S128x16384_S64x128_0_1792
abbrev r0_15 : Rect S128x16384 := Rect.unit (s := S128x16384) ![0, 128] S64x128.size inb_S128x16384_S64x128_0_128
abbrev r0_16 : Rect S128x16384 := Rect.unit (s := S128x16384) ![0, 384] S64x128.size inb_S128x16384_S64x128_0_384
abbrev r0_17 : Rect S128x16384 := Rect.unit (s := S128x16384) ![0, 640] S64x128.size inb_S128x16384_S64x128_0_640
abbrev r0_18 : Rect S128x16384 := Rect.unit (s := S128x16384) ![0, 896] S64x128.size inb_S128x16384_S64x128_0_896
abbrev r0_19 : Rect S128x16384 := Rect.unit (s := S128x16384) ![0, 1152] S64x128.size inb_S128x16384_S64x128_0_1152
abbrev r0_20 : Rect S128x16384 := Rect.unit (s := S128x16384) ![0, 1408] S64x128.size inb_S128x16384_S64x128_0_1408
abbrev r0_21 : Rect S128x16384 := Rect.unit (s := S128x16384) ![0, 1664] S64x128.size inb_S128x16384_S64x128_0_1664
abbrev r0_22 : Rect S128x16384 := Rect.unit (s := S128x16384) ![0, 1920] S64x128.size inb_S128x16384_S64x128_0_1920
abbrev r0_23 : Rect S128x16384 := Rect.unit (s := S128x16384) ![0, 2048] S64x128.size inb_S128x16384_S64x128_0_2048
abbrev r0_24 : Rect S128x16384 := Rect.unit (s := S128x16384) ![0, 2304] S64x128.size inb_S128x16384_S64x128_0_2304
abbrev r0_25 : Rect S128x16384 := Rect.unit (s := S128x16384) ![0, 2560] S64x128.size inb_S128x16384_S64x128_0_2560
abbrev r0_26 : Rect S128x16384 := Rect.unit (s := S128x16384) ![0, 2816] S64x128.size inb_S128x16384_S64x128_0_2816
abbrev r0_27 : Rect S128x16384 := Rect.unit (s := S128x16384) ![0, 3072] S64x128.size inb_S128x16384_S64x128_0_3072
abbrev r0_28 : Rect S128x16384 := Rect.unit (s := S128x16384) ![0, 3328] S64x128.size inb_S128x16384_S64x128_0_3328
abbrev r0_29 : Rect S128x16384 := Rect.unit (s := S128x16384) ![0, 3584] S64x128.size inb_S128x16384_S64x128_0_3584
abbrev r0_30 : Rect S128x16384 := Rect.unit (s := S128x16384) ![0, 3840] S64x128.size inb_S128x16384_S64x128_0_3840
abbrev r0_31 : Rect S128x16384 := Rect.unit (s := S128x16384) ![0, 2176] S64x128.size inb_S128x16384_S64x128_0_2176
abbrev r0_32 : Rect S128x16384 := Rect.unit (s := S128x16384) ![0, 2432] S64x128.size inb_S128x16384_S64x128_0_2432
abbrev r0_33 : Rect S128x16384 := Rect.unit (s := S128x16384) ![0, 2688] S64x128.size inb_S128x16384_S64x128_0_2688
abbrev r0_34 : Rect S128x16384 := Rect.unit (s := S128x16384) ![0, 2944] S64x128.size inb_S128x16384_S64x128_0_2944
abbrev r0_35 : Rect S128x16384 := Rect.unit (s := S128x16384) ![0, 3200] S64x128.size inb_S128x16384_S64x128_0_3200
abbrev r0_36 : Rect S128x16384 := Rect.unit (s := S128x16384) ![0, 3456] S64x128.size inb_S128x16384_S64x128_0_3456
abbrev r0_37 : Rect S128x16384 := Rect.unit (s := S128x16384) ![0, 3712] S64x128.size inb_S128x16384_S64x128_0_3712
abbrev r0_38 : Rect S128x16384 := Rect.unit (s := S128x16384) ![0, 3968] S64x128.size inb_S128x16384_S64x128_0_3968
abbrev r0_39 : Rect S128x16384 := Rect.unit (s := S128x16384) ![0, 4096] S64x128.size inb_S128x16384_S64x128_0_4096
abbrev r0_40 : Rect S128x16384 := Rect.unit (s := S128x16384) ![0, 4352] S64x128.size inb_S128x16384_S64x128_0_4352
abbrev r0_41 : Rect S128x16384 := Rect.unit (s := S128x16384) ![0, 4608] S64x128.size inb_S128x16384_S64x128_0_4608
abbrev r0_42 : Rect S128x16384 := Rect.unit (s := S128x16384) ![0, 4864] S64x128.size inb_S128x16384_S64x128_0_4864
abbrev r0_43 : Rect S128x16384 := Rect.unit (s := S128x16384) ![0, 5120] S64x128.size inb_S128x16384_S64x128_0_5120
abbrev r0_44 : Rect S128x16384 := Rect.unit (s := S128x16384) ![0, 5376] S64x128.size inb_S128x16384_S64x128_0_5376
abbrev r0_45 : Rect S128x16384 := Rect.unit (s := S128x16384) ![0, 5632] S64x128.size inb_S128x16384_S64x128_0_5632
abbrev r0_46 : Rect S128x16384 := Rect.unit (s := S128x16384) ![0, 5888] S64x128.size inb_S128x16384_S64x128_0_5888
abbrev r0_47 : Rect S128x16384 := Rect.unit (s := S128x16384) ![0, 4224] S64x128.size inb_S128x16384_S64x128_0_4224
abbrev r0_48 : Rect S128x16384 := Rect.unit (s := S128x16384) ![0, 4480] S64x128.size inb_S128x16384_S64x128_0_4480
abbrev r0_49 : Rect S128x16384 := Rect.unit (s := S128x16384) ![0, 4736] S64x128.size inb_S128x16384_S64x128_0_4736
abbrev r0_50 : Rect S128x16384 := Rect.unit (s := S128x16384) ![0, 4992] S64x128.size inb_S128x16384_S64x128_0_4992
abbrev r0_51 : Rect S128x16384 := Rect.unit (s := S128x16384) ![0, 5248] S64x128.size inb_S128x16384_S64x128_0_5248
abbrev r0_52 : Rect S128x16384 := Rect.unit (s := S128x16384) ![0, 5504] S64x128.size inb_S128x16384_S64x128_0_5504
abbrev r0_53 : Rect S128x16384 := Rect.unit (s := S128x16384) ![0, 5760] S64x128.size inb_S128x16384_S64x128_0_5760
abbrev r0_54 : Rect S128x16384 := Rect.unit (s := S128x16384) ![0, 6016] S64x128.size inb_S128x16384_S64x128_0_6016
abbrev r0_55 : Rect S128x16384 := Rect.unit (s := S128x16384) ![0, 6144] S64x128.size inb_S128x16384_S64x128_0_6144
abbrev r0_56 : Rect S128x16384 := Rect.unit (s := S128x16384) ![0, 6400] S64x128.size inb_S128x16384_S64x128_0_6400
abbrev r0_57 : Rect S128x16384 := Rect.unit (s := S128x16384) ![0, 6656] S64x128.size inb_S128x16384_S64x128_0_6656
abbrev r0_58 : Rect S128x16384 := Rect.unit (s := S128x16384) ![0, 6912] S64x128.size inb_S128x16384_S64x128_0_6912
abbrev r0_59 : Rect S128x16384 := Rect.unit (s := S128x16384) ![0, 7168] S64x128.size inb_S128x16384_S64x128_0_7168
abbrev r0_60 : Rect S128x16384 := Rect.unit (s := S128x16384) ![0, 7424] S64x128.size inb_S128x16384_S64x128_0_7424
abbrev r0_61 : Rect S128x16384 := Rect.unit (s := S128x16384) ![0, 7680] S64x128.size inb_S128x16384_S64x128_0_7680
abbrev r0_62 : Rect S128x16384 := Rect.unit (s := S128x16384) ![0, 7936] S64x128.size inb_S128x16384_S64x128_0_7936
abbrev r0_63 : Rect S128x16384 := Rect.unit (s := S128x16384) ![0, 6272] S64x128.size inb_S128x16384_S64x128_0_6272
abbrev r0_64 : Rect S128x16384 := Rect.unit (s := S128x16384) ![0, 6528] S64x128.size inb_S128x16384_S64x128_0_6528
abbrev r0_65 : Rect S128x16384 := Rect.unit (s := S128x16384) ![0, 6784] S64x128.size inb_S128x16384_S64x128_0_6784
abbrev r0_66 : Rect S128x16384 := Rect.unit (s := S128x16384) ![0, 7040] S64x128.size inb_S128x16384_S64x128_0_7040
abbrev r0_67 : Rect S128x16384 := Rect.unit (s := S128x16384) ![0, 7296] S64x128.size inb_S128x16384_S64x128_0_7296
abbrev r0_68 : Rect S128x16384 := Rect.unit (s := S128x16384) ![0, 7552] S64x128.size inb_S128x16384_S64x128_0_7552
abbrev r0_69 : Rect S128x16384 := Rect.unit (s := S128x16384) ![0, 7808] S64x128.size inb_S128x16384_S64x128_0_7808
abbrev r0_70 : Rect S128x16384 := Rect.unit (s := S128x16384) ![0, 8064] S64x128.size inb_S128x16384_S64x128_0_8064
abbrev r0_71 : Rect S128x16384 := Rect.unit (s := S128x16384) ![0, 8192] S64x128.size inb_S128x16384_S64x128_0_8192
abbrev r0_72 : Rect S128x16384 := Rect.unit (s := S128x16384) ![0, 8448] S64x128.size inb_S128x16384_S64x128_0_8448
abbrev r0_73 : Rect S128x16384 := Rect.unit (s := S128x16384) ![0, 8704] S64x128.size inb_S128x16384_S64x128_0_8704
abbrev r0_74 : Rect S128x16384 := Rect.unit (s := S128x16384) ![0, 8960] S64x128.size inb_S128x16384_S64x128_0_8960
abbrev r0_75 : Rect S128x16384 := Rect.unit (s := S128x16384) ![0, 9216] S64x128.size inb_S128x16384_S64x128_0_9216
abbrev r0_76 : Rect S128x16384 := Rect.unit (s := S128x16384) ![0, 9472] S64x128.size inb_S128x16384_S64x128_0_9472
abbrev r0_77 : Rect S128x16384 := Rect.unit (s := S128x16384) ![0, 9728] S64x128.size inb_S128x16384_S64x128_0_9728
abbrev r0_78 : Rect S128x16384 := Rect.unit (s := S128x16384) ![0, 9984] S64x128.size inb_S128x16384_S64x128_0_9984
abbrev r0_79 : Rect S128x16384 := Rect.unit (s := S128x16384) ![0, 8320] S64x128.size inb_S128x16384_S64x128_0_8320
abbrev r0_80 : Rect S128x16384 := Rect.unit (s := S128x16384) ![0, 8576] S64x128.size inb_S128x16384_S64x128_0_8576
abbrev r0_81 : Rect S128x16384 := Rect.unit (s := S128x16384) ![0, 8832] S64x128.size inb_S128x16384_S64x128_0_8832
abbrev r0_82 : Rect S128x16384 := Rect.unit (s := S128x16384) ![0, 9088] S64x128.size inb_S128x16384_S64x128_0_9088
abbrev r0_83 : Rect S128x16384 := Rect.unit (s := S128x16384) ![0, 9344] S64x128.size inb_S128x16384_S64x128_0_9344
abbrev r0_84 : Rect S128x16384 := Rect.unit (s := S128x16384) ![0, 9600] S64x128.size inb_S128x16384_S64x128_0_9600
abbrev r0_85 : Rect S128x16384 := Rect.unit (s := S128x16384) ![0, 9856] S64x128.size inb_S128x16384_S64x128_0_9856
abbrev r0_86 : Rect S128x16384 := Rect.unit (s := S128x16384) ![0, 10112] S64x128.size inb_S128x16384_S64x128_0_10112
abbrev r0_87 : Rect S128x16384 := Rect.unit (s := S128x16384) ![0, 10240] S64x128.size inb_S128x16384_S64x128_0_10240
abbrev r0_88 : Rect S128x16384 := Rect.unit (s := S128x16384) ![0, 10496] S64x128.size inb_S128x16384_S64x128_0_10496
abbrev r0_89 : Rect S128x16384 := Rect.unit (s := S128x16384) ![0, 10752] S64x128.size inb_S128x16384_S64x128_0_10752
abbrev r0_90 : Rect S128x16384 := Rect.unit (s := S128x16384) ![0, 11008] S64x128.size inb_S128x16384_S64x128_0_11008
abbrev r0_91 : Rect S128x16384 := Rect.unit (s := S128x16384) ![0, 11264] S64x128.size inb_S128x16384_S64x128_0_11264
abbrev r0_92 : Rect S128x16384 := Rect.unit (s := S128x16384) ![0, 11520] S64x128.size inb_S128x16384_S64x128_0_11520
abbrev r0_93 : Rect S128x16384 := Rect.unit (s := S128x16384) ![0, 11776] S64x128.size inb_S128x16384_S64x128_0_11776
abbrev r0_94 : Rect S128x16384 := Rect.unit (s := S128x16384) ![0, 12032] S64x128.size inb_S128x16384_S64x128_0_12032
abbrev r0_95 : Rect S128x16384 := Rect.unit (s := S128x16384) ![0, 10368] S64x128.size inb_S128x16384_S64x128_0_10368
abbrev r0_96 : Rect S128x16384 := Rect.unit (s := S128x16384) ![0, 10624] S64x128.size inb_S128x16384_S64x128_0_10624
abbrev r0_97 : Rect S128x16384 := Rect.unit (s := S128x16384) ![0, 10880] S64x128.size inb_S128x16384_S64x128_0_10880
abbrev r0_98 : Rect S128x16384 := Rect.unit (s := S128x16384) ![0, 11136] S64x128.size inb_S128x16384_S64x128_0_11136
abbrev r0_99 : Rect S128x16384 := Rect.unit (s := S128x16384) ![0, 11392] S64x128.size inb_S128x16384_S64x128_0_11392
abbrev r0_100 : Rect S128x16384 := Rect.unit (s := S128x16384) ![0, 11648] S64x128.size inb_S128x16384_S64x128_0_11648
abbrev r0_101 : Rect S128x16384 := Rect.unit (s := S128x16384) ![0, 11904] S64x128.size inb_S128x16384_S64x128_0_11904
abbrev r0_102 : Rect S128x16384 := Rect.unit (s := S128x16384) ![0, 12160] S64x128.size inb_S128x16384_S64x128_0_12160
abbrev r0_103 : Rect S128x16384 := Rect.unit (s := S128x16384) ![0, 12288] S64x128.size inb_S128x16384_S64x128_0_12288
abbrev r0_104 : Rect S128x16384 := Rect.unit (s := S128x16384) ![0, 12544] S64x128.size inb_S128x16384_S64x128_0_12544
abbrev r0_105 : Rect S128x16384 := Rect.unit (s := S128x16384) ![0, 12800] S64x128.size inb_S128x16384_S64x128_0_12800
abbrev r0_106 : Rect S128x16384 := Rect.unit (s := S128x16384) ![0, 13056] S64x128.size inb_S128x16384_S64x128_0_13056
abbrev r0_107 : Rect S128x16384 := Rect.unit (s := S128x16384) ![0, 13312] S64x128.size inb_S128x16384_S64x128_0_13312
abbrev r0_108 : Rect S128x16384 := Rect.unit (s := S128x16384) ![0, 13568] S64x128.size inb_S128x16384_S64x128_0_13568
abbrev r0_109 : Rect S128x16384 := Rect.unit (s := S128x16384) ![0, 13824] S64x128.size inb_S128x16384_S64x128_0_13824
abbrev r0_110 : Rect S128x16384 := Rect.unit (s := S128x16384) ![0, 14080] S64x128.size inb_S128x16384_S64x128_0_14080
abbrev r0_111 : Rect S128x16384 := Rect.unit (s := S128x16384) ![0, 12416] S64x128.size inb_S128x16384_S64x128_0_12416
abbrev r0_112 : Rect S128x16384 := Rect.unit (s := S128x16384) ![0, 12672] S64x128.size inb_S128x16384_S64x128_0_12672
abbrev r0_113 : Rect S128x16384 := Rect.unit (s := S128x16384) ![0, 12928] S64x128.size inb_S128x16384_S64x128_0_12928
abbrev r0_114 : Rect S128x16384 := Rect.unit (s := S128x16384) ![0, 13184] S64x128.size inb_S128x16384_S64x128_0_13184
abbrev r0_115 : Rect S128x16384 := Rect.unit (s := S128x16384) ![0, 13440] S64x128.size inb_S128x16384_S64x128_0_13440
abbrev r0_116 : Rect S128x16384 := Rect.unit (s := S128x16384) ![0, 13696] S64x128.size inb_S128x16384_S64x128_0_13696
abbrev r0_117 : Rect S128x16384 := Rect.unit (s := S128x16384) ![0, 13952] S64x128.size inb_S128x16384_S64x128_0_13952
abbrev r0_118 : Rect S128x16384 := Rect.unit (s := S128x16384) ![0, 14208] S64x128.size inb_S128x16384_S64x128_0_14208
abbrev r0_119 : Rect S128x16384 := Rect.unit (s := S128x16384) ![0, 14336] S64x128.size inb_S128x16384_S64x128_0_14336
abbrev r0_120 : Rect S128x16384 := Rect.unit (s := S128x16384) ![0, 14592] S64x128.size inb_S128x16384_S64x128_0_14592
abbrev r0_121 : Rect S128x16384 := Rect.unit (s := S128x16384) ![0, 14848] S64x128.size inb_S128x16384_S64x128_0_14848
abbrev r0_122 : Rect S128x16384 := Rect.unit (s := S128x16384) ![0, 15104] S64x128.size inb_S128x16384_S64x128_0_15104
abbrev r0_123 : Rect S128x16384 := Rect.unit (s := S128x16384) ![0, 15360] S64x128.size inb_S128x16384_S64x128_0_15360
abbrev r0_124 : Rect S128x16384 := Rect.unit (s := S128x16384) ![0, 15616] S64x128.size inb_S128x16384_S64x128_0_15616
abbrev r0_125 : Rect S128x16384 := Rect.unit (s := S128x16384) ![0, 15872] S64x128.size inb_S128x16384_S64x128_0_15872
abbrev r0_126 : Rect S128x16384 := Rect.unit (s := S128x16384) ![0, 16128] S64x128.size inb_S128x16384_S64x128_0_16128
abbrev r0_127 : Rect S128x16384 := Rect.unit (s := S128x16384) ![0, 14464] S64x128.size inb_S128x16384_S64x128_0_14464
abbrev r0_128 : Rect S128x16384 := Rect.unit (s := S128x16384) ![0, 14720] S64x128.size inb_S128x16384_S64x128_0_14720
abbrev r0_129 : Rect S128x16384 := Rect.unit (s := S128x16384) ![0, 14976] S64x128.size inb_S128x16384_S64x128_0_14976
abbrev r0_130 : Rect S128x16384 := Rect.unit (s := S128x16384) ![0, 15232] S64x128.size inb_S128x16384_S64x128_0_15232
abbrev r0_131 : Rect S128x16384 := Rect.unit (s := S128x16384) ![0, 15488] S64x128.size inb_S128x16384_S64x128_0_15488
abbrev r0_132 : Rect S128x16384 := Rect.unit (s := S128x16384) ![0, 15744] S64x128.size inb_S128x16384_S64x128_0_15744
abbrev r0_133 : Rect S128x16384 := Rect.unit (s := S128x16384) ![0, 16000] S64x128.size inb_S128x16384_S64x128_0_16000
abbrev r0_134 : Rect S128x16384 := Rect.unit (s := S128x16384) ![0, 16256] S64x128.size inb_S128x16384_S64x128_0_16256
abbrev r0_135 : Rect S128x16384 := Rect.unit (s := S128x16384) ![64, 0] S64x128.size inb_S128x16384_S64x128_64_0
abbrev r0_136 : Rect S128x16384 := Rect.unit (s := S128x16384) ![64, 256] S64x128.size inb_S128x16384_S64x128_64_256
abbrev r0_137 : Rect S128x16384 := Rect.unit (s := S128x16384) ![64, 512] S64x128.size inb_S128x16384_S64x128_64_512
abbrev r0_138 : Rect S128x16384 := Rect.unit (s := S128x16384) ![64, 768] S64x128.size inb_S128x16384_S64x128_64_768
abbrev r0_139 : Rect S128x16384 := Rect.unit (s := S128x16384) ![64, 1024] S64x128.size inb_S128x16384_S64x128_64_1024
abbrev r0_140 : Rect S128x16384 := Rect.unit (s := S128x16384) ![64, 1280] S64x128.size inb_S128x16384_S64x128_64_1280
abbrev r0_141 : Rect S128x16384 := Rect.unit (s := S128x16384) ![64, 1536] S64x128.size inb_S128x16384_S64x128_64_1536
abbrev r0_142 : Rect S128x16384 := Rect.unit (s := S128x16384) ![64, 1792] S64x128.size inb_S128x16384_S64x128_64_1792
abbrev r0_143 : Rect S128x16384 := Rect.unit (s := S128x16384) ![64, 128] S64x128.size inb_S128x16384_S64x128_64_128
abbrev r0_144 : Rect S128x16384 := Rect.unit (s := S128x16384) ![64, 384] S64x128.size inb_S128x16384_S64x128_64_384
abbrev r0_145 : Rect S128x16384 := Rect.unit (s := S128x16384) ![64, 640] S64x128.size inb_S128x16384_S64x128_64_640
abbrev r0_146 : Rect S128x16384 := Rect.unit (s := S128x16384) ![64, 896] S64x128.size inb_S128x16384_S64x128_64_896
abbrev r0_147 : Rect S128x16384 := Rect.unit (s := S128x16384) ![64, 1152] S64x128.size inb_S128x16384_S64x128_64_1152
abbrev r0_148 : Rect S128x16384 := Rect.unit (s := S128x16384) ![64, 1408] S64x128.size inb_S128x16384_S64x128_64_1408
abbrev r0_149 : Rect S128x16384 := Rect.unit (s := S128x16384) ![64, 1664] S64x128.size inb_S128x16384_S64x128_64_1664
abbrev r0_150 : Rect S128x16384 := Rect.unit (s := S128x16384) ![64, 1920] S64x128.size inb_S128x16384_S64x128_64_1920
abbrev r0_151 : Rect S128x16384 := Rect.unit (s := S128x16384) ![64, 2048] S64x128.size inb_S128x16384_S64x128_64_2048
abbrev r0_152 : Rect S128x16384 := Rect.unit (s := S128x16384) ![64, 2304] S64x128.size inb_S128x16384_S64x128_64_2304
abbrev r0_153 : Rect S128x16384 := Rect.unit (s := S128x16384) ![64, 2560] S64x128.size inb_S128x16384_S64x128_64_2560
abbrev r0_154 : Rect S128x16384 := Rect.unit (s := S128x16384) ![64, 2816] S64x128.size inb_S128x16384_S64x128_64_2816
abbrev r0_155 : Rect S128x16384 := Rect.unit (s := S128x16384) ![64, 3072] S64x128.size inb_S128x16384_S64x128_64_3072
abbrev r0_156 : Rect S128x16384 := Rect.unit (s := S128x16384) ![64, 3328] S64x128.size inb_S128x16384_S64x128_64_3328
abbrev r0_157 : Rect S128x16384 := Rect.unit (s := S128x16384) ![64, 3584] S64x128.size inb_S128x16384_S64x128_64_3584
abbrev r0_158 : Rect S128x16384 := Rect.unit (s := S128x16384) ![64, 3840] S64x128.size inb_S128x16384_S64x128_64_3840
abbrev r0_159 : Rect S128x16384 := Rect.unit (s := S128x16384) ![64, 2176] S64x128.size inb_S128x16384_S64x128_64_2176
abbrev r0_160 : Rect S128x16384 := Rect.unit (s := S128x16384) ![64, 2432] S64x128.size inb_S128x16384_S64x128_64_2432
abbrev r0_161 : Rect S128x16384 := Rect.unit (s := S128x16384) ![64, 2688] S64x128.size inb_S128x16384_S64x128_64_2688
abbrev r0_162 : Rect S128x16384 := Rect.unit (s := S128x16384) ![64, 2944] S64x128.size inb_S128x16384_S64x128_64_2944
abbrev r0_163 : Rect S128x16384 := Rect.unit (s := S128x16384) ![64, 3200] S64x128.size inb_S128x16384_S64x128_64_3200
abbrev r0_164 : Rect S128x16384 := Rect.unit (s := S128x16384) ![64, 3456] S64x128.size inb_S128x16384_S64x128_64_3456
abbrev r0_165 : Rect S128x16384 := Rect.unit (s := S128x16384) ![64, 3712] S64x128.size inb_S128x16384_S64x128_64_3712
abbrev r0_166 : Rect S128x16384 := Rect.unit (s := S128x16384) ![64, 3968] S64x128.size inb_S128x16384_S64x128_64_3968
abbrev r0_167 : Rect S128x16384 := Rect.unit (s := S128x16384) ![64, 4096] S64x128.size inb_S128x16384_S64x128_64_4096
abbrev r0_168 : Rect S128x16384 := Rect.unit (s := S128x16384) ![64, 4352] S64x128.size inb_S128x16384_S64x128_64_4352
abbrev r0_169 : Rect S128x16384 := Rect.unit (s := S128x16384) ![64, 4608] S64x128.size inb_S128x16384_S64x128_64_4608
abbrev r0_170 : Rect S128x16384 := Rect.unit (s := S128x16384) ![64, 4864] S64x128.size inb_S128x16384_S64x128_64_4864
abbrev r0_171 : Rect S128x16384 := Rect.unit (s := S128x16384) ![64, 5120] S64x128.size inb_S128x16384_S64x128_64_5120
abbrev r0_172 : Rect S128x16384 := Rect.unit (s := S128x16384) ![64, 5376] S64x128.size inb_S128x16384_S64x128_64_5376
abbrev r0_173 : Rect S128x16384 := Rect.unit (s := S128x16384) ![64, 5632] S64x128.size inb_S128x16384_S64x128_64_5632
abbrev r0_174 : Rect S128x16384 := Rect.unit (s := S128x16384) ![64, 5888] S64x128.size inb_S128x16384_S64x128_64_5888
abbrev r0_175 : Rect S128x16384 := Rect.unit (s := S128x16384) ![64, 4224] S64x128.size inb_S128x16384_S64x128_64_4224
abbrev r0_176 : Rect S128x16384 := Rect.unit (s := S128x16384) ![64, 4480] S64x128.size inb_S128x16384_S64x128_64_4480
abbrev r0_177 : Rect S128x16384 := Rect.unit (s := S128x16384) ![64, 4736] S64x128.size inb_S128x16384_S64x128_64_4736
abbrev r0_178 : Rect S128x16384 := Rect.unit (s := S128x16384) ![64, 4992] S64x128.size inb_S128x16384_S64x128_64_4992
abbrev r0_179 : Rect S128x16384 := Rect.unit (s := S128x16384) ![64, 5248] S64x128.size inb_S128x16384_S64x128_64_5248
abbrev r0_180 : Rect S128x16384 := Rect.unit (s := S128x16384) ![64, 5504] S64x128.size inb_S128x16384_S64x128_64_5504
abbrev r0_181 : Rect S128x16384 := Rect.unit (s := S128x16384) ![64, 5760] S64x128.size inb_S128x16384_S64x128_64_5760
abbrev r0_182 : Rect S128x16384 := Rect.unit (s := S128x16384) ![64, 6016] S64x128.size inb_S128x16384_S64x128_64_6016
abbrev r0_183 : Rect S128x16384 := Rect.unit (s := S128x16384) ![64, 6144] S64x128.size inb_S128x16384_S64x128_64_6144
abbrev r0_184 : Rect S128x16384 := Rect.unit (s := S128x16384) ![64, 6400] S64x128.size inb_S128x16384_S64x128_64_6400
abbrev r0_185 : Rect S128x16384 := Rect.unit (s := S128x16384) ![64, 6656] S64x128.size inb_S128x16384_S64x128_64_6656
abbrev r0_186 : Rect S128x16384 := Rect.unit (s := S128x16384) ![64, 6912] S64x128.size inb_S128x16384_S64x128_64_6912
abbrev r0_187 : Rect S128x16384 := Rect.unit (s := S128x16384) ![64, 7168] S64x128.size inb_S128x16384_S64x128_64_7168
abbrev r0_188 : Rect S128x16384 := Rect.unit (s := S128x16384) ![64, 7424] S64x128.size inb_S128x16384_S64x128_64_7424
abbrev r0_189 : Rect S128x16384 := Rect.unit (s := S128x16384) ![64, 7680] S64x128.size inb_S128x16384_S64x128_64_7680
abbrev r0_190 : Rect S128x16384 := Rect.unit (s := S128x16384) ![64, 7936] S64x128.size inb_S128x16384_S64x128_64_7936
abbrev r0_191 : Rect S128x16384 := Rect.unit (s := S128x16384) ![64, 6272] S64x128.size inb_S128x16384_S64x128_64_6272
abbrev r0_192 : Rect S128x16384 := Rect.unit (s := S128x16384) ![64, 6528] S64x128.size inb_S128x16384_S64x128_64_6528
abbrev r0_193 : Rect S128x16384 := Rect.unit (s := S128x16384) ![64, 6784] S64x128.size inb_S128x16384_S64x128_64_6784
abbrev r0_194 : Rect S128x16384 := Rect.unit (s := S128x16384) ![64, 7040] S64x128.size inb_S128x16384_S64x128_64_7040
abbrev r0_195 : Rect S128x16384 := Rect.unit (s := S128x16384) ![64, 7296] S64x128.size inb_S128x16384_S64x128_64_7296
abbrev r0_196 : Rect S128x16384 := Rect.unit (s := S128x16384) ![64, 7552] S64x128.size inb_S128x16384_S64x128_64_7552
abbrev r0_197 : Rect S128x16384 := Rect.unit (s := S128x16384) ![64, 7808] S64x128.size inb_S128x16384_S64x128_64_7808
abbrev r0_198 : Rect S128x16384 := Rect.unit (s := S128x16384) ![64, 8064] S64x128.size inb_S128x16384_S64x128_64_8064
abbrev r0_199 : Rect S128x16384 := Rect.unit (s := S128x16384) ![64, 8192] S64x128.size inb_S128x16384_S64x128_64_8192
abbrev r0_200 : Rect S128x16384 := Rect.unit (s := S128x16384) ![64, 8448] S64x128.size inb_S128x16384_S64x128_64_8448
abbrev r0_201 : Rect S128x16384 := Rect.unit (s := S128x16384) ![64, 8704] S64x128.size inb_S128x16384_S64x128_64_8704
abbrev r0_202 : Rect S128x16384 := Rect.unit (s := S128x16384) ![64, 8960] S64x128.size inb_S128x16384_S64x128_64_8960
abbrev r0_203 : Rect S128x16384 := Rect.unit (s := S128x16384) ![64, 9216] S64x128.size inb_S128x16384_S64x128_64_9216
abbrev r0_204 : Rect S128x16384 := Rect.unit (s := S128x16384) ![64, 9472] S64x128.size inb_S128x16384_S64x128_64_9472
abbrev r0_205 : Rect S128x16384 := Rect.unit (s := S128x16384) ![64, 9728] S64x128.size inb_S128x16384_S64x128_64_9728
abbrev r0_206 : Rect S128x16384 := Rect.unit (s := S128x16384) ![64, 9984] S64x128.size inb_S128x16384_S64x128_64_9984
abbrev r0_207 : Rect S128x16384 := Rect.unit (s := S128x16384) ![64, 8320] S64x128.size inb_S128x16384_S64x128_64_8320
abbrev r0_208 : Rect S128x16384 := Rect.unit (s := S128x16384) ![64, 8576] S64x128.size inb_S128x16384_S64x128_64_8576
abbrev r0_209 : Rect S128x16384 := Rect.unit (s := S128x16384) ![64, 8832] S64x128.size inb_S128x16384_S64x128_64_8832
abbrev r0_210 : Rect S128x16384 := Rect.unit (s := S128x16384) ![64, 9088] S64x128.size inb_S128x16384_S64x128_64_9088
abbrev r0_211 : Rect S128x16384 := Rect.unit (s := S128x16384) ![64, 9344] S64x128.size inb_S128x16384_S64x128_64_9344
abbrev r0_212 : Rect S128x16384 := Rect.unit (s := S128x16384) ![64, 9600] S64x128.size inb_S128x16384_S64x128_64_9600
abbrev r0_213 : Rect S128x16384 := Rect.unit (s := S128x16384) ![64, 9856] S64x128.size inb_S128x16384_S64x128_64_9856
abbrev r0_214 : Rect S128x16384 := Rect.unit (s := S128x16384) ![64, 10112] S64x128.size inb_S128x16384_S64x128_64_10112
abbrev r0_215 : Rect S128x16384 := Rect.unit (s := S128x16384) ![64, 10240] S64x128.size inb_S128x16384_S64x128_64_10240
abbrev r0_216 : Rect S128x16384 := Rect.unit (s := S128x16384) ![64, 10496] S64x128.size inb_S128x16384_S64x128_64_10496
abbrev r0_217 : Rect S128x16384 := Rect.unit (s := S128x16384) ![64, 10752] S64x128.size inb_S128x16384_S64x128_64_10752
abbrev r0_218 : Rect S128x16384 := Rect.unit (s := S128x16384) ![64, 11008] S64x128.size inb_S128x16384_S64x128_64_11008
abbrev r0_219 : Rect S128x16384 := Rect.unit (s := S128x16384) ![64, 11264] S64x128.size inb_S128x16384_S64x128_64_11264
abbrev r0_220 : Rect S128x16384 := Rect.unit (s := S128x16384) ![64, 11520] S64x128.size inb_S128x16384_S64x128_64_11520
abbrev r0_221 : Rect S128x16384 := Rect.unit (s := S128x16384) ![64, 11776] S64x128.size inb_S128x16384_S64x128_64_11776
abbrev r0_222 : Rect S128x16384 := Rect.unit (s := S128x16384) ![64, 12032] S64x128.size inb_S128x16384_S64x128_64_12032
abbrev r0_223 : Rect S128x16384 := Rect.unit (s := S128x16384) ![64, 10368] S64x128.size inb_S128x16384_S64x128_64_10368
abbrev r0_224 : Rect S128x16384 := Rect.unit (s := S128x16384) ![64, 10624] S64x128.size inb_S128x16384_S64x128_64_10624
abbrev r0_225 : Rect S128x16384 := Rect.unit (s := S128x16384) ![64, 10880] S64x128.size inb_S128x16384_S64x128_64_10880
abbrev r0_226 : Rect S128x16384 := Rect.unit (s := S128x16384) ![64, 11136] S64x128.size inb_S128x16384_S64x128_64_11136
abbrev r0_227 : Rect S128x16384 := Rect.unit (s := S128x16384) ![64, 11392] S64x128.size inb_S128x16384_S64x128_64_11392
abbrev r0_228 : Rect S128x16384 := Rect.unit (s := S128x16384) ![64, 11648] S64x128.size inb_S128x16384_S64x128_64_11648
abbrev r0_229 : Rect S128x16384 := Rect.unit (s := S128x16384) ![64, 11904] S64x128.size inb_S128x16384_S64x128_64_11904
abbrev r0_230 : Rect S128x16384 := Rect.unit (s := S128x16384) ![64, 12160] S64x128.size inb_S128x16384_S64x128_64_12160
abbrev r0_231 : Rect S128x16384 := Rect.unit (s := S128x16384) ![64, 12288] S64x128.size inb_S128x16384_S64x128_64_12288
abbrev r0_232 : Rect S128x16384 := Rect.unit (s := S128x16384) ![64, 12544] S64x128.size inb_S128x16384_S64x128_64_12544
abbrev r0_233 : Rect S128x16384 := Rect.unit (s := S128x16384) ![64, 12800] S64x128.size inb_S128x16384_S64x128_64_12800
abbrev r0_234 : Rect S128x16384 := Rect.unit (s := S128x16384) ![64, 13056] S64x128.size inb_S128x16384_S64x128_64_13056
abbrev r0_235 : Rect S128x16384 := Rect.unit (s := S128x16384) ![64, 13312] S64x128.size inb_S128x16384_S64x128_64_13312
abbrev r0_236 : Rect S128x16384 := Rect.unit (s := S128x16384) ![64, 13568] S64x128.size inb_S128x16384_S64x128_64_13568
abbrev r0_237 : Rect S128x16384 := Rect.unit (s := S128x16384) ![64, 13824] S64x128.size inb_S128x16384_S64x128_64_13824
abbrev r0_238 : Rect S128x16384 := Rect.unit (s := S128x16384) ![64, 14080] S64x128.size inb_S128x16384_S64x128_64_14080
abbrev r0_239 : Rect S128x16384 := Rect.unit (s := S128x16384) ![64, 12416] S64x128.size inb_S128x16384_S64x128_64_12416
abbrev r0_240 : Rect S128x16384 := Rect.unit (s := S128x16384) ![64, 12672] S64x128.size inb_S128x16384_S64x128_64_12672
abbrev r0_241 : Rect S128x16384 := Rect.unit (s := S128x16384) ![64, 12928] S64x128.size inb_S128x16384_S64x128_64_12928
abbrev r0_242 : Rect S128x16384 := Rect.unit (s := S128x16384) ![64, 13184] S64x128.size inb_S128x16384_S64x128_64_13184
abbrev r0_243 : Rect S128x16384 := Rect.unit (s := S128x16384) ![64, 13440] S64x128.size inb_S128x16384_S64x128_64_13440
abbrev r0_244 : Rect S128x16384 := Rect.unit (s := S128x16384) ![64, 13696] S64x128.size inb_S128x16384_S64x128_64_13696
abbrev r0_245 : Rect S128x16384 := Rect.unit (s := S128x16384) ![64, 13952] S64x128.size inb_S128x16384_S64x128_64_13952
abbrev r0_246 : Rect S128x16384 := Rect.unit (s := S128x16384) ![64, 14208] S64x128.size inb_S128x16384_S64x128_64_14208
abbrev r0_247 : Rect S128x16384 := Rect.unit (s := S128x16384) ![64, 14336] S64x128.size inb_S128x16384_S64x128_64_14336
abbrev r0_248 : Rect S128x16384 := Rect.unit (s := S128x16384) ![64, 14592] S64x128.size inb_S128x16384_S64x128_64_14592
abbrev r0_249 : Rect S128x16384 := Rect.unit (s := S128x16384) ![64, 14848] S64x128.size inb_S128x16384_S64x128_64_14848
abbrev r0_250 : Rect S128x16384 := Rect.unit (s := S128x16384) ![64, 15104] S64x128.size inb_S128x16384_S64x128_64_15104
abbrev r0_251 : Rect S128x16384 := Rect.unit (s := S128x16384) ![64, 15360] S64x128.size inb_S128x16384_S64x128_64_15360
abbrev r0_252 : Rect S128x16384 := Rect.unit (s := S128x16384) ![64, 15616] S64x128.size inb_S128x16384_S64x128_64_15616
abbrev r0_253 : Rect S128x16384 := Rect.unit (s := S128x16384) ![64, 15872] S64x128.size inb_S128x16384_S64x128_64_15872
abbrev r0_254 : Rect S128x16384 := Rect.unit (s := S128x16384) ![64, 16128] S64x128.size inb_S128x16384_S64x128_64_16128
abbrev r0_255 : Rect S128x16384 := Rect.unit (s := S128x16384) ![64, 14464] S64x128.size inb_S128x16384_S64x128_64_14464
abbrev r0_256 : Rect S128x16384 := Rect.unit (s := S128x16384) ![64, 14720] S64x128.size inb_S128x16384_S64x128_64_14720
abbrev r0_257 : Rect S128x16384 := Rect.unit (s := S128x16384) ![64, 14976] S64x128.size inb_S128x16384_S64x128_64_14976
abbrev r0_258 : Rect S128x16384 := Rect.unit (s := S128x16384) ![64, 15232] S64x128.size inb_S128x16384_S64x128_64_15232
abbrev r0_259 : Rect S128x16384 := Rect.unit (s := S128x16384) ![64, 15488] S64x128.size inb_S128x16384_S64x128_64_15488
abbrev r0_260 : Rect S128x16384 := Rect.unit (s := S128x16384) ![64, 15744] S64x128.size inb_S128x16384_S64x128_64_15744
abbrev r0_261 : Rect S128x16384 := Rect.unit (s := S128x16384) ![64, 16000] S64x128.size inb_S128x16384_S64x128_64_16000
abbrev r0_262 : Rect S128x16384 := Rect.unit (s := S128x16384) ![64, 16256] S64x128.size inb_S128x16384_S64x128_64_16256
abbrev r0_263 : Rect S1024x4608 := Rect.unit (s := S1024x4608) ![0, 2560] S1024x1024.size inb_S1024x4608_S1024x1024_0_2560
abbrev r0_264 : Rect S1024x4608 := Rect.unit (s := S1024x4608) ![0, 3584] S1024x1024.size inb_S1024x4608_S1024x1024_0_3584

/-! ## What the body leaves in each output window's buffer -/

/-! ### Values of the body that the stores' payloads, spelt out, would write more than once

    Each is a vector the body binds (often a part call's result), stated over the input windows' blocks and
    numbered on from the skeleton's payload functions (`k0_pay659` …, after `k0_pay658`), so that
    `out0_W` and the values after it name it instead of spelling it out; the comment after each is the printed
    function's name for the value (a count appended where that name is bound again). -/

def k0_pay659 (x0 : Vec F S512x1024 .f32) (x1 : Vec F S1x1024 .f32) (x2 : Vec F S1024x4608 .bf16) (x3 : Vec F S256x256 .bf16) : IVec S64x128 32 :=
  iota .tc S64x128 32 [1] iota_S64x128_d1_w32 -- `v31`
def k0_pay660 (x0 : Vec F S512x1024 .f32) (x1 : Vec F S1x1024 .f32) (x2 : Vec F S1024x4608 .bf16) (x3 : Vec F S256x256 .bf16) : FVec F S512x1024 .bf16 :=
  k0_pay1 (View.ld x0 r0_0) (View.ld x1 r0_1) -- `v15`
def k0_pay661 (x0 : Vec F S512x1024 .f32) (x1 : Vec F S1x1024 .f32) (x2 : Vec F S1024x4608 .bf16) (x3 : Vec F S256x256 .bf16) : FVec F S512x1024 .bf16 :=
  k0_pay4 (View.ld x0 r0_0) (View.ld x1 r0_1) (View.ld x2 r0_5) -- `v30`
def k0_pay662 (x0 : Vec F S512x1024 .f32) (x1 : Vec F S1x1024 .f32) (x2 : Vec F S1024x4608 .bf16) (x3 : Vec F S256x256 .bf16) : IVec S64x128 32 :=
  k0_pay5 -- `v33`
def k0_pay663 (x0 : Vec F S512x1024 .f32) (x1 : Vec F S1x1024 .f32) (x2 : Vec F S1024x4608 .bf16) (x3 : Vec F S256x256 .bf16) : IVec S64x128 1 :=
  k0_pay7 (k0_pay659 x0 x1 x2 x3) 16#32 (k0_pay662 x0 x1 x2 x3) 0#32 -- `v59`
def k0_pay664 (x0 : Vec F S512x1024 .f32) (x1 : Vec F S1x1024 .f32) (x2 : Vec F S1024x4608 .bf16) (x3 : Vec F S256x256 .bf16) : IVec S64x128 1 :=
  k0_pay8 (k0_pay659 x0 x1 x2 x3) 16#32 (k0_pay662 x0 x1 x2 x3) 0#32 -- `v63`
def k0_pay665 (x0 : Vec F S512x1024 .f32) (x1 : Vec F S1x1024 .f32) (x2 : Vec F S1024x4608 .bf16) (x3 : Vec F S256x256 .bf16) : IVec S64x128 1 :=
  k0_pay9 (k0_pay659 x0 x1 x2 x3) 16#32 (k0_pay662 x0 x1 x2 x3) 0#32 -- `v67`
def k0_pay666 (x0 : Vec F S512x1024 .f32) (x1 : Vec F S1x1024 .f32) (x2 : Vec F S1024x4608 .bf16) (x3 : Vec F S256x256 .bf16) : FVec F S64x128 .f32 :=
  k0_pay10 (F := F) -- `v68`
def k0_pay667 (x0 : Vec F S512x1024 .f32) (x1 : Vec F S1x1024 .f32) (x2 : Vec F S1024x4608 .bf16) (x3 : Vec F S256x256 .bf16) : FVec F S256x1024 .f32 :=
  k0_pay11 (k0_pay661 x0 x1 x2 x3) (View.ld x3 r0_6) -- `v72`
def k0_pay668 (x0 : Vec F S512x1024 .f32) (x1 : Vec F S1x1024 .f32) (x2 : Vec F S1024x4608 .bf16) (x3 : Vec F S256x256 .bf16) : FVec F S64x128 .f32 :=
  k0_pay12 (k0_pay661 x0 x1 x2 x3) (View.ld x3 r0_6) -- `v73`
def k0_pay669 (x0 : Vec F S512x1024 .f32) (x1 : Vec F S1x1024 .f32) (x2 : Vec F S1024x4608 .bf16) (x3 : Vec F S256x256 .bf16) : FVec F S64x128 .f32 :=
  k0_pay13 (k0_pay661 x0 x1 x2 x3) (View.ld x3 r0_6) -- `v74`
def k0_pay670 (x0 : Vec F S512x1024 .f32) (x1 : Vec F S1x1024 .f32) (x2 : Vec F S1024x4608 .bf16) (x3 : Vec F S256x256 .bf16) : FVec F S64x128 .f32 :=
  k0_pay14 (k0_pay661 x0 x1 x2 x3) (View.ld x3 r0_6) -- `v75`
def k0_pay671 (x0 : Vec F S512x1024 .f32) (x1 : Vec F S1x1024 .f32) (x2 : Vec F S1024x4608 .bf16) (x3 : Vec F S256x256 .bf16) : FVec F S64x128 .f32 :=
  k0_pay15 (k0_pay661 x0 x1 x2 x3) (View.ld x3 r0_6) -- `v76`
def k0_pay672 (x0 : Vec F S512x1024 .f32) (x1 : Vec F S1x1024 .f32) (x2 : Vec F S1024x4608 .bf16) (x3 : Vec F S256x256 .bf16) : FVec F S64x128 .f32 :=
  k0_pay16 (F := F) -- `v77`
def k0_pay673 (x0 : Vec F S512x1024 .f32) (x1 : Vec F S1x1024 .f32) (x2 : Vec F S1024x4608 .bf16) (x3 : Vec F S256x256 .bf16) : FVec F S64x128 .f32 :=
  k0_pay29 (k0_pay663 x0 x1 x2 x3) (k0_pay664 x0 x1 x2 x3) (k0_pay666 x0 x1 x2 x3) (k0_pay668 x0 x1 x2 x3) (k0_pay670 x0 x1 x2 x3) -- `v102`
def k0_pay674 (x0 : Vec F S512x1024 .f32) (x1 : Vec F S1x1024 .f32) (x2 : Vec F S1024x4608 .bf16) (x3 : Vec F S256x256 .bf16) : FVec F S64x128 .f32 :=
  k0_pay30 (k0_pay663 x0 x1 x2 x3) (k0_pay664 x0 x1 x2 x3) (k0_pay666 x0 x1 x2 x3) (k0_pay668 x0 x1 x2 x3) (k0_pay670 x0 x1 x2 x3) -- `v104`
def k0_pay675 (x0 : Vec F S512x1024 .f32) (x1 : Vec F S1x1024 .f32) (x2 : Vec F S1024x4608 .bf16) (x3 : Vec F S256x256 .bf16) : FVec F S64x128 .f32 :=
  k0_pay32 (k0_pay663 x0 x1 x2 x3) (k0_pay664 x0 x1 x2 x3) (k0_pay666 x0 x1 x2 x3) (k0_pay669 x0 x1 x2 x3) (k0_pay671 x0 x1 x2 x3) -- `v108`
def k0_pay676 (x0 : Vec F S512x1024 .f32) (x1 : Vec F S1x1024 .f32) (x2 : Vec F S1024x4608 .bf16) (x3 : Vec F S256x256 .bf16) : FVec F S64x128 .f32 :=
  k0_pay58 (k0_pay663 x0 x1 x2 x3) (k0_pay666 x0 x1 x2 x3) (k0_pay667 x0 x1 x2 x3) -- `v162`
def k0_pay677 (x0 : Vec F S512x1024 .f32) (x1 : Vec F S1x1024 .f32) (x2 : Vec F S1024x4608 .bf16) (x3 : Vec F S256x256 .bf16) : FVec F S64x128 .f32 :=
  k0_pay59 (k0_pay663 x0 x1 x2 x3) (k0_pay666 x0 x1 x2 x3) (k0_pay667 x0 x1 x2 x3) -- `v164`
def k0_pay678 (x0 : Vec F S512x1024 .f32) (x1 : Vec F S1x1024 .f32) (x2 : Vec F S1024x4608 .bf16) (x3 : Vec F S256x256 .bf16) : FVec F S64x128 .f32 :=
  k0_pay60 (k0_pay663 x0 x1 x2 x3) (k0_pay666 x0 x1 x2 x3) (k0_pay667 x0 x1 x2 x3) -- `v166`
def k0_pay679 (x0 : Vec F S512x1024 .f32) (x1 : Vec F S1x1024 .f32) (x2 : Vec F S1024x4608 .bf16) (x3 : Vec F S256x256 .bf16) : FVec F S64x128 .f32 :=
  k0_pay61 (k0_pay663 x0 x1 x2 x3) (k0_pay666 x0 x1 x2 x3) (k0_pay667 x0 x1 x2 x3) -- `v168`
def k0_pay680 (x0 : Vec F S512x1024 .f32) (x1 : Vec F S1x1024 .f32) (x2 : Vec F S1024x4608 .bf16) (x3 : Vec F S256x256 .bf16) : FVec F S64x128 .f32 :=
  k0_pay62 (k0_pay663 x0 x1 x2 x3) (k0_pay666 x0 x1 x2 x3) (k0_pay667 x0 x1 x2 x3) -- `v170`
def k0_pay681 (x0 : Vec F S512x1024 .f32) (x1 : Vec F S1x1024 .f32) (x2 : Vec F S1024x4608 .bf16) (x3 : Vec F S256x256 .bf16) : FVec F S64x128 .f32 :=
  k0_pay63 (k0_pay663 x0 x1 x2 x3) (k0_pay666 x0 x1 x2 x3) (k0_pay667 x0 x1 x2 x3) -- `v172`
def k0_pay682 (x0 : Vec F S512x1024 .f32) (x1 : Vec F S1x1024 .f32) (x2 : Vec F S1024x4608 .bf16) (x3 : Vec F S256x256 .bf16) : FVec F S64x128 .f32 :=
  k0_pay64 (k0_pay663 x0 x1 x2 x3) (k0_pay666 x0 x1 x2 x3) (k0_pay667 x0 x1 x2 x3) -- `v174`
def k0_pay683 (x0 : Vec F S512x1024 .f32) (x1 : Vec F S1x1024 .f32) (x2 : Vec F S1024x4608 .bf16) (x3 : Vec F S256x256 .bf16) : FVec F S64x128 .f32 :=
  k0_pay65 (k0_pay663 x0 x1 x2 x3) (k0_pay666 x0 x1 x2 x3) (k0_pay667 x0 x1 x2 x3) -- `v176`
def k0_pay684 (x0 : Vec F S512x1024 .f32) (x1 : Vec F S1x1024 .f32) (x2 : Vec F S1024x4608 .bf16) (x3 : Vec F S256x256 .bf16) : FVec F S64x128 .f32 :=
  k0_pay66 (k0_pay663 x0 x1 x2 x3) (k0_pay666 x0 x1 x2 x3) (k0_pay667 x0 x1 x2 x3) -- `v177`
def k0_pay685 (x0 : Vec F S512x1024 .f32) (x1 : Vec F S1x1024 .f32) (x2 : Vec F S1024x4608 .bf16) (x3 : Vec F S256x256 .bf16) : FVec F S64x128 .f32 :=
  k0_pay108 (k0_pay663 x0 x1 x2 x3) (k0_pay664 x0 x1 x2 x3) (k0_pay666 x0 x1 x2 x3) (k0_pay667 x0 x1 x2 x3) -- `v262`
def k0_pay686 (x0 : Vec F S512x1024 .f32) (x1 : Vec F S1x1024 .f32) (x2 : Vec F S1024x4608 .bf16) (x3 : Vec F S256x256 .bf16) : FVec F S64x128 .f32 :=
  k0_pay109 (k0_pay663 x0 x1 x2 x3) (k0_pay664 x0 x1 x2 x3) (k0_pay666 x0 x1 x2 x3) (k0_pay667 x0 x1 x2 x3) -- `v264`
def k0_pay687 (x0 : Vec F S512x1024 .f32) (x1 : Vec F S1x1024 .f32) (x2 : Vec F S1024x4608 .bf16) (x3 : Vec F S256x256 .bf16) : FVec F S64x128 .f32 :=
  k0_pay111 (k0_pay663 x0 x1 x2 x3) (k0_pay664 x0 x1 x2 x3) (k0_pay666 x0 x1 x2 x3) (k0_pay667 x0 x1 x2 x3) -- `v268`
def k0_pay688 (x0 : Vec F S512x1024 .f32) (x1 : Vec F S1x1024 .f32) (x2 : Vec F S1024x4608 .bf16) (x3 : Vec F S256x256 .bf16) : FVec F S64x128 .f32 :=
  k0_pay112 (k0_pay663 x0 x1 x2 x3) (k0_pay664 x0 x1 x2 x3) (k0_pay666 x0 x1 x2 x3) (k0_pay667 x0 x1 x2 x3) -- `v270`
def k0_pay689 (x0 : Vec F S512x1024 .f32) (x1 : Vec F S1x1024 .f32) (x2 : Vec F S1024x4608 .bf16) (x3 : Vec F S256x256 .bf16) : FVec F S64x128 .f32 :=
  k0_pay113 (k0_pay663 x0 x1 x2 x3) (k0_pay664 x0 x1 x2 x3) (k0_pay666 x0 x1 x2 x3) (k0_pay667 x0 x1 x2 x3) -- `v272`
def k0_pay690 (x0 : Vec F S512x1024 .f32) (x1 : Vec F S1x1024 .f32) (x2 : Vec F S1024x4608 .bf16) (x3 : Vec F S256x256 .bf16) : FVec F S64x128 .f32 :=
  k0_pay114 (k0_pay663 x0 x1 x2 x3) (k0_pay664 x0 x1 x2 x3) (k0_pay666 x0 x1 x2 x3) (k0_pay667 x0 x1 x2 x3) -- `v274`
def k0_pay691 (x0 : Vec F S512x1024 .f32) (x1 : Vec F S1x1024 .f32) (x2 : Vec F S1024x4608 .bf16) (x3 : Vec F S256x256 .bf16) : FVec F S64x128 .f32 :=
  k0_pay115 (k0_pay663 x0 x1 x2 x3) (k0_pay664 x0 x1 x2 x3) (k0_pay666 x0 x1 x2 x3) (k0_pay667 x0 x1 x2 x3) -- `v276`
def k0_pay692 (x0 : Vec F S512x1024 .f32) (x1 : Vec F S1x1024 .f32) (x2 : Vec F S1024x4608 .bf16) (x3 : Vec F S256x256 .bf16) : FVec F S64x128 .f32 :=
  k0_pay135 (k0_pay667 x0 x1 x2 x3) -- `v327`
def k0_pay693 (x0 : Vec F S512x1024 .f32) (x1 : Vec F S1x1024 .f32) (x2 : Vec F S1024x4608 .bf16) (x3 : Vec F S256x256 .bf16) : FVec F S64x128 .f32 :=
  k0_pay136 (k0_pay667 x0 x1 x2 x3) -- `v328`
def k0_pay694 (x0 : Vec F S512x1024 .f32) (x1 : Vec F S1x1024 .f32) (x2 : Vec F S1024x4608 .bf16) (x3 : Vec F S256x256 .bf16) : FVec F S64x128 .f32 :=
  k0_pay137 (k0_pay663 x0 x1 x2 x3) (k0_pay666 x0 x1 x2 x3) (k0_pay667 x0 x1 x2 x3) -- `v330`
def k0_pay695 (x0 : Vec F S512x1024 .f32) (x1 : Vec F S1x1024 .f32) (x2 : Vec F S1024x4608 .bf16) (x3 : Vec F S256x256 .bf16) : FVec F S64x128 .f32 :=
  k0_pay138 (k0_pay663 x0 x1 x2 x3) (k0_pay666 x0 x1 x2 x3) (k0_pay667 x0 x1 x2 x3) -- `v332`
def k0_pay696 (x0 : Vec F S512x1024 .f32) (x1 : Vec F S1x1024 .f32) (x2 : Vec F S1024x4608 .bf16) (x3 : Vec F S256x256 .bf16) : FVec F S64x128 .f32 :=
  k0_pay139 (k0_pay663 x0 x1 x2 x3) (k0_pay666 x0 x1 x2 x3) (k0_pay667 x0 x1 x2 x3) -- `v334`
def k0_pay697 (x0 : Vec F S512x1024 .f32) (x1 : Vec F S1x1024 .f32) (x2 : Vec F S1024x4608 .bf16) (x3 : Vec F S256x256 .bf16) : FVec F S64x128 .f32 :=
  k0_pay140 (k0_pay663 x0 x1 x2 x3) (k0_pay666 x0 x1 x2 x3) (k0_pay667 x0 x1 x2 x3) -- `v336`
def k0_pay698 (x0 : Vec F S512x1024 .f32) (x1 : Vec F S1x1024 .f32) (x2 : Vec F S1024x4608 .bf16) (x3 : Vec F S256x256 .bf16) : FVec F S64x128 .f32 :=
  k0_pay141 (k0_pay666 x0 x1 x2 x3) -- `v337`
def k0_pay699 (x0 : Vec F S512x1024 .f32) (x1 : Vec F S1x1024 .f32) (x2 : Vec F S1024x4608 .bf16) (x3 : Vec F S256x256 .bf16) : FVec F S64x128 .f32 :=
  k0_pay182 (k0_pay663 x0 x1 x2 x3) (k0_pay666 x0 x1 x2 x3) (k0_pay667 x0 x1 x2 x3) -- `v416`
def k0_pay700 (x0 : Vec F S512x1024 .f32) (x1 : Vec F S1x1024 .f32) (x2 : Vec F S1024x4608 .bf16) (x3 : Vec F S256x256 .bf16) : FVec F S64x128 .f32 :=
  k0_pay184 (k0_pay663 x0 x1 x2 x3) (k0_pay666 x0 x1 x2 x3) (k0_pay667 x0 x1 x2 x3) -- `v420`
def k0_pay701 (x0 : Vec F S512x1024 .f32) (x1 : Vec F S1x1024 .f32) (x2 : Vec F S1024x4608 .bf16) (x3 : Vec F S256x256 .bf16) : FVec F S64x128 .f32 :=
  k0_pay186 (k0_pay663 x0 x1 x2 x3) (k0_pay666 x0 x1 x2 x3) (k0_pay667 x0 x1 x2 x3) -- `v424`
def k0_pay702 (x0 : Vec F S512x1024 .f32) (x1 : Vec F S1x1024 .f32) (x2 : Vec F S1024x4608 .bf16) (x3 : Vec F S256x256 .bf16) : FVec F S64x128 .f32 :=
  k0_pay188 (k0_pay663 x0 x1 x2 x3) (k0_pay666 x0 x1 x2 x3) (k0_pay667 x0 x1 x2 x3) -- `v428`
def k0_pay703 (x0 : Vec F S512x1024 .f32) (x1 : Vec F S1x1024 .f32) (x2 : Vec F S1024x4608 .bf16) (x3 : Vec F S256x256 .bf16) : FVec F S64x128 .f32 :=
  k0_pay189 (k0_pay663 x0 x1 x2 x3) (k0_pay664 x0 x1 x2 x3) (k0_pay666 x0 x1 x2 x3) (k0_pay667 x0 x1 x2 x3) -- `v430`
def k0_pay704 (x0 : Vec F S512x1024 .f32) (x1 : Vec F S1x1024 .f32) (x2 : Vec F S1024x4608 .bf16) (x3 : Vec F S256x256 .bf16) : FVec F S64x128 .f32 :=
  k0_pay190 (k0_pay663 x0 x1 x2 x3) (k0_pay664 x0 x1 x2 x3) (k0_pay666 x0 x1 x2 x3) (k0_pay667 x0 x1 x2 x3) -- `v432`
def k0_pay705 (x0 : Vec F S512x1024 .f32) (x1 : Vec F S1x1024 .f32) (x2 : Vec F S1024x4608 .bf16) (x3 : Vec F S256x256 .bf16) : FVec F S64x128 .f32 :=
  k0_pay191 (k0_pay663 x0 x1 x2 x3) (k0_pay664 x0 x1 x2 x3) (k0_pay666 x0 x1 x2 x3) (k0_pay667 x0 x1 x2 x3) -- `v434`
def k0_pay706 (x0 : Vec F S512x1024 .f32) (x1 : Vec F S1x1024 .f32) (x2 : Vec F S1024x4608 .bf16) (x3 : Vec F S256x256 .bf16) : FVec F S64x128 .f32 :=
  k0_pay192 (k0_pay663 x0 x1 x2 x3) (k0_pay664 x0 x1 x2 x3) (k0_pay666 x0 x1 x2 x3) (k0_pay667 x0 x1 x2 x3) -- `v436`
def k0_pay707 (x0 : Vec F S512x1024 .f32) (x1 : Vec F S1x1024 .f32) (x2 : Vec F S1024x4608 .bf16) (x3 : Vec F S256x256 .bf16) : FVec F S64x128 .f32 :=
  k0_pay193 (k0_pay663 x0 x1 x2 x3) (k0_pay666 x0 x1 x2 x3) (k0_pay667 x0 x1 x2 x3) -- `v437`
def k0_pay708 (x0 : Vec F S512x1024 .f32) (x1 : Vec F S1x1024 .f32) (x2 : Vec F S1024x4608 .bf16) (x3 : Vec F S256x256 .bf16) : FVec F S64x128 .f32 :=
  k0_pay216 (k0_pay667 x0 x1 x2 x3) -- `v493`
def k0_pay709 (x0 : Vec F S512x1024 .f32) (x1 : Vec F S1x1024 .f32) (x2 : Vec F S1024x4608 .bf16) (x3 : Vec F S256x256 .bf16) : FVec F S64x128 .f32 :=
  k0_pay217 (k0_pay667 x0 x1 x2 x3) -- `v494`
def k0_pay710 (x0 : Vec F S512x1024 .f32) (x1 : Vec F S1x1024 .f32) (x2 : Vec F S1024x4608 .bf16) (x3 : Vec F S256x256 .bf16) : FVec F S64x128 .f32 :=
  k0_pay218 (k0_pay667 x0 x1 x2 x3) -- `v495`
def k0_pay711 (x0 : Vec F S512x1024 .f32) (x1 : Vec F S1x1024 .f32) (x2 : Vec F S1024x4608 .bf16) (x3 : Vec F S256x256 .bf16) : FVec F S64x128 .f32 :=
  k0_pay219 (k0_pay667 x0 x1 x2 x3) -- `v496`
def k0_pay712 (x0 : Vec F S512x1024 .f32) (x1 : Vec F S1x1024 .f32) (x2 : Vec F S1024x4608 .bf16) (x3 : Vec F S256x256 .bf16) : FVec F S64x128 .f32 :=
  k0_pay220 (k0_pay666 x0 x1 x2 x3) -- `v497`
def k0_pay713 (x0 : Vec F S512x1024 .f32) (x1 : Vec F S1x1024 .f32) (x2 : Vec F S1024x4608 .bf16) (x3 : Vec F S256x256 .bf16) : FVec F S64x128 .f32 :=
  k0_pay233 (k0_pay663 x0 x1 x2 x3) (k0_pay664 x0 x1 x2 x3) (k0_pay666 x0 x1 x2 x3) (k0_pay708 x0 x1 x2 x3) (k0_pay710 x0 x1 x2 x3) -- `v522`
def k0_pay714 (x0 : Vec F S512x1024 .f32) (x1 : Vec F S1x1024 .f32) (x2 : Vec F S1024x4608 .bf16) (x3 : Vec F S256x256 .bf16) : FVec F S64x128 .f32 :=
  k0_pay234 (k0_pay663 x0 x1 x2 x3) (k0_pay664 x0 x1 x2 x3) (k0_pay666 x0 x1 x2 x3) (k0_pay708 x0 x1 x2 x3) (k0_pay710 x0 x1 x2 x3) -- `v524`
def k0_pay715 (x0 : Vec F S512x1024 .f32) (x1 : Vec F S1x1024 .f32) (x2 : Vec F S1024x4608 .bf16) (x3 : Vec F S256x256 .bf16) : FVec F S64x128 .f32 :=
  k0_pay236 (k0_pay663 x0 x1 x2 x3) (k0_pay664 x0 x1 x2 x3) (k0_pay666 x0 x1 x2 x3) (k0_pay709 x0 x1 x2 x3) (k0_pay711 x0 x1 x2 x3) -- `v528`
def k0_pay716 (x0 : Vec F S512x1024 .f32) (x1 : Vec F S1x1024 .f32) (x2 : Vec F S1024x4608 .bf16) (x3 : Vec F S256x256 .bf16) : FVec F S64x128 .f32 :=
  k0_pay262 (k0_pay663 x0 x1 x2 x3) (k0_pay666 x0 x1 x2 x3) (k0_pay667 x0 x1 x2 x3) -- `v582`
def k0_pay717 (x0 : Vec F S512x1024 .f32) (x1 : Vec F S1x1024 .f32) (x2 : Vec F S1024x4608 .bf16) (x3 : Vec F S256x256 .bf16) : FVec F S64x128 .f32 :=
  k0_pay263 (k0_pay663 x0 x1 x2 x3) (k0_pay666 x0 x1 x2 x3) (k0_pay667 x0 x1 x2 x3) -- `v584`
def k0_pay718 (x0 : Vec F S512x1024 .f32) (x1 : Vec F S1x1024 .f32) (x2 : Vec F S1024x4608 .bf16) (x3 : Vec F S256x256 .bf16) : FVec F S64x128 .f32 :=
  k0_pay264 (k0_pay663 x0 x1 x2 x3) (k0_pay666 x0 x1 x2 x3) (k0_pay667 x0 x1 x2 x3) -- `v586`
def k0_pay719 (x0 : Vec F S512x1024 .f32) (x1 : Vec F S1x1024 .f32) (x2 : Vec F S1024x4608 .bf16) (x3 : Vec F S256x256 .bf16) : FVec F S64x128 .f32 :=
  k0_pay265 (k0_pay663 x0 x1 x2 x3) (k0_pay666 x0 x1 x2 x3) (k0_pay667 x0 x1 x2 x3) -- `v588`
def k0_pay720 (x0 : Vec F S512x1024 .f32) (x1 : Vec F S1x1024 .f32) (x2 : Vec F S1024x4608 .bf16) (x3 : Vec F S256x256 .bf16) : FVec F S64x128 .f32 :=
  k0_pay266 (k0_pay663 x0 x1 x2 x3) (k0_pay666 x0 x1 x2 x3) (k0_pay667 x0 x1 x2 x3) -- `v590`
def k0_pay721 (x0 : Vec F S512x1024 .f32) (x1 : Vec F S1x1024 .f32) (x2 : Vec F S1024x4608 .bf16) (x3 : Vec F S256x256 .bf16) : FVec F S64x128 .f32 :=
  k0_pay267 (k0_pay663 x0 x1 x2 x3) (k0_pay666 x0 x1 x2 x3) (k0_pay667 x0 x1 x2 x3) -- `v592`
def k0_pay722 (x0 : Vec F S512x1024 .f32) (x1 : Vec F S1x1024 .f32) (x2 : Vec F S1024x4608 .bf16) (x3 : Vec F S256x256 .bf16) : FVec F S64x128 .f32 :=
  k0_pay268 (k0_pay663 x0 x1 x2 x3) (k0_pay666 x0 x1 x2 x3) (k0_pay667 x0 x1 x2 x3) -- `v594`
def k0_pay723 (x0 : Vec F S512x1024 .f32) (x1 : Vec F S1x1024 .f32) (x2 : Vec F S1024x4608 .bf16) (x3 : Vec F S256x256 .bf16) : FVec F S64x128 .f32 :=
  k0_pay269 (k0_pay663 x0 x1 x2 x3) (k0_pay666 x0 x1 x2 x3) (k0_pay667 x0 x1 x2 x3) -- `v596`
def k0_pay724 (x0 : Vec F S512x1024 .f32) (x1 : Vec F S1x1024 .f32) (x2 : Vec F S1024x4608 .bf16) (x3 : Vec F S256x256 .bf16) : FVec F S64x128 .f32 :=
  k0_pay270 (k0_pay663 x0 x1 x2 x3) (k0_pay666 x0 x1 x2 x3) (k0_pay667 x0 x1 x2 x3) -- `v597`
def k0_pay725 (x0 : Vec F S512x1024 .f32) (x1 : Vec F S1x1024 .f32) (x2 : Vec F S1024x4608 .bf16) (x3 : Vec F S256x256 .bf16) : FVec F S64x128 .f32 :=
  k0_pay312 (k0_pay663 x0 x1 x2 x3) (k0_pay664 x0 x1 x2 x3) (k0_pay666 x0 x1 x2 x3) (k0_pay667 x0 x1 x2 x3) -- `v682`
def k0_pay726 (x0 : Vec F S512x1024 .f32) (x1 : Vec F S1x1024 .f32) (x2 : Vec F S1024x4608 .bf16) (x3 : Vec F S256x256 .bf16) : FVec F S64x128 .f32 :=
  k0_pay313 (k0_pay663 x0 x1 x2 x3) (k0_pay664 x0 x1 x2 x3) (k0_pay666 x0 x1 x2 x3) (k0_pay667 x0 x1 x2 x3) -- `v684`
def k0_pay727 (x0 : Vec F S512x1024 .f32) (x1 : Vec F S1x1024 .f32) (x2 : Vec F S1024x4608 .bf16) (x3 : Vec F S256x256 .bf16) : FVec F S64x128 .f32 :=
  k0_pay315 (k0_pay663 x0 x1 x2 x3) (k0_pay664 x0 x1 x2 x3) (k0_pay666 x0 x1 x2 x3) (k0_pay667 x0 x1 x2 x3) -- `v688`
def k0_pay728 (x0 : Vec F S512x1024 .f32) (x1 : Vec F S1x1024 .f32) (x2 : Vec F S1024x4608 .bf16) (x3 : Vec F S256x256 .bf16) : FVec F S64x128 .f32 :=
  k0_pay316 (k0_pay663 x0 x1 x2 x3) (k0_pay664 x0 x1 x2 x3) (k0_pay666 x0 x1 x2 x3) (k0_pay667 x0 x1 x2 x3) -- `v690`
def k0_pay729 (x0 : Vec F S512x1024 .f32) (x1 : Vec F S1x1024 .f32) (x2 : Vec F S1024x4608 .bf16) (x3 : Vec F S256x256 .bf16) : FVec F S64x128 .f32 :=
  k0_pay317 (k0_pay663 x0 x1 x2 x3) (k0_pay664 x0 x1 x2 x3) (k0_pay666 x0 x1 x2 x3) (k0_pay667 x0 x1 x2 x3) -- `v692`
def k0_pay730 (x0 : Vec F S512x1024 .f32) (x1 : Vec F S1x1024 .f32) (x2 : Vec F S1024x4608 .bf16) (x3 : Vec F S256x256 .bf16) : FVec F S64x128 .f32 :=
  k0_pay318 (k0_pay663 x0 x1 x2 x3) (k0_pay664 x0 x1 x2 x3) (k0_pay666 x0 x1 x2 x3) (k0_pay667 x0 x1 x2 x3) -- `v694`
def k0_pay731 (x0 : Vec F S512x1024 .f32) (x1 : Vec F S1x1024 .f32) (x2 : Vec F S1024x4608 .bf16) (x3 : Vec F S256x256 .bf16) : FVec F S64x128 .f32 :=
  k0_pay319 (k0_pay663 x0 x1 x2 x3) (k0_pay664 x0 x1 x2 x3) (k0_pay666 x0 x1 x2 x3) (k0_pay667 x0 x1 x2 x3) -- `v696`
def k0_pay732 (x0 : Vec F S512x1024 .f32) (x1 : Vec F S1x1024 .f32) (x2 : Vec F S1024x4608 .bf16) (x3 : Vec F S256x256 .bf16) : FVec F S256x1024 .f32 :=
  k0_pay337 (k0_pay661 x0 x1 x2 x3) (View.ld x3 r0_6) -- `v748`
def k0_pay733 (x0 : Vec F S512x1024 .f32) (x1 : Vec F S1x1024 .f32) (x2 : Vec F S1024x4608 .bf16) (x3 : Vec F S256x256 .bf16) : FVec F S64x128 .f32 :=
  k0_pay339 (k0_pay661 x0 x1 x2 x3) (View.ld x3 r0_6) -- `v750`
def k0_pay734 (x0 : Vec F S512x1024 .f32) (x1 : Vec F S1x1024 .f32) (x2 : Vec F S1024x4608 .bf16) (x3 : Vec F S256x256 .bf16) : FVec F S64x128 .f32 :=
  k0_pay340 (k0_pay661 x0 x1 x2 x3) (View.ld x3 r0_6) -- `v751`
def k0_pay735 (x0 : Vec F S512x1024 .f32) (x1 : Vec F S1x1024 .f32) (x2 : Vec F S1024x4608 .bf16) (x3 : Vec F S256x256 .bf16) : FVec F S64x128 .f32 :=
  k0_pay341 (k0_pay661 x0 x1 x2 x3) (View.ld x3 r0_6) -- `v752`
def k0_pay736 (x0 : Vec F S512x1024 .f32) (x1 : Vec F S1x1024 .f32) (x2 : Vec F S1024x4608 .bf16) (x3 : Vec F S256x256 .bf16) : FVec F S64x128 .f32 :=
  k0_pay342 (k0_pay661 x0 x1 x2 x3) (k0_pay663 x0 x1 x2 x3) (k0_pay666 x0 x1 x2 x3) (View.ld x3 r0_6) -- `v754`
def k0_pay737 (x0 : Vec F S512x1024 .f32) (x1 : Vec F S1x1024 .f32) (x2 : Vec F S1024x4608 .bf16) (x3 : Vec F S256x256 .bf16) : FVec F S64x128 .f32 :=
  k0_pay343 (k0_pay661 x0 x1 x2 x3) (k0_pay663 x0 x1 x2 x3) (k0_pay666 x0 x1 x2 x3) (View.ld x3 r0_6) -- `v756`
def k0_pay738 (x0 : Vec F S512x1024 .f32) (x1 : Vec F S1x1024 .f32) (x2 : Vec F S1024x4608 .bf16) (x3 : Vec F S256x256 .bf16) : FVec F S64x128 .f32 :=
  k0_pay355 (k0_pay663 x0 x1 x2 x3) (k0_pay664 x0 x1 x2 x3) (k0_pay666 x0 x1 x2 x3) (k0_pay734 x0 x1 x2 x3) (k0_pay737 x0 x1 x2 x3) -- `v780`
def k0_pay739 (x0 : Vec F S512x1024 .f32) (x1 : Vec F S1x1024 .f32) (x2 : Vec F S1024x4608 .bf16) (x3 : Vec F S256x256 .bf16) : FVec F S64x128 .f32 :=
  k0_pay357 (k0_pay663 x0 x1 x2 x3) (k0_pay664 x0 x1 x2 x3) (k0_pay666 x0 x1 x2 x3) (k0_pay733 x0 x1 x2 x3) (k0_pay735 x0 x1 x2 x3) -- `v784`
def k0_pay740 (x0 : Vec F S512x1024 .f32) (x1 : Vec F S1x1024 .f32) (x2 : Vec F S1024x4608 .bf16) (x3 : Vec F S256x256 .bf16) : FVec F S64x128 .f32 :=
  k0_pay385 (k0_pay663 x0 x1 x2 x3) (k0_pay666 x0 x1 x2 x3) (k0_pay732 x0 x1 x2 x3) -- `v840`
def k0_pay741 (x0 : Vec F S512x1024 .f32) (x1 : Vec F S1x1024 .f32) (x2 : Vec F S1024x4608 .bf16) (x3 : Vec F S256x256 .bf16) : FVec F S64x128 .f32 :=
  k0_pay386 (k0_pay663 x0 x1 x2 x3) (k0_pay666 x0 x1 x2 x3) (k0_pay732 x0 x1 x2 x3) -- `v842`
def k0_pay742 (x0 : Vec F S512x1024 .f32) (x1 : Vec F S1x1024 .f32) (x2 : Vec F S1024x4608 .bf16) (x3 : Vec F S256x256 .bf16) : FVec F S64x128 .f32 :=
  k0_pay387 (k0_pay663 x0 x1 x2 x3) (k0_pay666 x0 x1 x2 x3) (k0_pay732 x0 x1 x2 x3) -- `v844`
def k0_pay743 (x0 : Vec F S512x1024 .f32) (x1 : Vec F S1x1024 .f32) (x2 : Vec F S1024x4608 .bf16) (x3 : Vec F S256x256 .bf16) : FVec F S64x128 .f32 :=
  k0_pay389 (k0_pay663 x0 x1 x2 x3) (k0_pay666 x0 x1 x2 x3) (k0_pay732 x0 x1 x2 x3) -- `v848`
def k0_pay744 (x0 : Vec F S512x1024 .f32) (x1 : Vec F S1x1024 .f32) (x2 : Vec F S1024x4608 .bf16) (x3 : Vec F S256x256 .bf16) : FVec F S64x128 .f32 :=
  k0_pay390 (k0_pay663 x0 x1 x2 x3) (k0_pay666 x0 x1 x2 x3) (k0_pay732 x0 x1 x2 x3) -- `v850`
def k0_pay745 (x0 : Vec F S512x1024 .f32) (x1 : Vec F S1x1024 .f32) (x2 : Vec F S1024x4608 .bf16) (x3 : Vec F S256x256 .bf16) : FVec F S64x128 .f32 :=
  k0_pay391 (k0_pay663 x0 x1 x2 x3) (k0_pay666 x0 x1 x2 x3) (k0_pay732 x0 x1 x2 x3) -- `v852`
def k0_pay746 (x0 : Vec F S512x1024 .f32) (x1 : Vec F S1x1024 .f32) (x2 : Vec F S1024x4608 .bf16) (x3 : Vec F S256x256 .bf16) : FVec F S64x128 .f32 :=
  k0_pay392 (k0_pay663 x0 x1 x2 x3) (k0_pay664 x0 x1 x2 x3) (k0_pay666 x0 x1 x2 x3) (k0_pay732 x0 x1 x2 x3) -- `v854`
def k0_pay747 (x0 : Vec F S512x1024 .f32) (x1 : Vec F S1x1024 .f32) (x2 : Vec F S1024x4608 .bf16) (x3 : Vec F S256x256 .bf16) : FVec F S64x128 .f32 :=
  k0_pay393 (k0_pay663 x0 x1 x2 x3) (k0_pay664 x0 x1 x2 x3) (k0_pay666 x0 x1 x2 x3) (k0_pay732 x0 x1 x2 x3) -- `v856`
def k0_pay748 (x0 : Vec F S512x1024 .f32) (x1 : Vec F S1x1024 .f32) (x2 : Vec F S1024x4608 .bf16) (x3 : Vec F S256x256 .bf16) : FVec F S64x128 .f32 :=
  k0_pay433 (k0_pay663 x0 x1 x2 x3) (k0_pay664 x0 x1 x2 x3) (k0_pay666 x0 x1 x2 x3) (k0_pay732 x0 x1 x2 x3) -- `v940`
def k0_pay749 (x0 : Vec F S512x1024 .f32) (x1 : Vec F S1x1024 .f32) (x2 : Vec F S1024x4608 .bf16) (x3 : Vec F S256x256 .bf16) : FVec F S64x128 .f32 :=
  k0_pay435 (k0_pay663 x0 x1 x2 x3) (k0_pay664 x0 x1 x2 x3) (k0_pay666 x0 x1 x2 x3) (k0_pay732 x0 x1 x2 x3) -- `v944`
def k0_pay750 (x0 : Vec F S512x1024 .f32) (x1 : Vec F S1x1024 .f32) (x2 : Vec F S1024x4608 .bf16) (x3 : Vec F S256x256 .bf16) : FVec F S64x128 .f32 :=
  k0_pay436 (k0_pay663 x0 x1 x2 x3) (k0_pay664 x0 x1 x2 x3) (k0_pay666 x0 x1 x2 x3) (k0_pay732 x0 x1 x2 x3) -- `v946`
def k0_pay751 (x0 : Vec F S512x1024 .f32) (x1 : Vec F S1x1024 .f32) (x2 : Vec F S1024x4608 .bf16) (x3 : Vec F S256x256 .bf16) : FVec F S64x128 .f32 :=
  k0_pay437 (k0_pay663 x0 x1 x2 x3) (k0_pay664 x0 x1 x2 x3) (k0_pay666 x0 x1 x2 x3) (k0_pay732 x0 x1 x2 x3) -- `v948`
def k0_pay752 (x0 : Vec F S512x1024 .f32) (x1 : Vec F S1x1024 .f32) (x2 : Vec F S1024x4608 .bf16) (x3 : Vec F S256x256 .bf16) : FVec F S64x128 .f32 :=
  k0_pay438 (k0_pay663 x0 x1 x2 x3) (k0_pay664 x0 x1 x2 x3) (k0_pay666 x0 x1 x2 x3) (k0_pay732 x0 x1 x2 x3) -- `v950`
def k0_pay753 (x0 : Vec F S512x1024 .f32) (x1 : Vec F S1x1024 .f32) (x2 : Vec F S1024x4608 .bf16) (x3 : Vec F S256x256 .bf16) : FVec F S64x128 .f32 :=
  k0_pay439 (k0_pay663 x0 x1 x2 x3) (k0_pay664 x0 x1 x2 x3) (k0_pay666 x0 x1 x2 x3) (k0_pay732 x0 x1 x2 x3) -- `v952`
def k0_pay754 (x0 : Vec F S512x1024 .f32) (x1 : Vec F S1x1024 .f32) (x2 : Vec F S1024x4608 .bf16) (x3 : Vec F S256x256 .bf16) : FVec F S64x128 .f32 :=
  k0_pay461 (k0_pay732 x0 x1 x2 x3) -- `v1004`
def k0_pay755 (x0 : Vec F S512x1024 .f32) (x1 : Vec F S1x1024 .f32) (x2 : Vec F S1024x4608 .bf16) (x3 : Vec F S256x256 .bf16) : FVec F S64x128 .f32 :=
  k0_pay462 (k0_pay663 x0 x1 x2 x3) (k0_pay666 x0 x1 x2 x3) (k0_pay732 x0 x1 x2 x3) -- `v1006`
def k0_pay756 (x0 : Vec F S512x1024 .f32) (x1 : Vec F S1x1024 .f32) (x2 : Vec F S1024x4608 .bf16) (x3 : Vec F S256x256 .bf16) : FVec F S64x128 .f32 :=
  k0_pay463 (k0_pay663 x0 x1 x2 x3) (k0_pay666 x0 x1 x2 x3) (k0_pay732 x0 x1 x2 x3) -- `v1008`
def k0_pay757 (x0 : Vec F S512x1024 .f32) (x1 : Vec F S1x1024 .f32) (x2 : Vec F S1024x4608 .bf16) (x3 : Vec F S256x256 .bf16) : FVec F S64x128 .f32 :=
  k0_pay464 (k0_pay663 x0 x1 x2 x3) (k0_pay666 x0 x1 x2 x3) (k0_pay732 x0 x1 x2 x3) -- `v1010`
def k0_pay758 (x0 : Vec F S512x1024 .f32) (x1 : Vec F S1x1024 .f32) (x2 : Vec F S1024x4608 .bf16) (x3 : Vec F S256x256 .bf16) : FVec F S64x128 .f32 :=
  k0_pay465 (k0_pay663 x0 x1 x2 x3) (k0_pay666 x0 x1 x2 x3) (k0_pay732 x0 x1 x2 x3) -- `v1012`
def k0_pay759 (x0 : Vec F S512x1024 .f32) (x1 : Vec F S1x1024 .f32) (x2 : Vec F S1024x4608 .bf16) (x3 : Vec F S256x256 .bf16) : FVec F S64x128 .f32 :=
  k0_pay466 (k0_pay663 x0 x1 x2 x3) (k0_pay666 x0 x1 x2 x3) (k0_pay732 x0 x1 x2 x3) -- `v1014`
def k0_pay760 (x0 : Vec F S512x1024 .f32) (x1 : Vec F S1x1024 .f32) (x2 : Vec F S1024x4608 .bf16) (x3 : Vec F S256x256 .bf16) : FVec F S64x128 .f32 :=
  k0_pay467 (k0_pay663 x0 x1 x2 x3) (k0_pay666 x0 x1 x2 x3) (k0_pay732 x0 x1 x2 x3) -- `v1016`
def k0_pay761 (x0 : Vec F S512x1024 .f32) (x1 : Vec F S1x1024 .f32) (x2 : Vec F S1024x4608 .bf16) (x3 : Vec F S256x256 .bf16) : FVec F S64x128 .f32 :=
  k0_pay507 (k0_pay663 x0 x1 x2 x3) (k0_pay666 x0 x1 x2 x3) (k0_pay732 x0 x1 x2 x3) -- `v1096`
def k0_pay762 (x0 : Vec F S512x1024 .f32) (x1 : Vec F S1x1024 .f32) (x2 : Vec F S1024x4608 .bf16) (x3 : Vec F S256x256 .bf16) : FVec F S64x128 .f32 :=
  k0_pay511 (k0_pay663 x0 x1 x2 x3) (k0_pay666 x0 x1 x2 x3) (k0_pay732 x0 x1 x2 x3) -- `v1104`
def k0_pay763 (x0 : Vec F S512x1024 .f32) (x1 : Vec F S1x1024 .f32) (x2 : Vec F S1024x4608 .bf16) (x3 : Vec F S256x256 .bf16) : FVec F S64x128 .f32 :=
  k0_pay512 (k0_pay663 x0 x1 x2 x3) (k0_pay664 x0 x1 x2 x3) (k0_pay666 x0 x1 x2 x3) (k0_pay732 x0 x1 x2 x3) -- `v1106`
def k0_pay764 (x0 : Vec F S512x1024 .f32) (x1 : Vec F S1x1024 .f32) (x2 : Vec F S1024x4608 .bf16) (x3 : Vec F S256x256 .bf16) : FVec F S64x128 .f32 :=
  k0_pay513 (k0_pay663 x0 x1 x2 x3) (k0_pay664 x0 x1 x2 x3) (k0_pay666 x0 x1 x2 x3) (k0_pay732 x0 x1 x2 x3) -- `v1108`
def k0_pay765 (x0 : Vec F S512x1024 .f32) (x1 : Vec F S1x1024 .f32) (x2 : Vec F S1024x4608 .bf16) (x3 : Vec F S256x256 .bf16) : FVec F S64x128 .f32 :=
  k0_pay514 (k0_pay663 x0 x1 x2 x3) (k0_pay664 x0 x1 x2 x3) (k0_pay666 x0 x1 x2 x3) (k0_pay732 x0 x1 x2 x3) -- `v1110`
def k0_pay766 (x0 : Vec F S512x1024 .f32) (x1 : Vec F S1x1024 .f32) (x2 : Vec F S1024x4608 .bf16) (x3 : Vec F S256x256 .bf16) : FVec F S64x128 .f32 :=
  k0_pay515 (k0_pay663 x0 x1 x2 x3) (k0_pay664 x0 x1 x2 x3) (k0_pay666 x0 x1 x2 x3) (k0_pay732 x0 x1 x2 x3) -- `v1112`
def k0_pay767 (x0 : Vec F S512x1024 .f32) (x1 : Vec F S1x1024 .f32) (x2 : Vec F S1024x4608 .bf16) (x3 : Vec F S256x256 .bf16) : FVec F S64x128 .f32 :=
  k0_pay516 (k0_pay663 x0 x1 x2 x3) (k0_pay664 x0 x1 x2 x3) (k0_pay666 x0 x1 x2 x3) (k0_pay732 x0 x1 x2 x3) -- `v1114`
def k0_pay768 (x0 : Vec F S512x1024 .f32) (x1 : Vec F S1x1024 .f32) (x2 : Vec F S1024x4608 .bf16) (x3 : Vec F S256x256 .bf16) : FVec F S64x128 .f32 :=
  k0_pay517 (k0_pay663 x0 x1 x2 x3) (k0_pay664 x0 x1 x2 x3) (k0_pay666 x0 x1 x2 x3) (k0_pay732 x0 x1 x2 x3) -- `v1116`
def k0_pay769 (x0 : Vec F S512x1024 .f32) (x1 : Vec F S1x1024 .f32) (x2 : Vec F S1024x4608 .bf16) (x3 : Vec F S256x256 .bf16) : FVec F S64x128 .f32 :=
  k0_pay538 (k0_pay732 x0 x1 x2 x3) -- `v1170`
def k0_pay770 (x0 : Vec F S512x1024 .f32) (x1 : Vec F S1x1024 .f32) (x2 : Vec F S1024x4608 .bf16) (x3 : Vec F S256x256 .bf16) : FVec F S64x128 .f32 :=
  k0_pay539 (k0_pay732 x0 x1 x2 x3) -- `v1171`
def k0_pay771 (x0 : Vec F S512x1024 .f32) (x1 : Vec F S1x1024 .f32) (x2 : Vec F S1024x4608 .bf16) (x3 : Vec F S256x256 .bf16) : FVec F S64x128 .f32 :=
  k0_pay540 (k0_pay732 x0 x1 x2 x3) -- `v1172`
def k0_pay772 (x0 : Vec F S512x1024 .f32) (x1 : Vec F S1x1024 .f32) (x2 : Vec F S1024x4608 .bf16) (x3 : Vec F S256x256 .bf16) : FVec F S64x128 .f32 :=
  k0_pay541 (k0_pay663 x0 x1 x2 x3) (k0_pay666 x0 x1 x2 x3) (k0_pay732 x0 x1 x2 x3) -- `v1174`
def k0_pay773 (x0 : Vec F S512x1024 .f32) (x1 : Vec F S1x1024 .f32) (x2 : Vec F S1024x4608 .bf16) (x3 : Vec F S256x256 .bf16) : FVec F S64x128 .f32 :=
  k0_pay542 (k0_pay663 x0 x1 x2 x3) (k0_pay666 x0 x1 x2 x3) (k0_pay732 x0 x1 x2 x3) -- `v1176`
def k0_pay774 (x0 : Vec F S512x1024 .f32) (x1 : Vec F S1x1024 .f32) (x2 : Vec F S1024x4608 .bf16) (x3 : Vec F S256x256 .bf16) : FVec F S64x128 .f32 :=
  k0_pay554 (k0_pay663 x0 x1 x2 x3) (k0_pay664 x0 x1 x2 x3) (k0_pay666 x0 x1 x2 x3) (k0_pay770 x0 x1 x2 x3) (k0_pay773 x0 x1 x2 x3) -- `v1200`
def k0_pay775 (x0 : Vec F S512x1024 .f32) (x1 : Vec F S1x1024 .f32) (x2 : Vec F S1024x4608 .bf16) (x3 : Vec F S256x256 .bf16) : FVec F S64x128 .f32 :=
  k0_pay556 (k0_pay663 x0 x1 x2 x3) (k0_pay664 x0 x1 x2 x3) (k0_pay666 x0 x1 x2 x3) (k0_pay769 x0 x1 x2 x3) (k0_pay771 x0 x1 x2 x3) -- `v1204`
def k0_pay776 (x0 : Vec F S512x1024 .f32) (x1 : Vec F S1x1024 .f32) (x2 : Vec F S1024x4608 .bf16) (x3 : Vec F S256x256 .bf16) : FVec F S64x128 .f32 :=
  k0_pay584 (k0_pay663 x0 x1 x2 x3) (k0_pay666 x0 x1 x2 x3) (k0_pay732 x0 x1 x2 x3) -- `v1260`
def k0_pay777 (x0 : Vec F S512x1024 .f32) (x1 : Vec F S1x1024 .f32) (x2 : Vec F S1024x4608 .bf16) (x3 : Vec F S256x256 .bf16) : FVec F S64x128 .f32 :=
  k0_pay585 (k0_pay663 x0 x1 x2 x3) (k0_pay666 x0 x1 x2 x3) (k0_pay732 x0 x1 x2 x3) -- `v1262`
def k0_pay778 (x0 : Vec F S512x1024 .f32) (x1 : Vec F S1x1024 .f32) (x2 : Vec F S1024x4608 .bf16) (x3 : Vec F S256x256 .bf16) : FVec F S64x128 .f32 :=
  k0_pay586 (k0_pay663 x0 x1 x2 x3) (k0_pay666 x0 x1 x2 x3) (k0_pay732 x0 x1 x2 x3) -- `v1264`
def k0_pay779 (x0 : Vec F S512x1024 .f32) (x1 : Vec F S1x1024 .f32) (x2 : Vec F S1024x4608 .bf16) (x3 : Vec F S256x256 .bf16) : FVec F S64x128 .f32 :=
  k0_pay588 (k0_pay663 x0 x1 x2 x3) (k0_pay666 x0 x1 x2 x3) (k0_pay732 x0 x1 x2 x3) -- `v1268`
def k0_pay780 (x0 : Vec F S512x1024 .f32) (x1 : Vec F S1x1024 .f32) (x2 : Vec F S1024x4608 .bf16) (x3 : Vec F S256x256 .bf16) : FVec F S64x128 .f32 :=
  k0_pay589 (k0_pay663 x0 x1 x2 x3) (k0_pay666 x0 x1 x2 x3) (k0_pay732 x0 x1 x2 x3) -- `v1270`
def k0_pay781 (x0 : Vec F S512x1024 .f32) (x1 : Vec F S1x1024 .f32) (x2 : Vec F S1024x4608 .bf16) (x3 : Vec F S256x256 .bf16) : FVec F S64x128 .f32 :=
  k0_pay590 (k0_pay663 x0 x1 x2 x3) (k0_pay666 x0 x1 x2 x3) (k0_pay732 x0 x1 x2 x3) -- `v1272`
def k0_pay782 (x0 : Vec F S512x1024 .f32) (x1 : Vec F S1x1024 .f32) (x2 : Vec F S1024x4608 .bf16) (x3 : Vec F S256x256 .bf16) : FVec F S64x128 .f32 :=
  k0_pay591 (k0_pay663 x0 x1 x2 x3) (k0_pay664 x0 x1 x2 x3) (k0_pay666 x0 x1 x2 x3) (k0_pay732 x0 x1 x2 x3) -- `v1274`
def k0_pay783 (x0 : Vec F S512x1024 .f32) (x1 : Vec F S1x1024 .f32) (x2 : Vec F S1024x4608 .bf16) (x3 : Vec F S256x256 .bf16) : FVec F S64x128 .f32 :=
  k0_pay592 (k0_pay663 x0 x1 x2 x3) (k0_pay664 x0 x1 x2 x3) (k0_pay666 x0 x1 x2 x3) (k0_pay732 x0 x1 x2 x3) -- `v1276`
def k0_pay784 (x0 : Vec F S512x1024 .f32) (x1 : Vec F S1x1024 .f32) (x2 : Vec F S1024x4608 .bf16) (x3 : Vec F S256x256 .bf16) : FVec F S64x128 .f32 :=
  k0_pay632 (k0_pay663 x0 x1 x2 x3) (k0_pay664 x0 x1 x2 x3) (k0_pay666 x0 x1 x2 x3) (k0_pay732 x0 x1 x2 x3) -- `v1360`
def k0_pay785 (x0 : Vec F S512x1024 .f32) (x1 : Vec F S1x1024 .f32) (x2 : Vec F S1024x4608 .bf16) (x3 : Vec F S256x256 .bf16) : FVec F S64x128 .f32 :=
  k0_pay634 (k0_pay663 x0 x1 x2 x3) (k0_pay664 x0 x1 x2 x3) (k0_pay666 x0 x1 x2 x3) (k0_pay732 x0 x1 x2 x3) -- `v1364`
def k0_pay786 (x0 : Vec F S512x1024 .f32) (x1 : Vec F S1x1024 .f32) (x2 : Vec F S1024x4608 .bf16) (x3 : Vec F S256x256 .bf16) : FVec F S64x128 .f32 :=
  k0_pay635 (k0_pay663 x0 x1 x2 x3) (k0_pay664 x0 x1 x2 x3) (k0_pay666 x0 x1 x2 x3) (k0_pay732 x0 x1 x2 x3) -- `v1366`
def k0_pay787 (x0 : Vec F S512x1024 .f32) (x1 : Vec F S1x1024 .f32) (x2 : Vec F S1024x4608 .bf16) (x3 : Vec F S256x256 .bf16) : FVec F S64x128 .f32 :=
  k0_pay636 (k0_pay663 x0 x1 x2 x3) (k0_pay664 x0 x1 x2 x3) (k0_pay666 x0 x1 x2 x3) (k0_pay732 x0 x1 x2 x3) -- `v1368`
def k0_pay788 (x0 : Vec F S512x1024 .f32) (x1 : Vec F S1x1024 .f32) (x2 : Vec F S1024x4608 .bf16) (x3 : Vec F S256x256 .bf16) : FVec F S64x128 .f32 :=
  k0_pay637 (k0_pay663 x0 x1 x2 x3) (k0_pay664 x0 x1 x2 x3) (k0_pay666 x0 x1 x2 x3) (k0_pay732 x0 x1 x2 x3) -- `v1370`
def k0_pay789 (x0 : Vec F S512x1024 .f32) (x1 : Vec F S1x1024 .f32) (x2 : Vec F S1024x4608 .bf16) (x3 : Vec F S256x256 .bf16) : FVec F S64x128 .f32 :=
  k0_pay638 (k0_pay663 x0 x1 x2 x3) (k0_pay664 x0 x1 x2 x3) (k0_pay666 x0 x1 x2 x3) (k0_pay732 x0 x1 x2 x3) -- `v1372`

/-- Window 4's staging buffer after the body, from the input windows' blocks: its 1 store as pieces, LAST
    FIRST (Lib/Pipeline/FrameBody.lean `View.canon`; the payloads are the skeleton's and the values stated above). -/
def out0_4 (x0 : Vec F S512x1024 .f32) (x1 : Vec F S1x1024 .f32) (x2 : Vec F S1024x4608 .bf16) (x3 : Vec F S256x256 .bf16) : Vec F S512x1024 .bf16 :=
  View.canon [⟨r0_0, k0_pay2 (View.ld x0 r0_0) (View.ld x1 r0_1) (View.ld x2 r0_2)⟩]

/-- Its stores tile the buffer (checked by evaluation), so they cover it. -/
theorem cover0_4 (p0 : Vec F S512x1024 .bf16) (y : S512x1024.Idx) :
    ∃ pc ∈ ([⟨r0_0, p0⟩] : List (View.Piece (Elt F) S512x1024 .bf16)), y ∈ pc.1.set :=
  View.cover_of_tiled [⟨r0_0, p0⟩] S512x1024.size (by rfl) y

/-- Window 5's staging buffer after the body, from the input windows' blocks: its 1 store as pieces, LAST
    FIRST (Lib/Pipeline/FrameBody.lean `View.canon`; the payloads are the skeleton's and the values stated above). -/
def out0_5 (x0 : Vec F S512x1024 .f32) (x1 : Vec F S1x1024 .f32) (x2 : Vec F S1024x4608 .bf16) (x3 : Vec F S256x256 .bf16) : Vec F S512x512 .f32 :=
  View.canon [⟨r0_4, k0_pay3 (View.ld x0 r0_0) (View.ld x1 r0_1) (View.ld x2 r0_3)⟩]

/-- Its stores tile the buffer (checked by evaluation), so they cover it. -/
theorem cover0_5 (p0 : Vec F S512x512 .f32) (y : S512x512.Idx) :
    ∃ pc ∈ ([⟨r0_4, p0⟩] : List (View.Piece (Elt F) S512x512 .f32)), y ∈ pc.1.set :=
  View.cover_of_tiled [⟨r0_4, p0⟩] S512x512.size (by rfl) y

/-- Window 6's staging buffer after the body, from the input windows' blocks: its 256 stores as pieces, LAST
    FIRST (Lib/Pipeline/FrameBody.lean `View.canon`; the payloads are the skeleton's and the values stated above). -/
def out0_6 (x0 : Vec F S512x1024 .f32) (x1 : Vec F S1x1024 .f32) (x2 : Vec F S1024x4608 .bf16) (x3 : Vec F S256x256 .bf16) : Vec F S128x16384 .bf16 :=
  View.canon [⟨r0_262, k0_pay656 (k0_pay666 x0 x1 x2 x3)⟩,
    ⟨r0_261, k0_pay655 (k0_pay666 x0 x1 x2 x3)⟩,
    ⟨r0_260, k0_pay654 (k0_pay666 x0 x1 x2 x3)⟩,
    ⟨r0_259, k0_pay653 (k0_pay666 x0 x1 x2 x3)⟩,
    ⟨r0_258, k0_pay652 (k0_pay666 x0 x1 x2 x3)⟩,
    ⟨r0_257, k0_pay651 (k0_pay666 x0 x1 x2 x3)⟩,
    ⟨r0_256, k0_pay650 (k0_pay666 x0 x1 x2 x3)⟩,
    ⟨r0_255, k0_pay649 (k0_pay666 x0 x1 x2 x3)⟩,
    ⟨r0_254, k0_pay648 (k0_pay665 x0 x1 x2 x3) (k0_pay787 x0 x1 x2 x3) (k0_pay789 x0 x1 x2 x3)⟩,
    ⟨r0_253, k0_pay647 (k0_pay665 x0 x1 x2 x3) (k0_pay787 x0 x1 x2 x3) (k0_pay789 x0 x1 x2 x3)⟩,
    ⟨r0_252, k0_pay646 (k0_pay665 x0 x1 x2 x3) (k0_pay786 x0 x1 x2 x3) (k0_pay788 x0 x1 x2 x3)⟩,
    ⟨r0_251, k0_pay645 (k0_pay665 x0 x1 x2 x3) (k0_pay786 x0 x1 x2 x3) (k0_pay788 x0 x1 x2 x3)⟩,
    ⟨r0_250, k0_pay644 (k0_pay665 x0 x1 x2 x3) (k0_pay784 x0 x1 x2 x3) (k0_pay785 x0 x1 x2 x3)⟩,
    ⟨r0_249, k0_pay643 (k0_pay665 x0 x1 x2 x3) (k0_pay784 x0 x1 x2 x3) (k0_pay785 x0 x1 x2 x3) 16#32⟩,
    ⟨r0_248, k0_pay642 (k0_pay640 (k0_pay663 x0 x1 x2 x3) (k0_pay664 x0 x1 x2 x3) (k0_pay665 x0 x1 x2 x3) (k0_pay666 x0 x1 x2 x3) (k0_pay732 x0 x1 x2 x3))⟩,
    ⟨r0_247, k0_pay641 (k0_pay639 (k0_pay663 x0 x1 x2 x3) (k0_pay664 x0 x1 x2 x3) (k0_pay665 x0 x1 x2 x3) (k0_pay666 x0 x1 x2 x3) (k0_pay732 x0 x1 x2 x3))⟩,
    ⟨r0_246, k0_pay618 (k0_pay666 x0 x1 x2 x3)⟩,
    ⟨r0_245, k0_pay617 (k0_pay666 x0 x1 x2 x3)⟩,
    ⟨r0_244, k0_pay616 (k0_pay666 x0 x1 x2 x3)⟩,
    ⟨r0_243, k0_pay615 (k0_pay666 x0 x1 x2 x3)⟩,
    ⟨r0_242, k0_pay614 (k0_pay666 x0 x1 x2 x3)⟩,
    ⟨r0_241, k0_pay613 (k0_pay666 x0 x1 x2 x3)⟩,
    ⟨r0_240, k0_pay612 (k0_pay666 x0 x1 x2 x3)⟩,
    ⟨r0_239, k0_pay611 (k0_pay666 x0 x1 x2 x3)⟩,
    ⟨r0_238, k0_pay610 (k0_pay602 (k0_pay664 x0 x1 x2 x3) (k0_pay665 x0 x1 x2 x3) (k0_pay776 x0 x1 x2 x3) (k0_pay778 x0 x1 x2 x3) (k0_pay779 x0 x1 x2 x3) (k0_pay781 x0 x1 x2 x3))⟩,
    ⟨r0_237, k0_pay609 (k0_pay601 (k0_pay664 x0 x1 x2 x3) (k0_pay665 x0 x1 x2 x3) (k0_pay776 x0 x1 x2 x3) (k0_pay778 x0 x1 x2 x3) (k0_pay779 x0 x1 x2 x3) (k0_pay781 x0 x1 x2 x3))⟩,
    ⟨r0_236, k0_pay608 (k0_pay600 (k0_pay664 x0 x1 x2 x3) (k0_pay665 x0 x1 x2 x3) (k0_pay776 x0 x1 x2 x3) (k0_pay778 x0 x1 x2 x3) (k0_pay779 x0 x1 x2 x3) (k0_pay781 x0 x1 x2 x3))⟩,
    ⟨r0_235, k0_pay607 (k0_pay599 (k0_pay664 x0 x1 x2 x3) (k0_pay665 x0 x1 x2 x3) (k0_pay776 x0 x1 x2 x3) (k0_pay778 x0 x1 x2 x3) (k0_pay779 x0 x1 x2 x3) (k0_pay781 x0 x1 x2 x3))⟩,
    ⟨r0_234, k0_pay606 (k0_pay664 x0 x1 x2 x3) (k0_pay665 x0 x1 x2 x3) (k0_pay777 x0 x1 x2 x3) (k0_pay780 x0 x1 x2 x3) (k0_pay783 x0 x1 x2 x3)⟩,
    ⟨r0_233, k0_pay605 (k0_pay664 x0 x1 x2 x3) (k0_pay665 x0 x1 x2 x3) (k0_pay777 x0 x1 x2 x3) (k0_pay780 x0 x1 x2 x3) (k0_pay783 x0 x1 x2 x3)⟩,
    ⟨r0_232, k0_pay604 (k0_pay664 x0 x1 x2 x3) (k0_pay665 x0 x1 x2 x3) (k0_pay777 x0 x1 x2 x3) (k0_pay780 x0 x1 x2 x3) (k0_pay782 x0 x1 x2 x3) 32#32⟩,
    ⟨r0_231, k0_pay603 (k0_pay664 x0 x1 x2 x3) (k0_pay665 x0 x1 x2 x3) (k0_pay777 x0 x1 x2 x3) (k0_pay780 x0 x1 x2 x3) (k0_pay782 x0 x1 x2 x3) 32#32⟩,
    ⟨r0_230, k0_pay578 (k0_pay666 x0 x1 x2 x3)⟩,
    ⟨r0_229, k0_pay577 (k0_pay666 x0 x1 x2 x3)⟩,
    ⟨r0_228, k0_pay576 (k0_pay666 x0 x1 x2 x3)⟩,
    ⟨r0_227, k0_pay575 (k0_pay666 x0 x1 x2 x3)⟩,
    ⟨r0_226, k0_pay574 (k0_pay666 x0 x1 x2 x3)⟩,
    ⟨r0_225, k0_pay573 (k0_pay666 x0 x1 x2 x3)⟩,
    ⟨r0_224, k0_pay572 (k0_pay666 x0 x1 x2 x3)⟩,
    ⟨r0_223, k0_pay571 (k0_pay666 x0 x1 x2 x3)⟩,
    ⟨r0_222, k0_pay570 (k0_pay665 x0 x1 x2 x3) (k0_pay774 x0 x1 x2 x3) (k0_pay775 x0 x1 x2 x3)⟩,
    ⟨r0_221, k0_pay569 (k0_pay665 x0 x1 x2 x3) (k0_pay774 x0 x1 x2 x3) (k0_pay775 x0 x1 x2 x3) 16#32⟩,
    ⟨r0_220, k0_pay568 (k0_pay562 (k0_pay663 x0 x1 x2 x3) (k0_pay664 x0 x1 x2 x3) (k0_pay665 x0 x1 x2 x3) (k0_pay666 x0 x1 x2 x3) (k0_pay769 x0 x1 x2 x3) (k0_pay770 x0 x1 x2 x3) (k0_pay771 x0 x1 x2 x3) (k0_pay773 x0 x1 x2 x3))⟩,
    ⟨r0_219, k0_pay567 (k0_pay561 (k0_pay663 x0 x1 x2 x3) (k0_pay664 x0 x1 x2 x3) (k0_pay665 x0 x1 x2 x3) (k0_pay666 x0 x1 x2 x3) (k0_pay769 x0 x1 x2 x3) (k0_pay770 x0 x1 x2 x3) (k0_pay771 x0 x1 x2 x3) (k0_pay773 x0 x1 x2 x3))⟩,
    ⟨r0_218, k0_pay566 (k0_pay560 (k0_pay663 x0 x1 x2 x3) (k0_pay664 x0 x1 x2 x3) (k0_pay665 x0 x1 x2 x3) (k0_pay666 x0 x1 x2 x3) (k0_pay769 x0 x1 x2 x3) (k0_pay770 x0 x1 x2 x3) (k0_pay771 x0 x1 x2 x3) (k0_pay772 x0 x1 x2 x3) 64#32)⟩,
    ⟨r0_217, k0_pay565 (k0_pay559 (k0_pay663 x0 x1 x2 x3) (k0_pay664 x0 x1 x2 x3) (k0_pay665 x0 x1 x2 x3) (k0_pay666 x0 x1 x2 x3) (k0_pay769 x0 x1 x2 x3) (k0_pay770 x0 x1 x2 x3) (k0_pay771 x0 x1 x2 x3) (k0_pay772 x0 x1 x2 x3) 64#32)⟩,
    ⟨r0_216, k0_pay564 (k0_pay558 (k0_pay663 x0 x1 x2 x3) (k0_pay664 x0 x1 x2 x3) (k0_pay665 x0 x1 x2 x3) (k0_pay666 x0 x1 x2 x3) (k0_pay769 x0 x1 x2 x3) (k0_pay770 x0 x1 x2 x3) (k0_pay771 x0 x1 x2 x3) (k0_pay772 x0 x1 x2 x3) 64#32)⟩,
    ⟨r0_215, k0_pay563 (k0_pay557 (k0_pay663 x0 x1 x2 x3) (k0_pay664 x0 x1 x2 x3) (k0_pay665 x0 x1 x2 x3) (k0_pay666 x0 x1 x2 x3) (k0_pay769 x0 x1 x2 x3) (k0_pay770 x0 x1 x2 x3) (k0_pay771 x0 x1 x2 x3) (k0_pay772 x0 x1 x2 x3) 64#32)⟩,
    ⟨r0_214, k0_pay536 (k0_pay666 x0 x1 x2 x3)⟩,
    ⟨r0_213, k0_pay535 (k0_pay666 x0 x1 x2 x3)⟩,
    ⟨r0_212, k0_pay534 (k0_pay666 x0 x1 x2 x3)⟩,
    ⟨r0_211, k0_pay533 (k0_pay666 x0 x1 x2 x3)⟩,
    ⟨r0_210, k0_pay532 (k0_pay666 x0 x1 x2 x3)⟩,
    ⟨r0_209, k0_pay531 (k0_pay666 x0 x1 x2 x3)⟩,
    ⟨r0_208, k0_pay530 (k0_pay666 x0 x1 x2 x3)⟩,
    ⟨r0_207, k0_pay529 (k0_pay666 x0 x1 x2 x3)⟩,
    ⟨r0_206, k0_pay528 (k0_pay520 (k0_pay664 x0 x1 x2 x3) (k0_pay665 x0 x1 x2 x3) (k0_pay761 x0 x1 x2 x3) (k0_pay762 x0 x1 x2 x3) (k0_pay768 x0 x1 x2 x3))⟩,
    ⟨r0_205, k0_pay527 (k0_pay664 x0 x1 x2 x3) (k0_pay665 x0 x1 x2 x3) (k0_pay761 x0 x1 x2 x3) (k0_pay762 x0 x1 x2 x3) (k0_pay768 x0 x1 x2 x3)⟩,
    ⟨r0_204, k0_pay526 (k0_pay664 x0 x1 x2 x3) (k0_pay665 x0 x1 x2 x3) (k0_pay761 x0 x1 x2 x3) (k0_pay762 x0 x1 x2 x3) (k0_pay767 x0 x1 x2 x3) 32#32⟩,
    ⟨r0_203, k0_pay525 (k0_pay664 x0 x1 x2 x3) (k0_pay665 x0 x1 x2 x3) (k0_pay761 x0 x1 x2 x3) (k0_pay762 x0 x1 x2 x3) (k0_pay767 x0 x1 x2 x3) 32#32⟩,
    ⟨r0_202, k0_pay524 (k0_pay665 x0 x1 x2 x3) (k0_pay764 x0 x1 x2 x3) (k0_pay766 x0 x1 x2 x3)⟩,
    ⟨r0_201, k0_pay523 (k0_pay665 x0 x1 x2 x3) (k0_pay764 x0 x1 x2 x3) (k0_pay766 x0 x1 x2 x3)⟩,
    ⟨r0_200, k0_pay522 (k0_pay665 x0 x1 x2 x3) (k0_pay763 x0 x1 x2 x3) (k0_pay765 x0 x1 x2 x3)⟩,
    ⟨r0_199, k0_pay521 (k0_pay665 x0 x1 x2 x3) (k0_pay763 x0 x1 x2 x3) (k0_pay765 x0 x1 x2 x3)⟩,
    ⟨r0_198, k0_pay499 (k0_pay666 x0 x1 x2 x3)⟩,
    ⟨r0_197, k0_pay498 (k0_pay666 x0 x1 x2 x3)⟩,
    ⟨r0_196, k0_pay497 (k0_pay666 x0 x1 x2 x3)⟩,
    ⟨r0_195, k0_pay496 (k0_pay666 x0 x1 x2 x3)⟩,
    ⟨r0_194, k0_pay495 (k0_pay666 x0 x1 x2 x3)⟩,
    ⟨r0_193, k0_pay494 (k0_pay666 x0 x1 x2 x3)⟩,
    ⟨r0_192, k0_pay493 (k0_pay666 x0 x1 x2 x3)⟩,
    ⟨r0_191, k0_pay492 (k0_pay666 x0 x1 x2 x3)⟩,
    ⟨r0_190, k0_pay491 (k0_pay483 (k0_pay663 x0 x1 x2 x3) (k0_pay664 x0 x1 x2 x3) (k0_pay665 x0 x1 x2 x3) (k0_pay666 x0 x1 x2 x3) (k0_pay754 x0 x1 x2 x3) (k0_pay756 x0 x1 x2 x3) (k0_pay758 x0 x1 x2 x3) (k0_pay760 x0 x1 x2 x3))⟩,
    ⟨r0_189, k0_pay490 (k0_pay482 (k0_pay663 x0 x1 x2 x3) (k0_pay664 x0 x1 x2 x3) (k0_pay665 x0 x1 x2 x3) (k0_pay666 x0 x1 x2 x3) (k0_pay754 x0 x1 x2 x3) (k0_pay756 x0 x1 x2 x3) (k0_pay758 x0 x1 x2 x3) (k0_pay760 x0 x1 x2 x3))⟩,
    ⟨r0_188, k0_pay489 (k0_pay481 (k0_pay663 x0 x1 x2 x3) (k0_pay664 x0 x1 x2 x3) (k0_pay665 x0 x1 x2 x3) (k0_pay666 x0 x1 x2 x3) (k0_pay754 x0 x1 x2 x3) (k0_pay756 x0 x1 x2 x3) (k0_pay758 x0 x1 x2 x3) (k0_pay760 x0 x1 x2 x3))⟩,
    ⟨r0_187, k0_pay488 (k0_pay480 (k0_pay663 x0 x1 x2 x3) (k0_pay664 x0 x1 x2 x3) (k0_pay665 x0 x1 x2 x3) (k0_pay666 x0 x1 x2 x3) (k0_pay754 x0 x1 x2 x3) (k0_pay756 x0 x1 x2 x3) (k0_pay758 x0 x1 x2 x3) (k0_pay760 x0 x1 x2 x3))⟩,
    ⟨r0_186, k0_pay487 (k0_pay479 (k0_pay663 x0 x1 x2 x3) (k0_pay664 x0 x1 x2 x3) (k0_pay665 x0 x1 x2 x3) (k0_pay666 x0 x1 x2 x3) (k0_pay754 x0 x1 x2 x3) (k0_pay755 x0 x1 x2 x3) (k0_pay757 x0 x1 x2 x3) (k0_pay759 x0 x1 x2 x3) 64#32)⟩,
    ⟨r0_185, k0_pay486 (k0_pay478 (k0_pay663 x0 x1 x2 x3) (k0_pay664 x0 x1 x2 x3) (k0_pay665 x0 x1 x2 x3) (k0_pay666 x0 x1 x2 x3) (k0_pay754 x0 x1 x2 x3) (k0_pay755 x0 x1 x2 x3) (k0_pay757 x0 x1 x2 x3) (k0_pay759 x0 x1 x2 x3) 64#32)⟩,
    ⟨r0_184, k0_pay485 (k0_pay663 x0 x1 x2 x3) (k0_pay664 x0 x1 x2 x3) (k0_pay665 x0 x1 x2 x3) (k0_pay666 x0 x1 x2 x3) (k0_pay754 x0 x1 x2 x3) (k0_pay755 x0 x1 x2 x3) (k0_pay757 x0 x1 x2 x3) (k0_pay759 x0 x1 x2 x3) 64#32⟩,
    ⟨r0_183, k0_pay484 (k0_pay663 x0 x1 x2 x3) (k0_pay664 x0 x1 x2 x3) (k0_pay665 x0 x1 x2 x3) (k0_pay666 x0 x1 x2 x3) (k0_pay754 x0 x1 x2 x3) (k0_pay755 x0 x1 x2 x3) (k0_pay757 x0 x1 x2 x3) (k0_pay759 x0 x1 x2 x3) 64#32⟩,
    ⟨r0_182, k0_pay457 (k0_pay666 x0 x1 x2 x3)⟩,
    ⟨r0_181, k0_pay456 (k0_pay666 x0 x1 x2 x3)⟩,
    ⟨r0_180, k0_pay455 (k0_pay666 x0 x1 x2 x3)⟩,
    ⟨r0_179, k0_pay454 (k0_pay666 x0 x1 x2 x3)⟩,
    ⟨r0_178, k0_pay453 (k0_pay666 x0 x1 x2 x3)⟩,
    ⟨r0_177, k0_pay452 (k0_pay666 x0 x1 x2 x3)⟩,
    ⟨r0_176, k0_pay451 (k0_pay666 x0 x1 x2 x3)⟩,
    ⟨r0_175, k0_pay450 (k0_pay666 x0 x1 x2 x3)⟩,
    ⟨r0_174, k0_pay449 (k0_pay665 x0 x1 x2 x3) (k0_pay751 x0 x1 x2 x3) (k0_pay753 x0 x1 x2 x3)⟩,
    ⟨r0_173, k0_pay448 (k0_pay665 x0 x1 x2 x3) (k0_pay751 x0 x1 x2 x3) (k0_pay753 x0 x1 x2 x3)⟩,
    ⟨r0_172, k0_pay447 (k0_pay665 x0 x1 x2 x3) (k0_pay750 x0 x1 x2 x3) (k0_pay752 x0 x1 x2 x3)⟩,
    ⟨r0_171, k0_pay446 (k0_pay665 x0 x1 x2 x3) (k0_pay750 x0 x1 x2 x3) (k0_pay752 x0 x1 x2 x3)⟩,
    ⟨r0_170, k0_pay445 (k0_pay665 x0 x1 x2 x3) (k0_pay748 x0 x1 x2 x3) (k0_pay749 x0 x1 x2 x3)⟩,
    ⟨r0_169, k0_pay444 (k0_pay665 x0 x1 x2 x3) (k0_pay748 x0 x1 x2 x3) (k0_pay749 x0 x1 x2 x3) 16#32⟩,
    ⟨r0_168, k0_pay443 (k0_pay441 (k0_pay663 x0 x1 x2 x3) (k0_pay664 x0 x1 x2 x3) (k0_pay665 x0 x1 x2 x3) (k0_pay666 x0 x1 x2 x3) (k0_pay732 x0 x1 x2 x3))⟩,
    ⟨r0_167, k0_pay442 (k0_pay440 (k0_pay663 x0 x1 x2 x3) (k0_pay664 x0 x1 x2 x3) (k0_pay665 x0 x1 x2 x3) (k0_pay666 x0 x1 x2 x3) (k0_pay732 x0 x1 x2 x3))⟩,
    ⟨r0_166, k0_pay419 (k0_pay666 x0 x1 x2 x3)⟩,
    ⟨r0_165, k0_pay418 (k0_pay666 x0 x1 x2 x3)⟩,
    ⟨r0_164, k0_pay417 (k0_pay666 x0 x1 x2 x3)⟩,
    ⟨r0_163, k0_pay416 (k0_pay666 x0 x1 x2 x3)⟩,
    ⟨r0_162, k0_pay415 (k0_pay666 x0 x1 x2 x3)⟩,
    ⟨r0_161, k0_pay414 (k0_pay666 x0 x1 x2 x3)⟩,
    ⟨r0_160, k0_pay413 (k0_pay666 x0 x1 x2 x3)⟩,
    ⟨r0_159, k0_pay412 (k0_pay666 x0 x1 x2 x3)⟩,
    ⟨r0_158, k0_pay411 (k0_pay403 (k0_pay664 x0 x1 x2 x3) (k0_pay665 x0 x1 x2 x3) (k0_pay740 x0 x1 x2 x3) (k0_pay742 x0 x1 x2 x3) (k0_pay743 x0 x1 x2 x3) (k0_pay745 x0 x1 x2 x3))⟩,
    ⟨r0_157, k0_pay410 (k0_pay402 (k0_pay664 x0 x1 x2 x3) (k0_pay665 x0 x1 x2 x3) (k0_pay740 x0 x1 x2 x3) (k0_pay742 x0 x1 x2 x3) (k0_pay743 x0 x1 x2 x3) (k0_pay745 x0 x1 x2 x3))⟩,
    ⟨r0_156, k0_pay409 (k0_pay401 (k0_pay664 x0 x1 x2 x3) (k0_pay665 x0 x1 x2 x3) (k0_pay740 x0 x1 x2 x3) (k0_pay742 x0 x1 x2 x3) (k0_pay743 x0 x1 x2 x3) (k0_pay745 x0 x1 x2 x3))⟩,
    ⟨r0_155, k0_pay408 (k0_pay400 (k0_pay664 x0 x1 x2 x3) (k0_pay665 x0 x1 x2 x3) (k0_pay740 x0 x1 x2 x3) (k0_pay742 x0 x1 x2 x3) (k0_pay743 x0 x1 x2 x3) (k0_pay745 x0 x1 x2 x3))⟩,
    ⟨r0_154, k0_pay407 (k0_pay664 x0 x1 x2 x3) (k0_pay665 x0 x1 x2 x3) (k0_pay741 x0 x1 x2 x3) (k0_pay744 x0 x1 x2 x3) (k0_pay747 x0 x1 x2 x3)⟩,
    ⟨r0_153, k0_pay406 (k0_pay664 x0 x1 x2 x3) (k0_pay665 x0 x1 x2 x3) (k0_pay741 x0 x1 x2 x3) (k0_pay744 x0 x1 x2 x3) (k0_pay747 x0 x1 x2 x3)⟩,
    ⟨r0_152, k0_pay405 (k0_pay664 x0 x1 x2 x3) (k0_pay665 x0 x1 x2 x3) (k0_pay741 x0 x1 x2 x3) (k0_pay744 x0 x1 x2 x3) (k0_pay746 x0 x1 x2 x3) 32#32⟩,
    ⟨r0_151, k0_pay404 (k0_pay664 x0 x1 x2 x3) (k0_pay665 x0 x1 x2 x3) (k0_pay741 x0 x1 x2 x3) (k0_pay744 x0 x1 x2 x3) (k0_pay746 x0 x1 x2 x3) 32#32⟩,
    ⟨r0_150, k0_pay379 (k0_pay666 x0 x1 x2 x3)⟩,
    ⟨r0_149, k0_pay378 (k0_pay666 x0 x1 x2 x3)⟩,
    ⟨r0_148, k0_pay377 (k0_pay666 x0 x1 x2 x3)⟩,
    ⟨r0_147, k0_pay376 (k0_pay666 x0 x1 x2 x3)⟩,
    ⟨r0_146, k0_pay375 (k0_pay666 x0 x1 x2 x3)⟩,
    ⟨r0_145, k0_pay374 (k0_pay666 x0 x1 x2 x3)⟩,
    ⟨r0_144, k0_pay373 (k0_pay666 x0 x1 x2 x3)⟩,
    ⟨r0_143, k0_pay372 (k0_pay666 x0 x1 x2 x3)⟩,
    ⟨r0_142, k0_pay371 (k0_pay665 x0 x1 x2 x3) (k0_pay738 x0 x1 x2 x3) (k0_pay739 x0 x1 x2 x3)⟩,
    ⟨r0_141, k0_pay370 (k0_pay665 x0 x1 x2 x3) (k0_pay738 x0 x1 x2 x3) (k0_pay739 x0 x1 x2 x3) 16#32⟩,
    ⟨r0_140, k0_pay369 (k0_pay363 (k0_pay663 x0 x1 x2 x3) (k0_pay664 x0 x1 x2 x3) (k0_pay665 x0 x1 x2 x3) (k0_pay666 x0 x1 x2 x3) (k0_pay733 x0 x1 x2 x3) (k0_pay734 x0 x1 x2 x3) (k0_pay735 x0 x1 x2 x3) (k0_pay737 x0 x1 x2 x3))⟩,
    ⟨r0_139, k0_pay368 (k0_pay362 (k0_pay663 x0 x1 x2 x3) (k0_pay664 x0 x1 x2 x3) (k0_pay665 x0 x1 x2 x3) (k0_pay666 x0 x1 x2 x3) (k0_pay733 x0 x1 x2 x3) (k0_pay734 x0 x1 x2 x3) (k0_pay735 x0 x1 x2 x3) (k0_pay737 x0 x1 x2 x3))⟩,
    ⟨r0_138, k0_pay367 (k0_pay361 (k0_pay663 x0 x1 x2 x3) (k0_pay664 x0 x1 x2 x3) (k0_pay665 x0 x1 x2 x3) (k0_pay666 x0 x1 x2 x3) (k0_pay733 x0 x1 x2 x3) (k0_pay734 x0 x1 x2 x3) (k0_pay735 x0 x1 x2 x3) (k0_pay736 x0 x1 x2 x3) 64#32)⟩,
    ⟨r0_137, k0_pay366 (k0_pay360 (k0_pay663 x0 x1 x2 x3) (k0_pay664 x0 x1 x2 x3) (k0_pay665 x0 x1 x2 x3) (k0_pay666 x0 x1 x2 x3) (k0_pay733 x0 x1 x2 x3) (k0_pay734 x0 x1 x2 x3) (k0_pay735 x0 x1 x2 x3) (k0_pay736 x0 x1 x2 x3) 64#32)⟩,
    ⟨r0_136, k0_pay365 (k0_pay359 (k0_pay663 x0 x1 x2 x3) (k0_pay664 x0 x1 x2 x3) (k0_pay665 x0 x1 x2 x3) (k0_pay666 x0 x1 x2 x3) (k0_pay733 x0 x1 x2 x3) (k0_pay734 x0 x1 x2 x3) (k0_pay735 x0 x1 x2 x3) (k0_pay736 x0 x1 x2 x3) 64#32)⟩,
    ⟨r0_135, k0_pay364 (k0_pay358 (k0_pay663 x0 x1 x2 x3) (k0_pay664 x0 x1 x2 x3) (k0_pay665 x0 x1 x2 x3) (k0_pay666 x0 x1 x2 x3) (k0_pay733 x0 x1 x2 x3) (k0_pay734 x0 x1 x2 x3) (k0_pay735 x0 x1 x2 x3) (k0_pay736 x0 x1 x2 x3) 64#32)⟩,
    ⟨r0_134, k0_pay336 (k0_pay666 x0 x1 x2 x3)⟩,
    ⟨r0_133, k0_pay335 (k0_pay666 x0 x1 x2 x3)⟩,
    ⟨r0_132, k0_pay334 (k0_pay666 x0 x1 x2 x3)⟩,
    ⟨r0_131, k0_pay333 (k0_pay666 x0 x1 x2 x3)⟩,
    ⟨r0_130, k0_pay332 (k0_pay666 x0 x1 x2 x3)⟩,
    ⟨r0_129, k0_pay331 (k0_pay666 x0 x1 x2 x3)⟩,
    ⟨r0_128, k0_pay330 (k0_pay666 x0 x1 x2 x3)⟩,
    ⟨r0_127, k0_pay329 (k0_pay666 x0 x1 x2 x3)⟩,
    ⟨r0_126, k0_pay328 (k0_pay665 x0 x1 x2 x3) (k0_pay729 x0 x1 x2 x3) (k0_pay731 x0 x1 x2 x3)⟩,
    ⟨r0_125, k0_pay327 (k0_pay665 x0 x1 x2 x3) (k0_pay729 x0 x1 x2 x3) (k0_pay731 x0 x1 x2 x3)⟩,
    ⟨r0_124, k0_pay326 (k0_pay665 x0 x1 x2 x3) (k0_pay728 x0 x1 x2 x3) (k0_pay730 x0 x1 x2 x3)⟩,
    ⟨r0_123, k0_pay325 (k0_pay665 x0 x1 x2 x3) (k0_pay728 x0 x1 x2 x3) (k0_pay730 x0 x1 x2 x3)⟩,
    ⟨r0_122, k0_pay324 (k0_pay665 x0 x1 x2 x3) (k0_pay726 x0 x1 x2 x3) (k0_pay727 x0 x1 x2 x3)⟩,
    ⟨r0_121, k0_pay323 (k0_pay665 x0 x1 x2 x3) (k0_pay726 x0 x1 x2 x3) (k0_pay727 x0 x1 x2 x3)⟩,
    ⟨r0_120, k0_pay322 (k0_pay665 x0 x1 x2 x3) (k0_pay725 x0 x1 x2 x3) (k0_pay314 (k0_pay663 x0 x1 x2 x3) (k0_pay664 x0 x1 x2 x3) (k0_pay666 x0 x1 x2 x3) (k0_pay667 x0 x1 x2 x3))⟩,
    ⟨r0_119, k0_pay321 (k0_pay665 x0 x1 x2 x3) (k0_pay725 x0 x1 x2 x3) (k0_pay320 (k0_pay663 x0 x1 x2 x3) (k0_pay664 x0 x1 x2 x3) (k0_pay666 x0 x1 x2 x3) (k0_pay667 x0 x1 x2 x3))⟩,
    ⟨r0_118, k0_pay299 (k0_pay666 x0 x1 x2 x3)⟩,
    ⟨r0_117, k0_pay298 (k0_pay666 x0 x1 x2 x3)⟩,
    ⟨r0_116, k0_pay297 (k0_pay666 x0 x1 x2 x3)⟩,
    ⟨r0_115, k0_pay296 (k0_pay666 x0 x1 x2 x3)⟩,
    ⟨r0_114, k0_pay295 (k0_pay666 x0 x1 x2 x3)⟩,
    ⟨r0_113, k0_pay294 (k0_pay666 x0 x1 x2 x3)⟩,
    ⟨r0_112, k0_pay293 (k0_pay666 x0 x1 x2 x3)⟩,
    ⟨r0_111, k0_pay292 (k0_pay666 x0 x1 x2 x3)⟩,
    ⟨r0_110, k0_pay291 (k0_pay283 (k0_pay664 x0 x1 x2 x3) (k0_pay665 x0 x1 x2 x3) (k0_pay717 x0 x1 x2 x3) (k0_pay719 x0 x1 x2 x3) (k0_pay721 x0 x1 x2 x3) (k0_pay723 x0 x1 x2 x3))⟩,
    ⟨r0_109, k0_pay290 (k0_pay282 (k0_pay664 x0 x1 x2 x3) (k0_pay665 x0 x1 x2 x3) (k0_pay717 x0 x1 x2 x3) (k0_pay719 x0 x1 x2 x3) (k0_pay721 x0 x1 x2 x3) (k0_pay723 x0 x1 x2 x3))⟩,
    ⟨r0_108, k0_pay289 (k0_pay281 (k0_pay664 x0 x1 x2 x3) (k0_pay665 x0 x1 x2 x3) (k0_pay717 x0 x1 x2 x3) (k0_pay719 x0 x1 x2 x3) (k0_pay721 x0 x1 x2 x3) (k0_pay723 x0 x1 x2 x3))⟩,
    ⟨r0_107, k0_pay288 (k0_pay280 (k0_pay664 x0 x1 x2 x3) (k0_pay665 x0 x1 x2 x3) (k0_pay717 x0 x1 x2 x3) (k0_pay719 x0 x1 x2 x3) (k0_pay721 x0 x1 x2 x3) (k0_pay723 x0 x1 x2 x3))⟩,
    ⟨r0_106, k0_pay287 (k0_pay279 (k0_pay664 x0 x1 x2 x3) (k0_pay665 x0 x1 x2 x3) (k0_pay716 x0 x1 x2 x3) (k0_pay718 x0 x1 x2 x3) (k0_pay720 x0 x1 x2 x3) (k0_pay722 x0 x1 x2 x3))⟩,
    ⟨r0_105, k0_pay286 (k0_pay664 x0 x1 x2 x3) (k0_pay665 x0 x1 x2 x3) (k0_pay716 x0 x1 x2 x3) (k0_pay718 x0 x1 x2 x3) (k0_pay720 x0 x1 x2 x3) (k0_pay722 x0 x1 x2 x3)⟩,
    ⟨r0_104, k0_pay285 (k0_pay664 x0 x1 x2 x3) (k0_pay665 x0 x1 x2 x3) (k0_pay716 x0 x1 x2 x3) (k0_pay718 x0 x1 x2 x3) (k0_pay722 x0 x1 x2 x3) (k0_pay724 x0 x1 x2 x3)⟩,
    ⟨r0_103, k0_pay284 (k0_pay664 x0 x1 x2 x3) (k0_pay665 x0 x1 x2 x3) (k0_pay716 x0 x1 x2 x3) (k0_pay718 x0 x1 x2 x3) (k0_pay722 x0 x1 x2 x3) (k0_pay724 x0 x1 x2 x3)⟩,
    ⟨r0_102, k0_pay257 (k0_pay666 x0 x1 x2 x3)⟩,
    ⟨r0_101, k0_pay256 (k0_pay666 x0 x1 x2 x3)⟩,
    ⟨r0_100, k0_pay255 (k0_pay666 x0 x1 x2 x3)⟩,
    ⟨r0_99, k0_pay254 (k0_pay666 x0 x1 x2 x3)⟩,
    ⟨r0_98, k0_pay253 (k0_pay666 x0 x1 x2 x3)⟩,
    ⟨r0_97, k0_pay252 (k0_pay666 x0 x1 x2 x3)⟩,
    ⟨r0_96, k0_pay251 (k0_pay666 x0 x1 x2 x3)⟩,
    ⟨r0_95, k0_pay250 (k0_pay666 x0 x1 x2 x3)⟩,
    ⟨r0_94, k0_pay249 (k0_pay665 x0 x1 x2 x3) (k0_pay714 x0 x1 x2 x3) (k0_pay715 x0 x1 x2 x3)⟩,
    ⟨r0_93, k0_pay248 (k0_pay665 x0 x1 x2 x3) (k0_pay714 x0 x1 x2 x3) (k0_pay715 x0 x1 x2 x3)⟩,
    ⟨r0_92, k0_pay247 (k0_pay665 x0 x1 x2 x3) (k0_pay713 x0 x1 x2 x3) (k0_pay235 (k0_pay663 x0 x1 x2 x3) (k0_pay664 x0 x1 x2 x3) (k0_pay666 x0 x1 x2 x3) (k0_pay709 x0 x1 x2 x3) (k0_pay711 x0 x1 x2 x3))⟩,
    ⟨r0_91, k0_pay246 (k0_pay665 x0 x1 x2 x3) (k0_pay713 x0 x1 x2 x3) (k0_pay241 (k0_pay663 x0 x1 x2 x3) (k0_pay664 x0 x1 x2 x3) (k0_pay666 x0 x1 x2 x3) (k0_pay709 x0 x1 x2 x3) (k0_pay711 x0 x1 x2 x3))⟩,
    ⟨r0_90, k0_pay245 (k0_pay240 (k0_pay663 x0 x1 x2 x3) (k0_pay664 x0 x1 x2 x3) (k0_pay665 x0 x1 x2 x3) (k0_pay666 x0 x1 x2 x3) (k0_pay708 x0 x1 x2 x3) (k0_pay709 x0 x1 x2 x3) (k0_pay710 x0 x1 x2 x3) (k0_pay711 x0 x1 x2 x3) (k0_pay712 x0 x1 x2 x3))⟩,
    ⟨r0_89, k0_pay244 (k0_pay239 (k0_pay663 x0 x1 x2 x3) (k0_pay664 x0 x1 x2 x3) (k0_pay665 x0 x1 x2 x3) (k0_pay666 x0 x1 x2 x3) (k0_pay708 x0 x1 x2 x3) (k0_pay709 x0 x1 x2 x3) (k0_pay710 x0 x1 x2 x3) (k0_pay711 x0 x1 x2 x3) (k0_pay712 x0 x1 x2 x3))⟩,
    ⟨r0_88, k0_pay243 (k0_pay238 (k0_pay663 x0 x1 x2 x3) (k0_pay664 x0 x1 x2 x3) (k0_pay665 x0 x1 x2 x3) (k0_pay666 x0 x1 x2 x3) (k0_pay708 x0 x1 x2 x3) (k0_pay709 x0 x1 x2 x3) (k0_pay710 x0 x1 x2 x3) (k0_pay711 x0 x1 x2 x3) (k0_pay712 x0 x1 x2 x3))⟩,
    ⟨r0_87, k0_pay242 (k0_pay237 (k0_pay663 x0 x1 x2 x3) (k0_pay664 x0 x1 x2 x3) (k0_pay665 x0 x1 x2 x3) (k0_pay666 x0 x1 x2 x3) (k0_pay708 x0 x1 x2 x3) (k0_pay709 x0 x1 x2 x3) (k0_pay710 x0 x1 x2 x3) (k0_pay711 x0 x1 x2 x3) (k0_pay712 x0 x1 x2 x3))⟩,
    ⟨r0_86, k0_pay215 (k0_pay666 x0 x1 x2 x3)⟩,
    ⟨r0_85, k0_pay214 (k0_pay666 x0 x1 x2 x3)⟩,
    ⟨r0_84, k0_pay213 (k0_pay666 x0 x1 x2 x3)⟩,
    ⟨r0_83, k0_pay212 (k0_pay666 x0 x1 x2 x3)⟩,
    ⟨r0_82, k0_pay211 (k0_pay666 x0 x1 x2 x3)⟩,
    ⟨r0_81, k0_pay210 (k0_pay666 x0 x1 x2 x3)⟩,
    ⟨r0_80, k0_pay209 (k0_pay666 x0 x1 x2 x3)⟩,
    ⟨r0_79, k0_pay208 (k0_pay666 x0 x1 x2 x3)⟩,
    ⟨r0_78, k0_pay207 (k0_pay199 (k0_pay664 x0 x1 x2 x3) (k0_pay665 x0 x1 x2 x3) (k0_pay699 x0 x1 x2 x3) (k0_pay700 x0 x1 x2 x3) (k0_pay701 x0 x1 x2 x3) (k0_pay702 x0 x1 x2 x3))⟩,
    ⟨r0_77, k0_pay206 (k0_pay198 (k0_pay664 x0 x1 x2 x3) (k0_pay665 x0 x1 x2 x3) (k0_pay699 x0 x1 x2 x3) (k0_pay700 x0 x1 x2 x3) (k0_pay701 x0 x1 x2 x3) (k0_pay702 x0 x1 x2 x3))⟩,
    ⟨r0_76, k0_pay205 (k0_pay664 x0 x1 x2 x3) (k0_pay665 x0 x1 x2 x3) (k0_pay699 x0 x1 x2 x3) (k0_pay700 x0 x1 x2 x3) (k0_pay702 x0 x1 x2 x3) (k0_pay707 x0 x1 x2 x3)⟩,
    ⟨r0_75, k0_pay204 (k0_pay664 x0 x1 x2 x3) (k0_pay665 x0 x1 x2 x3) (k0_pay699 x0 x1 x2 x3) (k0_pay700 x0 x1 x2 x3) (k0_pay702 x0 x1 x2 x3) (k0_pay707 x0 x1 x2 x3)⟩,
    ⟨r0_74, k0_pay203 (k0_pay665 x0 x1 x2 x3) (k0_pay704 x0 x1 x2 x3) (k0_pay706 x0 x1 x2 x3)⟩,
    ⟨r0_73, k0_pay202 (k0_pay665 x0 x1 x2 x3) (k0_pay704 x0 x1 x2 x3) (k0_pay706 x0 x1 x2 x3)⟩,
    ⟨r0_72, k0_pay201 (k0_pay665 x0 x1 x2 x3) (k0_pay703 x0 x1 x2 x3) (k0_pay705 x0 x1 x2 x3)⟩,
    ⟨r0_71, k0_pay200 (k0_pay665 x0 x1 x2 x3) (k0_pay703 x0 x1 x2 x3) (k0_pay705 x0 x1 x2 x3)⟩,
    ⟨r0_70, k0_pay176 (k0_pay666 x0 x1 x2 x3)⟩,
    ⟨r0_69, k0_pay175 (k0_pay666 x0 x1 x2 x3)⟩,
    ⟨r0_68, k0_pay174 (k0_pay666 x0 x1 x2 x3)⟩,
    ⟨r0_67, k0_pay173 (k0_pay666 x0 x1 x2 x3)⟩,
    ⟨r0_66, k0_pay172 (k0_pay666 x0 x1 x2 x3)⟩,
    ⟨r0_65, k0_pay171 (k0_pay666 x0 x1 x2 x3)⟩,
    ⟨r0_64, k0_pay170 (k0_pay666 x0 x1 x2 x3)⟩,
    ⟨r0_63, k0_pay169 (k0_pay666 x0 x1 x2 x3)⟩,
    ⟨r0_62, k0_pay168 (k0_pay160 (k0_pay663 x0 x1 x2 x3) (k0_pay664 x0 x1 x2 x3) (k0_pay665 x0 x1 x2 x3) (k0_pay666 x0 x1 x2 x3) (k0_pay692 x0 x1 x2 x3) (k0_pay693 x0 x1 x2 x3) (k0_pay695 x0 x1 x2 x3) (k0_pay697 x0 x1 x2 x3))⟩,
    ⟨r0_61, k0_pay167 (k0_pay159 (k0_pay663 x0 x1 x2 x3) (k0_pay664 x0 x1 x2 x3) (k0_pay665 x0 x1 x2 x3) (k0_pay666 x0 x1 x2 x3) (k0_pay692 x0 x1 x2 x3) (k0_pay693 x0 x1 x2 x3) (k0_pay695 x0 x1 x2 x3) (k0_pay697 x0 x1 x2 x3))⟩,
    ⟨r0_60, k0_pay166 (k0_pay158 (k0_pay663 x0 x1 x2 x3) (k0_pay664 x0 x1 x2 x3) (k0_pay665 x0 x1 x2 x3) (k0_pay666 x0 x1 x2 x3) (k0_pay692 x0 x1 x2 x3) (k0_pay693 x0 x1 x2 x3) (k0_pay695 x0 x1 x2 x3) (k0_pay697 x0 x1 x2 x3))⟩,
    ⟨r0_59, k0_pay165 (k0_pay157 (k0_pay663 x0 x1 x2 x3) (k0_pay664 x0 x1 x2 x3) (k0_pay665 x0 x1 x2 x3) (k0_pay666 x0 x1 x2 x3) (k0_pay692 x0 x1 x2 x3) (k0_pay693 x0 x1 x2 x3) (k0_pay695 x0 x1 x2 x3) (k0_pay697 x0 x1 x2 x3))⟩,
    ⟨r0_58, k0_pay164 (k0_pay156 (k0_pay663 x0 x1 x2 x3) (k0_pay664 x0 x1 x2 x3) (k0_pay665 x0 x1 x2 x3) (k0_pay666 x0 x1 x2 x3) (k0_pay692 x0 x1 x2 x3) (k0_pay693 x0 x1 x2 x3) (k0_pay694 x0 x1 x2 x3) (k0_pay696 x0 x1 x2 x3) (k0_pay698 x0 x1 x2 x3))⟩,
    ⟨r0_57, k0_pay163 (k0_pay155 (k0_pay663 x0 x1 x2 x3) (k0_pay664 x0 x1 x2 x3) (k0_pay665 x0 x1 x2 x3) (k0_pay666 x0 x1 x2 x3) (k0_pay692 x0 x1 x2 x3) (k0_pay693 x0 x1 x2 x3) (k0_pay694 x0 x1 x2 x3) (k0_pay696 x0 x1 x2 x3) (k0_pay698 x0 x1 x2 x3))⟩,
    ⟨r0_56, k0_pay162 (k0_pay154 (k0_pay663 x0 x1 x2 x3) (k0_pay664 x0 x1 x2 x3) (k0_pay665 x0 x1 x2 x3) (k0_pay666 x0 x1 x2 x3) (k0_pay692 x0 x1 x2 x3) (k0_pay693 x0 x1 x2 x3) (k0_pay694 x0 x1 x2 x3) (k0_pay696 x0 x1 x2 x3) (k0_pay698 x0 x1 x2 x3))⟩,
    ⟨r0_55, k0_pay161 (k0_pay663 x0 x1 x2 x3) (k0_pay664 x0 x1 x2 x3) (k0_pay665 x0 x1 x2 x3) (k0_pay666 x0 x1 x2 x3) (k0_pay692 x0 x1 x2 x3) (k0_pay693 x0 x1 x2 x3) (k0_pay694 x0 x1 x2 x3) (k0_pay696 x0 x1 x2 x3) (k0_pay698 x0 x1 x2 x3)⟩,
    ⟨r0_54, k0_pay132 (k0_pay666 x0 x1 x2 x3)⟩,
    ⟨r0_53, k0_pay131 (k0_pay666 x0 x1 x2 x3)⟩,
    ⟨r0_52, k0_pay130 (k0_pay666 x0 x1 x2 x3)⟩,
    ⟨r0_51, k0_pay129 (k0_pay666 x0 x1 x2 x3)⟩,
    ⟨r0_50, k0_pay128 (k0_pay666 x0 x1 x2 x3)⟩,
    ⟨r0_49, k0_pay127 (k0_pay666 x0 x1 x2 x3)⟩,
    ⟨r0_48, k0_pay126 (k0_pay666 x0 x1 x2 x3)⟩,
    ⟨r0_47, k0_pay125 (k0_pay666 x0 x1 x2 x3)⟩,
    ⟨r0_46, k0_pay124 (k0_pay665 x0 x1 x2 x3) (k0_pay689 x0 x1 x2 x3) (k0_pay691 x0 x1 x2 x3)⟩,
    ⟨r0_45, k0_pay123 (k0_pay665 x0 x1 x2 x3) (k0_pay689 x0 x1 x2 x3) (k0_pay691 x0 x1 x2 x3)⟩,
    ⟨r0_44, k0_pay122 (k0_pay665 x0 x1 x2 x3) (k0_pay688 x0 x1 x2 x3) (k0_pay690 x0 x1 x2 x3)⟩,
    ⟨r0_43, k0_pay121 (k0_pay665 x0 x1 x2 x3) (k0_pay688 x0 x1 x2 x3) (k0_pay690 x0 x1 x2 x3)⟩,
    ⟨r0_42, k0_pay120 (k0_pay665 x0 x1 x2 x3) (k0_pay686 x0 x1 x2 x3) (k0_pay687 x0 x1 x2 x3)⟩,
    ⟨r0_41, k0_pay119 (k0_pay665 x0 x1 x2 x3) (k0_pay686 x0 x1 x2 x3) (k0_pay687 x0 x1 x2 x3)⟩,
    ⟨r0_40, k0_pay118 (k0_pay665 x0 x1 x2 x3) (k0_pay685 x0 x1 x2 x3) (k0_pay110 (k0_pay663 x0 x1 x2 x3) (k0_pay664 x0 x1 x2 x3) (k0_pay666 x0 x1 x2 x3) (k0_pay667 x0 x1 x2 x3))⟩,
    ⟨r0_39, k0_pay117 (k0_pay665 x0 x1 x2 x3) (k0_pay685 x0 x1 x2 x3) (k0_pay116 (k0_pay663 x0 x1 x2 x3) (k0_pay664 x0 x1 x2 x3) (k0_pay666 x0 x1 x2 x3) (k0_pay667 x0 x1 x2 x3))⟩,
    ⟨r0_38, k0_pay95 (k0_pay666 x0 x1 x2 x3)⟩,
    ⟨r0_37, k0_pay94 (k0_pay666 x0 x1 x2 x3)⟩,
    ⟨r0_36, k0_pay93 (k0_pay666 x0 x1 x2 x3)⟩,
    ⟨r0_35, k0_pay92 (k0_pay666 x0 x1 x2 x3)⟩,
    ⟨r0_34, k0_pay91 (k0_pay666 x0 x1 x2 x3)⟩,
    ⟨r0_33, k0_pay90 (k0_pay666 x0 x1 x2 x3)⟩,
    ⟨r0_32, k0_pay89 (k0_pay666 x0 x1 x2 x3)⟩,
    ⟨r0_31, k0_pay88 (k0_pay666 x0 x1 x2 x3)⟩,
    ⟨r0_30, k0_pay87 (k0_pay79 (k0_pay664 x0 x1 x2 x3) (k0_pay665 x0 x1 x2 x3) (k0_pay677 x0 x1 x2 x3) (k0_pay679 x0 x1 x2 x3) (k0_pay681 x0 x1 x2 x3) (k0_pay683 x0 x1 x2 x3))⟩,
    ⟨r0_29, k0_pay86 (k0_pay78 (k0_pay664 x0 x1 x2 x3) (k0_pay665 x0 x1 x2 x3) (k0_pay677 x0 x1 x2 x3) (k0_pay679 x0 x1 x2 x3) (k0_pay681 x0 x1 x2 x3) (k0_pay683 x0 x1 x2 x3))⟩,
    ⟨r0_28, k0_pay85 (k0_pay77 (k0_pay664 x0 x1 x2 x3) (k0_pay665 x0 x1 x2 x3) (k0_pay677 x0 x1 x2 x3) (k0_pay679 x0 x1 x2 x3) (k0_pay681 x0 x1 x2 x3) (k0_pay683 x0 x1 x2 x3))⟩,
    ⟨r0_27, k0_pay84 (k0_pay76 (k0_pay664 x0 x1 x2 x3) (k0_pay665 x0 x1 x2 x3) (k0_pay677 x0 x1 x2 x3) (k0_pay679 x0 x1 x2 x3) (k0_pay681 x0 x1 x2 x3) (k0_pay683 x0 x1 x2 x3))⟩,
    ⟨r0_26, k0_pay83 (k0_pay75 (k0_pay664 x0 x1 x2 x3) (k0_pay665 x0 x1 x2 x3) (k0_pay676 x0 x1 x2 x3) (k0_pay678 x0 x1 x2 x3) (k0_pay680 x0 x1 x2 x3) (k0_pay682 x0 x1 x2 x3))⟩,
    ⟨r0_25, k0_pay82 (k0_pay664 x0 x1 x2 x3) (k0_pay665 x0 x1 x2 x3) (k0_pay676 x0 x1 x2 x3) (k0_pay678 x0 x1 x2 x3) (k0_pay680 x0 x1 x2 x3) (k0_pay682 x0 x1 x2 x3)⟩,
    ⟨r0_24, k0_pay81 (k0_pay664 x0 x1 x2 x3) (k0_pay665 x0 x1 x2 x3) (k0_pay676 x0 x1 x2 x3) (k0_pay678 x0 x1 x2 x3) (k0_pay682 x0 x1 x2 x3) (k0_pay684 x0 x1 x2 x3)⟩,
    ⟨r0_23, k0_pay80 (k0_pay664 x0 x1 x2 x3) (k0_pay665 x0 x1 x2 x3) (k0_pay676 x0 x1 x2 x3) (k0_pay678 x0 x1 x2 x3) (k0_pay682 x0 x1 x2 x3) (k0_pay684 x0 x1 x2 x3)⟩,
    ⟨r0_22, k0_pay53 (k0_pay666 x0 x1 x2 x3)⟩,
    ⟨r0_21, k0_pay52 (k0_pay666 x0 x1 x2 x3)⟩,
    ⟨r0_20, k0_pay51 (k0_pay666 x0 x1 x2 x3)⟩,
    ⟨r0_19, k0_pay50 (k0_pay666 x0 x1 x2 x3)⟩,
    ⟨r0_18, k0_pay49 (k0_pay666 x0 x1 x2 x3)⟩,
    ⟨r0_17, k0_pay48 (k0_pay666 x0 x1 x2 x3)⟩,
    ⟨r0_16, k0_pay47 (k0_pay666 x0 x1 x2 x3)⟩,
    ⟨r0_15, k0_pay46 (k0_pay666 x0 x1 x2 x3)⟩,
    ⟨r0_14, k0_pay45 (k0_pay665 x0 x1 x2 x3) (k0_pay674 x0 x1 x2 x3) (k0_pay675 x0 x1 x2 x3)⟩,
    ⟨r0_13, k0_pay44 (k0_pay665 x0 x1 x2 x3) (k0_pay674 x0 x1 x2 x3) (k0_pay675 x0 x1 x2 x3)⟩,
    ⟨r0_12, k0_pay43 (k0_pay665 x0 x1 x2 x3) (k0_pay673 x0 x1 x2 x3) (k0_pay31 (k0_pay663 x0 x1 x2 x3) (k0_pay664 x0 x1 x2 x3) (k0_pay666 x0 x1 x2 x3) (k0_pay669 x0 x1 x2 x3) (k0_pay671 x0 x1 x2 x3))⟩,
    ⟨r0_11, k0_pay42 (k0_pay665 x0 x1 x2 x3) (k0_pay673 x0 x1 x2 x3) (k0_pay37 (k0_pay663 x0 x1 x2 x3) (k0_pay664 x0 x1 x2 x3) (k0_pay666 x0 x1 x2 x3) (k0_pay669 x0 x1 x2 x3) (k0_pay671 x0 x1 x2 x3))⟩,
    ⟨r0_10, k0_pay41 (k0_pay36 (k0_pay663 x0 x1 x2 x3) (k0_pay664 x0 x1 x2 x3) (k0_pay665 x0 x1 x2 x3) (k0_pay666 x0 x1 x2 x3) (k0_pay668 x0 x1 x2 x3) (k0_pay669 x0 x1 x2 x3) (k0_pay670 x0 x1 x2 x3) (k0_pay671 x0 x1 x2 x3) (k0_pay672 x0 x1 x2 x3))⟩,
    ⟨r0_9, k0_pay40 (k0_pay35 (k0_pay663 x0 x1 x2 x3) (k0_pay664 x0 x1 x2 x3) (k0_pay665 x0 x1 x2 x3) (k0_pay666 x0 x1 x2 x3) (k0_pay668 x0 x1 x2 x3) (k0_pay669 x0 x1 x2 x3) (k0_pay670 x0 x1 x2 x3) (k0_pay671 x0 x1 x2 x3) (k0_pay672 x0 x1 x2 x3))⟩,
    ⟨r0_8, k0_pay39 (k0_pay34 (k0_pay663 x0 x1 x2 x3) (k0_pay664 x0 x1 x2 x3) (k0_pay665 x0 x1 x2 x3) (k0_pay666 x0 x1 x2 x3) (k0_pay668 x0 x1 x2 x3) (k0_pay669 x0 x1 x2 x3) (k0_pay670 x0 x1 x2 x3) (k0_pay671 x0 x1 x2 x3) (k0_pay672 x0 x1 x2 x3))⟩,
    ⟨r0_7, k0_pay38 (k0_pay33 (k0_pay663 x0 x1 x2 x3) (k0_pay664 x0 x1 x2 x3) (k0_pay665 x0 x1 x2 x3) (k0_pay666 x0 x1 x2 x3) (k0_pay668 x0 x1 x2 x3) (k0_pay669 x0 x1 x2 x3) (k0_pay670 x0 x1 x2 x3) (k0_pay671 x0 x1 x2 x3) (k0_pay672 x0 x1 x2 x3))⟩]

/-- Window 7's staging buffer after the body, from the input windows' blocks: its 1 store as pieces, LAST
    FIRST (Lib/Pipeline/FrameBody.lean `View.canon`; the payloads are the skeleton's and the values stated above). -/
def out0_7 (x0 : Vec F S512x1024 .f32) (x1 : Vec F S1x1024 .f32) (x2 : Vec F S1024x4608 .bf16) (x3 : Vec F S256x256 .bf16) : Vec F S512x1024 .bf16 :=
  View.canon [⟨r0_0, k0_pay657 (k0_pay660 x0 x1 x2 x3) (View.ld x2 r0_263)⟩]

/-- Its stores tile the buffer (checked by evaluation), so they cover it. -/
theorem cover0_7 (p0 : Vec F S512x1024 .bf16) (y : S512x1024.Idx) :
    ∃ pc ∈ ([⟨r0_0, p0⟩] : List (View.Piece (Elt F) S512x1024 .bf16)), y ∈ pc.1.set :=
  View.cover_of_tiled [⟨r0_0, p0⟩] S512x1024.size (by rfl) y

/-- Window 8's staging buffer after the body, from the input windows' blocks: its 1 store as pieces, LAST
    FIRST (Lib/Pipeline/FrameBody.lean `View.canon`; the payloads are the skeleton's and the values stated above). -/
def out0_8 (x0 : Vec F S512x1024 .f32) (x1 : Vec F S1x1024 .f32) (x2 : Vec F S1024x4608 .bf16) (x3 : Vec F S256x256 .bf16) : Vec F S512x1024 .bf16 :=
  View.canon [⟨r0_0, k0_pay658 (k0_pay660 x0 x1 x2 x3) (View.ld x2 r0_264)⟩]

/-- Its stores tile the buffer (checked by evaluation), so they cover it. -/
theorem cover0_8 (p0 : Vec F S512x1024 .bf16) (y : S512x1024.Idx) :
    ∃ pc ∈ ([⟨r0_0, p0⟩] : List (View.Piece (Elt F) S512x1024 .bf16)), y ∈ pc.1.set :=
  View.cover_of_tiled [⟨r0_0, p0⟩] S512x1024.size (by rfl) y

/-! ## The body's triple -/

set_option maxHeartbeats 2000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel (c : Dev nD) (E : Set ℕ) (i : grid0.Coords) (arg1 : Memref sig .tc .vmem S512x1024 .f32) (harg1 : arg1.IsWhole) (arg2 : Memref sig .tc .vmem S1x1024 .f32) (harg2 : arg2.IsWhole) (arg3 : Memref sig .tc .vmem S1024x4608 .bf16) (harg3 : arg3.IsWhole) (arg4 : Memref sig .tc .vmem S256x256 .bf16) (harg4 : arg4.IsWhole) (arg5 : Memref sig .tc .vmem S512x1024 .bf16) (harg5 : arg5.IsWhole) (arg6 : Memref sig .tc .vmem S512x512 .f32) (harg6 : arg6.IsWhole) (arg7 : Memref sig .tc .vmem S128x16384 .bf16) (harg7 : arg7.IsWhole) (arg8 : Memref sig .tc .vmem S512x1024 .bf16) (harg8 : arg8.IsWhole) (arg9 : Memref sig .tc .vmem S512x1024 .bf16) (harg9 : arg9.IsWhole)
    (x0 : Vec F S512x1024 .f32) (x1 : Vec F S1x1024 .f32) (x2 : Vec F S1024x4608 .bf16) (x3 : Vec F S256x256 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out0_4 x0 x1 x2 x3) ∗ owns (c : Thread nD τ) arg6 fullShare (out0_5 x0 x1 x2 x3) ∗ owns (c : Thread nD τ) arg7 fullShare (out0_6 x0 x1 x2 x3) ∗ owns (c : Thread nD τ) arg8 fullShare (out0_7 x0 x1 x2 x3) ∗ owns (c : Thread nD τ) arg9 fullShare (out0_8 x0 x1 x2 x3)) -∗ K ⟨⟩))
      ⊢ wp frame (wpE (defs₀ (F := F)) Variants.none c none) E (cc0_proj i arg1 harg1 arg2 harg2 arg3 harg3 arg4 harg4 arg5 harg5 arg6 harg6 arg7 harg7 arg8 harg8 arg9 harg9) K := by
  simp only [cc0_proj_eq_skeleton]; unfold cc0_proj_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%d8, %f8, -, H8⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    refine (View.read_writes_eq_canon _ _ _ (cover0_4 _)).trans ?_
    rfl
  isplitl [H5]
  · iexists _; isplitr
    swap; · iexact H5
    ipureintro
    refine (View.read_writes_eq_canon _ _ _ (cover0_5 _)).trans ?_
    rfl
  isplitl [H6]
  · iexists _; isplitr
    swap; · iexact H6
    ipureintro
    refine (View.read_writes_eq_canon _ _ _ (Cert.Laid.covered _ (by rfl))).trans ?_
    rfl
  isplitl [H7]
  · iexists _; isplitr
    swap; · iexact H7
    ipureintro
    refine (View.read_writes_eq_canon _ _ _ (cover0_7 _)).trans ?_
    rfl
  iexists _; isplitr
  swap; · iexact H8
  ipureintro
  refine (View.read_writes_eq_canon _ _ _ (cover0_8 _)).trans ?_
  rfl

/-! ## The pipeline's proof data -/

/-- The proof data of the one pipeline on core `c`: the arrays as the region finds them (`V`); after the body at
    point `t` each input's buffer at its block and each output's at `out0_W` of the input blocks; the invariant the
    class's (Lib/Pipeline/Frame.lean `ΦA`: the scoped rest and the generator register, untouched); nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out0_4 (iblk m c 0 t) (iblk m c 1 t) (iblk m c 2 t) (iblk m c 3 t)
    | ⟨5, _⟩ => out0_5 (iblk m c 0 t) (iblk m c 1 t) (iblk m c 2 t) (iblk m c 3 t)
    | ⟨6, _⟩ => out0_6 (iblk m c 0 t) (iblk m c 1 t) (iblk m c 2 t) (iblk m c 3 t)
    | ⟨7, _⟩ => out0_7 (iblk m c 0 t) (iblk m c 1 t) (iblk m c 2 t) (iblk m c 3 t)
    | ⟨8, _⟩ => out0_8 (iblk m c 0 t) (iblk m c 1 t) (iblk m c 2 t) (iblk m c 3 t)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`, never `rfl`: Lib/Pipeline.lean `Dat`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = out0_4 (iblk m c 0 t) (iblk m c 1 t) (iblk m c 2 t) (iblk m c 3 t) := by dsimp only [dats]
theorem after0_5 (c : Dev nD) (t : Fin cfg0.N) : (dats m 0 c).after 5 t = out0_5 (iblk m c 0 t) (iblk m c 1 t) (iblk m c 2 t) (iblk m c 3 t) := by dsimp only [dats]
theorem after0_6 (c : Dev nD) (t : Fin cfg0.N) : (dats m 0 c).after 6 t = out0_6 (iblk m c 0 t) (iblk m c 1 t) (iblk m c 2 t) (iblk m c 3 t) := by dsimp only [dats]
theorem after0_7 (c : Dev nD) (t : Fin cfg0.N) : (dats m 0 c).after 7 t = out0_7 (iblk m c 0 t) (iblk m c 1 t) (iblk m c 2 t) (iblk m c 3 t) := by dsimp only [dats]
theorem after0_8 (c : Dev nD) (t : Fin cfg0.N) : (dats m 0 c).after 8 t = out0_8 (iblk m c 0 t) (iblk m c 1 t) (iblk m c 2 t) (iblk m c 3 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

/-- The body at any point: the inputs' memrefs hold their blocks (`before0_W`), so `sound_kernel` applies; the invariant and
    the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel c Set.univ (grid0.coords t) _ _ _ _ _ _ _ _ _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- For any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- THE FRAME: `Cert.quiescent_Kernel3Ideal`'s statement (Defs.lean) at any `F` — Proof.lean cites it at `Bits`:
    `theorem Cert.Proof.claim : Cert.Claim := ⟨Cert.Kernel3Ideal.Gen.facts, fun m ρ _ => Cert.Kernel3Ideal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.Kernel3Ideal.Gen

end
-- ==== Proof.Spread.lean ====
module
public import proofs.«01_k».proof.Proof.ProjIdealFrame
public import proofs.«01_k».proof.Proof.Turn
public import proofs.«01_k».proof.Proof.Rows
public import Idealize.ShloMosaic.Lib.Pipeline.ValueKit
public import Idealize.ShloMosaic.Lib.Pipeline.ReadBack
public import Idealize.ShloMosaic.Lib.Pointwise

/-! # How the third call lays out the recurrence's input: 256 stores of 64 by 128 -/

@[expose] public section

set_option maxRecDepth 16384

noncomputable section

namespace Cert.Kernel3Ideal.Value

open Cert.Kernel3Ideal Cert.Kernel3Ideal.Gen Idealize.ShloMosaic Idealize.ShloMosaic.TcCoe Idealize.SL.Sem
open Cert.Kernel2Ideal.Value (Tile lane stage1 stage2 stage4 turn_at)

/-- The 256 rows of half `b`, reordered by the permutation. -/
def half (z : FVec Ideal S512x1024 .bf16) (px : Vec Ideal S256x256 .bf16) (b : ℕ) (hb : b < 2) : FVec Ideal S256x1024 .f32 :=
  matmul dot_S256x256_S256x1024_S256x1024_1_0_0_1_n_n none (shapeCast S256x256 (show FVec Ideal S256x256 .bf16 from px) shapeCasts_S256x256_S256x256)
    (extractStridedSlice S256x1024 ![256 * b, 0] z ⟨rfl, fun a => by fin_cases a <;> simp; omega⟩) (constant S256x1024 .f32 0x00000000#32)

/-- Lane tile `j` of the 64 rows of token `k`. -/
def tokenTile (x : FVec Ideal S256x1024 .f32) (j : ℕ) (hj : j < 8) (k : ℕ) (hk : k < 4) : Tile :=
  extractStridedSlice S64x128 ![64 * k, 128 * j] x ⟨rfl, fun a => by fin_cases a <;> simp <;> omega⟩

/-- Lane tile `j` of eight tokens, of which the last four are zero. -/
def tokens (x : FVec Ideal S256x1024 .f32) (j : ℕ) (hj : j < 8) : Fin 8 → Tile :=
  ![tokenTile x j hj 0 (by decide), tokenTile x j hj 1 (by decide), tokenTile x j hj 2 (by decide), tokenTile x j hj 3 (by decide),
    k0_pay10 (F := Ideal), k0_pay10 (F := Ideal), k0_pay10 (F := Ideal), k0_pay10 (F := Ideal)]

/-- What the `n`-th store writes: group `n % 8` of lane tile `n / 16 % 8` of half `n / 128`, its first eight tokens or its last eight (all zero). -/
def stored (z : FVec Ideal S512x1024 .bf16) (px : Vec Ideal S256x256 .bf16) (n : ℕ) : FVec Ideal S64x128 .bf16 :=
  match n / 8 % 2 with
  | 0 => truncf .bf16 (stage1 (stage2 (stage4 (tokens (half z px (n / 128 % 2) (Nat.mod_lt _ (by decide))) (n / 16 % 8) (Nat.mod_lt _ (by decide))))) ⟨n % 8, Nat.mod_lt _ (by decide)⟩) bitsLt_bf16_f32
  | _ + 1 => truncf .bf16 (k0_pay10 (F := Ideal)) bitsLt_bf16_f32

/-- The `n`-th store. -/
def piece (z : FVec Ideal S512x1024 .bf16) (px : Vec Ideal S256x256 .bf16) (n : ℕ) : View.Piece (Elt Ideal) S128x16384 .bf16 :=
  ⟨Cert.Laid.spot n, stored z px n⟩

/-- The first `n` stores, the last of them first. -/
def upto (z : FVec Ideal S512x1024 .bf16) (px : Vec Ideal S256x256 .bf16) : ℕ → List (View.Piece (Elt Ideal) S128x16384 .bf16)
  | 0 => []
  | n + 1 => piece z px n :: upto z px n

theorem mem_upto (z : FVec Ideal S512x1024 .bf16) (px : Vec Ideal S256x256 .bf16) (p : View.Piece (Elt Ideal) S128x16384 .bf16) :
    ∀ N : ℕ, p ∈ upto z px N ↔ ∃ n < N, p = piece z px n
  | 0 => by simp [upto]
  | N + 1 => by
    rw [upto, List.mem_cons, mem_upto z px p N]
    constructor
    · rintro (h | ⟨n, hn, h⟩)
      · exact ⟨N, by omega, h⟩
      · exact ⟨n, by omega, h⟩
    · rintro ⟨n, hn, h⟩
      rcases Nat.lt_succ_iff_lt_or_eq.1 hn with h' | h'
      · exact .inr ⟨n, h', h⟩
      · exact .inl (h' ▸ h)

theorem kept_at (x : Tile) (r : Fin 64) (l : Fin 128) : truncf (F := Ideal) .bf16 x bitsLt_bf16_f32 (ix2 r l) = x (ix2 r l) := by
  pointwise

theorem zero_at (r : Fin 64) (l : Fin 128) : (k0_pay10 : Tile) (ix2 r l) = (0 : EReal) := by
  unfold k0_pay10
  pointwise

theorem tokenTile_at (x : FVec Ideal S256x1024 .f32) (j : ℕ) (hj : j < 8) (k : ℕ) (hk : k < 4) (r : Fin 64) (l : Fin 128) :
    tokenTile x j hj k hk (ix2 r l) = x (ix2 ⟨64 * k + r.val, by omega⟩ ⟨128 * j + l.val, by omega⟩) := by
  unfold tokenTile
  pointwise

theorem tokens_at (x : FVec Ideal S256x1024 .f32) (j : ℕ) (hj : j < 8) (k : Fin 8) (r : Fin 64) (l : Fin 128) :
    tokens x j hj k (ix2 r l) = if k.val < 4 then x (ix2 ⟨64 * (k.val % 4) + r.val, by omega⟩ ⟨128 * j + l.val, by omega⟩) else (0 : EReal) := by
  fin_cases k
  · exact tokenTile_at x j hj 0 (by decide) r l
  · exact tokenTile_at x j hj 1 (by decide) r l
  · exact tokenTile_at x j hj 2 (by decide) r l
  · exact tokenTile_at x j hj 3 (by decide) r l
  all_goals exact zero_at r l

/-- The permutation takes the rows of a half from the order by sequence to the order by token. -/
theorem half_at (z : FVec Ideal S512x1024 .bf16) (px : Vec Ideal S256x256 .bf16)
    (hp : ∀ s r : Fin 256, px (ix2 s r) = if s.val % 64 * 4 + s.val / 64 = r.val then (1 : EReal) else (0 : EReal))
    (b : ℕ) (hb : b < 2) (k : ℕ) (hk : k < 4) (r : Fin 64) (n : Fin 1024) :
    half z px b hb (ix2 ⟨64 * k + r.val, by omega⟩ n) = z (ix2 ⟨256 * b + (4 * r.val + k), by omega⟩ n) := by
  have h : half z px b hb (ix2 ⟨64 * k + r.val, by omega⟩ n)
      = ∑ s : Fin 256, px (ix2 ⟨64 * k + r.val, by omega⟩ s) * z (ix2 ⟨256 * b + s.val, by omega⟩ n) := by
    unfold half
    pointwise
  rw [h, Finset.sum_eq_single (⟨4 * r.val + k, by omega⟩ : Fin 256)]
  · rw [hp, if_pos (by show (64 * k + r.val) % 64 * 4 + (64 * k + r.val) / 64 = 4 * r.val + k; omega), one_mul]
  · intro s _ hs
    rw [hp, if_neg, zero_mul]
    intro e
    refine hs (Fin.ext ?_)
    have e' : (64 * k + r.val) % 64 * 4 + (64 * k + r.val) / 64 = s.val := e
    show s.val = 4 * r.val + k
    omega
  · intro h; exact absurd (Finset.mem_univ _) h

/-- The recurrence's input as it lies: row `b` is sequence `b`, and column `256 G + 16 k + c` its token `k`'s channel `16 G + c`. -/
def spread (z : FVec Ideal S512x1024 .bf16) (y : S128x16384.Idx) : EReal :=
  if (y 1).val / 16 % 16 < 4 then z (ix2 ⟨4 * (y 0).val + (y 1).val / 16 % 4, by have : (y 0).val < 128 := (y 0).isLt; omega⟩
    ⟨16 * ((y 1).val / 256) + (y 1).val % 16, by have : (y 1).val < 16384 := (y 1).isLt; omega⟩) else 0

theorem stored_at (z : FVec Ideal S512x1024 .bf16) (px : Vec Ideal S256x256 .bf16)
    (hp : ∀ s r : Fin 256, px (ix2 s r) = if s.val % 64 * 4 + s.val / 64 = r.val then (1 : EReal) else (0 : EReal))
    (n : ℕ) (r : Fin 64) (p : Fin 8) (c : Fin 16) :
    stored z px n (ix2 r (lane p c)) = spread z (ix2 ⟨64 * (n / 128 % 2) + r.val, by omega⟩
      ⟨256 * (8 * (n / 16 % 8) + n % 8) + 128 * (n / 8 % 2) + (16 * p.val + c.val), by omega⟩) := by
  have hpl := p.isLt; have hcl := c.isLt; have hrl := r.isLt
  rcases (by omega : n / 8 % 2 = 0 ∨ n / 8 % 2 = 1) with h | h
  · have e : stored z px n = truncf .bf16 (stage1 (stage2 (stage4 (tokens (half z px (n / 128 % 2) (Nat.mod_lt _ (by decide))) (n / 16 % 8) (Nat.mod_lt _ (by decide))))) ⟨n % 8, Nat.mod_lt _ (by decide)⟩) bitsLt_bf16_f32 := by
      unfold stored; rw [h]
    rw [e]
    refine (kept_at _ r (lane p c)).trans ?_
    rw [turn_at, tokens_at]
    unfold spread
    by_cases hk : p.val < 4
    · rw [if_pos hk, if_pos (by show (256 * (8 * (n / 16 % 8) + n % 8) + 128 * (n / 8 % 2) + (16 * p.val + c.val)) / 16 % 16 < 4; omega),
        half_at z px hp _ _ (p.val % 4) (by omega) r]
      refine congrArg₂ (fun a b => z (ix2 a b)) (Fin.ext ?_) (Fin.ext ?_)
      · show 256 * (n / 128 % 2) + (4 * r.val + p.val % 4) = 4 * (64 * (n / 128 % 2) + r.val) + (256 * (8 * (n / 16 % 8) + n % 8) + 128 * (n / 8 % 2) + (16 * p.val + c.val)) / 16 % 4
        omega
      · show 128 * (n / 16 % 8) + (16 * (n % 8) + c.val) = 16 * ((256 * (8 * (n / 16 % 8) + n % 8) + 128 * (n / 8 % 2) + (16 * p.val + c.val)) / 256) + (256 * (8 * (n / 16 % 8) + n % 8) + 128 * (n / 8 % 2) + (16 * p.val + c.val)) % 16
        omega
    · rw [if_neg hk, if_neg]
      show ¬ (256 * (8 * (n / 16 % 8) + n % 8) + 128 * (n / 8 % 2) + (16 * p.val + c.val)) / 16 % 16 < 4
      omega
  · have e : stored z px n = truncf .bf16 (k0_pay10 (F := Ideal)) bitsLt_bf16_f32 := by
      unfold stored; rw [h]
    rw [e]
    refine (kept_at _ r (lane p c)).trans ?_
    refine (zero_at r (lane p c)).trans ?_
    unfold spread
    rw [if_neg]
    show ¬ (256 * (8 * (n / 16 % 8) + n % 8) + 128 * (n / 8 % 2) + (16 * p.val + c.val)) / 16 % 16 < 4
    omega

/-- The 256 stores together leave the input as it lies. -/
theorem upto_at (z : FVec Ideal S512x1024 .bf16) (px : Vec Ideal S256x256 .bf16)
    (hp : ∀ s r : Fin 256, px (ix2 s r) = if s.val % 64 * 4 + s.val / 64 = r.val then (1 : EReal) else (0 : EReal)) (y : S128x16384.Idx) :
    View.canon (upto z px 256) y = spread z y := by
  refine View.canon_apply_of_pieces (S := S128x16384) (Val := Elt Ideal) (e := .bf16) (spread z) _ ?_ y ?_
  · intro q hq x
    obtain ⟨n, hn, rfl⟩ := (mem_upto z px q 256).1 hq
    obtain ⟨r, l, rfl⟩ : ∃ (r : Fin 64) (l : Fin 128), x = ix2 r l := ⟨x 0, x 1, by funext a; fin_cases a <;> rfl⟩
    obtain ⟨p, c, rfl⟩ : ∃ (p : Fin 8) (c : Fin 16), l = lane p c :=
      ⟨⟨l.val / 16, by omega⟩, ⟨l.val % 16, by omega⟩, Fin.ext (by simp only [lane]; omega)⟩
    refine (stored_at z px hp n r p c).trans (congrArg (spread z) ?_)
    funext a
    refine Fin.ext (Eq.trans ?_ (Rect.emb_apply (Cert.Laid.spot n) (ix2 r (lane p c)) a).symm)
    fin_cases a
    · show 64 * (n / 128 % 2) + r.val = 64 * (n / 128 % 2) + 1 * r.val
      omega
    · show 256 * (8 * (n / 16 % 8) + n % 8) + 128 * (n / 8 % 2) + (16 * p.val + c.val) = 256 * (8 * (n / 16 % 8) + n % 8) + 128 * (n / 8 % 2) + 1 * (16 * p.val + c.val)
      omega
  · obtain ⟨n, hn, hy⟩ := Cert.Laid.mem_spot y
    exact ⟨piece z px n, (mem_upto z px _ 256).2 ⟨n, hn, rfl⟩, hy⟩

set_option maxHeartbeats 2000000 in
/-- The third call's 256 stores are these. -/
theorem out6_stores (x0 : Vec Ideal S512x1024 .f32) (x1 : Vec Ideal S1x1024 .f32) (x2 : Vec Ideal S1024x4608 .bf16) (x3 : Vec Ideal S256x256 .bf16) :
    out0_6 x0 x1 x2 x3 = View.canon (upto (k0_pay4 (View.ld x0 r0_0) (View.ld x1 r0_1) (View.ld x2 r0_5)) (View.ld x3 r0_6) 256) := by
  unfold out0_6
  rfl

end Cert.Kernel3Ideal.Value
end
-- ==== Proof.ProjRows.lean ====
/- The layer's first half over the extended reals: rows normalised and projected, and what becomes of the five column ranges of the
   projection. -/
module

public import proofs.«01_k».proof.Proof.Rows

@[expose] public section

noncomputable section

namespace Cert.Rows

open Idealize.ShloMosaic

/-- Every row normalised and sent through the weights. -/
def proj (x : Fin 512 → Fin 1024 → EReal) (g : Fin 1024 → EReal) (w : Fin 1024 → Fin 4608 → EReal) (T : Fin 512) (j : Fin 4608) : EReal :=
  through (norm (x T) g) w j

/-- The queries: columns 0 to 1023 over `8 log 2`. -/
def query (z : Fin 512 → Fin 4608 → EReal) (T : Fin 512) (n : Fin 1024) : EReal :=
  z T ⟨n.val, by omega⟩ * (((8 * Real.log 2)⁻¹ : ℝ) : EReal)

/-- The keys and values: columns 1024 to 1535. -/
def keyValue (z : Fin 512 → Fin 4608 → EReal) (T n : Fin 512) : EReal := z T ⟨1024 + n.val, by omega⟩

/-- The recurrence's input, columns 1536 to 2559: row `b` is a sequence, and place `256 G + 16 k + c` of it token `k`'s channel `16 G + c`,
    or zero past the fourth token. -/
def input (z : Fin 512 → Fin 4608 → EReal) (b : Fin 128) (p : Fin 16384) : EReal :=
  if p.val / 16 % 16 < 4 then z ⟨4 * b.val + p.val / 16 % 4, by omega⟩ ⟨1536 + (16 * (p.val / 256) + p.val % 16), by omega⟩ else 0

/-- The attention branch's gate: columns 2560 to 3583. -/
def gateA (z : Fin 512 → Fin 4608 → EReal) (T : Fin 512) (n : Fin 1024) : EReal := gate (z T ⟨2560 + n.val, by omega⟩)

/-- The recurrent branch's gate: columns 3584 to 4607. -/
def gateS (z : Fin 512 → Fin 4608 → EReal) (T : Fin 512) (n : Fin 1024) : EReal := gate (z T ⟨3584 + n.val, by omega⟩)

end Cert.Rows
end
-- ==== Proof.ProjBlock.lean ====
module
public import proofs.«01_k».proof.Proof.Spread
public import proofs.«01_k».proof.Proof.ProjRows

/-! # What the body of the third call leaves, row by row -/

@[expose] public section

set_option maxRecDepth 16384

noncomputable section

namespace Cert.Kernel3Ideal.Value

open Cert.Kernel3Ideal Cert.Kernel3Ideal.Gen Idealize.ShloMosaic Idealize.ShloMosaic.TcCoe Idealize.SL.Sem Cert.Rows

theorem normed_at (x : Vec Ideal S512x1024 .f32) (g : Vec Ideal S1x1024 .f32) (T : Fin 512) (n : Fin 1024) :
    k0_pay1 x g (ix2 T n) = Rows.norm (fun k => x (ix2 T k)) (fun k => g (ix2 0 k)) n := by
  unfold k0_pay1 Rows.norm
  pointwise

/-- A product of the rows with 1024 columns of the weights. -/
def mm (h : FVec Ideal S512x1024 .bf16) (w : FVec Ideal S1024x1024 .bf16) : FVec Ideal S512x1024 .f32 :=
  matmul dot_S512x1024_S1024x1024_S512x1024_1_0_0_1_n_n none h (shapeCast S1024x1024 w shapeCasts_S1024x1024_S1024x1024) (constant S512x1024 .f32 0x00000000#32)

theorem mm_at (h : FVec Ideal S512x1024 .bf16) (w : FVec Ideal S1024x1024 .bf16) (T : Fin 512) (n : Fin 1024) :
    mm h w (ix2 T n) = through (fun k => h (ix2 T k)) (fun k j => w (ix2 k j)) n := by
  unfold mm through
  pointwise

theorem query_at (x : Vec Ideal S512x1024 .f32) (g : Vec Ideal S1x1024 .f32) (w : Vec Ideal S1024x1024 .bf16) (T : Fin 512) (n : Fin 1024) :
    k0_pay2 x g w (ix2 T n)
      = through (Rows.norm (fun k => x (ix2 T k)) (fun k => g (ix2 0 k))) (fun k j => w (ix2 k j)) n * (((8 * Real.log 2)⁻¹ : ℝ) : EReal) := by
  have h : k0_pay2 x g w (ix2 T n) = mm (k0_pay1 x g) w (ix2 T n) * (((8 * Real.log 2)⁻¹ : ℝ) : EReal) := rfl
  rw [h, mm_at, funext (normed_at x g T)]

theorem keyValue_at (x : Vec Ideal S512x1024 .f32) (g : Vec Ideal S1x1024 .f32) (w : Vec Ideal S1024x512 .bf16) (T n : Fin 512) :
    k0_pay3 x g w (ix2 T n) = through (Rows.norm (fun k => x (ix2 T k)) (fun k => g (ix2 0 k))) (fun k j => w (ix2 k j)) n := by
  have h := normed_at x g T
  unfold k0_pay3
  generalize k0_pay1 x g = y at h ⊢
  rw [← funext h]
  unfold through
  pointwise

theorem plain_at (x : Vec Ideal S512x1024 .f32) (g : Vec Ideal S1x1024 .f32) (w : Vec Ideal S1024x1024 .bf16) (T : Fin 512) (n : Fin 1024) :
    k0_pay4 x g w (ix2 T n) = through (Rows.norm (fun k => x (ix2 T k)) (fun k => g (ix2 0 k))) (fun k j => w (ix2 k j)) n := by
  have h : k0_pay4 x g w (ix2 T n) = mm (k0_pay1 x g) w (ix2 T n) := rfl
  rw [h, mm_at, funext (normed_at x g T)]

theorem gate_at (x : Vec Ideal S512x1024 .f32) (g : Vec Ideal S1x1024 .f32) (w : Vec Ideal S1024x1024 .bf16) (T : Fin 512) (n : Fin 1024) :
    k0_pay657 (k0_pay1 x g) w (ix2 T n) = Rows.gate (through (Rows.norm (fun k => x (ix2 T k)) (fun k => g (ix2 0 k))) (fun k j => w (ix2 k j)) n) := by
  have h : k0_pay657 (k0_pay1 x g) w (ix2 T n) = Rows.gate (mm (k0_pay1 x g) w (ix2 T n)) := rfl
  rw [h, mm_at, funext (normed_at x g T)]

variable (x0 : Vec Ideal S512x1024 .f32) (x1 : Vec Ideal S1x1024 .f32) (x2 : Vec Ideal S1024x4608 .bf16) (x3 : Vec Ideal S256x256 .bf16)

theorem whole_at : View.ld x0 r0_0 = x0 ∧ View.ld x1 r0_1 = x1 ∧ View.ld x3 r0_6 = x3 := by
  refine ⟨?_, ?_, ?_⟩ <;> exact View.ld_unit_lit _ _ fun a => by fin_cases a <;> rfl

theorem columns_at (k : Fin 1024) :
    (∀ n : Fin 1024, (View.ld x2 r0_2 : Vec Ideal S1024x1024 .bf16) (ix2 k n) = x2 (ix2 k ⟨n.val, by omega⟩))
    ∧ (∀ n : Fin 512, (View.ld x2 r0_3 : Vec Ideal S1024x512 .bf16) (ix2 k n) = x2 (ix2 k ⟨1024 + n.val, by omega⟩))
    ∧ (∀ n : Fin 1024, (View.ld x2 r0_5 : Vec Ideal S1024x1024 .bf16) (ix2 k n) = x2 (ix2 k ⟨1536 + n.val, by omega⟩))
    ∧ (∀ n : Fin 1024, (View.ld x2 r0_263 : Vec Ideal S1024x1024 .bf16) (ix2 k n) = x2 (ix2 k ⟨2560 + n.val, by omega⟩))
    ∧ ∀ n : Fin 1024, (View.ld x2 r0_264 : Vec Ideal S1024x1024 .bf16) (ix2 k n) = x2 (ix2 k ⟨3584 + n.val, by omega⟩) := by
  refine ⟨?_, ?_, ?_, ?_, ?_⟩
  all_goals
    intro n
    exact View.ld_unit_apply_of (S := S1024x4608) _ _ _ _ _ _ fun a => by fin_cases a <;> simp [ix2]

/-- The projection of a block. -/
abbrev projected : Fin 512 → Fin 4608 → EReal := Rows.proj (fun T k => x0 (ix2 T k)) (fun k => x1 (ix2 0 k)) (fun k j => x2 (ix2 k j))

theorem out4_at (T : Fin 512) (n : Fin 1024) : out0_4 x0 x1 x2 x3 (ix2 T n) = Rows.query (projected x0 x1 x2) T n := by
  unfold out0_4
  rw [View.canon_cons_unit_lit _ _ _ fun a => by fin_cases a <;> rfl, (whole_at x0 x1 x3).1, (whole_at x0 x1 x3).2.1, query_at]
  simp only [(columns_at x2 _).1]
  rfl

theorem out5_at (T n : Fin 512) : out0_5 x0 x1 x2 x3 (ix2 T n) = Rows.keyValue (projected x0 x1 x2) T n := by
  unfold out0_5
  rw [View.canon_cons_unit_lit _ _ _ fun a => by fin_cases a <;> rfl, (whole_at x0 x1 x3).1, (whole_at x0 x1 x3).2.1, keyValue_at]
  simp only [(columns_at x2 _).2.1]
  rfl

theorem out6_at (hp : ∀ s r : Fin 256, x3 (ix2 s r) = if s.val % 64 * 4 + s.val / 64 = r.val then (1 : EReal) else (0 : EReal)) (b : Fin 128) (p : Fin 16384) :
    out0_6 x0 x1 x2 x3 (ix2 b p) = Rows.input (projected x0 x1 x2) b p := by
  rw [out6_stores, (whole_at x0 x1 x3).1, (whole_at x0 x1 x3).2.1, (whole_at x0 x1 x3).2.2, upto_at _ _ hp]
  unfold spread Rows.input
  refine if_congr Iff.rfl ?_ rfl
  rw [plain_at]
  simp only [(columns_at x2 _).2.2.1]
  rfl

theorem out7_at (T : Fin 512) (n : Fin 1024) : out0_7 x0 x1 x2 x3 (ix2 T n) = Rows.gateA (projected x0 x1 x2) T n := by
  unfold out0_7 k0_pay660
  rw [View.canon_cons_unit_lit _ _ _ fun a => by fin_cases a <;> rfl, (whole_at x0 x1 x3).1, (whole_at x0 x1 x3).2.1, gate_at]
  simp only [(columns_at x2 _).2.2.2.1]
  rfl

theorem out8_at (T : Fin 512) (n : Fin 1024) : out0_8 x0 x1 x2 x3 (ix2 T n) = Rows.gateS (projected x0 x1 x2) T n := by
  unfold out0_8 k0_pay660
  rw [View.canon_cons_unit_lit _ _ _ fun a => by fin_cases a <;> rfl, (whole_at x0 x1 x3).1, (whole_at x0 x1 x3).2.1]
  refine (gate_at x0 x1 _ T n).trans ?_
  simp only [(columns_at x2 _).2.2.2.2]
  rfl

end Cert.Kernel3Ideal.Value
end
-- ==== Proof.ProjBridge.lean ====
module
public import proofs.«01_k».proof.Proof.ProjBlock
public import proofs.«01_k».proof.Proof.PostBridge
public import Idealize.ShloMosaic.Lib.Pipeline.Value

/-! # What the third call's result arrays hold -/

@[expose] public section

set_option maxRecDepth 16384

noncomputable section

namespace Cert.Kernel3Ideal.Value

open Cert.Kernel3Ideal Cert.Kernel3Ideal.Gen Idealize.ShloMosaic Idealize.ShloMosaic.TcCoe Idealize.SL.Sem
open Idealize.ShloMosaic.Pipeline (Dat)
open Cert.Kernel2Ideal.Value (tokenOf permT permT_at)

variable (m : (ℓ : Loc nD τ sig) → Buf (Elt Ideal) ℓ)

/-- The permutation the host builds: the transpose of the second call's. -/
def perm : FVec Ideal S256x256 .bf16 :=
  uitofp (F := Ideal) .bf16 (cmpi .eq
    (broadcastInDim S256x256 ![0, 1] bcast_S256x1_S256x256_0_1 (broadcastInDim S256x1 ![0] bcast_S256_S256x1_0 tokenOf))
    (broadcastInDim S256x256 ![0, 1] bcast_S1x256_S256x256_0_1 (broadcastInDim S1x256 ![1] bcast_S256_S1x256_1 (iotaInDim S256 32 0))))

theorem perm_at (s r : Fin 256) : perm (ix2 s r) = if s.val % 64 * 4 + s.val / 64 = r.val then (1 : EReal) else (0 : EReal) := by
  have h : permT (ix2 r s) = perm (ix2 s r) := by
    unfold permT perm
    pointwise
  exact h.symm.trans (permT_at r s)

/-- What the region's operands hold, made by the host lines before it. -/
theorem entry (c : Dev nD) :
    V m c main_v0 = shapeCast S1x1024 (m ((c : Thread nD τ).loc main_arg1)) shapeCasts_S1024_S1x1024
    ∧ V m c main_v1 = truncf (F := Ideal) .bf16 (m ((c : Thread nD τ).loc main_arg2)) bitsLt_bf16_f32
    ∧ V m c main_v14 = perm := by
  refine ⟨?_, ?_, ?_⟩
  all_goals
    unfold V
    simp only [hostOps0, hostOps0_1, hostOps0_2, hostOps0_3, hostOps0_4, List.flatten_cons,
      List.flatten_nil, List.append_nil, List.cons_append, List.nil_append]
    simp only [StableHlo.after_cons, StableHlo.after_nil]
    after_results_simp
    try rfl

theorem idx : ∀ t : Fin cfg0.N, win0_0.index t = ![0, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0] ∧ win0_8.index t = ![0, 0] :=
  (by decide +kernel : ∀ t : Fin grid0.N, _)

theorem emb_at (t : Fin cfg0.N) :
    (∀ (a : Fin 512) (b : Fin 1024), ((View.whole main_arg0).slice ((win0 0).rect t)).emb (ix2 a b) = ix2 a b)
    ∧ (∀ (a : Fin 1) (b : Fin 1024), ((View.whole main_v0).slice ((win0 1).rect t)).emb (ix2 a b) = ix2 a b)
    ∧ (∀ (a : Fin 1024) (b : Fin 4608), ((View.whole main_v1).slice ((win0 2).rect t)).emb (ix2 a b) = ix2 a b)
    ∧ (∀ (a b : Fin 256), ((View.whole main_v14).slice ((win0 3).rect t)).emb (ix2 a b) = ix2 a b) := by
  refine ⟨?_, ?_, ?_, ?_⟩
  all_goals
    intros
    try blk_ext [idx t]

theorem gain_at (g : Vec Ideal S1024 .f32) (k : Fin 1024) : shapeCast S1x1024 g shapeCasts_S1024_S1x1024 (ix2 0 k) = g (ix1 k) := by
  pointwise

theorem x0_at (c : Dev nD) (t : Fin cfg0.N) (T : Fin 512) (k : Fin 1024) :
    iblk m c 0 t (ix2 T k) = m ((c : Thread nD τ).loc main_arg0) (ix2 T k) :=
  (congrArg _ ((emb_at t).1 T k)).trans (congrFun (V_main_arg0 m c) _)

theorem x1_at (c : Dev nD) (t : Fin cfg0.N) (k : Fin 1024) :
    iblk m c 1 t (ix2 0 k) = m ((c : Thread nD τ).loc main_arg1) (ix1 k) :=
  (congrArg _ ((emb_at t).2.1 0 k)).trans ((congrFun (entry m c).1 _).trans (gain_at _ k))

theorem x2_at (c : Dev nD) (t : Fin cfg0.N) (k : Fin 1024) (j : Fin 4608) :
    iblk m c 2 t (ix2 k j) = m ((c : Thread nD τ).loc main_arg2) (ix2 k j) :=
  (congrArg _ ((emb_at t).2.2.1 k j)).trans (congrFun (entry m c).2.1 _)

theorem x3_at (c : Dev nD) (t : Fin cfg0.N) (s r : Fin 256) :
    iblk m c 3 t (ix2 s r) = if s.val % 64 * 4 + s.val / 64 = r.val then (1 : EReal) else (0 : EReal) :=
  (congrArg _ ((emb_at t).2.2.2 s r)).trans ((congrFun (entry m c).2.2 _).trans (perm_at s r))

/-- The projection of the launch's arguments. -/
def launched (c : Dev nD) : Fin 512 → Fin 4608 → EReal :=
  Rows.proj (fun T k => m ((c : Thread nD τ).loc main_arg0) (ix2 T k)) (fun k => m ((c : Thread nD τ).loc main_arg1) (ix1 k))
    (fun k j => m ((c : Thread nD τ).loc main_arg2) (ix2 k j))

theorem projected_eq (c : Dev nD) (t : Fin cfg0.N) : projected (iblk m c 0 t) (iblk m c 1 t) (iblk m c 2 t) = launched m c := by
  unfold projected launched
  simp only [x0_at, x1_at, x2_at]

theorem final4 (c : Dev nD) : (dats m 0 c).arrAt 4 cfg0.N = (fun y => Rows.query (launched m c) (y 0) (y 1) : Vec Ideal S512x1024 .bf16) := by
  refine (dats m 0 c).arrAt_eq_of_covers 4 _ (by decide +kernel) fun t _ y => ?_
  blk_simp
  rw [after0_4]
  obtain ⟨T, n, rfl⟩ : ∃ (T : Fin 512) (n : Fin 1024), y = ix2 T n := ⟨y 0, y 1, by blk_ext⟩
  have e : (win0_4.blk t).view.emb (ix2 T n) = ix2 T n := by blk_ext [idx t]
  rw [out4_at, projected_eq, e]
  rfl

theorem final5 (c : Dev nD) : (dats m 0 c).arrAt 5 cfg0.N = (fun y => Rows.keyValue (launched m c) (y 0) (y 1) : Vec Ideal S512x512 .f32) := by
  refine (dats m 0 c).arrAt_eq_of_covers 5 _ (by decide +kernel) fun t _ y => ?_
  blk_simp
  rw [after0_5]
  obtain ⟨T, n, rfl⟩ : ∃ (T n : Fin 512), y = ix2 T n := ⟨y 0, y 1, by blk_ext⟩
  have e : (win0_5.blk t).view.emb (ix2 T n) = ix2 T n := by blk_ext [idx t]
  rw [out5_at, projected_eq, e]
  rfl

theorem final6 (c : Dev nD) : (dats m 0 c).arrAt 6 cfg0.N = (fun y => Rows.input (launched m c) (y 0) (y 1) : Vec Ideal S128x16384 .bf16) := by
  refine (dats m 0 c).arrAt_eq_of_covers 6 _ (by decide +kernel) fun t _ y => ?_
  blk_simp
  rw [after0_6]
  obtain ⟨b, p, rfl⟩ : ∃ (b : Fin 128) (p : Fin 16384), y = ix2 b p := ⟨y 0, y 1, by blk_ext⟩
  have e : (win0_6.blk t).view.emb (ix2 b p) = ix2 b p := by blk_ext [idx t]
  rw [out6_at _ _ _ _ (x3_at m c t), projected_eq, e]
  rfl

theorem final7 (c : Dev nD) : (dats m 0 c).arrAt 7 cfg0.N = (fun y => Rows.gateA (launched m c) (y 0) (y 1) : Vec Ideal S512x1024 .bf16) := by
  refine (dats m 0 c).arrAt_eq_of_covers 7 _ (by decide +kernel) fun t _ y => ?_
  blk_simp
  rw [after0_7]
  obtain ⟨T, n, rfl⟩ : ∃ (T : Fin 512) (n : Fin 1024), y = ix2 T n := ⟨y 0, y 1, by blk_ext⟩
  have e : (win0_7.blk t).view.emb (ix2 T n) = ix2 T n := by blk_ext [idx t]
  rw [out7_at, projected_eq, e]
  rfl

theorem final8 (c : Dev nD) : (dats m 0 c).arrAt 8 cfg0.N = (fun y => Rows.gateS (launched m c) (y 0) (y 1) : Vec Ideal S512x1024 .bf16) := by
  refine (dats m 0 c).arrAt_eq_of_covers 8 _ (by decide +kernel) fun t _ y => ?_
  blk_simp
  rw [after0_8]
  obtain ⟨T, n, rfl⟩ : ∃ (T : Fin 512) (n : Fin 1024), y = ix2 T n := ⟨y 0, y 1, by blk_ext⟩
  have e : (win0_8.blk t).view.emb (ix2 T n) = ix2 T n := by blk_ext [idx t]
  rw [out8_at, projected_eq, e]
  rfl

/-- The run, its five result arrays named and the arguments unchanged. -/
theorem run_blocks (g : Dev nD → PrngReg) : θ_run defs (onTc (τ := τ) (main (F := Ideal))) ⟨m, fun _ => 0, g⟩ fun r => ∀ c : Dev nD,
      r.2.mem ((c : Thread nD τ).loc main_v15_0) = (dats m 0 c).arrAt 4 cfg0.N
      ∧ r.2.mem ((c : Thread nD τ).loc main_v15_1) = (dats m 0 c).arrAt 5 cfg0.N
      ∧ r.2.mem ((c : Thread nD τ).loc main_v15_2) = (dats m 0 c).arrAt 6 cfg0.N
      ∧ r.2.mem ((c : Thread nD τ).loc main_v15_3) = (dats m 0 c).arrAt 7 cfg0.N
      ∧ r.2.mem ((c : Thread nD τ).loc main_v15_4) = (dats m 0 c).arrAt 8 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h.1 c).1 4, (h.1 c).1 5, (h.1 c).1 6, (h.1 c).1 7, (h.1 c).1 8, h.2 c⟩) (θ_run_and (run_main m g) (unchanged m g))

end Cert.Kernel3Ideal.Value
end
-- ==== Proof.ProjReference.lean ====
module
public import proofs.«01_k».proof.Proof.Gen.Reference3Ideal.Run
public import proofs.«01_k».proof.Proof.ProjRows
public import Idealize.ShloMosaic.Lib.Pipeline.ValueKit
public import Idealize.ShloMosaic.Lib.Pointwise

/-! # The third reference, row by row -/

@[expose] public section

set_option maxRecDepth 16384

noncomputable section

namespace Cert.Reference3Ideal.Value

open Cert.Reference3Ideal Cert.Reference3Ideal.Gen Idealize.ShloMosaic Idealize.ShloMosaic.TcCoe Idealize.SL.Sem Cert.Rows

/-- Rows normalised. -/
def normed (x : FVec Ideal S512x1024 .f32) (g : FVec Ideal S1024 .f32) : FVec Ideal S512x1024 .f32 :=
  mulf (mulf x (broadcastInDim S512x1024 ![0, 1] bcast_S512x1_S512x1024_0_1 (Host.rsqrt (addf (Host.divf (broadcastInDim S512x1 ![0] bcast_S512_S512x1_0
    (Host.reduceAdd (mulf x x) (constant (F := Ideal) S_ .f32 0x00000000#32) reducesTo_S512x1024_S512_d1 h_S_)) (broadcastInDim S512x1 ![] bcast_S_S512x1 (constant (F := Ideal) S_ .f32 0x44800000#32)))
    (broadcastInDim S512x1 ![] bcast_S_S512x1 (constant (F := Ideal) S_ .f32 0x3727C5AC#32))))))
    (broadcastInDim S512x1024 ![0, 1] bcast_S1x1024_S512x1024_0_1 (broadcastInDim S1x1024 ![1] bcast_S1024_S1x1024_1 g))

theorem normed_at (x : FVec Ideal S512x1024 .f32) (g : FVec Ideal S1024 .f32) (T : Fin 512) (n : Fin 1024) :
    normed x g (ix2 T n) = Rows.norm (fun k => x (ix2 T k)) (fun k => g (ix1 k)) n := by
  unfold normed Rows.norm
  pointwise

/-- The projection. -/
def projection (x : FVec Ideal S512x1024 .f32) (g : FVec Ideal S1024 .f32) (w : FVec Ideal S1024x4608 .f32) : FVec Ideal S512x4608 .f32 :=
  Host.dotGeneral dot_S512x1024_S1024x4608_S512x4608_1_0_0_1_n_n none (normed x g) w

theorem projection_at (x : FVec Ideal S512x1024 .f32) (g : FVec Ideal S1024 .f32) (w : FVec Ideal S1024x4608 .f32) (T : Fin 512) (j : Fin 4608) :
    projection x g w (ix2 T j) = Rows.proj (fun T k => x (ix2 T k)) (fun k => g (ix1 k)) (fun k j => w (ix2 k j)) T j := by
  have h := normed_at x g T
  unfold projection Rows.proj
  generalize normed x g = y at h ⊢
  rw [← funext h]
  unfold through
  pointwise

/-- The queries. -/
def queries (z : FVec Ideal S512x4608 .f32) : FVec Ideal S512x1024 .bf16 :=
  truncf .bf16 (Host.divf (mulf (extractStridedSlice S512x1024 ![0, 0] z slices_S512x4608_S512x1024_0_0) (broadcastInDim S512x1024 ![] bcast_S_S512x1024 (constant (F := Ideal) S_ .f32 0x3E000000#32)))
    (broadcastInDim S512x1024 ![] bcast_S_S512x1024 (Host.log (constant (F := Ideal) S_ .f32 0x40000000#32)))) bitsLt_bf16_f32

theorem queries_at (z : FVec Ideal S512x4608 .f32) (T : Fin 512) (n : Fin 1024) :
    queries z (ix2 T n) = Ideal.div (z (ix2 T ⟨n.val, by omega⟩) * Ideal.ofBits .f32 0x3E000000#32) (Ideal.log (Ideal.ofBits .f32 0x40000000#32)) := by
  unfold queries
  pointwise

/-- The keys and values. -/
def keysValues (z : FVec Ideal S512x4608 .f32) : FVec Ideal S512x512 .f32 := extractStridedSlice S512x512 ![0, 1024] z slices_S512x4608_S512x512_0_1024

theorem keysValues_at (z : FVec Ideal S512x4608 .f32) (T n : Fin 512) : keysValues z (ix2 T n) = z (ix2 T ⟨1024 + n.val, by omega⟩) := by
  unfold keysValues
  pointwise

/-- The recurrence's input. -/
def laid (z : FVec Ideal S512x4608 .f32) : FVec Ideal S128x16384 .bf16 :=
  truncf .bf16 (shapeCast S128x16384 (pad S128x64x16x16 ![0, 0, 0, 0] ![0, 0, 12, 0] ![0, 0, 0, 0] (transpose S128x64x4x16 [0, 2, 1, 3]
    (shapeCast S128x4x64x16 (extractStridedSlice S512x1024 ![0, 1536] z slices_S512x4608_S512x1024_0_1536) shapeCasts_S512x1024_S128x4x64x16)
    transposes_S128x4x64x16_S128x64x4x16_0_2_1_3) (sitofp (F := Ideal) .f32 (constantI S_ 32 0#32)) pads_S128x64x4x16_S128x64x16x16_000_000_0120_000 h_S_)
    shapeCasts_S128x64x16x16_S128x16384) bitsLt_bf16_f32

theorem laid_at (z : FVec Ideal S512x4608 .f32) (b : Fin 128) (p : Fin 16384) :
    laid z (ix2 b p) = Rows.input (fun T j => z (ix2 T j)) b p := by
  obtain ⟨G, k, c, hp⟩ : ∃ (G : Fin 64) (k c : Fin 16), p = ⟨(G.val * 16 + k.val) * 16 + c.val, by omega⟩ :=
    ⟨⟨p.val / 256, by omega⟩, ⟨p.val / 16 % 16, by omega⟩, ⟨p.val % 16, by omega⟩, Fin.ext (by simp; omega)⟩
  subst hp
  unfold laid Rows.input
  pointwise
  have zero : (FloatOps.sitofp FTy.f32 (0#32) : Ideal .f32) = (0 : EReal) := by
    change (((0#32 : BitVec 32).toInt : ℝ) : EReal) = 0
    simp
  have hk : ((G.val * 16 + k.val) * 16 + c.val) / 16 % 16 = k.val := by omega
  by_cases h : k.val < 4
  · rw [dif_pos h, if_pos (by omega)]
    refine congrArg₂ (fun a b => z (ix2 a b)) (Fin.ext ?_) (Fin.ext ?_) <;> simp only [] <;> omega
  · rw [dif_neg h, if_neg (by omega), zero]

/-- A gate. -/
def gates (z : FVec Ideal S512x1024 .f32) : FVec Ideal S512x1024 .bf16 :=
  truncf .bf16 (Host.divf (broadcastInDim S512x1024 ![] bcast_S_S512x1024 (constant (F := Ideal) S_ .f32 0x3F800000#32))
    (addf (broadcastInDim S512x1024 ![] bcast_S_S512x1024 (constant (F := Ideal) S_ .f32 0x3F800000#32)) (Host.exp (Host.negf z)))) bitsLt_bf16_f32

/-- The attention branch's gate. -/
def gatesA (z : FVec Ideal S512x4608 .f32) : FVec Ideal S512x1024 .bf16 := gates (extractStridedSlice S512x1024 ![0, 2560] z slices_S512x4608_S512x1024_0_2560)

/-- The recurrent branch's gate. -/
def gatesS (z : FVec Ideal S512x4608 .f32) : FVec Ideal S512x1024 .bf16 := gates (extractStridedSlice S512x1024 ![0, 3584] z slices_S512x4608_S512x1024_0_3584)

theorem gates_at (z : FVec Ideal S512x4608 .f32) (T : Fin 512) (n : Fin 1024) :
    gatesA z (ix2 T n) = Rows.gate (z (ix2 T ⟨2560 + n.val, by omega⟩))
    ∧ gatesS z (ix2 T n) = Rows.gate (z (ix2 T ⟨3584 + n.val, by omega⟩)) := by
  unfold gatesA gatesS gates Rows.gate
  constructor <;> pointwise

variable (m : (ℓ : Loc nD τ sig) → Buf (Elt Ideal) ℓ)

/-- The projection of the launch's arguments. -/
abbrev launched (c : Dev nD) : FVec Ideal S512x4608 .f32 :=
  projection (m ((c.tc : Thread nD τ).loc main_arg0)) (m ((c.tc : Thread nD τ).loc main_arg1)) (m ((c.tc : Thread nD τ).loc main_arg2))

/-- The run's five results. -/
theorem run_parts (g : Dev nD → PrngReg) : θ_run defs (onTc (τ := τ) (main (F := Ideal))) ⟨m, fun _ => 0, g⟩ fun r => ∀ c : Dev nD,
      r.2.mem ((c.tc : Thread nD τ).loc main_v39) = queries (launched m c)
      ∧ r.2.mem ((c.tc : Thread nD τ).loc main_v40) = keysValues (launched m c)
      ∧ r.2.mem ((c.tc : Thread nD τ).loc main_v41) = laid (launched m c)
      ∧ r.2.mem ((c.tc : Thread nD τ).loc main_v42) = gatesA (launched m c)
      ∧ r.2.mem ((c.tc : Thread nD τ).loc main_v43) = gatesS (launched m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := run m g

end Cert.Reference3Ideal.Value
end
-- ==== Proof.ProjMatch.lean ====
module
public import proofs.«01_k».proof.Proof.ProjRows
public import proofs.«01_k».proof.Proof.ProjReference
public import proofs.«01_k».proof.Proof.Match

/-! # The third reference's results are the third kernel's arrays -/

@[expose] public section

set_option maxRecDepth 16384

noncomputable section

namespace Cert.ProjMatch

open Idealize.ShloMosaic Cert.Reference3Ideal.Value
open Cert.Reference3Ideal (S512x1024 S512x512 S512x4608 S128x16384 S1024 S1024x4608)

/-- Times an eighth and over the logarithm of two, as one factor. -/
theorem scaled (z : EReal) :
    Ideal.div (z * Ideal.ofBits .f32 0x3E000000#32) (Ideal.log (Ideal.ofBits .f32 0x40000000#32)) = z * (((8 * Real.log 2)⁻¹ : ℝ) : EReal) := by
  have hl : Real.log 2 ≠ 0 := (Real.log_pos (by norm_num)).ne'
  rw [Cert.Match.eighth, Cert.Match.two, Cert.Match.log_two, Ideal.div, if_neg (EReal.coe_ne_zero.2 hl), ← EReal.coe_inv, mul_assoc, ← EReal.coe_mul]
  congr 2
  rw [mul_inv, one_div]

variable (x : FVec Ideal S512x1024 .f32) (g : FVec Ideal S1024 .f32) (w : FVec Ideal S1024x4608 .f32)

/-- The projection, row by row. -/
abbrev rows : Fin 512 → Fin 4608 → EReal := Rows.proj (fun T k => x (ix2 T k)) (fun k => g (ix1 k)) (fun k j => w (ix2 k j))

theorem parts_eq :
    queries (projection x g w) = (fun y => Rows.query (rows x g w) (y 0) (y 1))
    ∧ keysValues (projection x g w) = (fun y => Rows.keyValue (rows x g w) (y 0) (y 1))
    ∧ laid (projection x g w) = (fun y => Rows.input (rows x g w) (y 0) (y 1))
    ∧ gatesA (projection x g w) = (fun y => Rows.gateA (rows x g w) (y 0) (y 1))
    ∧ gatesS (projection x g w) = (fun y => Rows.gateS (rows x g w) (y 0) (y 1)) := by
  have h := projection_at x g w
  refine ⟨funext fun y => ?_, funext fun y => ?_, funext fun y => ?_, funext fun y => ?_, funext fun y => ?_⟩
  · obtain ⟨T, n, rfl⟩ : ∃ (T : Fin 512) (n : Fin 1024), y = ix2 T n := ⟨y 0, y 1, by funext a; fin_cases a <;> rfl⟩
    rw [queries_at, scaled, h]
    rfl
  · obtain ⟨T, n, rfl⟩ : ∃ (T n : Fin 512), y = ix2 T n := ⟨y 0, y 1, by funext a; fin_cases a <;> rfl⟩
    rw [keysValues_at, h]
    rfl
  · obtain ⟨b, p, rfl⟩ : ∃ (b : Fin 128) (p : Fin 16384), y = ix2 b p := ⟨y 0, y 1, by funext a; fin_cases a <;> rfl⟩
    rw [laid_at]
    simp only [h]
    rfl
  · obtain ⟨T, n, rfl⟩ : ∃ (T : Fin 512) (n : Fin 1024), y = ix2 T n := ⟨y 0, y 1, by funext a; fin_cases a <;> rfl⟩
    refine (gates_at _ T n).1.trans ?_
    rw [h]
    rfl
  · obtain ⟨T, n, rfl⟩ : ∃ (T : Fin 512) (n : Fin 1024), y = ix2 T n := ⟨y 0, y 1, by funext a; fin_cases a <;> rfl⟩
    refine (gates_at _ T n).2.trans ?_
    rw [h]
    rfl

end Cert.ProjMatch
end
-- ==== Proof.RowsBlock.lean ====
module
public import proofs.«01_k».proof.Proof.Gen.Kernel4Ideal.Value
public import Idealize.ShloMosaic.Lib.Pipeline.ValueKit
public import Idealize.ShloMosaic.Lib.Pipeline.ReadBack
public import Idealize.ShloMosaic.Lib.Pointwise

/-! # What the body of the fourth call leaves: the last states, 128 rows at a time -/

@[expose] public section

set_option maxRecDepth 16384

noncomputable section

namespace Cert.States

/-- What the tokens of sequence `b` add to column `l` of the states of pair `p`: the inputs of its two groups times their matrices. -/
def added (u : Fin 128 → Fin 16384 → EReal) (w : Fin 64 → Fin 256 → Fin 256 → EReal) (b : Fin 128) (p : Fin 32) (l : Fin 256) : EReal :=
  (∑ i : Fin 256, u b ⟨512 * p.val + i.val, by omega⟩ * w ⟨2 * p.val, by omega⟩ i l)
    + ∑ i : Fin 256, u b ⟨512 * p.val + 256 + i.val, by omega⟩ * w ⟨2 * p.val + 1, by omega⟩ i l

/-- The real part of state `k` of sequence `b` after the tokens. -/
def re (u : Fin 128 → Fin 16384 → EReal) (w : Fin 64 → Fin 256 → Fin 256 → EReal) (a0 a1 : Fin 4096 → EReal)
    (h0 h1 : Fin 4096 → Fin 128 → EReal) (k : Fin 4096) (b : Fin 128) : EReal :=
  a0 k * h0 k b - a1 k * h1 k b + added u w b ⟨k.val / 128, by omega⟩ ⟨k.val % 128, by omega⟩

/-- The imaginary part. -/
def im (u : Fin 128 → Fin 16384 → EReal) (w : Fin 64 → Fin 256 → Fin 256 → EReal) (a0 a1 : Fin 4096 → EReal)
    (h0 h1 : Fin 4096 → Fin 128 → EReal) (k : Fin 4096) (b : Fin 128) : EReal :=
  a0 k * h1 k b + a1 k * h0 k b + added u w b ⟨k.val / 128, by omega⟩ ⟨128 + k.val % 128, by omega⟩

end Cert.States

namespace Cert.Kernel4Ideal.Value

open Cert.Kernel4Ideal Cert.Kernel4Ideal.Gen Idealize.ShloMosaic Idealize.ShloMosaic.TcCoe Idealize.SL.Sem

/-- The states of pair `n`. -/
abbrev spot (n : ℕ) : Rect S4096x128 :=
  Rect.unit (s := S4096x128) ![128 * (n % 32), 0] ![128, 128] (fun a => by fin_cases a <;> simp <;> omega)

/-- The inputs of group `2 n + e`. -/
abbrev inputs (n e : ℕ) : Rect S128x16384 :=
  Rect.unit (s := S128x16384) ![0, 512 * (n % 32) + 256 * (e % 2)] ![128, 256] (fun a => by fin_cases a <;> simp <;> omega)

/-- The matrix of group `2 n + e`. -/
abbrev matrix (n e : ℕ) : Rect S64x256x256 :=
  Rect.unit (s := S64x256x256) ![2 * (n % 32) + e % 2, 0, 0] ![1, 256, 256] (fun a => by fin_cases a <;> simp <;> omega)

/-- The transition of pair `n`: its real (`e = 0`) or imaginary parts. -/
abbrev power (n e : ℕ) : Rect S2x8x4096 :=
  Rect.unit (s := S2x8x4096) ![e % 2, 0, 128 * (n % 32)] ![1, 1, 128] (fun a => by fin_cases a <;> simp <;> omega)

theorem re_at (v0 v3 : Vec Ideal S128x128 .f32) (v6 v10 : Vec Ideal S128x256 .bf16) (v7 v11 : Vec Ideal S1x256x256 .bf16) (v15 v17 : Vec Ideal S1x1x128 .f32)
    (l b : Fin 128) : k0_pay8 v0 v3 v6 v7 v10 v11 v15 v17 (ix2 l b)
      = v15 (ix3 0 0 l) * v0 (ix2 l b) - v17 (ix3 0 0 l) * v3 (ix2 l b)
        + ((∑ i : Fin 256, v6 (ix2 b i) * v7 (ix3 0 i ⟨l.val, by omega⟩)) + ∑ i : Fin 256, v10 (ix2 b i) * v11 (ix3 0 i ⟨l.val, by omega⟩)) := by
  pointwise [k0_pay8, k0_pay2, k0_pay3, k0_pay4, k0_pay5, k0_pay6]

theorem im_at (v0 v3 : Vec Ideal S128x128 .f32) (v6 v10 : Vec Ideal S128x256 .bf16) (v7 v11 : Vec Ideal S1x256x256 .bf16) (v15 v17 : Vec Ideal S1x1x128 .f32)
    (l b : Fin 128) : k0_pay9 (k0_pay7 v0 v3 v6 v7 v10 v11 v15 v17) (ix2 l b)
      = v15 (ix3 0 0 l) * v3 (ix2 l b) + v17 (ix3 0 0 l) * v0 (ix2 l b)
        + ((∑ i : Fin 256, v6 (ix2 b i) * v7 (ix3 0 i ⟨128 + l.val, by omega⟩)) + ∑ i : Fin 256, v10 (ix2 b i) * v11 (ix3 0 i ⟨128 + l.val, by omega⟩)) := by
  pointwise [k0_pay9, k0_pay7, k0_pay2, k0_pay3, k0_pay4, k0_pay5, k0_pay6]

variable (x0 : Vec Ideal S128x16384 .bf16) (x2 : Vec Ideal S64x256x256 .bf16) (x4 : Vec Ideal S2x8x4096 .f32) (x6 x7 : Vec Ideal S4096x128 .f32)

/-- The real parts that the body stores for pair `n`. -/
def storedRe (n : ℕ) : FVec Ideal S128x128 .f32 :=
  k0_pay8 (View.ld x6 (spot n)) (View.ld x7 (spot n)) (View.ld x0 (inputs n 0)) (View.ld x2 (matrix n 0)) (View.ld x0 (inputs n 1)) (View.ld x2 (matrix n 1))
    (View.ld x4 (power n 0)) (View.ld x4 (power n 1))

/-- The imaginary parts. -/
def storedIm (n : ℕ) : FVec Ideal S128x128 .f32 :=
  k0_pay9 (k0_pay7 (View.ld x6 (spot n)) (View.ld x7 (spot n)) (View.ld x0 (inputs n 0)) (View.ld x2 (matrix n 0)) (View.ld x0 (inputs n 1)) (View.ld x2 (matrix n 1))
    (View.ld x4 (power n 0)) (View.ld x4 (power n 1)))

/-- The first `n` stores, the last of them first. -/
def upto (f : ℕ → FVec Ideal S128x128 .f32) : ℕ → List (View.Piece (Elt Ideal) S4096x128 .f32)
  | 0 => []
  | n + 1 => ⟨spot n, f n⟩ :: upto f n

theorem mem_upto (f : ℕ → FVec Ideal S128x128 .f32) (p : View.Piece (Elt Ideal) S4096x128 .f32) :
    ∀ N : ℕ, p ∈ upto f N ↔ ∃ n < N, p = ⟨spot n, f n⟩
  | 0 => by simp [upto]
  | N + 1 => by
    rw [upto, List.mem_cons, mem_upto f p N]
    constructor
    · rintro (h | ⟨n, hn, h⟩)
      · exact ⟨N, by omega, h⟩
      · exact ⟨n, by omega, h⟩
    · rintro ⟨n, hn, h⟩
      rcases Nat.lt_succ_iff_lt_or_eq.1 hn with h' | h'
      · exact .inr ⟨n, h', h⟩
      · exact .inl (h' ▸ h)

/-- Stores of 128 rows each that agree with one array leave that array. -/
theorem upto_at (f : ℕ → FVec Ideal S128x128 .f32) (g : Fin 4096 → Fin 128 → EReal)
    (h : ∀ n (hn : n < 32) (l b : Fin 128), f n (ix2 l b) = g ⟨128 * n + l.val, by omega⟩ b) (k : Fin 4096) (b : Fin 128) :
    View.canon (upto f 32) (ix2 k b) = g k b := by
  refine View.canon_apply_of_pieces (S := S4096x128) (Val := Elt Ideal) (e := .f32) (fun y => g (y 0) (y 1)) _ ?_ _ ?_
  · intro q hq x
    obtain ⟨n, hn, rfl⟩ := (mem_upto f q 32).1 hq
    obtain ⟨l, b, rfl⟩ : ∃ (l b : Fin 128), x = ix2 l b := ⟨x 0, x 1, by funext a; fin_cases a <;> rfl⟩
    refine (h n hn l b).trans (congrArg₂ g (Fin.ext ?_) (Fin.ext ?_))
    · refine Eq.trans ?_ (Rect.emb_apply (spot n) (ix2 l b) 0).symm
      show 128 * n + l.val = 128 * (n % 32) + 1 * l.val
      omega
    · refine Eq.trans ?_ (Rect.emb_apply (spot n) (ix2 l b) 1).symm
      show b.val = 0 + 1 * b.val
      omega
  · refine ⟨⟨spot (k.val / 128), f (k.val / 128)⟩, (mem_upto f _ 32).2 ⟨k.val / 128, by omega, rfl⟩, ?_⟩
    show ix2 k b ∈ (spot (k.val / 128)).set
    rw [spot, Rect.mem_set_unit]
    intro a
    have hk := k.isLt; have hb := b.isLt
    fin_cases a
    · show 128 * (k.val / 128 % 32) ≤ k.val ∧ k.val < 128 * (k.val / 128 % 32) + 128
      omega
    · show 0 ≤ b.val ∧ b.val < 0 + 128
      omega

theorem loads_at (n : ℕ) (hn : n < 32) :
    (∀ (x : Vec Ideal S4096x128 .f32) (l b : Fin 128), (View.ld x (spot n) : Vec Ideal S128x128 .f32) (ix2 l b) = x (ix2 ⟨128 * n + l.val, by omega⟩ b))
    ∧ (∀ b i, (View.ld x0 (inputs n 0) : Vec Ideal S128x256 .bf16) (ix2 b i) = x0 (ix2 b ⟨512 * n + i.val, by omega⟩))
    ∧ (∀ b i, (View.ld x0 (inputs n 1) : Vec Ideal S128x256 .bf16) (ix2 b i) = x0 (ix2 b ⟨512 * n + 256 + i.val, by omega⟩))
    ∧ (∀ i j, (View.ld x2 (matrix n 0) : Vec Ideal S1x256x256 .bf16) (ix3 0 i j) = x2 (ix3 ⟨2 * n, by omega⟩ i j))
    ∧ (∀ i j, (View.ld x2 (matrix n 1) : Vec Ideal S1x256x256 .bf16) (ix3 0 i j) = x2 (ix3 ⟨2 * n + 1, by omega⟩ i j))
    ∧ (∀ l : Fin 128, (View.ld x4 (power n 0) : Vec Ideal S1x1x128 .f32) (ix3 0 0 l) = x4 (ix3 0 0 ⟨128 * n + l.val, by omega⟩))
    ∧ ∀ l : Fin 128, (View.ld x4 (power n 1) : Vec Ideal S1x1x128 .f32) (ix3 0 0 l) = x4 (ix3 1 0 ⟨128 * n + l.val, by omega⟩) := by
  refine ⟨?_, ?_, ?_, ?_, ?_, ?_, ?_⟩
  · intro x l b
    exact View.ld_unit_apply_of (S := S4096x128) _ _ _ _ _ _ fun a => by fin_cases a <;> simp [ix2] <;> omega
  · intro b i
    exact View.ld_unit_apply_of (S := S128x16384) _ _ _ _ _ _ fun a => by fin_cases a <;> simp [ix2] <;> omega
  · intro b i
    exact View.ld_unit_apply_of (S := S128x16384) _ _ _ _ _ _ fun a => by fin_cases a <;> simp [ix2] <;> omega
  · intro i j
    exact View.ld_unit_apply_of (S := S64x256x256) _ _ _ _ _ _ fun a => by fin_cases a <;> simp [ix3] <;> omega
  · intro i j
    exact View.ld_unit_apply_of (S := S64x256x256) _ _ _ _ _ _ fun a => by fin_cases a <;> simp [ix3] <;> omega
  · intro l
    exact View.ld_unit_apply_of (S := S2x8x4096) _ _ _ _ _ _ fun a => by fin_cases a <;> simp [ix3] <;> omega
  · intro l
    exact View.ld_unit_apply_of (S := S2x8x4096) _ _ _ _ _ _ fun a => by fin_cases a <;> simp [ix3] <;> omega

/-- The real parts of a block's arrays after the tokens. -/
abbrev blockRe : Fin 4096 → Fin 128 → EReal :=
  States.re (fun b i => x0 (ix2 b i)) (fun g i j => x2 (ix3 g i j)) (fun k => x4 (ix3 0 0 k)) (fun k => x4 (ix3 1 0 k)) (fun k b => x6 (ix2 k b)) (fun k b => x7 (ix2 k b))

/-- The imaginary parts. -/
abbrev blockIm : Fin 4096 → Fin 128 → EReal :=
  States.im (fun b i => x0 (ix2 b i)) (fun g i j => x2 (ix3 g i j)) (fun k => x4 (ix3 0 0 k)) (fun k => x4 (ix3 1 0 k)) (fun k b => x6 (ix2 k b)) (fun k b => x7 (ix2 k b))

theorem parts (n : ℕ) (hn : n < 32) (l : Fin 128) : (128 * n + l.val) / 128 = n ∧ (128 * n + l.val) % 128 = l.val := by omega

theorem storedRe_at (n : ℕ) (hn : n < 32) (l b : Fin 128) : storedRe x0 x2 x4 x6 x7 n (ix2 l b) = blockRe x0 x2 x4 x6 x7 ⟨128 * n + l.val, by omega⟩ b := by
  obtain ⟨h, hu, hu', hw, hw', ha, ha'⟩ := loads_at x0 x2 x4 n hn
  unfold storedRe
  rw [re_at]
  rw [ha, ha', h x6, h x7]
  simp only [hu, hu', hw, hw']
  unfold blockRe States.re States.added
  simp only [parts n hn l]

theorem storedIm_at (n : ℕ) (hn : n < 32) (l b : Fin 128) : storedIm x0 x2 x4 x6 x7 n (ix2 l b) = blockIm x0 x2 x4 x6 x7 ⟨128 * n + l.val, by omega⟩ b := by
  obtain ⟨h, hu, hu', hw, hw', ha, ha'⟩ := loads_at x0 x2 x4 n hn
  unfold storedIm
  rw [im_at]
  rw [ha, ha', h x6, h x7]
  simp only [hu, hu', hw, hw']
  unfold blockIm States.im States.added
  simp only [parts n hn l]

section Body

variable (c : Dev nD) (i : grid0.Coords) (arg1 : Memref sig .tc .vmem S128x16384 .bf16) (harg1 : arg1.IsWhole) (arg2 : Memref sig .tc .vmem S64x256x256 .bf16) (harg2 : arg2.IsWhole)
  (arg3 : Memref sig .tc .vmem S64x256x256 .bf16) (harg3 : arg3.IsWhole) (arg4 : Memref sig .tc .vmem S64x256x256 .bf16) (harg4 : arg4.IsWhole) (arg5 : Memref sig .tc .vmem S2x8x4096 .f32) (harg5 : arg5.IsWhole)
  (arg6 : Memref sig .tc .vmem S64x1x256 .f32) (harg6 : arg6.IsWhole) (arg7 : Memref sig .tc .vmem S4096x128 .f32) (harg7 : arg7.IsWhole) (arg8 : Memref sig .tc .vmem S4096x128 .f32) (harg8 : arg8.IsWhole)
  (arg9 : Memref sig .tc .vmem S128x16384 .bf16) (harg9 : arg9.IsWhole) (arg10 : Memref sig .tc .vmem S4096x128 .f32) (harg10 : arg10.IsWhole) (arg11 : Memref sig .tc .vmem S4096x128 .f32) (harg11 : arg11.IsWhole)
  (arg12 : Memref sig .tc .vmem S128x1024 .f32) (harg12 : arg12.IsWhole) (x1 : Vec Ideal S64x256x256 .bf16) (x3 : Vec Ideal S64x256x256 .bf16) (x5 : Vec Ideal S64x1x256 .f32)

/-- The real parts that the body leaves. -/
theorem out9_at (k : Fin 4096) (b : Fin 128) :
    out0_A_9 c i arg1 harg1 arg2 harg2 arg3 harg3 arg4 harg4 arg5 harg5 arg6 harg6 arg7 harg7 arg8 harg8 arg9 harg9 arg10 harg10 arg11 harg11 arg12 harg12 x0 x1 x2 x3 x4 x5 x6 x7 (ix2 k b)
      = blockRe x0 x2 x4 x6 x7 k b := by
  frame_out
  exact (show _ = View.canon (upto (storedRe x0 x2 x4 x6 x7) 32) (ix2 k b) from rfl).trans (upto_at _ _ (fun n hn l b => storedRe_at x0 x2 x4 x6 x7 n hn l b) k b)

/-- The imaginary parts that the body leaves. -/
theorem out10_at (k : Fin 4096) (b : Fin 128) :
    out0_A_10 c i arg1 harg1 arg2 harg2 arg3 harg3 arg4 harg4 arg5 harg5 arg6 harg6 arg7 harg7 arg8 harg8 arg9 harg9 arg10 harg10 arg11 harg11 arg12 harg12 x0 x1 x2 x3 x4 x5 x6 x7 (ix2 k b)
      = blockIm x0 x2 x4 x6 x7 k b := by
  frame_out
  exact (show _ = View.canon (upto (storedIm x0 x2 x4 x6 x7) 32) (ix2 k b) from rfl).trans (upto_at _ _ (fun n hn l b => storedIm_at x0 x2 x4 x6 x7 n hn l b) k b)

end Body

end Cert.Kernel4Ideal.Value
end
-- ==== Proof.RowsBridge.lean ====
module
public import proofs.«01_k».proof.Proof.RowsBlock
public import proofs.«01_k».proof.Proof.Gen.Reference4Ideal.Run

/-! # What the fourth call's arrays of states hold, and the fourth reference's -/

@[expose] public section

set_option maxRecDepth 16384

noncomputable section

namespace Cert.States

open Idealize.ShloMosaic Cert.Reference4Ideal

/-- State `k` of sequence `b`, in the array of the states before the tokens. -/
abbrev before (s : FVec Ideal S1x128x64x64 .f32) (k : Fin 4096) (b : Fin 128) : EReal := s (ix4 0 b ⟨k.val / 64, by omega⟩ ⟨k.val % 64, by omega⟩)

/-- The real parts after the tokens, as an array. -/
def reOf (u : FVec Ideal S128x16384 .bf16) (w : FVec Ideal S64x256x256 .bf16) (a : FVec Ideal S2x8x4096 .f32) (s0 s1 : FVec Ideal S1x128x64x64 .f32) : FVec Ideal S4096x128 .f32 :=
  fun y => re (fun b i => u (ix2 b i)) (fun g i j => w (ix3 g i j)) (fun k => a (ix3 0 0 k)) (fun k => a (ix3 1 0 k)) (before s0) (before s1) (y 0) (y 1)

/-- The imaginary parts. -/
def imOf (u : FVec Ideal S128x16384 .bf16) (w : FVec Ideal S64x256x256 .bf16) (a : FVec Ideal S2x8x4096 .f32) (s0 s1 : FVec Ideal S1x128x64x64 .f32) : FVec Ideal S4096x128 .f32 :=
  fun y => im (fun b i => u (ix2 b i)) (fun g i j => w (ix3 g i j)) (fun k => a (ix3 0 0 k)) (fun k => a (ix3 1 0 k)) (before s0) (before s1) (y 0) (y 1)

end Cert.States

namespace Cert.Kernel4Ideal.Value

open Cert.Kernel4Ideal Cert.Kernel4Ideal.Gen Idealize.ShloMosaic Idealize.ShloMosaic.TcCoe Idealize.SL.Sem
open Idealize.ShloMosaic.Pipeline (Dat)

/-- The states before the tokens, as the host turns them. -/
def turned (s : FVec Ideal S1x128x64x64 .f32) : FVec Ideal S4096x128 .f32 :=
  shapeCast S4096x128 (transpose S64x64x128 [1, 2, 0] (shapeCast S128x64x64 s shapeCasts_S1x128x64x64_S128x64x64) transposes_S128x64x64_S64x64x128_1_2_0) shapeCasts_S64x64x128_S4096x128

theorem turned_at (s : FVec Ideal S1x128x64x64 .f32) (k : Fin 4096) (b : Fin 128) : turned s (ix2 k b) = States.before s k b := by
  obtain ⟨p, q, hk⟩ : ∃ p q : Fin 64, k = ⟨p.val * 64 + q.val, by omega⟩ :=
    ⟨⟨k.val / 64, by omega⟩, ⟨k.val % 64, by omega⟩, Fin.ext (by simp; omega)⟩
  subst hk
  unfold turned
  pointwise
  refine congrArg₂ (fun x y => s (ix4 0 b x y)) (Fin.ext ?_) (Fin.ext ?_) <;> simp only [] <;> omega

variable (m : (ℓ : Loc nD τ sig) → Buf (Elt Ideal) ℓ)

/-- What the region's operands hold, made by the host lines before it. -/
theorem entry (c : Dev nD) :
    V m c main_v6 = turned (m ((c : Thread nD τ).loc main_arg6)) ∧ V m c main_v9 = turned (m ((c : Thread nD τ).loc main_arg7)) := by
  refine ⟨?_, ?_⟩
  all_goals
    unfold V
    simp only [hostOps0, List.flatten_cons, List.flatten_nil, List.append_nil, List.cons_append, List.nil_append]
    simp only [StableHlo.after_cons, StableHlo.after_nil]
    after_results_simp
    try rfl

theorem idx : ∀ t : Fin cfg0.N, win0_0.index t = ![0, 0] ∧ win0_2.index t = ![0, 0, 0] ∧ win0_4.index t = ![0, 0, 0] ∧ win0_6.index t = ![0, 0]
    ∧ win0_7.index t = ![0, 0] ∧ win0_9.index t = ![0, 0] ∧ win0_10.index t = ![0, 0] :=
  (by decide +kernel : ∀ t : Fin grid0.N, _)

theorem emb_at (t : Fin cfg0.N) :
    (∀ (a : Fin 128) (b : Fin 16384), ((View.whole main_arg0).slice ((win0 0).rect t)).emb (ix2 a b) = ix2 a b)
    ∧ (∀ (a : Fin 64) (b d : Fin 256), ((View.whole main_arg2).slice ((win0 2).rect t)).emb (ix3 a b d) = ix3 a b d)
    ∧ (∀ (a : Fin 2) (b : Fin 8) (d : Fin 4096), ((View.whole main_arg4).slice ((win0 4).rect t)).emb (ix3 a b d) = ix3 a b d)
    ∧ (∀ (a : Fin 4096) (b : Fin 128), ((View.whole main_v6).slice ((win0 6).rect t)).emb (ix2 a b) = ix2 a b)
    ∧ (∀ (a : Fin 4096) (b : Fin 128), ((View.whole main_v9).slice ((win0 7).rect t)).emb (ix2 a b) = ix2 a b) := by
  refine ⟨?_, ?_, ?_, ?_, ?_⟩
  all_goals
    intros
    try blk_ext [idx t]

theorem block_eq (c : Dev nD) (t : Fin cfg0.N) :
    (∀ b i, iblk m c 0 t (ix2 b i) = m ((c : Thread nD τ).loc main_arg0) (ix2 b i))
    ∧ (∀ g i j, iblk m c 2 t (ix3 g i j) = m ((c : Thread nD τ).loc main_arg2) (ix3 g i j))
    ∧ (∀ e f k, iblk m c 4 t (ix3 e f k) = m ((c : Thread nD τ).loc main_arg4) (ix3 e f k))
    ∧ (∀ k b, iblk m c 6 t (ix2 k b) = States.before (m ((c : Thread nD τ).loc main_arg6)) k b)
    ∧ ∀ k b, iblk m c 7 t (ix2 k b) = States.before (m ((c : Thread nD τ).loc main_arg7)) k b :=
  ⟨fun b i => (congrArg _ ((emb_at t).1 b i)).trans (congrFun (V_main_arg0 m c) _),
    fun g i j => (congrArg _ ((emb_at t).2.1 g i j)).trans (congrFun (V_main_arg2 m c) _),
    fun e f k => (congrArg _ ((emb_at t).2.2.1 e f k)).trans (congrFun (V_main_arg4 m c) _),
    fun k b => (congrArg _ ((emb_at t).2.2.2.1 k b)).trans ((congrFun (entry m c).1 _).trans (turned_at _ k b)),
    fun k b => (congrArg _ ((emb_at t).2.2.2.2 k b)).trans ((congrFun (entry m c).2 _).trans (turned_at _ k b))⟩

theorem final9 (c : Dev nD) : (dats m 0 c).arrAt 9 cfg0.N = States.reOf (m ((c : Thread nD τ).loc main_arg0)) (m ((c : Thread nD τ).loc main_arg2))
      (m ((c : Thread nD τ).loc main_arg4)) (m ((c : Thread nD τ).loc main_arg6)) (m ((c : Thread nD τ).loc main_arg7)) := by
  refine (dats m 0 c).arrAt_eq_of_covers 9 _ (by decide +kernel) fun t _ y => ?_
  blk_simp
  rw [after0_9]
  simp only [outsAt0]
  obtain ⟨k, b, rfl⟩ : ∃ (k : Fin 4096) (b : Fin 128), y = ix2 k b := ⟨y 0, y 1, by blk_ext⟩
  have e : (win0_9.blk t).view.emb (ix2 k b) = ix2 k b := by blk_ext [idx t]
  rw [out9_at, e]
  obtain ⟨h0, h2, h4, h6, h7⟩ := block_eq m c t
  unfold blockRe States.reOf
  simp only [h0, h2, h4, h6, h7]
  rfl

theorem final10 (c : Dev nD) : (dats m 0 c).arrAt 10 cfg0.N = States.imOf (m ((c : Thread nD τ).loc main_arg0)) (m ((c : Thread nD τ).loc main_arg2))
      (m ((c : Thread nD τ).loc main_arg4)) (m ((c : Thread nD τ).loc main_arg6)) (m ((c : Thread nD τ).loc main_arg7)) := by
  refine (dats m 0 c).arrAt_eq_of_covers 10 _ (by decide +kernel) fun t _ y => ?_
  blk_simp
  rw [after0_10]
  simp only [outsAt0]
  obtain ⟨k, b, rfl⟩ : ∃ (k : Fin 4096) (b : Fin 128), y = ix2 k b := ⟨y 0, y 1, by blk_ext⟩
  have e : (win0_10.blk t).view.emb (ix2 k b) = ix2 k b := by blk_ext [idx t]
  rw [out10_at, e]
  obtain ⟨h0, h2, h4, h6, h7⟩ := block_eq m c t
  unfold blockIm States.imOf
  simp only [h0, h2, h4, h6, h7]
  rfl

end Cert.Kernel4Ideal.Value

namespace Cert.Reference4Ideal.Value

open Cert.Reference4Ideal Cert.Reference4Ideal.Gen Idealize.ShloMosaic Idealize.ShloMosaic.TcCoe Idealize.SL.Sem

/-- What each group's inputs add, by its matrix. -/
def products (u : FVec Ideal S128x16384 .bf16) (w : FVec Ideal S64x256x256 .bf16) : FVec Ideal S128x64x256 .f32 :=
  transpose S128x64x256 [2, 0, 1] (Host.dotGeneral dot_S64x256x256_S128x64x256_S64x256x128_1_2_2_0_0_1 none (extf (F := Ideal) .f32 w bitsLt_bf16_f32)
    (shapeCast _ (extf .f32 u bitsLt_bf16_f32) shapeCasts_S128x16384_S128x64x256)) transposes_S64x256x128_S128x64x256_2_0_1

theorem products_at (u : FVec Ideal S128x16384 .bf16) (w : FVec Ideal S64x256x256 .bf16) (b : Fin 128) (g : Fin 64) (j : Fin 256) :
    products u w (ix3 b g j) = ∑ i : Fin 256, u (ix2 b ⟨g.val * 256 + i.val, by omega⟩) * w (ix3 g i j) := by
  unfold products
  pointwise
  refine Finset.sum_congr rfl fun i _ => mul_comm _ _

/-- What the tokens add to the states of a pair of groups. -/
def pairs (p : FVec Ideal S128x64x256 .f32) : FVec Ideal S128x32x256 .f32 :=
  addf (shapeCast _ (extractStridedSlice S128x32x1x256 ![0, 0, 0, 0] (shapeCast _ p shapeCasts_S128x64x256_S128x32x2x256) slices_S128x32x2x256_S128x32x1x256_0_0_0_0) shapeCasts_S128x32x1x256_S128x32x256)
    (shapeCast _ (extractStridedSlice S128x32x1x256 ![0, 0, 1, 0] (shapeCast _ p shapeCasts_S128x64x256_S128x32x2x256) slices_S128x32x2x256_S128x32x1x256_0_0_1_0) shapeCasts_S128x32x1x256_S128x32x256)

theorem pairs_at (p : FVec Ideal S128x64x256 .f32) (b : Fin 128) (n : Fin 32) (j : Fin 256) :
    pairs p (ix3 b n j) = p (ix3 b ⟨n.val * 2, by omega⟩ j) + p (ix3 b ⟨n.val * 2 + 1, by omega⟩ j) := by
  unfold pairs
  pointwise

/-- The transition's real or imaginary parts, a row to a sequence. -/
def spreadRe (a : FVec Ideal S2x8x4096 .f32) : FVec Ideal S128x4096 .f32 :=
  broadcastInDim S128x4096 ![0, 1] bcast_S1x4096_S128x4096_0_1 (broadcastInDim S1x4096 ![1] bcast_S4096_S1x4096_1 (shapeCast _ (extractStridedSlice S1x1x4096 ![0, 0, 0] a slices_S2x8x4096_S1x1x4096_0_0_0) shapeCasts_S1x1x4096_S4096))

def spreadIm (a : FVec Ideal S2x8x4096 .f32) : FVec Ideal S128x4096 .f32 :=
  broadcastInDim S128x4096 ![0, 1] bcast_S1x4096_S128x4096_0_1 (broadcastInDim S1x4096 ![1] bcast_S4096_S1x4096_1 (shapeCast _ (extractStridedSlice S1x1x4096 ![1, 0, 0] a slices_S2x8x4096_S1x1x4096_1_0_0) shapeCasts_S1x1x4096_S4096))

theorem spread_at (a : FVec Ideal S2x8x4096 .f32) (b : Fin 128) (k : Fin 4096) :
    spreadRe a (ix2 b k) = a (ix3 0 0 k) ∧ spreadIm a (ix2 b k) = a (ix3 1 0 k) := by
  unfold spreadRe spreadIm
  constructor <;> pointwise

/-- The states before the tokens, a row to a sequence. -/
def flat (s : FVec Ideal S1x128x64x64 .f32) : FVec Ideal S128x4096 .f32 := shapeCast _ s shapeCasts_S1x128x64x64_S128x4096

theorem flat_at (s : FVec Ideal S1x128x64x64 .f32) (b : Fin 128) (k : Fin 4096) : flat s (ix2 b k) = States.before s k b := by
  obtain ⟨p, q, hk⟩ : ∃ p q : Fin 64, k = ⟨p.val * 64 + q.val, by omega⟩ :=
    ⟨⟨k.val / 64, by omega⟩, ⟨k.val % 64, by omega⟩, Fin.ext (by simp; omega)⟩
  subst hk
  unfold flat
  pointwise
  refine congrArg₂ (fun x y => s (ix4 0 b x y)) (Fin.ext ?_) (Fin.ext ?_) <;> simp only [] <;> omega

/-- The part of what the tokens add that belongs to the real or the imaginary parts. -/
def halfRe (x : FVec Ideal S128x32x256 .f32) : FVec Ideal S128x4096 .f32 :=
  shapeCast _ (extractStridedSlice S128x32x128 ![0, 0, 0] x slices_S128x32x256_S128x32x128_0_0_0) shapeCasts_S128x32x128_S128x4096

def halfIm (x : FVec Ideal S128x32x256 .f32) : FVec Ideal S128x4096 .f32 :=
  shapeCast _ (extractStridedSlice S128x32x128 ![0, 0, 128] x slices_S128x32x256_S128x32x128_0_0_128) shapeCasts_S128x32x128_S128x4096

theorem half_at (x : FVec Ideal S128x32x256 .f32) (b : Fin 128) (k : Fin 4096) :
    halfRe x (ix2 b k) = x (ix3 b ⟨k.val / 128, by omega⟩ ⟨k.val % 128, by omega⟩)
    ∧ halfIm x (ix2 b k) = x (ix3 b ⟨k.val / 128, by omega⟩ ⟨128 + k.val % 128, by omega⟩) := by
  obtain ⟨p, q, hk⟩ : ∃ (p : Fin 32) (q : Fin 128), k = ⟨p.val * 128 + q.val, by omega⟩ :=
    ⟨⟨k.val / 128, by omega⟩, ⟨k.val % 128, by omega⟩, Fin.ext (by simp; omega)⟩
  subst hk
  unfold halfRe halfIm
  constructor <;> pointwise
  all_goals refine congrArg₂ (fun y z => x (ix3 b y z)) (Fin.ext ?_) (Fin.ext ?_) <;> simp only [] <;> omega

/-- The two results. -/
def resRe (u : FVec Ideal S128x16384 .bf16) (w : FVec Ideal S64x256x256 .bf16) (a : FVec Ideal S2x8x4096 .f32) (s0 s1 : FVec Ideal S1x128x64x64 .f32) : FVec Ideal S4096x128 .f32 :=
  transpose S4096x128 [1, 0] (addf (subf (mulf (spreadRe a) (flat s0)) (mulf (spreadIm a) (flat s1))) (halfRe (pairs (products u w)))) transposes_S128x4096_S4096x128_1_0

def resIm (u : FVec Ideal S128x16384 .bf16) (w : FVec Ideal S64x256x256 .bf16) (a : FVec Ideal S2x8x4096 .f32) (s0 s1 : FVec Ideal S1x128x64x64 .f32) : FVec Ideal S4096x128 .f32 :=
  transpose S4096x128 [1, 0] (addf (addf (mulf (spreadRe a) (flat s1)) (mulf (spreadIm a) (flat s0))) (halfIm (pairs (products u w)))) transposes_S128x4096_S4096x128_1_0

theorem whole_at (A B C D x : FVec Ideal S128x4096 .f32) (k : Fin 4096) (b : Fin 128) :
    transpose S4096x128 [1, 0] (addf (subf (mulf A B) (mulf C D)) x) transposes_S128x4096_S4096x128_1_0 (ix2 k b) = A (ix2 b k) * B (ix2 b k) - C (ix2 b k) * D (ix2 b k) + x (ix2 b k)
    ∧ transpose S4096x128 [1, 0] (addf (addf (mulf A D) (mulf C B)) x) transposes_S128x4096_S4096x128_1_0 (ix2 k b) = A (ix2 b k) * D (ix2 b k) + C (ix2 b k) * B (ix2 b k) + x (ix2 b k) := by
  constructor <;> pointwise

theorem added_at (u : FVec Ideal S128x16384 .bf16) (w : FVec Ideal S64x256x256 .bf16) (b : Fin 128) (n : Fin 32) (j : Fin 256) :
    pairs (products u w) (ix3 b n j) = States.added (fun b i => u (ix2 b i)) (fun g i j => w (ix3 g i j)) b n j := by
  rw [pairs_at, products_at, products_at]
  unfold States.added
  refine congrArg₂ (· + ·) (Finset.sum_congr rfl fun i _ => ?_) (Finset.sum_congr rfl fun i _ => ?_)
  all_goals refine congrArg₂ (fun x y => u (ix2 b x) * w (ix3 y i j)) (Fin.ext ?_) (Fin.ext ?_) <;> simp only [] <;> omega

theorem res_eq (u : FVec Ideal S128x16384 .bf16) (w : FVec Ideal S64x256x256 .bf16) (a : FVec Ideal S2x8x4096 .f32) (s0 s1 : FVec Ideal S1x128x64x64 .f32) :
    resRe u w a s0 s1 = States.reOf u w a s0 s1 ∧ resIm u w a s0 s1 = States.imOf u w a s0 s1 := by
  constructor
  all_goals
    funext y
    obtain ⟨k, b, rfl⟩ : ∃ (k : Fin 4096) (b : Fin 128), y = ix2 k b := ⟨y 0, y 1, by funext a; fin_cases a <;> rfl⟩
  · unfold resRe
    rw [(whole_at _ _ _ _ _ k b).1, (spread_at a b k).1, (spread_at a b k).2, flat_at, flat_at, (half_at _ b k).1, added_at]
    rfl
  · unfold resIm
    rw [(whole_at _ _ _ _ _ k b).2, (spread_at a b k).1, (spread_at a b k).2, flat_at, flat_at, (half_at _ b k).2, added_at]
    rfl

variable (m : (ℓ : Loc nD τ sig) → Buf (Elt Ideal) ℓ)

/-- The run's two results. -/
theorem run_parts (g : Dev nD → PrngReg) : θ_run defs (onTc (τ := τ) (main (F := Ideal))) ⟨m, fun _ => 0, g⟩ fun r => ∀ c : Dev nD,
      r.2.mem ((c.tc : Thread nD τ).loc main_v37) = resRe (m ((c.tc : Thread nD τ).loc main_arg0)) (m ((c.tc : Thread nD τ).loc main_arg2)) (m ((c.tc : Thread nD τ).loc main_arg4)) (m ((c.tc : Thread nD τ).loc main_arg6)) (m ((c.tc : Thread nD τ).loc main_arg7))
      ∧ r.2.mem ((c.tc : Thread nD τ).loc main_v38) = resIm (m ((c.tc : Thread nD τ).loc main_arg0)) (m ((c.tc : Thread nD τ).loc main_arg2)) (m ((c.tc : Thread nD τ).loc main_arg4)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) := run m g

end Cert.Reference4Ideal.Value
end
-- ==== Proof.PromptTurn.lean ====
module
public import proofs.«01_k».proof.Proof.Gen.Kernel5Ideal.Frame
public import proofs.«01_k».proof.Proof.Turn
public import Idealize.ShloMosaic.Lib.Pipeline.ValueKit
public import Idealize.ShloMosaic.Lib.Pipeline.ReadBack
public import Idealize.ShloMosaic.Lib.Pointwise

/-! # The three exchanges on the tiles of the prompts' call, and its blocks' rows by token -/

@[expose] public section

set_option maxRecDepth 16384

noncomputable section

namespace Cert.Kernel5Ideal.Value

open Cert.Kernel2Ideal.Value (lane sw4 sw2 sw1 sw_all)
open Cert.Kernel5Ideal Cert.Kernel5Ideal.Gen Idealize.ShloMosaic Idealize.ShloMosaic.TcCoe Idealize.SL.Sem

/-- A lane tile of 16 rows. -/
abbrev Tile := FVec Ideal S16x128 .f32

theorem mask4_at (r : Fin 16) (p : Fin 8) (c : Fin 16) :
    (k0_pay3 : IVec S16x128 1) (ix2 r (lane p c)) = if p.val / 4 % 2 = 1 then 1#1 else 0#1 := by
  pointwise [k0_pay3, k0_pay2]
  revert p c
  decide +kernel

theorem mask2_at (r : Fin 16) (p : Fin 8) (c : Fin 16) :
    (k0_pay4 : IVec S16x128 1) (ix2 r (lane p c)) = if p.val / 2 % 2 = 1 then 1#1 else 0#1 := by
  pointwise [k0_pay4, k0_pay2]
  revert p c
  decide +kernel

theorem mask1_at (r : Fin 16) (p : Fin 8) (c : Fin 16) :
    (k0_pay5 : IVec S16x128 1) (ix2 r (lane p c)) = if p.val % 2 = 1 then 1#1 else 0#1 := by
  pointwise [k0_pay5, k0_pay2]
  revert p c
  decide +kernel

/-- A rotation by whole pieces moves the pieces. -/
theorem rot_at (n : BitVec 32) (d : Fin 8) (hn : n.toNat = 16 * d.val) (x : Tile) (r : Fin 16) (p : Fin 8) (c : Fin 16) :
    dynamicRotate 1 n none x rotates_S16x128_d1 (ix2 r (lane p c)) = x (ix2 r (lane (p - d) c)) := by
  pointwise
  refine congrArg (fun l => x (ix2 r l)) (Fin.ext ?_)
  have hd := d.isLt; have hp := p.isLt; have hc := c.isLt
  simp only [lane, hn, Fin.sub_def]
  omega

/-- The lower of two exchanged tiles: the pieces under the mask come from the upper one. -/
def low (mask : IVec S16x128 1) (n : BitVec 32) (a b : Tile) : Tile := select mask (dynamicRotate 1 n none b rotates_S16x128_d1) a
/-- The upper of two exchanged tiles: the pieces outside the mask come from the lower one. -/
def high (mask : IVec S16x128 1) (n : BitVec 32) (a b : Tile) : Tile := select mask b (dynamicRotate 1 n none a rotates_S16x128_d1)

/-- Tiles four apart exchange halves. -/
def stage4 (f : Fin 8 → Tile) : Fin 8 → Tile :=
  ![low k0_pay3 64#32 (f 0) (f 4), low k0_pay3 64#32 (f 1) (f 5), low k0_pay3 64#32 (f 2) (f 6), low k0_pay3 64#32 (f 3) (f 7),
    high k0_pay3 64#32 (f 0) (f 4), high k0_pay3 64#32 (f 1) (f 5), high k0_pay3 64#32 (f 2) (f 6), high k0_pay3 64#32 (f 3) (f 7)]
/-- Tiles two apart exchange quarters. -/
def stage2 (f : Fin 8 → Tile) : Fin 8 → Tile :=
  ![low k0_pay4 32#32 (f 0) (f 2), low k0_pay4 32#32 (f 1) (f 3), high k0_pay4 96#32 (f 0) (f 2), high k0_pay4 96#32 (f 1) (f 3),
    low k0_pay4 32#32 (f 4) (f 6), low k0_pay4 32#32 (f 5) (f 7), high k0_pay4 96#32 (f 4) (f 6), high k0_pay4 96#32 (f 5) (f 7)]
/-- Neighbouring tiles exchange pieces. -/
def stage1 (f : Fin 8 → Tile) : Fin 8 → Tile :=
  ![low k0_pay5 16#32 (f 0) (f 1), high k0_pay5 112#32 (f 0) (f 1), low k0_pay5 16#32 (f 2) (f 3), high k0_pay5 112#32 (f 2) (f 3),
    low k0_pay5 16#32 (f 4) (f 5), high k0_pay5 112#32 (f 4) (f 5), low k0_pay5 16#32 (f 6) (f 7), high k0_pay5 112#32 (f 6) (f 7)]

theorem low_at (mask : IVec S16x128 1) (n : BitVec 32) (d : Fin 8) (hn : n.toNat = 16 * d.val) (a b : Tile) (r : Fin 16) (p : Fin 8) (c : Fin 16)
    (P : Prop) [Decidable P] (hm : mask (ix2 r (lane p c)) = if P then 1#1 else 0#1) :
    low mask n a b (ix2 r (lane p c)) = if P then b (ix2 r (lane (p - d) c)) else a (ix2 r (lane p c)) := by
  unfold low select
  rw [hm, rot_at n d hn]
  by_cases h : P <;> simp [h, Scalar.select]

theorem high_at (mask : IVec S16x128 1) (n : BitVec 32) (d : Fin 8) (hn : n.toNat = 16 * d.val) (a b : Tile) (r : Fin 16) (p : Fin 8) (c : Fin 16)
    (P : Prop) [Decidable P] (hm : mask (ix2 r (lane p c)) = if P then 1#1 else 0#1) :
    high mask n a b (ix2 r (lane p c)) = if P then b (ix2 r (lane p c)) else a (ix2 r (lane (p - d) c)) := by
  unfold high select
  rw [hm, rot_at n d hn]
  by_cases h : P <;> simp [h, Scalar.select]

theorem stage4_at (f : Fin 8 → Tile) (v p : Fin 8) (r : Fin 16) (c : Fin 16) :
    stage4 f v (ix2 r (lane p c)) = f (sw4 v p) (ix2 r (lane (sw4 p v) c)) := by
  have L := fun a b => low_at k0_pay3 64#32 4 rfl a b r p c _ (mask4_at r p c)
  have H := fun a b => high_at k0_pay3 64#32 4 rfl a b r p c _ (mask4_at r p c)
  fin_cases v <;> first | refine (L _ _).trans ?_ | refine (H _ _).trans ?_
  all_goals fin_cases p <;> rfl

theorem stage2_at (f : Fin 8 → Tile) (v p : Fin 8) (r : Fin 16) (c : Fin 16) :
    stage2 f v (ix2 r (lane p c)) = f (sw2 v p) (ix2 r (lane (sw2 p v) c)) := by
  have L := fun a b => low_at k0_pay4 32#32 2 rfl a b r p c _ (mask2_at r p c)
  have H := fun a b => high_at k0_pay4 96#32 6 rfl a b r p c _ (mask2_at r p c)
  fin_cases v <;> first | refine (L _ _).trans ?_ | refine (H _ _).trans ?_
  all_goals fin_cases p <;> rfl

theorem stage1_at (f : Fin 8 → Tile) (v p : Fin 8) (r : Fin 16) (c : Fin 16) :
    stage1 f v (ix2 r (lane p c)) = f (sw1 v p) (ix2 r (lane (sw1 p v) c)) := by
  have L := fun a b => low_at k0_pay5 16#32 1 rfl a b r p c _ (mask1_at r p c)
  have H := fun a b => high_at k0_pay5 112#32 7 rfl a b r p c _ (mask1_at r p c)
  fin_cases v <;> first | refine (L _ _).trans ?_ | refine (H _ _).trans ?_
  all_goals fin_cases p <;> rfl

/-- After the three exchanges tile `v` holds, in piece `p`, piece `v` of tile `p`. -/
theorem turn_at (f : Fin 8 → Tile) (v p : Fin 8) (r : Fin 16) (c : Fin 16) :
    stage1 (stage2 (stage4 f)) v (ix2 r (lane p c)) = f p (ix2 r (lane v c)) := by
  rw [stage1_at, stage2_at, stage4_at, sw_all, sw_all]

/-- Group `g` of eight tokens' channels for 16 chunks, as the call loads it: the tokens' half `f`, the chunks' half `h`. -/
def piece (x0 : Vec Ideal S32x16384 .bf16) (h f : Fin 2) (g : Fin 64) : Vec Ideal S16x128 .bf16 :=
  View.ld (Val := Elt Ideal) (S := S32x16384) (e' := .bf16) x0 (Rect.unit ![16 * h.val, 256 * g.val + 128 * f.val] S16x128.size (by intro a; fin_cases a <;> simp <;> omega))

theorem piece_at (x0 : Vec Ideal S32x16384 .bf16) (h f : Fin 2) (g : Fin 64) (r : Fin 16) (l : Fin 128) :
    piece x0 h f g (ix2 r l) = x0 (ix2 ⟨16 * h.val + r.val, by omega⟩ ⟨256 * g.val + 128 * f.val + l.val, by omega⟩) :=
  View.ld_unit_apply_of (S := S32x16384) _ _ _ _ _ _ fun a => by fin_cases a <;> simp [ix2]

/-- Token `8 f + k` of lane tile `j`. -/
def turned (x0 : Vec Ideal S32x16384 .bf16) (h f : Fin 2) (k j : Fin 8) : FVec Ideal S16x128 .bf16 :=
  truncf .bf16 (stage1 (stage2 (stage4 fun gl => extf (F := Ideal) .f32 (piece x0 h f ⟨8 * j.val + gl.val, by omega⟩) bitsLt_bf16_f32)) k) bitsLt_bf16_f32

theorem turned_at (x0 : Vec Ideal S32x16384 .bf16) (h f : Fin 2) (k j : Fin 8) (r : Fin 16) (p : Fin 8) (c : Fin 16) :
    turned x0 h f k j (ix2 r (lane p c))
      = x0 (ix2 ⟨16 * h.val + r.val, by omega⟩ ⟨256 * (8 * j.val + p.val) + 128 * f.val + (16 * k.val + c.val), by omega⟩) := by
  show stage1 _ _ _ = _
  rw [turn_at]
  exact piece_at _ _ _ _ _ _

/-- Token `8 f + k` of 16 chunks: its eight lane tiles side by side. -/
def tokenRows (x0 : Vec Ideal S32x16384 .bf16) (h f : Fin 2) (k : Fin 8) : FVec Ideal S16x1024 .bf16 :=
  concatenate S16x1024 1 [⟨S16x128, turned x0 h f k 0⟩, ⟨S16x128, turned x0 h f k 1⟩, ⟨S16x128, turned x0 h f k 2⟩, ⟨S16x128, turned x0 h f k 3⟩, ⟨S16x128, turned x0 h f k 4⟩, ⟨S16x128, turned x0 h f k 5⟩, ⟨S16x128, turned x0 h f k 6⟩, ⟨S16x128, turned x0 h f k 7⟩] concatenates_S16x128_S16x128_S16x128_S16x128_S16x128_S16x128_S16x128_S16x128_S16x1024_d1

/-- The 16 tokens of 16 chunks, one token's rows after another's. -/
def byToken (x0 : Vec Ideal S32x16384 .bf16) (h : Fin 2) : FVec Ideal S256x1024 .bf16 :=
  concatenate S256x1024 0 [⟨S16x1024, tokenRows x0 h 0 0⟩, ⟨S16x1024, tokenRows x0 h 0 1⟩, ⟨S16x1024, tokenRows x0 h 0 2⟩, ⟨S16x1024, tokenRows x0 h 0 3⟩,
    ⟨S16x1024, tokenRows x0 h 0 4⟩, ⟨S16x1024, tokenRows x0 h 0 5⟩, ⟨S16x1024, tokenRows x0 h 0 6⟩, ⟨S16x1024, tokenRows x0 h 0 7⟩,
    ⟨S16x1024, tokenRows x0 h 1 0⟩, ⟨S16x1024, tokenRows x0 h 1 1⟩, ⟨S16x1024, tokenRows x0 h 1 2⟩, ⟨S16x1024, tokenRows x0 h 1 3⟩,
    ⟨S16x1024, tokenRows x0 h 1 4⟩, ⟨S16x1024, tokenRows x0 h 1 5⟩, ⟨S16x1024, tokenRows x0 h 1 6⟩, ⟨S16x1024, tokenRows x0 h 1 7⟩]
    concatenates_S16x1024_S16x1024_S16x1024_S16x1024_S16x1024_S16x1024_S16x1024_S16x1024_S16x1024_S16x1024_S16x1024_S16x1024_S16x1024_S16x1024_S16x1024_S16x1024_S256x1024_d0

/-- Rows in the chunks' order, by the permutation. -/
def permuted (tok : FVec Ideal S256x1024 .bf16) (x4 : FVec Ideal S256x256 .bf16) : FVec Ideal S256x1024 .bf16 :=
  have px : FVec Ideal S256x256 .bf16 := shapeCast S256x256 x4 shapeCasts_S256x256_S256x256
  truncf .bf16 (matmul dot_S256x256_S256x1024_S256x1024_1_0_0_1_n_n none px tok (constant S256x1024 .f32 0x00000000#32)) bitsLt_bf16_f32

/-- The two halves' rows, one half after the other. -/
def halves (a b : FVec Ideal S256x1024 .bf16) : FVec Ideal S512x1024 .bf16 :=
  concatenate S512x1024 0 [⟨S256x1024, a⟩, ⟨S256x1024, b⟩] concatenates_S256x1024_S256x1024_S512x1024_d0

/-- The branches merged, from the rows in the chunks' order. -/
def mergeRows (xp : FVec Ideal S512x1024 .bf16) (x5 : FVec Ideal S1024x2048 .bf16) (x1 : FVec Ideal S512x1024 .f32)
    (x2 : FVec Ideal S512x1024 .bf16) : FVec Ideal S512x1024 .f32 :=
  have w : FVec Ideal S1024x2048 .bf16 := shapeCast S1024x2048 x5 shapeCasts_S1024x2048_S1024x2048
  have glu : FVec Ideal S512x2048 .f32 := matmul dot_S512x1024_S1024x2048_S512x2048_1_0_0_1_n_n none xp w (constant S512x2048 .f32 0x00000000#32)
  addf x1 (mulf (extf .f32 x2 bitsLt_bf16_f32) (mulf (extractStridedSlice S512x1024 ![0, 0] glu slices_S512x2048_o0_0_S512x1024)
    (logistic (extractStridedSlice S512x1024 ![0, 1024] glu slices_S512x2048_o0_1024_S512x1024))))

/-- A product of a block's rows with a square matrix. -/
def mm (a : FVec Ideal S512x1024 .bf16) (w : FVec Ideal S1024x1024 .bf16) : FVec Ideal S512x1024 .f32 :=
  have w' : FVec Ideal S1024x1024 .bf16 := shapeCast S1024x1024 w shapeCasts_S1024x1024_S1024x1024
  matmul dot_S512x1024_S1024x1024_S512x1024_1_0_0_1_n_n none a w' (constant S512x1024 .f32 0x00000000#32)

variable (x0 : Vec Ideal S32x16384 .bf16) (x1 : Vec Ideal S512x1024 .f32) (x2 : Vec Ideal S512x1024 .bf16) (x3 : Vec Ideal S512x1024 .f32)
  (x4 : Vec Ideal S256x256 .bf16) (x5 : Vec Ideal S1024x2048 .bf16) (x6 : Vec Ideal S1024x1024 .bf16) (x7 : Vec Ideal S1x1024 .f32)
  (x8 : Vec Ideal S1024x4096 .bf16) (x9 : Vec Ideal S4096x1024 .bf16) (x10 : Vec Ideal S1x1024 .f32)

set_option maxHeartbeats 2000000 in
theorem pay1260_eq : k0_pay1260 x0 x1 x2 x3 x4 x5 x6 x7 x8 x9 x10 = permuted (byToken x0 0) (View.ld x4 r0_128) := by
  unfold k0_pay1260 k0_pay543
  rfl

set_option maxHeartbeats 2000000 in
theorem pay1547_eq : k0_pay1547 x0 x1 x2 x3 x4 x5 x6 x7 x8 x9 x10
    = addf (View.ld x3 r0_258) (mm (truncf .bf16 (mergeRows (halves (permuted (byToken x0 0) (View.ld x4 r0_128)) (permuted (byToken x0 1) (View.ld x4 r0_128)))
        (View.ld x5 r0_257) (View.ld x1 r0_258) (View.ld x2 r0_258)) bitsLt_bf16_f32) (View.ld x6 r0_259)) := by
  unfold k0_pay1547
  rw [pay1260_eq]
  rfl

theorem pay1549_eq : k0_pay1549 x0 x1 x2 x3 x4 x5 x6 x7 x8 x9 x10
    = mulf (k0_pay1547 x0 x1 x2 x3 x4 x5 x6 x7 x8 x9 x10) (k0_pay1547 x0 x1 x2 x3 x4 x5 x6 x7 x8 x9 x10) := by
  unfold k0_pay1549 k0_pay1095 k0_pay1547
  rfl

end Cert.Kernel5Ideal.Value
end
-- ==== Proof.PromptBlock.lean ====
module
public import proofs.«01_k».proof.Proof.PromptTurn
public import proofs.«01_k».proof.Proof.Rows

/-! # What a block of the prompts' call leaves, row by row -/

@[expose] public section

set_option maxRecDepth 16384

noncomputable section

namespace Cert.Kernel5Ideal.Value

open Cert.Kernel2Ideal.Value (lane)
open Cert.Kernel5Ideal Cert.Kernel5Ideal.Gen Idealize.ShloMosaic Idealize.ShloMosaic.TcCoe Idealize.SL.Sem Cert.Rows

theorem mm_at (a : FVec Ideal S512x1024 .bf16) (w : FVec Ideal S1024x1024 .bf16) (s : Fin 512) (n : Fin 1024) :
    mm a w (ix2 s n) = through (fun k => a (ix2 s k)) (fun k j => w (ix2 k j)) n := by
  unfold mm through
  pointwise

/-- Rows normalised. -/
def normRows (x : FVec Ideal S512x1024 .f32) (g : FVec Ideal S1x1024 .f32) : FVec Ideal S512x1024 .f32 :=
  have g' : FVec Ideal S1x1024 .f32 := shapeCast S1x1024 g shapeCasts_S1x1024_S1x1024
  mulf (mulf x (broadcastTo S512x1024 (rsqrt (addf (divf (shapeCast S512x1 (multiReduction .add [1] S512 (mulf x x) 0x00000000#32 reduces_S512x1024_S512 (.inl rfl) rfl) shapeCasts_S512_S512x1)
    (broadcast S512x1 (Scalar.ofBits (F := Ideal) .f32 0x44800000#32))) (broadcast S512x1 (Scalar.ofBits (F := Ideal) .f32 0x3727C5AC#32)))) broadcasts_S512x1_S512x1024))
    (broadcastTo S512x1024 g' broadcasts_S1x1024_S512x1024)

theorem normRows_at (x : FVec Ideal S512x1024 .f32) (g : FVec Ideal S1x1024 .f32) (s : Fin 512) (n : Fin 1024) :
    normRows x g (ix2 s n) = Rows.norm (fun k => x (ix2 s k)) (fun k => g (ix2 0 k)) n := by
  unfold normRows Rows.norm
  pointwise

/-- The positive part squared, of a product. -/
def act (h : FVec Ideal S512x1024 .bf16) (w : FVec Ideal S1024x1024 .bf16) : FVec Ideal S512x1024 .bf16 :=
  have u : FVec Ideal S512x1024 .f32 := maximumf (mm h w) (broadcast S512x1024 (Scalar.ofBits (F := Ideal) .f32 0x00000000#32))
  truncf .bf16 (mulf u u) bitsLt_bf16_f32

theorem act_at (h : FVec Ideal S512x1024 .bf16) (w : FVec Ideal S1024x1024 .bf16) (s : Fin 512) (n : Fin 1024) :
    act h w (ix2 s n) = Rows.square (through (fun k => h (ix2 s k)) (fun k j => w (ix2 k j)) n) := by
  unfold act Rows.square
  rw [← mm_at]
  pointwise

/-- The block's last steps, from the merged rows. -/
def lastRows (p x3 : FVec Ideal S512x1024 .f32) (w : FVec Ideal S1024x1024 .bf16) (g : FVec Ideal S1x1024 .f32)
    (u d : Fin 4 → FVec Ideal S1024x1024 .bf16) (gl : FVec Ideal S1x1024 .f32) : FVec Ideal S512x1024 .f32 :=
  have x : FVec Ideal S512x1024 .f32 := addf x3 (mm (truncf .bf16 p bitsLt_bf16_f32) w)
  have h : FVec Ideal S512x1024 .bf16 := truncf .bf16 (normRows x g) bitsLt_bf16_f32
  normRows (addf (addf (addf (addf x (mm (act h (u 0)) (d 0))) (mm (act h (u 1)) (d 1))) (mm (act h (u 2)) (d 2))) (mm (act h (u 3)) (d 3))) gl

theorem lastRows_at (p x3 : FVec Ideal S512x1024 .f32) (w : FVec Ideal S1024x1024 .bf16) (g : FVec Ideal S1x1024 .f32)
    (u d : Fin 4 → FVec Ideal S1024x1024 .bf16) (gl : FVec Ideal S1x1024 .f32) (wu : Fin 1024 → Fin 4096 → EReal) (wd : Fin 4096 → Fin 1024 → EReal)
    (hu : ∀ q k j, u q (ix2 k j) = wu k (quarter q j)) (hd : ∀ q j k, d q (ix2 j k) = wd (quarter q j) k) (s : Fin 512) (n : Fin 1024) :
    lastRows p x3 w g u d gl (ix2 s n)
      = Rows.norm (fed (fun k => x3 (ix2 s k) + through (fun k => p (ix2 s k)) (fun k j => w (ix2 k j)) k) (fun k => g (ix2 0 k)) wu wd)
          (fun k => gl (ix2 0 k)) n := by
  refine (normRows_at _ _ s n).trans (congrArg (fun f => Rows.norm f _ n) (funext fun i => ?_))
  rw [fed_quarters]
  have hx : ∀ k, addf x3 (mm (truncf .bf16 p bitsLt_bf16_f32) w) (ix2 s k)
      = x3 (ix2 s k) + through (fun k => p (ix2 s k)) (fun k j => w (ix2 k j)) k := fun k => congrArg (x3 (ix2 s k) + ·) (mm_at _ _ s k)
  have hh : ∀ k, normRows (addf x3 (mm (truncf .bf16 p bitsLt_bf16_f32) w)) g (ix2 s k)
      = Rows.norm (fun k => x3 (ix2 s k) + through (fun k => p (ix2 s k)) (fun k j => w (ix2 k j)) k) (fun k => g (ix2 0 k)) k := fun k =>
    (normRows_at _ _ s k).trans (congrArg (fun f => Rows.norm f _ k) (funext hx))
  have hq : ∀ q, mm (act (truncf .bf16 (normRows (addf x3 (mm (truncf .bf16 p bitsLt_bf16_f32) w)) g) bitsLt_bf16_f32) (u q)) (d q) (ix2 s i)
      = through (fun j => Rows.square (through (Rows.norm (fun k => x3 (ix2 s k) + through (fun k => p (ix2 s k)) (fun k j => w (ix2 k j)) k) (fun k => g (ix2 0 k)))
          (fun k j => wu k (quarter q j)) j)) (fun j => wd (quarter q j)) i := fun q => by
    rw [mm_at]
    refine congrArg₂ (fun a b => through a b i) (funext fun j => ?_) (funext fun j => funext fun k => hd q j k)
    rw [act_at]
    refine congrArg Rows.square (congrArg₂ (fun a b => through a b j) (funext hh) (funext fun k => funext fun j => hu q k j))
  rw [← hq 0, ← hq 1, ← hq 2, ← hq 3, ← hx i]
  rfl

/-- Lane `16 G + c` of token `8 f + k`. -/
theorem tokenRows_at (x0 : Vec Ideal S32x16384 .bf16) (h f : Fin 2) (k : Fin 8) (r : Fin 16) (n : Fin 1024) :
    tokenRows x0 h f k (ix2 r n) = x0 (ix2 ⟨16 * h.val + r.val, by omega⟩ ⟨256 * (n.val / 16) + (16 * (8 * f.val + k.val) + n.val % 16), by omega⟩) := by
  have key : ∀ (j p : Fin 8) (c : Fin 16) (e : n.val = 128 * j.val + (16 * p.val + c.val)), turned x0 h f k j (ix2 r (lane p c))
      = x0 (ix2 ⟨16 * h.val + r.val, by omega⟩ ⟨256 * (n.val / 16) + (16 * (8 * f.val + k.val) + n.val % 16), by omega⟩) := fun j p c e => by
    rw [turned_at]
    refine congrArg (fun l => x0 (ix2 _ l)) (Fin.ext ?_)
    show 256 * (8 * j.val + p.val) + 128 * f.val + (16 * k.val + c.val) = 256 * (n.val / 16) + (16 * (8 * f.val + k.val) + n.val % 16)
    omega
  have tiles : tokenRows x0 h f k (ix2 r n) = turned x0 h f k ⟨n.val / 128, by omega⟩ (ix2 r ⟨n.val % 128, by omega⟩) := by
    unfold tokenRows
    generalize turned x0 h f k = u
    obtain ⟨j, l, hn⟩ : ∃ (j : Fin 8) (l : Fin 128), n.val = 128 * j.val + l.val :=
      ⟨⟨n.val / 128, by omega⟩, ⟨n.val % 128, by omega⟩, by simp; omega⟩
    have e1 : (⟨n.val / 128, by omega⟩ : Fin 8) = j := Fin.ext (by simp; omega)
    have e2 : (⟨n.val % 128, by omega⟩ : Fin 128) = l := Fin.ext (by simp; omega)
    have e0 : n = ⟨128 * j.val + l.val, by omega⟩ := Fin.ext hn
    rw [e1, e2, e0]
    fin_cases j <;> pointwise
    all_goals
      repeat rw [dif_neg (by omega)]
      try rw [dif_pos (by omega)]
      exact congrArg (fun z => u _ (ix2 r z)) (Fin.ext (by simp; try omega))
  rw [tiles]
  refine Eq.trans ?_ (key ⟨n.val / 128, by omega⟩ ⟨n.val / 16 % 8, by omega⟩ ⟨n.val % 16, by omega⟩ (by simp; omega))
  exact congrArg (fun l => turned x0 h f k _ (ix2 r l)) (Fin.ext (by simp [lane]; omega))

theorem byToken_at (x0 : Vec Ideal S32x16384 .bf16) (h : Fin 2) (k : Fin 16) (r : Fin 16) (n : Fin 1024) :
    byToken x0 h (ix2 ⟨16 * k.val + r.val, by omega⟩ n)
      = x0 (ix2 ⟨16 * h.val + r.val, by omega⟩ ⟨256 * (n.val / 16) + (16 * k.val + n.val % 16), by omega⟩) := by
  have tiles : byToken x0 h (ix2 ⟨16 * k.val + r.val, by omega⟩ n) = tokenRows x0 h ⟨k.val / 8, by omega⟩ ⟨k.val % 8, by omega⟩ (ix2 r n) := by
    unfold byToken
    generalize tokenRows x0 h = u
    refine concatenate_ofFn_apply (s₁ := S16x1024) (t := S256x1024) 0 (fun m : Fin 16 => u ⟨m.val / 8, by omega⟩ ⟨m.val % 8, by omega⟩)
      concatenates_S16x1024_S16x1024_S16x1024_S16x1024_S16x1024_S16x1024_S16x1024_S16x1024_S16x1024_S16x1024_S16x1024_S16x1024_S16x1024_S16x1024_S16x1024_S16x1024_S256x1024_d0 rfl 16 rfl
      (ix2 ⟨16 * k.val + r.val, by omega⟩ n) k ?_ (ix2 r n) ?_ fun b hb => ?_
    · show (16 * k.val + r.val) / 16 = k.val
      omega
    · show r.val = (16 * k.val + r.val) % 16
      omega
    · fin_cases b
      · exact absurd rfl hb
      · rfl
  rw [tiles, tokenRows_at]
  exact congrArg (fun l => x0 (ix2 _ l)) (Fin.ext (by simp only []; omega))

/-- The recurrent row of token `s` of a block: token `s % 16` of chunk `s / 16`. -/
def recur (x0 : Vec Ideal S32x16384 .bf16) (s : Fin 512) (n : Fin 1024) : EReal :=
  x0 (ix2 ⟨s.val / 16, by omega⟩ ⟨256 * (n.val / 16) + (16 * (s.val % 16) + n.val % 16), by omega⟩)

/-- A product with the permutation picks each row's own source row. -/
theorem permuted_at (x0 : Vec Ideal S32x16384 .bf16) (x4 : FVec Ideal S256x256 .bf16)
    (h4 : ∀ s r : Fin 256, x4 (ix2 s r) = if r.val % 16 * 16 + r.val / 16 = s.val then (1 : EReal) else (0 : EReal)) (h : Fin 2) (s : Fin 256) (n : Fin 1024) :
    permuted (byToken x0 h) x4 (ix2 s n) = recur x0 ⟨256 * h.val + s.val, by omega⟩ n := by
  have e : permuted (byToken x0 h) x4 (ix2 s n) = ∑ r : Fin 256, x4 (ix2 s r) * byToken x0 h (ix2 r n) := by
    unfold permuted
    pointwise
  rw [e, Finset.sum_eq_single (⟨16 * (s.val % 16) + s.val / 16, by omega⟩ : Fin 256)]
  · rw [h4, if_pos (by show (16 * (s.val % 16) + s.val / 16) % 16 * 16 + (16 * (s.val % 16) + s.val / 16) / 16 = s.val; omega), one_mul]
    refine (byToken_at x0 h ⟨s.val % 16, by omega⟩ ⟨s.val / 16, by omega⟩ n).trans ?_
    exact congrArg₂ (fun a b => x0 (ix2 a b)) (Fin.ext (by simp only []; omega)) (Fin.ext (by simp only []; omega))
  · intro r _ hr
    rw [h4, if_neg, zero_mul]
    intro e
    refine hr (Fin.ext ?_)
    show r.val = 16 * (s.val % 16) + s.val / 16
    omega
  · intro h; exact absurd (Finset.mem_univ _) h

theorem halves_at (x0 : Vec Ideal S32x16384 .bf16) (x4 : FVec Ideal S256x256 .bf16)
    (h4 : ∀ s r : Fin 256, x4 (ix2 s r) = if r.val % 16 * 16 + r.val / 16 = s.val then (1 : EReal) else (0 : EReal)) (s : Fin 512) (n : Fin 1024) :
    halves (permuted (byToken x0 0) x4) (permuted (byToken x0 1) x4) (ix2 s n) = recur x0 s n := by
  have key := permuted_at x0 x4 h4
  obtain ⟨h, q, rfl⟩ : ∃ (h : Fin 2) (q : Fin 256), s = ⟨256 * h.val + q.val, by omega⟩ :=
    ⟨⟨s.val / 256, by omega⟩, ⟨s.val % 256, by omega⟩, Fin.ext (by simp; omega)⟩
  rw [← key]
  unfold halves
  generalize (fun h => permuted (byToken x0 h) x4) = u
  fin_cases h <;> pointwise
  all_goals
    repeat rw [dif_neg (by omega)]
    try rw [dif_pos (by omega)]
    exact congrArg (fun z => permuted (byToken x0 _) x4 (ix2 z n)) (Fin.ext (by simp; try omega))

theorem mergeRows_at (xp : FVec Ideal S512x1024 .bf16) (x5 : FVec Ideal S1024x2048 .bf16) (x1 : FVec Ideal S512x1024 .f32)
    (x2 : FVec Ideal S512x1024 .bf16) (s : Fin 512) (n : Fin 1024) :
    mergeRows xp x5 x1 x2 (ix2 s n)
      = Rows.merged (fun k => xp (ix2 s k)) (fun k => x1 (ix2 s k)) (fun k => x2 (ix2 s k)) (fun k j => x5 (ix2 k j)) n := by
  unfold mergeRows Rows.merged through
  pointwise
  rfl

variable (x0 : Vec Ideal S32x16384 .bf16) (x1 : Vec Ideal S512x1024 .f32) (x2 : Vec Ideal S512x1024 .bf16) (x3 : Vec Ideal S512x1024 .f32)
  (x4 : Vec Ideal S256x256 .bf16) (x5 : Vec Ideal S1024x2048 .bf16) (x6 : Vec Ideal S1024x1024 .bf16) (x7 : Vec Ideal S1x1024 .f32)
  (x8 : Vec Ideal S1024x4096 .bf16) (x9 : Vec Ideal S4096x1024 .bf16) (x10 : Vec Ideal S1x1024 .f32)

theorem ups_at (q : Fin 4) (k j : Fin 1024) :
    (![View.ld x8 r0_261, View.ld x8 r0_263, View.ld x8 r0_265, View.ld x8 r0_267] : Fin 4 → Vec Ideal S1024x1024 .bf16) q (ix2 k j)
      = x8 (ix2 k (quarter q j)) := by
  fin_cases q <;> exact View.ld_unit_apply_of (S := S1024x4096) _ _ _ _ _ _ fun a => by fin_cases a <;> simp [ix2, quarter]

theorem downs_at (q : Fin 4) (j k : Fin 1024) :
    (![View.ld x9 r0_262, View.ld x9 r0_264, View.ld x9 r0_266, View.ld x9 r0_268] : Fin 4 → Vec Ideal S1024x1024 .bf16) q (ix2 j k)
      = x9 (ix2 (quarter q j) k) := by
  fin_cases q <;> exact View.ld_unit_apply_of (S := S4096x1024) _ _ _ _ _ _ fun a => by fin_cases a <;> simp [ix2, quarter]

theorem whole_at :
    View.ld x4 r0_128 = x4 ∧ View.ld x5 r0_257 = x5 ∧ View.ld x1 r0_258 = x1 ∧ View.ld x2 r0_258 = x2 ∧ View.ld x3 r0_258 = x3
      ∧ View.ld x6 r0_259 = x6 ∧ View.ld x7 r0_260 = x7 ∧ View.ld x10 r0_260 = x10 := by
  refine ⟨?_, ?_, ?_, ?_, ?_, ?_, ?_, ?_⟩ <;>
    exact View.ld_unit_lit _ _ fun a => by fin_cases a <;> rfl

theorem out11_last : out0_11 x0 x1 x2 x3 x4 x5 x6 x7 x8 x9 x10
    = lastRows (mergeRows (halves (permuted (byToken x0 0) x4) (permuted (byToken x0 1) x4)) x5 x1 x2) x3 x6 x7
        ![View.ld x8 r0_261, View.ld x8 r0_263, View.ld x8 r0_265, View.ld x8 r0_267]
        ![View.ld x9 r0_262, View.ld x9 r0_264, View.ld x9 r0_266, View.ld x9 r0_268] x10 := by
  obtain ⟨e4, e5, e1, e2, e3, e6, e7, e10⟩ := whole_at x1 x2 x3 x4 x5 x6 x7 x10
  unfold out0_11 k0_pay1548
  rw [pay1549_eq, pay1547_eq, e4, e5, e1, e2, e3, e6, e7, e10]
  generalize mergeRows (halves (permuted (byToken x0 0) x4) (permuted (byToken x0 1) x4)) x5 x1 x2 = p
  exact (View.canon_cons_unit_lit _ _ _ fun a => by fin_cases a <;> rfl).trans rfl

/-- Row `s` of what a block leaves. -/
theorem out11_at (h4 : ∀ s r : Fin 256, x4 (ix2 s r) = if r.val % 16 * 16 + r.val / 16 = s.val then (1 : EReal) else (0 : EReal))
    (s : Fin 512) (n : Fin 1024) :
    out0_11 x0 x1 x2 x3 x4 x5 x6 x7 x8 x9 x10 (ix2 s n)
      = Rows.row (recur x0 s) (fun k => x1 (ix2 s k)) (fun k => x2 (ix2 s k)) (fun k => x3 (ix2 s k)) (fun k j => x5 (ix2 k j)) (fun k j => x6 (ix2 k j))
          (fun k => x7 (ix2 0 k)) (fun k j => x8 (ix2 k j)) (fun k j => x9 (ix2 k j)) (fun k => x10 (ix2 0 k)) n := by
  rw [out11_last, lastRows_at _ _ _ _ _ _ _ (fun k j => x8 (ix2 k j)) (fun k j => x9 (ix2 k j)) (ups_at x8) (downs_at x9)]
  have hm : (fun k => mergeRows (halves (permuted (byToken x0 0) x4) (permuted (byToken x0 1) x4)) x5 x1 x2 (ix2 s k))
      = Rows.merged (recur x0 s) (fun k => x1 (ix2 s k)) (fun k => x2 (ix2 s k)) (fun k j => x5 (ix2 k j)) := funext fun k => by
    rw [mergeRows_at]
    exact congrArg (fun f => Rows.merged f _ _ _ k) (funext fun j => halves_at x0 x4 h4 s j)
  rw [hm]
  rfl

end Cert.Kernel5Ideal.Value
end
-- ==== Proof.PromptBridge.lean ====
module
public import proofs.«01_k».proof.Proof.Gen.Kernel5Ideal.Value
public import proofs.«01_k».proof.Proof.PromptBlock
public import Idealize.ShloMosaic.Lib.Pipeline.ValueKit
public import Idealize.ShloMosaic.Lib.Pipeline.ReadBack
public import Idealize.ShloMosaic.Lib.Pointwise

/-! # What the prompts' call's result array holds -/

@[expose] public section

set_option maxRecDepth 16384

noncomputable section

namespace Cert.Kernel5Ideal.Value

open Cert.Kernel5Ideal Cert.Kernel5Ideal.Gen Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![0, 0] ∧ win0_7.index t = ![0, 0]
    ∧ win0_8.index t = ![0, 0] ∧ win0_9.index t = ![0, 0] ∧ win0_10.index t = ![0, 0] ∧ win0_11.index t = ![t.val, 0] ∧ t.val < 32 :=
  (by decide +kernel : ∀ t : Fin grid0.N, _)

theorem point_lt (t : Fin cfg0.N) : t.val < 32 := (idx t).2.2.2.2.2.2.2.2.2.2.2.2

/-- Chunk `b` of block `t`. -/
def seq (t : Fin cfg0.N) (b : Fin 32) : Fin 1024 := ⟨32 * t.val + b.val, by have := point_lt t; omega⟩
/-- Token `s` of block `t`. -/
def tok (t : Fin cfg0.N) (s : Fin 512) : Fin 16384 := ⟨512 * t.val + s.val, by have := point_lt t; omega⟩

theorem x0_at (c : Dev nD) (t : Fin cfg0.N) (b : Fin 32) (n : Fin 16384) :
    iblk m c 0 t (ix2 b n) = m ((c : Thread nD τ).loc main_arg0) (ix2 (seq t b) n) := by
  blk_ext [iblk, V, idx t, seq]

theorem x1_at (c : Dev nD) (t : Fin cfg0.N) (s : Fin 512) (n : Fin 1024) :
    iblk m c 1 t (ix2 s n) = m ((c : Thread nD τ).loc main_arg1) (ix2 (tok t s) n) := by
  blk_ext [iblk, V, idx t, tok]

theorem x2_at (c : Dev nD) (t : Fin cfg0.N) (s : Fin 512) (n : Fin 1024) :
    iblk m c 2 t (ix2 s n) = m ((c : Thread nD τ).loc main_arg2) (ix2 (tok t s) n) := by
  blk_ext [iblk, V, idx t, tok]

theorem x3_at (c : Dev nD) (t : Fin cfg0.N) (s : Fin 512) (n : Fin 1024) :
    iblk m c 3 t (ix2 s n) = m ((c : Thread nD τ).loc main_arg3) (ix2 (tok t s) n) := by
  blk_ext [iblk, V, idx t, tok]

/-- Row number mod 16, as the host computes it. -/
def byMod : IVec S256 32 :=
  have d : IVec S_ 32 := select (cmpi .eq (constantI S_ 32 16#32) (constantI S_ 32 0#32)) (constantI S_ 32 1#32) (constantI S_ 32 16#32)
  have r : IVec S256 32 := Host.remsi (iotaInDim S256 32 0) (broadcastInDim S256 ![] bcast_S_S256 d)
  select (andi (cmpi .ne (cmpi .slt r (broadcastInDim S256 ![] bcast_S_S256 (constantI S_ 32 0#32)))
      (broadcastInDim S256 ![] bcast_S_S256 (cmpi .slt d (constantI S_ 32 0#32))))
    (cmpi .ne r (broadcastInDim S256 ![] bcast_S_S256 (constantI S_ 32 0#32))))
    (addi r (broadcastInDim S256 ![] bcast_S_S256 d)) r

/-- Row number over 16, as the host computes it. -/
def byDiv : IVec S256 32 :=
  have d : IVec S256 32 := broadcastInDim S256 ![] bcast_S_S256 (constantI S_ 32 16#32)
  have q : IVec S256 32 := Host.divsi (iotaInDim S256 32 0) d
  select (andi (cmpi .ne (signi (iotaInDim S256 32 0)) (broadcastInDim S256 ![] bcast_S_S256 (signi (constantI S_ 32 16#32))))
    (cmpi .ne (Host.remsi (iotaInDim S256 32 0) d) (broadcastInDim S256 ![] bcast_S_S256 (constantI S_ 32 0#32))))
    (subi q (broadcastInDim S256 ![] bcast_S_S256 (constantI S_ 32 1#32))) q

/-- The token a row by position belongs to. -/
def tokenOf : IVec S256 32 := addi (muli byMod (broadcastInDim S256 ![] bcast_S_S256 (constantI S_ 32 16#32))) byDiv

theorem tokenOf_at : ∀ r : Fin 256, tokenOf (ix1 r) = BitVec.ofNat 32 (r.val % 16 * 16 + r.val / 16) := by decide +kernel

/-- The permutation the host builds. -/
def permT : FVec Ideal S256x256 .bf16 :=
  transpose S256x256 [1, 0] (uitofp (F := Ideal) .bf16 (cmpi .eq
    (broadcastInDim S256x256 ![0, 1] bcast_S256x1_S256x256_0_1 (broadcastInDim S256x1 ![0] bcast_S256_S256x1_0 tokenOf))
    (broadcastInDim S256x256 ![0, 1] bcast_S1x256_S256x256_0_1 (broadcastInDim S1x256 ![1] bcast_S256_S1x256_1 (iotaInDim S256 32 0)))))
    transposes_S256x256_S256x256_1_0

theorem permT_at (s r : Fin 256) : permT (ix2 s r) = if r.val % 16 * 16 + r.val / 16 = s.val then (1 : EReal) else (0 : EReal) := by
  unfold permT
  pointwise
  rw [tokenOf_at]
  have one_at : (FloatOps.uitofp FTy.bf16 1#1 : Ideal .bf16) = (1 : EReal) := by
    change (((1#1 : BitVec 1).toNat : ℝ) : EReal) = 1
    simp
  have zero_at : (FloatOps.uitofp FTy.bf16 0#1 : Ideal .bf16) = (0 : EReal) := by
    change (((0#1 : BitVec 1).toNat : ℝ) : EReal) = 0
    simp
  by_cases h : r.val % 16 * 16 + r.val / 16 = s.val
  · rw [if_pos h, h, show IntOp.cmpi .eq (BitVec.ofNat 32 s.val) (BitVec.ofNat 32 s.val) = 1#1 by simp [IntOp.cmpi], one_at]
  · have hb : BitVec.ofNat 32 (r.val % 16 * 16 + r.val / 16) ≠ BitVec.ofNat 32 s.val := fun e => h (by
      have := congrArg BitVec.toNat e
      simp only [BitVec.toNat_ofNat] at this
      omega)
    rw [if_neg h, show IntOp.cmpi .eq (BitVec.ofNat 32 (r.val % 16 * 16 + r.val / 16)) (BitVec.ofNat 32 s.val) = 0#1 by
      simp only [IntOp.cmpi, beq_eq_false_iff_ne.2 hb]
      rfl, zero_at]

/-- What the region's operands hold, made by the host lines before it. -/
theorem entry (c : Dev nD) :
    V m c main_v19 = permT
    ∧ V m c main_v0 = truncf (F := Ideal) .bf16 (m ((c : Thread nD τ).loc main_arg4)) bitsLt_bf16_f32
    ∧ V m c main_v1 = truncf (F := Ideal) .bf16 (m ((c : Thread nD τ).loc main_arg5)) bitsLt_bf16_f32
    ∧ V m c main_v2 = shapeCast S1x1024 (m ((c : Thread nD τ).loc main_arg6)) shapeCasts_S1024_S1x1024
    ∧ V m c main_v3 = truncf (F := Ideal) .bf16 (m ((c : Thread nD τ).loc main_arg7)) bitsLt_bf16_f32
    ∧ V m c main_v4 = truncf (F := Ideal) .bf16 (m ((c : Thread nD τ).loc main_arg8)) bitsLt_bf16_f32
    ∧ V m c main_v5 = shapeCast S1x1024 (m ((c : Thread nD τ).loc main_arg9)) shapeCasts_S1024_S1x1024 := by
  refine ⟨?_, ?_, ?_, ?_, ?_, ?_, ?_⟩
  all_goals
    unfold V
    simp only [hostOps0, hostOps0_1, hostOps0_2, hostOps0_3, hostOps0_4, List.flatten_cons,
      List.flatten_nil, List.append_nil, List.cons_append, List.nil_append]
    simp only [StableHlo.after_cons, StableHlo.after_nil]
    after_results_simp
    try rfl

theorem emb_at (t : Fin cfg0.N) :
    (∀ (a b : Fin 256), ((View.whole main_v19).slice ((win0 4).rect t)).emb (ix2 a b) = ix2 a b)
    ∧ (∀ (a : Fin 1024) (b : Fin 2048), ((View.whole main_v0).slice ((win0 5).rect t)).emb (ix2 a b) = ix2 a b)
    ∧ (∀ (a b : Fin 1024), ((View.whole main_v1).slice ((win0 6).rect t)).emb (ix2 a b) = ix2 a b)
    ∧ (∀ (a : Fin 1) (b : Fin 1024), ((View.whole main_v2).slice ((win0 7).rect t)).emb (ix2 a b) = ix2 a b)
    ∧ (∀ (a : Fin 1024) (b : Fin 4096), ((View.whole main_v3).slice ((win0 8).rect t)).emb (ix2 a b) = ix2 a b)
    ∧ (∀ (a : Fin 4096) (b : Fin 1024), ((View.whole main_v4).slice ((win0 9).rect t)).emb (ix2 a b) = ix2 a b)
    ∧ (∀ (a : Fin 1) (b : Fin 1024), ((View.whole main_v5).slice ((win0 10).rect t)).emb (ix2 a b) = ix2 a b) := by
  refine ⟨?_, ?_, ?_, ?_, ?_, ?_, ?_⟩
  all_goals
    intros
    try blk_ext [idx t]

theorem gain_at (g : Vec Ideal S1024 .f32) (k : Fin 1024) : shapeCast S1x1024 g shapeCasts_S1024_S1x1024 (ix2 0 k) = g (ix1 k) := by
  pointwise

theorem x4_at (c : Dev nD) (t : Fin cfg0.N) (s r : Fin 256) :
    iblk m c 4 t (ix2 s r) = if r.val % 16 * 16 + r.val / 16 = s.val then (1 : EReal) else (0 : EReal) :=
  (congrArg _ ((emb_at t).1 s r)).trans ((congrFun (entry m c).1 _).trans (permT_at s r))

theorem x5_at (c : Dev nD) (t : Fin cfg0.N) (k : Fin 1024) (j : Fin 2048) :
    iblk m c 5 t (ix2 k j) = m ((c : Thread nD τ).loc main_arg4) (ix2 k j) :=
  (congrArg _ ((emb_at t).2.1 k j)).trans (congrFun (entry m c).2.1 _)

theorem x6_at (c : Dev nD) (t : Fin cfg0.N) (k j : Fin 1024) :
    iblk m c 6 t (ix2 k j) = m ((c : Thread nD τ).loc main_arg5) (ix2 k j) :=
  (congrArg _ ((emb_at t).2.2.1 k j)).trans (congrFun (entry m c).2.2.1 _)

theorem x7_at (c : Dev nD) (t : Fin cfg0.N) (k : Fin 1024) :
    iblk m c 7 t (ix2 0 k) = m ((c : Thread nD τ).loc main_arg6) (ix1 k) :=
  (congrArg _ ((emb_at t).2.2.2.1 0 k)).trans ((congrFun (entry m c).2.2.2.1 _).trans (gain_at _ k))

theorem x8_at (c : Dev nD) (t : Fin cfg0.N) (k : Fin 1024) (j : Fin 4096) :
    iblk m c 8 t (ix2 k j) = m ((c : Thread nD τ).loc main_arg7) (ix2 k j) :=
  (congrArg _ ((emb_at t).2.2.2.2.1 k j)).trans (congrFun (entry m c).2.2.2.2.1 _)

theorem x9_at (c : Dev nD) (t : Fin cfg0.N) (j : Fin 4096) (k : Fin 1024) :
    iblk m c 9 t (ix2 j k) = m ((c : Thread nD τ).loc main_arg8) (ix2 j k) :=
  (congrArg _ ((emb_at t).2.2.2.2.2.1 j k)).trans (congrFun (entry m c).2.2.2.2.2.1 _)

theorem x10_at (c : Dev nD) (t : Fin cfg0.N) (k : Fin 1024) :
    iblk m c 10 t (ix2 0 k) = m ((c : Thread nD τ).loc main_arg9) (ix1 k) :=
  (congrArg _ ((emb_at t).2.2.2.2.2.2 0 k)).trans ((congrFun (entry m c).2.2.2.2.2.2 _).trans (gain_at _ k))

/-- The layer's result, row by row: token `T` is token `T % 16` of chunk `T / 16`. -/
def layerRows (g : Vec Ideal S1024x16384 .bf16) (ma : Vec Ideal S16384x1024 .f32) (gs : Vec Ideal S16384x1024 .bf16) (xs : Vec Ideal S16384x1024 .f32)
    (wg : Vec Ideal S1024x2048 .f32) (wo : Vec Ideal S1024x1024 .f32) (gf : Vec Ideal S1024 .f32) (wu : Vec Ideal S1024x4096 .f32)
    (wd : Vec Ideal S4096x1024 .f32) (gl : Vec Ideal S1024 .f32) (T : Fin 16384) : Fin 1024 → EReal :=
  Rows.row (fun n => g (ix2 ⟨T.val / 16, by omega⟩ ⟨256 * (n.val / 16) + (16 * (T.val % 16) + n.val % 16), by omega⟩)) (fun k => ma (ix2 T k)) (fun k => gs (ix2 T k))
    (fun k => xs (ix2 T k)) (fun k j => wg (ix2 k j)) (fun k j => wo (ix2 k j)) (fun k => gf (ix1 k)) (fun k j => wu (ix2 k j)) (fun k j => wd (ix2 k j))
    (fun k => gl (ix1 k))

/-- The same as one array. -/
def layer (g : Vec Ideal S1024x16384 .bf16) (ma : Vec Ideal S16384x1024 .f32) (gs : Vec Ideal S16384x1024 .bf16) (xs : Vec Ideal S16384x1024 .f32)
    (wg : Vec Ideal S1024x2048 .f32) (wo : Vec Ideal S1024x1024 .f32) (gf : Vec Ideal S1024 .f32) (wu : Vec Ideal S1024x4096 .f32)
    (wd : Vec Ideal S4096x1024 .f32) (gl : Vec Ideal S1024 .f32) : Vec Ideal S16384x1024 .f32 := fun y =>
  layerRows g ma gs xs wg wo gf wu wd gl (y 0) (y 1)

/-- A block's row from what its operands hold. -/
theorem row_of (x0 : Vec Ideal S32x16384 .bf16) (x1 : Vec Ideal S512x1024 .f32) (x2 : Vec Ideal S512x1024 .bf16) (x3 : Vec Ideal S512x1024 .f32)
    (x5 : Vec Ideal S1024x2048 .bf16) (x6 : Vec Ideal S1024x1024 .bf16) (x7 : Vec Ideal S1x1024 .f32)
    (x8 : Vec Ideal S1024x4096 .bf16) (x9 : Vec Ideal S4096x1024 .bf16) (x10 : Vec Ideal S1x1024 .f32)
    (g : Vec Ideal S1024x16384 .bf16) (ma : Vec Ideal S16384x1024 .f32) (gs : Vec Ideal S16384x1024 .bf16) (xs : Vec Ideal S16384x1024 .f32)
    (wg : Vec Ideal S1024x2048 .f32) (wo : Vec Ideal S1024x1024 .f32) (gf : Vec Ideal S1024 .f32) (wu : Vec Ideal S1024x4096 .f32)
    (wd : Vec Ideal S4096x1024 .f32) (gl : Vec Ideal S1024 .f32) (t : Fin cfg0.N) (s : Fin 512)
    (h0 : ∀ b n, x0 (ix2 b n) = g (ix2 (seq t b) n)) (h1 : ∀ k, x1 (ix2 s k) = ma (ix2 (tok t s) k)) (h2 : ∀ k, x2 (ix2 s k) = gs (ix2 (tok t s) k))
    (h3 : ∀ k, x3 (ix2 s k) = xs (ix2 (tok t s) k)) (h5 : ∀ k j, x5 (ix2 k j) = wg (ix2 k j)) (h6 : ∀ k j, x6 (ix2 k j) = wo (ix2 k j))
    (h7 : ∀ k, x7 (ix2 0 k) = gf (ix1 k)) (h8 : ∀ k j, x8 (ix2 k j) = wu (ix2 k j)) (h9 : ∀ k j, x9 (ix2 k j) = wd (ix2 k j))
    (h10 : ∀ k, x10 (ix2 0 k) = gl (ix1 k)) (n : Fin 1024) :
    Rows.row (recur x0 s) (fun k => x1 (ix2 s k)) (fun k => x2 (ix2 s k)) (fun k => x3 (ix2 s k)) (fun k j => x5 (ix2 k j)) (fun k j => x6 (ix2 k j))
        (fun k => x7 (ix2 0 k)) (fun k j => x8 (ix2 k j)) (fun k j => x9 (ix2 k j)) (fun k => x10 (ix2 0 k)) n
      = layerRows g ma gs xs wg wo gf wu wd gl (tok t s) n := by
  have hr : recur x0 s = fun n => g (ix2 ⟨(tok t s).val / 16, by omega⟩ ⟨256 * (n.val / 16) + (16 * ((tok t s).val % 16) + n.val % 16), by omega⟩) :=
    funext fun n => (h0 _ _).trans (congrArg₂ (fun a b => g (ix2 a b)) (Fin.ext (by simp only [seq, tok]; omega)) (Fin.ext (by simp only [tok]; omega)))
  unfold layerRows
  rw [hr]
  simp only [h1, h2, h3, h5, h6, h7, h8, h9, h10]

theorem final11 (c : Dev nD) :
    (dats m 0 c).arrAt 11 cfg0.N = layer (m ((c : Thread nD τ).loc main_arg0)) (m ((c : Thread nD τ).loc main_arg1))
      (m ((c : Thread nD τ).loc main_arg2)) (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8)) (m ((c : Thread nD τ).loc main_arg9)) := by
  refine (dats m 0 c).arrAt_eq_of_covers 11 _ (by decide +kernel) fun t _ y => ?_
  blk_simp
  rw [after0_11]
  obtain ⟨s, n, rfl⟩ : ∃ (s : Fin 512) (n : Fin 1024), y = ix2 s n := ⟨y 0, y 1, by blk_ext⟩
  have e : (win0_11.blk t).view.emb (ix2 s n) = ix2 (tok t s) n := by blk_ext [idx t, tok]
  rw [out11_at _ _ _ _ _ _ _ _ _ _ _ (x4_at m c t), e]
  exact row_of _ _ _ _ _ _ _ _ _ _ _ _ _ _ _ _ _ _ _ _ t s (x0_at m c t) (x1_at m c t s) (x2_at m c t s) (x3_at m c t s) (x5_at m c t) (x6_at m c t)
    (x7_at m c t) (x8_at m c t) (x9_at m c t) (x10_at m c t) n

end Cert.Kernel5Ideal.Value
end
-- ==== Proof.PromptReference.lean ====
module
public import proofs.«01_k».proof.Proof.Gen.Reference5Ideal.Run
public import proofs.«01_k».proof.Proof.Rows
public import Idealize.ShloMosaic.Lib.Pipeline.ValueKit
public import Idealize.ShloMosaic.Lib.Pointwise

/-! # The prompts' reference, row by row -/

@[expose] public section

set_option maxRecDepth 16384

noncomputable section

namespace Cert.Reference5Ideal.Value

open Cert.Reference5Ideal Cert.Reference5Ideal.Gen Idealize.ShloMosaic Idealize.ShloMosaic.TcCoe Idealize.SL.Sem Cert.Rows

/-- The recurrence's values, a row to a token. -/
def tokens (g : FVec Ideal S1024x16384 .bf16) : FVec Ideal S16384x1024 .f32 :=
  shapeCast S16384x1024 (transpose S1024x16x64x16 [0, 2, 1, 3] (shapeCast S1024x64x16x16 (extf (F := Ideal) .f32 g bitsLt_bf16_f32) shapeCasts_S1024x16384_S1024x64x16x16) transposes_S1024x64x16x16_S1024x16x64x16_0_2_1_3) shapeCasts_S1024x16x64x16_S16384x1024

theorem tokens_at (g : FVec Ideal S1024x16384 .bf16) (T : Fin 16384) (n : Fin 1024) :
    tokens g (ix2 T n) = g (ix2 ⟨T.val / 16, by omega⟩ ⟨256 * (n.val / 16) + (16 * (T.val % 16) + n.val % 16), by omega⟩) := by
  obtain ⟨b, k, hT⟩ : ∃ (b : Fin 1024) (k : Fin 16), T = ⟨b.val * 16 + k.val, by omega⟩ :=
    ⟨⟨T.val / 16, by omega⟩, ⟨T.val % 16, by omega⟩, Fin.ext (by simp; omega)⟩
  obtain ⟨p, c, hn⟩ : ∃ (p : Fin 64) (c : Fin 16), n = ⟨p.val * 16 + c.val, by omega⟩ :=
    ⟨⟨n.val / 16, by omega⟩, ⟨n.val % 16, by omega⟩, Fin.ext (by simp; omega)⟩
  subst hT hn
  unfold tokens
  pointwise
  refine congrArg₂ (fun a b => g (ix2 a b)) (Fin.ext ?_) (Fin.ext ?_) <;> simp <;> omega

/-- The gated product. -/
def glu (t : FVec Ideal S16384x1024 .f32) (wg : FVec Ideal S1024x2048 .f32) : FVec Ideal S16384x2048 .f32 :=
  Host.dotGeneral dot_S16384x1024_S1024x2048_S16384x2048_1_0_0_1_n_n none t wg

/-- The branches merged. -/
def merge (t : FVec Ideal S16384x1024 .f32) (ma : FVec Ideal S16384x1024 .f32) (gs : FVec Ideal S16384x1024 .bf16) (wg : FVec Ideal S1024x2048 .f32) : FVec Ideal S16384x1024 .f32 :=
  addf ma (mulf (extf .f32 gs bitsLt_bf16_f32) (mulf (extractStridedSlice S16384x1024 ![0, 0] (glu t wg) slices_S16384x2048_S16384x1024_0_0)
    (Host.divf (broadcastInDim S16384x1024 ![] bcast_S_S16384x1024 (constant (F := Ideal) S_ .f32 0x3F800000#32))
      (addf (broadcastInDim S16384x1024 ![] bcast_S_S16384x1024 (constant (F := Ideal) S_ .f32 0x3F800000#32))
        (Host.exp (Host.negf (extractStridedSlice S16384x1024 ![0, 1024] (glu t wg) slices_S16384x2048_S16384x1024_0_1024)))))))

theorem merge_at (t : FVec Ideal S16384x1024 .f32) (ma : FVec Ideal S16384x1024 .f32) (gs : FVec Ideal S16384x1024 .bf16) (wg : FVec Ideal S1024x2048 .f32) (T : Fin 16384) (n : Fin 1024) :
    merge t ma gs wg (ix2 T n) = Rows.merged (fun k => t (ix2 T k)) (fun k => ma (ix2 T k)) (fun k => gs (ix2 T k)) (fun k j => wg (ix2 k j)) n := by
  unfold merge glu Rows.merged Rows.gate through
  pointwise

/-- The residual after the merged branches. -/
def mix (p xs : FVec Ideal S16384x1024 .f32) (wo : FVec Ideal S1024x1024 .f32) : FVec Ideal S16384x1024 .f32 :=
  addf xs (Host.dotGeneral dot_S16384x1024_S1024x1024_S16384x1024_1_0_0_1_n_n none p wo)

theorem mix_at (p xs : FVec Ideal S16384x1024 .f32) (wo : FVec Ideal S1024x1024 .f32) (T : Fin 16384) (n : Fin 1024) :
    mix p xs wo (ix2 T n) = xs (ix2 T n) + through (fun k => p (ix2 T k)) (fun k j => wo (ix2 k j)) n := by
  unfold mix through
  pointwise

/-- Rows normalised. -/
def normed (x : FVec Ideal S16384x1024 .f32) (g : FVec Ideal S1024 .f32) : FVec Ideal S16384x1024 .f32 :=
  mulf (mulf x (broadcastInDim S16384x1024 ![0, 1] bcast_S16384x1_S16384x1024_0_1 (Host.rsqrt (addf (Host.divf (broadcastInDim S16384x1 ![0] bcast_S16384_S16384x1_0
    (Host.reduceAdd (mulf x x) (constant (F := Ideal) S_ .f32 0x00000000#32) reducesTo_S16384x1024_S16384_d1 h_S_)) (broadcastInDim S16384x1 ![] bcast_S_S16384x1 (constant (F := Ideal) S_ .f32 0x44800000#32)))
    (broadcastInDim S16384x1 ![] bcast_S_S16384x1 (constant (F := Ideal) S_ .f32 0x3727C5AC#32))))))
    (broadcastInDim S16384x1024 ![0, 1] bcast_S1x1024_S16384x1024_0_1 (broadcastInDim S1x1024 ![1] bcast_S1024_S1x1024_1 g))

theorem normed_at (x : FVec Ideal S16384x1024 .f32) (g : FVec Ideal S1024 .f32) (T : Fin 16384) (n : Fin 1024) :
    normed x g (ix2 T n) = Rows.norm (fun k => x (ix2 T k)) (fun k => g (ix1 k)) n := by
  unfold normed Rows.norm
  pointwise

/-- The feed-forward with its residual. -/
def feed (x : FVec Ideal S16384x1024 .f32) (gf : FVec Ideal S1024 .f32) (wu : FVec Ideal S1024x4096 .f32) (wd : FVec Ideal S4096x1024 .f32) : FVec Ideal S16384x1024 .f32 :=
  have u : FVec Ideal S16384x4096 .f32 := maximumf (Host.dotGeneral dot_S16384x1024_S1024x4096_S16384x4096_1_0_0_1_n_n none (normed x gf) wu)
    (broadcastInDim S16384x4096 ![] bcast_S_S16384x4096 (constant (F := Ideal) S_ .f32 0x00000000#32))
  addf x (Host.dotGeneral dot_S16384x4096_S4096x1024_S16384x1024_1_0_0_1_n_n none (mulf u u) wd)

theorem feed_at (x : FVec Ideal S16384x1024 .f32) (gf : FVec Ideal S1024 .f32) (wu : FVec Ideal S1024x4096 .f32) (wd : FVec Ideal S4096x1024 .f32) (T : Fin 16384) (n : Fin 1024) :
    feed x gf wu wd (ix2 T n) = Rows.fed (fun k => x (ix2 T k)) (fun k => gf (ix1 k)) (fun k j => wu (ix2 k j)) (fun k j => wd (ix2 k j)) n := by
  have h : ∀ k, normed x gf (ix2 T k) = Rows.norm (fun k => x (ix2 T k)) (fun k => gf (ix1 k)) k := normed_at x gf T
  unfold feed Rows.fed
  generalize normed x gf = y at h ⊢
  rw [← funext h]
  unfold Rows.square through
  pointwise

/-- A row of the whole. -/
theorem whole_at (g : FVec Ideal S1024x16384 .bf16) (ma : FVec Ideal S16384x1024 .f32) (gs : FVec Ideal S16384x1024 .bf16) (xs : FVec Ideal S16384x1024 .f32)
    (wg : FVec Ideal S1024x2048 .f32) (wo : FVec Ideal S1024x1024 .f32) (gf : FVec Ideal S1024 .f32) (wu : FVec Ideal S1024x4096 .f32)
    (wd : FVec Ideal S4096x1024 .f32) (gl : FVec Ideal S1024 .f32) (T : Fin 16384) (n : Fin 1024) :
    normed (feed (mix (merge (tokens g) ma gs wg) xs wo) gf wu wd) gl (ix2 T n)
      = Rows.row (fun n => g (ix2 ⟨T.val / 16, by omega⟩ ⟨256 * (n.val / 16) + (16 * (T.val % 16) + n.val % 16), by omega⟩)) (fun k => ma (ix2 T k)) (fun k => gs (ix2 T k))
          (fun k => xs (ix2 T k)) (fun k j => wg (ix2 k j)) (fun k j => wo (ix2 k j)) (fun k => gf (ix1 k)) (fun k j => wu (ix2 k j)) (fun k j => wd (ix2 k j))
          (fun k => gl (ix1 k)) n := by
  rw [normed_at, funext fun k => feed_at _ gf wu wd T k, funext fun k => mix_at _ xs wo T k, funext fun k => merge_at _ ma gs wg T k,
    funext fun k => tokens_at g T k]
  rfl

variable (m : (ℓ : Loc nD τ sig) → Buf (Elt Ideal) ℓ)

theorem res0_eq (c : Dev nD) : res_out0 m c
    = normed (feed (mix (merge (tokens (m ((c.tc : Thread nD τ).loc main_arg0))) (m ((c.tc : Thread nD τ).loc main_arg1)) (m ((c.tc : Thread nD τ).loc main_arg2)) (m ((c.tc : Thread nD τ).loc main_arg4)))
        (m ((c.tc : Thread nD τ).loc main_arg3)) (m ((c.tc : Thread nD τ).loc main_arg5))) (m ((c.tc : Thread nD τ).loc main_arg6)) (m ((c.tc : Thread nD τ).loc main_arg7)) (m ((c.tc : Thread nD τ).loc main_arg8)))
        (m ((c.tc : Thread nD τ).loc main_arg9)) := rfl

end Cert.Reference5Ideal.Value
end
-- ==== Proof.PromptMatch.lean ====
module
public import proofs.«01_k».proof.Proof.PromptBridge
public import proofs.«01_k».proof.Proof.PromptReference

/-! # The prompts' call's array and its reference's are the same -/

@[expose] public section

set_option maxRecDepth 16384

noncomputable section

namespace Cert.PromptMatch

open Idealize.ShloMosaic Cert.Kernel5Ideal.Value
open Cert.Kernel5Ideal (S1024x16384 S16384x1024 S1024x2048 S1024x1024 S1024 S1024x4096 S4096x1024)
open Cert.Reference5Ideal.Value (normed feed mix merge tokens whole_at)

theorem layer_eq (g : FVec Ideal S1024x16384 .bf16) (ma : FVec Ideal S16384x1024 .f32) (gs : FVec Ideal S16384x1024 .bf16) (xs : FVec Ideal S16384x1024 .f32)
    (wg : FVec Ideal S1024x2048 .f32) (wo : FVec Ideal S1024x1024 .f32) (gf : FVec Ideal S1024 .f32) (wu : FVec Ideal S1024x4096 .f32)
    (wd : FVec Ideal S4096x1024 .f32) (gl : FVec Ideal S1024 .f32) :
    normed (feed (mix (merge (tokens g) ma gs wg) xs wo) gf wu wd) gl = layer g ma gs xs wg wo gf wu wd gl := by
  funext y
  obtain ⟨T, n, rfl⟩ : ∃ (T : Fin 16384) (n : Fin 1024), y = ix2 T n := ⟨y 0, y 1, by funext a; fin_cases a <;> rfl⟩
  exact whole_at g ma gs xs wg wo gf wu wd gl T n

end Cert.PromptMatch
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.KernelIdeal.Value
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel2Ideal.Value
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel4Ideal.Value
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Kernel5Ideal.Value
public import proofs.«01_k».proof.Proof.Gen.Reference5Ideal.Run
public import proofs.«01_k».proof.Proof.Match
public import proofs.«01_k».proof.Proof.PostMatch
public import proofs.«01_k».proof.Proof.ProjFrame
public import proofs.«01_k».proof.Proof.ProjBridge
public import proofs.«01_k».proof.Proof.ProjMatch
public import proofs.«01_k».proof.Proof.RowsBridge
public import proofs.«01_k».proof.Proof.PromptMatch
public import Idealize.ShloMosaic.Adequacy
public import Idealize.ShloMosaic.Init
public import Idealize.ShloMosaic.Lib.Quiescent

@[expose] public section

noncomputable section

namespace Cert.Proof

open Idealize.ShloMosaic Idealize.SL.Sem Cert.Kernel

theorem algebraic : Cert.algebraic_KernelIdeal_ReferenceIdeal_pre_finite := by
  pair_intro
  · run_from Cert.KernelIdeal.Value.run_blocks m g
  · refine (θ_run Cert.ReferenceIdeal.defs _ _).mono (fun _ h c => ⟨(h c).1.trans ?_, (h c).2.1.trans ?_, (h c).2.2.1.trans ?_, (h c).2.2.2⟩)
      (Cert.ReferenceIdeal.Value.run (F := Ideal) m' g')
    all_goals
      obtain ⟨e0, e1, e2, e3, e4, e5, e6⟩ := hagree c
    · rw [Cert.KernelIdeal.Value.final7]
      refine (Cert.ReferenceIdeal.Value.res0_eq m' c).trans ?_
      rw [e0, e1, e2, e3, e4, e5, e6]
      exact Cert.Match.out_eq _ _ _ _ _ _ _ ((Cert.Match.finite_real _ _ _ _ _ _ _).1 (hpre c).1)
        ((Cert.Match.finite_real _ _ _ _ _ _ _).2.1 (hpre c).2.1) ((Cert.Match.finite_real _ _ _ _ _ _ _).2.2.1 (hpre c).2.2.1)
        ((Cert.Match.finite_real _ _ _ _ _ _ _).2.2.2 (hpre c).2.2.2)
    · rw [Cert.KernelIdeal.Value.final8, e2, e4]
      exact (Cert.Match.windows_eq _ _).1
    · rw [Cert.KernelIdeal.Value.final9, e2, e5]
      exact (Cert.Match.windows_eq _ _).2

theorem algebraic2 : Cert.algebraic_Kernel2Ideal_Reference2Ideal := by
  pair_intro
  · run_from Cert.Kernel2Ideal.Value.run_blocks m g
  · refine (θ_run Cert.Reference2Ideal.defs _ _).mono (fun _ h c => ⟨(h c).1.trans ?_, (h c).2⟩)
      (Cert.Reference2Ideal.Value.run (F := Ideal) m' g')
    obtain ⟨e0, e1, e2, e3, e4, e5, e6, e7, e8, e9⟩ := hagree c
    rw [Cert.Kernel2Ideal.Value.final11]
    refine (Cert.Reference2Ideal.Value.res0_eq m' c).trans ?_
    rw [e0, e1, e2, e3, e4, e5, e6, e7, e8, e9]
    exact Cert.PostMatch.layer_eq _ _ _ _ _ _ _ _ _ _

theorem algebraic3 : Cert.algebraic_Kernel3Ideal_Reference3Ideal := by
  pair_intro
  · run_from Cert.Kernel3Ideal.Value.run_blocks m g
  · refine (θ_run Cert.Reference3Ideal.defs _ _).mono (fun _ h c => ⟨(h c).1.trans ?_, (h c).2.1.trans ?_, (h c).2.2.1.trans ?_, (h c).2.2.2.1.trans ?_,
        (h c).2.2.2.2.1.trans ?_, (h c).2.2.2.2.2⟩)
      (Cert.Reference3Ideal.Value.run_parts m' g')
    all_goals
      obtain ⟨e0, e1, e2⟩ := hagree c
      unfold Cert.Reference3Ideal.Value.launched
      rw [e0, e1, e2]
    · rw [Cert.Kernel3Ideal.Value.final4]
      exact (Cert.ProjMatch.parts_eq _ _ _).1
    · rw [Cert.Kernel3Ideal.Value.final5]
      exact (Cert.ProjMatch.parts_eq _ _ _).2.1
    · rw [Cert.Kernel3Ideal.Value.final6]
      exact (Cert.ProjMatch.parts_eq _ _ _).2.2.1
    · rw [Cert.Kernel3Ideal.Value.final7]
      exact (Cert.ProjMatch.parts_eq _ _ _).2.2.2.1
    · rw [Cert.Kernel3Ideal.Value.final8]
      exact (Cert.ProjMatch.parts_eq _ _ _).2.2.2.2

theorem algebraic4 : Cert.algebraic_Kernel4Ideal_Reference4Ideal := by
  pair_intro
  · run_from Cert.Kernel4Ideal.Value.run_blocks m g
  · refine (θ_run Cert.Reference4Ideal.defs _ _).mono (fun _ h c => ⟨(h c).1.trans ?_, (h c).2.1.trans ?_, (h c).2.2⟩)
      (Cert.Reference4Ideal.Value.run_parts m' g')
    all_goals
      obtain ⟨e0, e1, e2, e3, e4, e5, e6, e7⟩ := hagree c
      rw [e0, e2, e4, e6, e7]
    · rw [Cert.Kernel4Ideal.Value.final9]
      exact (Cert.Reference4Ideal.Value.res_eq _ _ _ _ _).1
    · rw [Cert.Kernel4Ideal.Value.final10]
      exact (Cert.Reference4Ideal.Value.res_eq _ _ _ _ _).2

theorem algebraic5 : Cert.algebraic_Kernel5Ideal_Reference5Ideal := by
  pair_intro
  · run_from Cert.Kernel5Ideal.Value.run_blocks m g
  · refine (θ_run Cert.Reference5Ideal.defs _ _).mono (fun _ h c => ⟨(h c).1.trans ?_, (h c).2⟩)
      (Cert.Reference5Ideal.Value.run (F := Ideal) m' g')
    obtain ⟨e0, e1, e2, e3, e4, e5, e6, e7, e8, e9⟩ := hagree c
    rw [Cert.Kernel5Ideal.Value.final11]
    refine (Cert.Reference5Ideal.Value.res0_eq m' c).trans ?_
    rw [e0, e1, e2, e3, e4, e5, e6, e7, e8, e9]
    exact Cert.PromptMatch.layer_eq _ _ _ _ _ _ _ _ _ _

theorem claim : Cert.Claim := ⟨Cert.Kernel.Gen.facts, Cert.KernelIdeal.Gen.facts, Cert.ReferenceIdeal.Gen.facts, Cert.Kernel2.Gen.facts,
  Cert.Kernel2Ideal.Gen.facts, Cert.Reference2Ideal.Gen.facts, Cert.Kernel3.Gen.facts,
  Cert.Kernel3Ideal.Gen.facts, Cert.Reference3Ideal.Gen.facts, Cert.Kernel4.Gen.facts,
  Cert.Kernel4Ideal.Gen.facts, Cert.Reference4Ideal.Gen.facts, Cert.Kernel5.Gen.facts,
  Cert.Kernel5Ideal.Gen.facts, Cert.Reference5Ideal.Gen.facts, Cert.Pre_finite.Gen.facts,
  fun m ρ _ => Cert.Kernel.Gen.frame m ρ, fun m ρ _ => Cert.KernelIdeal.Gen.frame m ρ, fun m ρ _ => Cert.KernelIdeal.Gen.frame m ρ,
  fun m ρ _ => (θ_run Cert.ReferenceIdeal.defs _ _).mono (fun r h => ⟨fun c => (h c).2.2.2,
      Idealize.ShloMosaic.sem_eq_zero_of_no_sems (by decide) r.2⟩) (Cert.ReferenceIdeal.Value.run (F := Ideal) m ρ),
  fun m ρ _ => (θ_run Cert.ReferenceIdeal.defs _ _).mono (fun r h => ⟨fun c => (h c).2.2.2,
      Idealize.ShloMosaic.sem_eq_zero_of_no_sems (by decide) r.2⟩) (Cert.ReferenceIdeal.Value.run (F := Ideal) m ρ),
  fun m ρ _ => Cert.Kernel2.Gen.frame m ρ, fun m ρ _ => Cert.Kernel2Ideal.Gen.frame m ρ,
  fun m ρ _ => (θ_run Cert.Reference2Ideal.defs _ _).mono (fun r h => ⟨fun c => (h c).2,
      Idealize.ShloMosaic.sem_eq_zero_of_no_sems (by decide) r.2⟩) (Cert.Reference2Ideal.Value.run (F := Ideal) m ρ),
  fun m ρ _ => Cert.Kernel3.Gen.frame m ρ, fun m ρ _ => Cert.Kernel3Ideal.Gen.frame m ρ,
  fun m ρ _ => (θ_run Cert.Reference3Ideal.defs _ _).mono (fun r h => ⟨fun c => (h c).2.2.2.2.2,
      Idealize.ShloMosaic.sem_eq_zero_of_no_sems (by decide) r.2⟩) (Cert.Reference3Ideal.Value.run (F := Ideal) m ρ),
  fun m ρ _ => Cert.Kernel4.Gen.frame m ρ, fun m ρ _ => Cert.Kernel4Ideal.Gen.frame m ρ,
  fun m ρ _ => (θ_run Cert.Reference4Ideal.defs _ _).mono (fun r h => ⟨fun c => (h c).2.2,
      Idealize.ShloMosaic.sem_eq_zero_of_no_sems (by decide) r.2⟩) (Cert.Reference4Ideal.Value.run (F := Ideal) m ρ),
  fun m ρ _ => Cert.Kernel5.Gen.frame m ρ, fun m ρ _ => Cert.Kernel5Ideal.Gen.frame m ρ,
  fun m ρ _ => (θ_run Cert.Reference5Ideal.defs _ _).mono (fun r h => ⟨fun c => (h c).2,
      Idealize.ShloMosaic.sem_eq_zero_of_no_sems (by decide) r.2⟩) (Cert.Reference5Ideal.Value.run (F := Ideal) m ρ),
  IdealRules.named_const.statement Cert.KernelIdeal.κ "log2e" .f32 0x3FB8AA3B#32 (((Real.log 2)⁻¹ : ℝ) : EReal) rfl,
  algebraic, trivial, algebraic2,
  IdealRules.named_const.statement Cert.Kernel3Ideal.κ "q_scale" .f32 0x3E38AA3B#32 (((8 * Real.log 2)⁻¹ : ℝ) : EReal) rfl, algebraic3, trivial, algebraic4, trivial, algebraic5⟩

end Cert.Proof

end
